-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x8192 : Shape := ⟨2, ![4096, 8192]⟩
abbrev S1 : Shape := ⟨1, ![1]⟩
abbrev S4096x512 : Shape := ⟨2, ![4096, 512]⟩
abbrev S1024x4096 : Shape := ⟨2, ![1024, 4096]⟩
abbrev S2x4096x512 : Shape := ⟨3, ![2, 4096, 512]⟩
abbrev S4096x2048 : Shape := ⟨2, ![4096, 2048]⟩
abbrev S1024x2048 : Shape := ⟨2, ![1024, 2048]⟩
abbrev S2 : Shape := ⟨1, ![2]⟩
abbrev S2x4 : Shape := ⟨2, ![2, 4]⟩
abbrev S4 : Shape := ⟨1, ![4]⟩
abbrev S4x4 : Shape := ⟨2, ![4, 4]⟩
abbrev S_ : Shape := ⟨0, ![]⟩
abbrev S1x1 : Shape := ⟨2, ![1, 1]⟩
abbrev S1x4096x512 : Shape := ⟨3, ![1, 4096, 512]⟩
abbrev S256x512 : Shape := ⟨2, ![256, 512]⟩
abbrev S256x2048 : Shape := ⟨2, ![256, 2048]⟩

abbrev nBuf : Space → Nat
  | .hbm => 5
  | .vmem => 7
  | .smem => 2
  | _ => 0

abbrev bufTy : (tb : Table) → Fin (tcTables nBuf tb) → BufTy
  | .hbm, ⟨0, _⟩ => ⟨S256x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S256x4096, .f32⟩
  | .local _ .vmem, ⟨1, _⟩ => ⟨S4096x512, .f32⟩
  | .local _ .vmem, ⟨2, _⟩ => ⟨S1024x4096, .fp8e4m3⟩
  | .local _ .vmem, ⟨3, _⟩ => ⟨S2x4096x512, .f32⟩
  | .local _ .vmem, ⟨4, _⟩ => ⟨S4096x2048, .fp8e4m3⟩
  | .local _ .vmem, ⟨5, _⟩ => ⟨S1024x2048, .bf16⟩
  | .local _ .vmem, ⟨6, _⟩ => ⟨S4096x512, .bf16⟩
  | .local _ .smem, ⟨0, _⟩ => ⟨S1, .f32⟩
  | .local _ .smem, ⟨1, _⟩ => ⟨S1, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_49 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v35 : BitVec 32 := Scalar.addi v29 c1_i32_13
  let c4_i32_14 : BitVec 32 := 4#32
  let c0_i32_15 : BitVec 32 := 0#32
  let v36 : BitVec 1 := Scalar.cmpi .eq c4_i32_14 c0_i32_15
  let c1_i32_16 : BitVec 32 := 1#32
  let v37 : BitVec 32 := Scalar.select v36 c1_i32_16 c4_i32_14
  let v38 : BitVec 32 := Scalar.remsi v35 v37
  let c0_i32_18 : BitVec 32 := 0#32
  let v40 : BitVec 1 := Scalar.cmpi .slt v38 c0_i32_18
  let c0_i32_19 : BitVec 32 := 0#32
  let v41 : BitVec 1 := Scalar.cmpi .slt v37 c0_i32_19
  let v42 : BitVec 1 := Scalar.xori v40 v41
  let c0_i32_17 : BitVec 32 := 0#32
  let v39 : BitVec 1 := Scalar.cmpi .ne v38 c0_i32_17
  let v43 : BitVec 1 := Scalar.andi v42 v39
  let v44 : BitVec 32 := Scalar.addi v38 v37
  let v45 : BitVec 32 := Scalar.select v43 v44 v38
  let v46 : BitVec 32 := Scalar.addi v30 v45
  let c1_i32_48 : BitVec 32 := 1#32
  let v94 : BitVec 32 := Scalar.muli v46 c1_i32_48
  let v95 : BitVec 32 := Scalar.addi c0_i32_49 v94
  v95.toNat
def k0_dev2 (d0 : Dev nD) : Nat :=
  let c0_i32_52 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v47 : BitVec 32 := Scalar.addi v29 c2_i32
  let c4_i32_20 : BitVec 32 := 4#32
  let c0_i32_21 : BitVec 32 := 0#32
  let v48 : BitVec 1 := Scalar.cmpi .eq c4_i32_20 c0_i32_21
  let c1_i32_22 : BitVec 32 := 1#32
  let v49 : BitVec 32 := Scalar.select v48 c1_i32_22 c4_i32_20
  let v50 : BitVec 32 := Scalar.remsi v47 v49
  let c0_i32_24 : BitVec 32 := 0#32
  let v52 : BitVec 1 := Scalar.cmpi .slt v50 c0_i32_24
  let c0_i32_25 : BitVec 32 := 0#32
  let v53 : BitVec 1 := Scalar.cmpi .slt v49 c0_i32_25
  let v54 : BitVec 1 := Scalar.xori v52 v53
  let c0_i32_23 : BitVec 32 := 0#32
  let v51 : BitVec 1 := Scalar.cmpi .ne v50 c0_i32_23
  let v55 : BitVec 1 := Scalar.andi v54 v51
  let v56 : BitVec 32 := Scalar.addi v50 v49
  let v57 : BitVec 32 := Scalar.select v55 v56 v50
  let v58 : BitVec 32 := Scalar.addi v30 v57
  let c1_i32_51 : BitVec 32 := 1#32
  let v96 : BitVec 32 := Scalar.muli v58 c1_i32_51
  let v97 : BitVec 32 := Scalar.addi c0_i32_52 v96
  v97.toNat
def k0_dev3 (d0 : Dev nD) : Nat :=
  let c0_i32_55 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v59 : BitVec 32 := Scalar.addi v29 c3_i32
  let c4_i32_26 : BitVec 32 := 4#32
  let c0_i32_27 : BitVec 32 := 0#32
  let v60 : BitVec 1 := Scalar.cmpi .eq c4_i32_26 c0_i32_27
  let c1_i32_28 : BitVec 32 := 1#32
  let v61 : BitVec 32 := Scalar.select v60 c1_i32_28 c4_i32_26
  let v62 : BitVec 32 := Scalar.remsi v59 v61
  let c0_i32_30 : BitVec 32 := 0#32
  let v64 : BitVec 1 := Scalar.cmpi .slt v62 c0_i32_30
  let c0_i32_31 : BitVec 32 := 0#32
  let v65 : BitVec 1 := Scalar.cmpi .slt v61 c0_i32_31
  let v66 : BitVec 1 := Scalar.xori v64 v65
  let c0_i32_29 : BitVec 32 := 0#32
  let v63 : BitVec 1 := Scalar.cmpi .ne v62 c0_i32_29
  let v67 : BitVec 1 := Scalar.andi v66 v63
  let v68 : BitVec 32 := Scalar.addi v62 v61
  let v69 : BitVec 32 := Scalar.select v67 v68 v62
  let v70 : BitVec 32 := Scalar.addi v30 v69
  let c1_i32_54 : BitVec 32 := 1#32
  let v98 : BitVec 32 := Scalar.muli v70 c1_i32_54
  let v99 : BitVec 32 := Scalar.addi c0_i32_55 v98
  v99.toNat
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_32 : BitVec 32 := 4#32
  let v71 : BitVec 32 := Scalar.addi v2 c4_i32_32
  let c16_i32_33 : BitVec 32 := 16#32
  let c0_i32_34 : BitVec 32 := 0#32
  let v72 : BitVec 1 := Scalar.cmpi .eq c16_i32_33 c0_i32_34
  let c1_i32_35 : BitVec 32 := 1#32
  let v73 : BitVec 32 := Scalar.select v72 c1_i32_35 c16_i32_33
  let v74 : BitVec 32 := Scalar.remsi v71 v73
  let c0_i32_37 : BitVec 32 := 0#32
  let v76 : BitVec 1 := Scalar.cmpi .slt v74 c0_i32_37
  let c0_i32_38 : BitVec 32 := 0#32
  let v77 : BitVec 1 := Scalar.cmpi .slt v73 c0_i32_38
  let v78 : BitVec 1 := Scalar.xori v76 v77
  let c0_i32_36 : BitVec 32 := 0#32
  let v75 : BitVec 1 := Scalar.cmpi .ne v74 c0_i32_36
  let v79 : BitVec 1 := Scalar.andi v78 v75
  let v80 : BitVec 32 := Scalar.addi v74 v73
  let v81 : BitVec 32 := Scalar.select v79 v80 v74
  let c1_i32_57 : BitVec 32 := 1#32
  let v100 : BitVec 32 := Scalar.muli v81 c1_i32_57
  let v101 : BitVec 32 := Scalar.addi c0_i32_58 v100
  v101.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_39 : BitVec 32 := 16#32
  let v82 : BitVec 32 := Scalar.addi v2 c16_i32_39
  let c4_i32_40 : BitVec 32 := 4#32
  let v83 : BitVec 32 := Scalar.subi v82 c4_i32_40
  let c16_i32_41 : BitVec 32 := 16#32
  let c0_i32_42 : BitVec 32 := 0#32
  let v84 : BitVec 1 := Scalar.cmpi .eq c16_i32_41 c0_i32_42
  let c1_i32_43 : BitVec 32 := 1#32
  let v85 : BitVec 32 := Scalar.select v84 c1_i32_43 c16_i32_41
  let v86 : BitVec 32 := Scalar.remsi v83 v85
  let c0_i32_45 : BitVec 32 := 0#32
  let v88 : BitVec 1 := Scalar.cmpi .slt v86 c0_i32_45
  let c0_i32_46 : BitVec 32 := 0#32
  let v89 : BitVec 1 := Scalar.cmpi .slt v85 c0_i32_46
  let v90 : BitVec 1 := Scalar.xori v88 v89
  let c0_i32_44 : BitVec 32 := 0#32
  let v87 : BitVec 1 := Scalar.cmpi .ne v86 c0_i32_44
  let v91 : BitVec 1 := Scalar.andi v90 v87
  let v92 : BitVec 32 := Scalar.addi v86 v85
  let v93 : BitVec 32 := Scalar.select v91 v92 v86
  let c1_i32_60 : BitVec 32 := 1#32
  let v102 : BitVec 32 := Scalar.muli v93 c1_i32_60
  let v103 : BitVec 32 := Scalar.addi c0_i32_61 v102
  v103.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32 : BitVec 32 := 256#32
  let v107 : BitVec 32 := Scalar.muli v19 c256_i32
  let v108 : Index := Scalar.indexCast v107
  let c0_64 : Index := 0#32
  ![v108.toNat, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_65 : BitVec 32 := 2#32
  let v112 : BitVec 1 := Scalar.cmpi .sle v19 c2_i32_65
  let v113 : BitVec 32 := Scalar.extui v112
  let c0_i32_66 : BitVec 32 := 0#32
  let v114 : BitVec 1 := Scalar.cmpi .ne v113 c0_i32_66
  v114

def k0_off2 (d0 : Dev nD) : Fin 2 → Nat :=
  let c0_i32_613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![0, v19.toNat]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v19.toNat]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_612 : BitVec 32 := 256#32
  let v871 : BitVec 32 := Scalar.muli v19 c256_i32_612
  let c0_i32_616 : BitVec 32 := 0#32
  ![v871.toNat, 0]
def k0_dev6 (d0 : Dev nD) : Nat :=
  let c0_i32_615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_610 : BitVec 32 := 4#32
  let v869 : BitVec 32 := Scalar.addi v2 c4_i32_610
  let c1_i32_614 : BitVec 32 := 1#32
  let v872 : BitVec 32 := Scalar.muli v869 c1_i32_614
  let v873 : BitVec 32 := Scalar.addi c0_i32_615 v872
  v873.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_67 : BitVec 32 := 1#32
  let v115 : BitVec 1 := Scalar.cmpi .sge v19 c1_i32_67
  let v116 : BitVec 32 := Scalar.extui v115
  let c0_i32_68 : BitVec 32 := 0#32
  let v117 : BitVec 1 := Scalar.cmpi .ne v116 c0_i32_68
  v117

def k0_off5 (d0 : Dev nD) : Fin 2 → Nat :=
  let c1_i32_613 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![1, v19.toNat]
def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v19.toNat]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_612 : BitVec 32 := 256#32
  let v871 : BitVec 32 := Scalar.muli v19 c256_i32_612
  let c0_i32_616 : BitVec 32 := 0#32
  ![v871.toNat, 0]
def k0_dev7 (d0 : Dev nD) : Nat :=
  let c0_i32_615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_610 : BitVec 32 := 4#32
  let v869 : BitVec 32 := Scalar.subi v2 c4_i32_610
  let c1_i32_614 : BitVec 32 := 1#32
  let v872 : BitVec 32 := Scalar.muli v869 c1_i32_614
  let v873 : BitVec 32 := Scalar.addi c0_i32_615 v872
  v873.toNat
def k0_off8 (d0 : Dev nD) (c0_i32_69 : BitVec 32) : Fin 2 → Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32 : BitVec 32 := 2048#32
  let v118 : BitVec 32 := Scalar.muli v19 c2048_i32
  let v119 : BitVec 32 := Scalar.addi v118 c0_i32_69
  ![0, v119.toNat]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_104 : BitVec 32 := 256#32
  let v166 : BitVec 32 := Scalar.muli v19 c256_i32_104
  let v167 : Index := Scalar.indexCast v166
  let c0_105 : Index := 0#32
  ![v167.toNat, 0]
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_106 : BitVec 32 := 0#32
  let v171 : BitVec 1 := Scalar.cmpi .eq v29 c0_i32_106
  let v172 : BitVec 32 := Scalar.extui v171
  let c0_i32_107 : BitVec 32 := 0#32
  let v173 : BitVec 1 := Scalar.cmpi .ne v172 c0_i32_107
  v173

def k0_off10 (d0 : Dev nD) : Fin 2 → Nat :=
  let c4_i32_610 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v869 : BitVec 32 := Scalar.muli c4_i32_610 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v870 : BitVec 32 := Scalar.addi v869 v29
  let c256_i32_611 : BitVec 32 := 256#32
  let v871 : BitVec 32 := Scalar.muli v870 c256_i32_611
  let v872 : Index := Scalar.indexCast v871
  let c0_612 : Index := 0#32
  ![v872.toNat, 0]
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_108 : BitVec 32 := 0#32
  let v174 : BitVec 1 := Scalar.cmpi .ne v29 c0_i32_108
  let v175 : BitVec 32 := Scalar.extui v174
  let c0_i32_109 : BitVec 32 := 0#32
  let v176 : BitVec 1 := Scalar.cmpi .ne v175 c0_i32_109
  v176

def k0_off11 (d0 : Dev nD) : Fin 2 → Nat :=
  let c0_i32_614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![0, v19.toNat]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v29.toNat, v19.toNat]
def k0_off13 (d0 : Dev nD) : Fin 2 → Nat :=
  let c4_i32_611 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v870 : BitVec 32 := Scalar.muli c4_i32_611 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v871 : BitVec 32 := Scalar.addi v870 v29
  let c256_i32_612 : BitVec 32 := 256#32
  let v872 : BitVec 32 := Scalar.muli v871 c256_i32_612
  let c0_i32_617 : BitVec 32 := 0#32
  ![v872.toNat, 0]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_610 : BitVec 32 := 256#32
  let v869 : BitVec 32 := Scalar.muli v19 c256_i32_610
  let c0_i32_618 : BitVec 32 := 0#32
  ![v869.toNat, 0]
def k0_dev8 (d0 : Dev nD) : Nat :=
  let c0_i32_616 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c0_i32_613 : BitVec 32 := 0#32
  let v873 : BitVec 32 := Scalar.addi v30 c0_i32_613
  let c1_i32_615 : BitVec 32 := 1#32
  let v874 : BitVec 32 := Scalar.muli v873 c1_i32_615
  let v875 : BitVec 32 := Scalar.addi c0_i32_616 v874
  v875.toNat
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_130 : BitVec 32 := 256#32
  let v207 : BitVec 32 := Scalar.muli v19 c256_i32_130
  let v208 : Index := Scalar.indexCast v207
  let c512_131 : Index := 512#32
  ![v208.toNat, 512]
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_132 : BitVec 32 := 1#32
  let v212 : BitVec 1 := Scalar.cmpi .eq v29 c1_i32_132
  let v213 : BitVec 32 := Scalar.extui v212
  let c0_i32_133 : BitVec 32 := 0#32
  let v214 : BitVec 1 := Scalar.cmpi .ne v213 c0_i32_133
  v214

def k0_off16 (d0 : Dev nD) : Fin 2 → Nat :=
  let c4_i32_610 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v869 : BitVec 32 := Scalar.muli c4_i32_610 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v870 : BitVec 32 := Scalar.addi v869 v29
  let c256_i32_611 : BitVec 32 := 256#32
  let v871 : BitVec 32 := Scalar.muli v870 c256_i32_611
  let v872 : Index := Scalar.indexCast v871
  let c0_612 : Index := 0#32
  ![v872.toNat, 0]
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_134 : BitVec 32 := 1#32
  let v215 : BitVec 1 := Scalar.cmpi .ne v29 c1_i32_134
  let v216 : BitVec 32 := Scalar.extui v215
  let c0_i32_135 : BitVec 32 := 0#32
  let v217 : BitVec 1 := Scalar.cmpi .ne v216 c0_i32_135
  v217

def k0_off17 (d0 : Dev nD) : Fin 2 → Nat :=
  let c1_i32_614 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![1, v19.toNat]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v29.toNat, v19.toNat]
def k0_off19 (d0 : Dev nD) : Fin 2 → Nat :=
  let c4_i32_611 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v870 : BitVec 32 := Scalar.muli c4_i32_611 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v871 : BitVec 32 := Scalar.addi v870 v29
  let c256_i32_612 : BitVec 32 := 256#32
  let v872 : BitVec 32 := Scalar.muli v871 c256_i32_612
  let c0_i32_617 : BitVec 32 := 0#32
  ![v872.toNat, 0]
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_610 : BitVec 32 := 256#32
  let v869 : BitVec 32 := Scalar.muli v19 c256_i32_610
  let c512_i32_618 : BitVec 32 := 512#32
  ![v869.toNat, 512]
def k0_dev9 (d0 : Dev nD) : Nat :=
  let c0_i32_616 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c1_i32_613 : BitVec 32 := 1#32
  let v873 : BitVec 32 := Scalar.addi v30 c1_i32_613
  let c1_i32_615 : BitVec 32 := 1#32
  let v874 : BitVec 32 := Scalar.muli v873 c1_i32_615
  let v875 : BitVec 32 := Scalar.addi c0_i32_616 v874
  v875.toNat
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_152 : BitVec 32 := 256#32
  let v243 : BitVec 32 := Scalar.muli v19 c256_i32_152
  let v244 : Index := Scalar.indexCast v243
  let c1024_153 : Index := 1024#32
  ![v244.toNat, 1024]
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_154 : BitVec 32 := 2#32
  let v248 : BitVec 1 := Scalar.cmpi .eq v29 c2_i32_154
  let v249 : BitVec 32 := Scalar.extui v248
  let c0_i32_155 : BitVec 32 := 0#32
  let v250 : BitVec 1 := Scalar.cmpi .ne v249 c0_i32_155
  v250

def k0_off22 (d0 : Dev nD) : Fin 2 → Nat :=
  let c4_i32_610 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v869 : BitVec 32 := Scalar.muli c4_i32_610 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v870 : BitVec 32 := Scalar.addi v869 v29
  let c256_i32_611 : BitVec 32 := 256#32
  let v871 : BitVec 32 := Scalar.muli v870 c256_i32_611
  let v872 : Index := Scalar.indexCast v871
  let c0_612 : Index := 0#32
  ![v872.toNat, 0]
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_156 : BitVec 32 := 2#32
  let v251 : BitVec 1 := Scalar.cmpi .ne v29 c2_i32_156
  let v252 : BitVec 32 := Scalar.extui v251
  let c0_i32_157 : BitVec 32 := 0#32
  let v253 : BitVec 1 := Scalar.cmpi .ne v252 c0_i32_157
  v253

def k0_off23 (d0 : Dev nD) : Fin 2 → Nat :=
  let c2_i32_614 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![2, v19.toNat]
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v29.toNat, v19.toNat]
def k0_off25 (d0 : Dev nD) : Fin 2 → Nat :=
  let c4_i32_611 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v870 : BitVec 32 := Scalar.muli c4_i32_611 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v871 : BitVec 32 := Scalar.addi v870 v29
  let c256_i32_612 : BitVec 32 := 256#32
  let v872 : BitVec 32 := Scalar.muli v871 c256_i32_612
  let c0_i32_617 : BitVec 32 := 0#32
  ![v872.toNat, 0]
def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_610 : BitVec 32 := 256#32
  let v869 : BitVec 32 := Scalar.muli v19 c256_i32_610
  let c1024_i32_618 : BitVec 32 := 1024#32
  ![v869.toNat, 1024]
def k0_dev10 (d0 : Dev nD) : Nat :=
  let c0_i32_616 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c2_i32_613 : BitVec 32 := 2#32
  let v873 : BitVec 32 := Scalar.addi v30 c2_i32_613
  let c1_i32_615 : BitVec 32 := 1#32
  let v874 : BitVec 32 := Scalar.muli v873 c1_i32_615
  let v875 : BitVec 32 := Scalar.addi c0_i32_616 v874
  v875.toNat
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_174 : BitVec 32 := 256#32
  let v279 : BitVec 32 := Scalar.muli v19 c256_i32_174
  let v280 : Index := Scalar.indexCast v279
  let c1536_175 : Index := 1536#32
  ![v280.toNat, 1536]
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_176 : BitVec 32 := 3#32
  let v284 : BitVec 1 := Scalar.cmpi .eq v29 c3_i32_176
  let v285 : BitVec 32 := Scalar.extui v284
  let c0_i32_177 : BitVec 32 := 0#32
  let v286 : BitVec 1 := Scalar.cmpi .ne v285 c0_i32_177
  v286

def k0_off28 (d0 : Dev nD) : Fin 2 → Nat :=
  let c4_i32_610 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v869 : BitVec 32 := Scalar.muli c4_i32_610 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v870 : BitVec 32 := Scalar.addi v869 v29
  let c256_i32_611 : BitVec 32 := 256#32
  let v871 : BitVec 32 := Scalar.muli v870 c256_i32_611
  let v872 : Index := Scalar.indexCast v871
  let c0_612 : Index := 0#32
  ![v872.toNat, 0]
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_178 : BitVec 32 := 3#32
  let v287 : BitVec 1 := Scalar.cmpi .ne v29 c3_i32_178
  let v288 : BitVec 32 := Scalar.extui v287
  let c0_i32_179 : BitVec 32 := 0#32
  let v289 : BitVec 1 := Scalar.cmpi .ne v288 c0_i32_179
  v289

def k0_off29 (d0 : Dev nD) : Fin 2 → Nat :=
  let c3_i32_614 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![3, v19.toNat]
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v29.toNat, v19.toNat]
def k0_off31 (d0 : Dev nD) : Fin 2 → Nat :=
  let c4_i32_611 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v870 : BitVec 32 := Scalar.muli c4_i32_611 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v871 : BitVec 32 := Scalar.addi v870 v29
  let c256_i32_612 : BitVec 32 := 256#32
  let v872 : BitVec 32 := Scalar.muli v871 c256_i32_612
  let c0_i32_617 : BitVec 32 := 0#32
  ![v872.toNat, 0]
def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_610 : BitVec 32 := 256#32
  let v869 : BitVec 32 := Scalar.muli v19 c256_i32_610
  let c1536_i32_618 : BitVec 32 := 1536#32
  ![v869.toNat, 1536]
def k0_dev11 (d0 : Dev nD) : Nat :=
  let c0_i32_616 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c3_i32_613 : BitVec 32 := 3#32
  let v873 : BitVec 32 := Scalar.addi v30 c3_i32_613
  let c1_i32_615 : BitVec 32 := 1#32
  let v874 : BitVec 32 := Scalar.muli v873 c1_i32_615
  let v875 : BitVec 32 := Scalar.addi c0_i32_616 v874
  v875.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_180 : BitVec 32 := 1#32
  let v290 : BitVec 1 := Scalar.cmpi .sge v19 c1_i32_180
  let v292 : BitVec 32 := Scalar.extui v290
  let c0_i32_182 : BitVec 32 := 0#32
  let v293 : BitVec 1 := Scalar.cmpi .ne v292 c0_i32_182
  v293

def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c0_i32_611 : BitVec 32 := 0#32
  let v870 : BitVec 32 := Scalar.subi v869 c0_i32_611
  ![v870.toNat]
def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c0_i32_611 : BitVec 32 := 0#32
  let v870 : BitVec 32 := Scalar.subi v869 c0_i32_611
  let c256_i32_614 : BitVec 32 := 256#32
  let v873 : BitVec 32 := Scalar.muli v870 c256_i32_614
  let c0_i32_618 : BitVec 32 := 0#32
  ![v873.toNat, 0]
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_180 : BitVec 32 := 1#32
  let v290 : BitVec 1 := Scalar.cmpi .sge v19 c1_i32_180
  let c2_i32_183 : BitVec 32 := 2#32
  let v294 : BitVec 1 := Scalar.cmpi .sle v19 c2_i32_183
  let v295 : BitVec 1 := Scalar.andi v290 v294
  let v296 : BitVec 32 := Scalar.extui v295
  let c0_i32_184 : BitVec 32 := 0#32
  let v297 : BitVec 1 := Scalar.cmpi .ne v296 c0_i32_184
  v297

def k0_off35 (d0 : Dev nD) : Fin 2 → Nat :=
  let c0_i32_615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c0_i32_611 : BitVec 32 := 0#32
  let v870 : BitVec 32 := Scalar.subi v869 c0_i32_611
  ![0, v870.toNat]
def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c0_i32_611 : BitVec 32 := 0#32
  let v870 : BitVec 32 := Scalar.subi v869 c0_i32_611
  ![v870.toNat]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c0_i32_611 : BitVec 32 := 0#32
  let v870 : BitVec 32 := Scalar.subi v869 c0_i32_611
  let c256_i32_614 : BitVec 32 := 256#32
  let v873 : BitVec 32 := Scalar.muli v870 c256_i32_614
  let c0_i32_618 : BitVec 32 := 0#32
  ![v873.toNat, 0]
def k0_dev12 (d0 : Dev nD) : Nat :=
  let c0_i32_617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_612 : BitVec 32 := 4#32
  let v871 : BitVec 32 := Scalar.addi v2 c4_i32_612
  let c1_i32_616 : BitVec 32 := 1#32
  let v874 : BitVec 32 := Scalar.muli v871 c1_i32_616
  let v875 : BitVec 32 := Scalar.addi c0_i32_617 v874
  v875.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_181 : BitVec 32 := 2#32
  let v291 : BitVec 1 := Scalar.cmpi .sle v19 c2_i32_181
  let v298 : BitVec 32 := Scalar.extui v291
  let c0_i32_185 : BitVec 32 := 0#32
  let v299 : BitVec 1 := Scalar.cmpi .ne v298 c0_i32_185
  v299

def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c0_i32_611 : BitVec 32 := 0#32
  let v870 : BitVec 32 := Scalar.addi v869 c0_i32_611
  ![v870.toNat]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c0_i32_611 : BitVec 32 := 0#32
  let v870 : BitVec 32 := Scalar.addi v869 c0_i32_611
  let c256_i32_614 : BitVec 32 := 256#32
  let v873 : BitVec 32 := Scalar.muli v870 c256_i32_614
  let c0_i32_618 : BitVec 32 := 0#32
  ![v873.toNat, 0]
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_181 : BitVec 32 := 2#32
  let v291 : BitVec 1 := Scalar.cmpi .sle v19 c2_i32_181
  let c1_i32_186 : BitVec 32 := 1#32
  let v300 : BitVec 1 := Scalar.cmpi .sge v19 c1_i32_186
  let v301 : BitVec 1 := Scalar.andi v291 v300
  let v302 : BitVec 32 := Scalar.extui v301
  let c0_i32_187 : BitVec 32 := 0#32
  let v303 : BitVec 1 := Scalar.cmpi .ne v302 c0_i32_187
  v303

def k0_off40 (d0 : Dev nD) : Fin 2 → Nat :=
  let c1_i32_615 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c0_i32_611 : BitVec 32 := 0#32
  let v870 : BitVec 32 := Scalar.addi v869 c0_i32_611
  ![1, v870.toNat]
def k0_off41 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c0_i32_611 : BitVec 32 := 0#32
  let v870 : BitVec 32 := Scalar.addi v869 c0_i32_611
  ![v870.toNat]
def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c0_i32_611 : BitVec 32 := 0#32
  let v870 : BitVec 32 := Scalar.addi v869 c0_i32_611
  let c256_i32_614 : BitVec 32 := 256#32
  let v873 : BitVec 32 := Scalar.muli v870 c256_i32_614
  let c0_i32_618 : BitVec 32 := 0#32
  ![v873.toNat, 0]
def k0_dev13 (d0 : Dev nD) : Nat :=
  let c0_i32_617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_612 : BitVec 32 := 4#32
  let v871 : BitVec 32 := Scalar.subi v2 c4_i32_612
  let c1_i32_616 : BitVec 32 := 1#32
  let v874 : BitVec 32 := Scalar.muli v871 c1_i32_616
  let v875 : BitVec 32 := Scalar.addi c0_i32_617 v874
  v875.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_180 : BitVec 32 := 1#32
  let v290 : BitVec 1 := Scalar.cmpi .sge v19 c1_i32_180
  let v304 : BitVec 32 := Scalar.extui v290
  let c0_i32_188 : BitVec 32 := 0#32
  let v305 : BitVec 1 := Scalar.cmpi .ne v304 c0_i32_188
  v305

def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c0_i32_611 : BitVec 32 := 0#32
  let v870 : BitVec 32 := Scalar.subi v869 c0_i32_611
  let c256_i32_612 : BitVec 32 := 256#32
  let v871 : BitVec 32 := Scalar.muli v870 c256_i32_612
  let v872 : Index := Scalar.indexCast v871
  let c0_613 : Index := 0#32
  ![v872.toNat, 0]
def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c0_i32_611 : BitVec 32 := 0#32
  let v870 : BitVec 32 := Scalar.subi v869 c0_i32_611
  let c256_i32_619 : BitVec 32 := 256#32
  let v885 : BitVec 32 := Scalar.muli v870 c256_i32_619
  let v886 : Index := Scalar.indexCast v885
  let c0_620 : Index := 0#32
  ![v886.toNat, 0]
def k0_off45 (d0 : Dev nD) (c2_i32_621 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v890 : BitVec 32 := Scalar.addi v29 c2_i32_621
  let c4_i32_622 : BitVec 32 := 4#32
  let v891 : BitVec 32 := Scalar.remsi v890 c4_i32_622
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c0_i32_611 : BitVec 32 := 0#32
  let v870 : BitVec 32 := Scalar.subi v869 c0_i32_611
  ![v891.toNat, v870.toNat]
def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c0_i32_611 : BitVec 32 := 0#32
  let v870 : BitVec 32 := Scalar.subi v869 c0_i32_611
  ![v29.toNat, v870.toNat]
def k0_off47 (d0 : Dev nD) : Fin 2 → Nat :=
  let c4_i32_625 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c0_i32_611 : BitVec 32 := 0#32
  let v870 : BitVec 32 := Scalar.subi v869 c0_i32_611
  let v894 : BitVec 32 := Scalar.muli c4_i32_625 v870
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v895 : BitVec 32 := Scalar.addi v894 v29
  let c256_i32_626 : BitVec 32 := 256#32
  let v896 : BitVec 32 := Scalar.muli v895 c256_i32_626
  let c0_i32_629 : BitVec 32 := 0#32
  ![v896.toNat, 0]
def k0_off48 (d0 : Dev nD) (c2_i32_621 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c0_i32_611 : BitVec 32 := 0#32
  let v870 : BitVec 32 := Scalar.subi v869 c0_i32_611
  let c256_i32_623 : BitVec 32 := 256#32
  let v892 : BitVec 32 := Scalar.muli v870 c256_i32_623
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v890 : BitVec 32 := Scalar.addi v29 c2_i32_621
  let c4_i32_622 : BitVec 32 := 4#32
  let v891 : BitVec 32 := Scalar.remsi v890 c4_i32_622
  let c512_i32_624 : BitVec 32 := 512#32
  let v893 : BitVec 32 := Scalar.muli v891 c512_i32_624
  ![v892.toNat, v893.toNat]
def k0_dev14 (d0 : Dev nD) : Nat :=
  let c0_i32_628 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_621 : BitVec 32 := 2#32
  let v890 : BitVec 32 := Scalar.addi v29 c2_i32_621
  let c4_i32_622 : BitVec 32 := 4#32
  let v891 : BitVec 32 := Scalar.remsi v890 c4_i32_622
  let v897 : BitVec 32 := Scalar.addi v30 v891
  let c1_i32_627 : BitVec 32 := 1#32
  let v898 : BitVec 32 := Scalar.muli v897 c1_i32_627
  let v899 : BitVec 32 := Scalar.addi c0_i32_628 v898
  v899.toNat
def k0_dev15 (d0 : Dev nD) : Nat :=
  let c0_i32_637 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_630 : BitVec 32 := 1#32
  let v906 : BitVec 32 := Scalar.addi v29 c1_i32_630
  let c4_i32_631 : BitVec 32 := 4#32
  let v907 : BitVec 32 := Scalar.remsi v906 c4_i32_631
  let v913 : BitVec 32 := Scalar.addi v30 v907
  let c1_i32_636 : BitVec 32 := 1#32
  let v914 : BitVec 32 := Scalar.muli v913 c1_i32_636
  let v915 : BitVec 32 := Scalar.addi c0_i32_637 v914
  v915.toNat
def k0_dev16 (d0 : Dev nD) : Nat :=
  let c0_i32_646 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_639 : BitVec 32 := 3#32
  let v922 : BitVec 32 := Scalar.addi v29 c3_i32_639
  let c4_i32_640 : BitVec 32 := 4#32
  let v923 : BitVec 32 := Scalar.remsi v922 c4_i32_640
  let v929 : BitVec 32 := Scalar.addi v30 v923
  let c1_i32_645 : BitVec 32 := 1#32
  let v930 : BitVec 32 := Scalar.muli v929 c1_i32_645
  let v931 : BitVec 32 := Scalar.addi c0_i32_646 v930
  v931.toNat
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c0_i32_611 : BitVec 32 := 0#32
  let v870 : BitVec 32 := Scalar.subi v869 c0_i32_611
  let c256_i32_648 : BitVec 32 := 256#32
  let v938 : BitVec 32 := Scalar.muli v870 c256_i32_648
  let v940 : Index := Scalar.indexCast v938
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c512_i32_649 : BitVec 32 := 512#32
  let v939 : BitVec 32 := Scalar.muli v29 c512_i32_649
  let v941 : Index := Scalar.indexCast v939
  ![v940.toNat, v941.toNat]
def k0_off50 (d0 : Dev nD) : Fin 2 → Nat :=
  let c4_i32_650 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c0_i32_611 : BitVec 32 := 0#32
  let v870 : BitVec 32 := Scalar.subi v869 c0_i32_611
  let v944 : BitVec 32 := Scalar.muli c4_i32_650 v870
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v945 : BitVec 32 := Scalar.addi v944 v29
  let c256_i32_651 : BitVec 32 := 256#32
  let v946 : BitVec 32 := Scalar.muli v945 c256_i32_651
  let v947 : Index := Scalar.indexCast v946
  let c0_652 : Index := 0#32
  ![v947.toNat, 0]
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_181 : BitVec 32 := 2#32
  let v291 : BitVec 1 := Scalar.cmpi .sle v19 c2_i32_181
  let v306 : BitVec 32 := Scalar.extui v291
  let c0_i32_189 : BitVec 32 := 0#32
  let v307 : BitVec 1 := Scalar.cmpi .ne v306 c0_i32_189
  v307

def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c0_i32_611 : BitVec 32 := 0#32
  let v870 : BitVec 32 := Scalar.addi v869 c0_i32_611
  let c256_i32_612 : BitVec 32 := 256#32
  let v871 : BitVec 32 := Scalar.muli v870 c256_i32_612
  let v872 : Index := Scalar.indexCast v871
  let c0_613 : Index := 0#32
  ![v872.toNat, 0]
def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c0_i32_611 : BitVec 32 := 0#32
  let v870 : BitVec 32 := Scalar.addi v869 c0_i32_611
  let c256_i32_619 : BitVec 32 := 256#32
  let v885 : BitVec 32 := Scalar.muli v870 c256_i32_619
  let v886 : Index := Scalar.indexCast v885
  let c0_620 : Index := 0#32
  ![v886.toNat, 0]
def k0_off53 (d0 : Dev nD) (c2_i32_621 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v890 : BitVec 32 := Scalar.addi v29 c2_i32_621
  let c4_i32_622 : BitVec 32 := 4#32
  let v891 : BitVec 32 := Scalar.remsi v890 c4_i32_622
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c0_i32_611 : BitVec 32 := 0#32
  let v870 : BitVec 32 := Scalar.addi v869 c0_i32_611
  ![v891.toNat, v870.toNat]
def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c0_i32_611 : BitVec 32 := 0#32
  let v870 : BitVec 32 := Scalar.addi v869 c0_i32_611
  ![v29.toNat, v870.toNat]
def k0_off55 (d0 : Dev nD) : Fin 2 → Nat :=
  let c4_i32_625 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c0_i32_611 : BitVec 32 := 0#32
  let v870 : BitVec 32 := Scalar.addi v869 c0_i32_611
  let v894 : BitVec 32 := Scalar.muli c4_i32_625 v870
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v895 : BitVec 32 := Scalar.addi v894 v29
  let c256_i32_626 : BitVec 32 := 256#32
  let v896 : BitVec 32 := Scalar.muli v895 c256_i32_626
  let c0_i32_629 : BitVec 32 := 0#32
  ![v896.toNat, 0]
def k0_off56 (d0 : Dev nD) (c2_i32_621 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c0_i32_611 : BitVec 32 := 0#32
  let v870 : BitVec 32 := Scalar.addi v869 c0_i32_611
  let c256_i32_623 : BitVec 32 := 256#32
  let v892 : BitVec 32 := Scalar.muli v870 c256_i32_623
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v890 : BitVec 32 := Scalar.addi v29 c2_i32_621
  let c4_i32_622 : BitVec 32 := 4#32
  let v891 : BitVec 32 := Scalar.remsi v890 c4_i32_622
  let c512_i32_624 : BitVec 32 := 512#32
  let v893 : BitVec 32 := Scalar.muli v891 c512_i32_624
  ![v892.toNat, v893.toNat]
def k0_dev17 (d0 : Dev nD) : Nat :=
  let c0_i32_628 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_621 : BitVec 32 := 2#32
  let v890 : BitVec 32 := Scalar.addi v29 c2_i32_621
  let c4_i32_622 : BitVec 32 := 4#32
  let v891 : BitVec 32 := Scalar.remsi v890 c4_i32_622
  let v897 : BitVec 32 := Scalar.addi v30 v891
  let c1_i32_627 : BitVec 32 := 1#32
  let v898 : BitVec 32 := Scalar.muli v897 c1_i32_627
  let v899 : BitVec 32 := Scalar.addi c0_i32_628 v898
  v899.toNat
def k0_dev18 (d0 : Dev nD) : Nat :=
  let c0_i32_637 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_630 : BitVec 32 := 1#32
  let v906 : BitVec 32 := Scalar.addi v29 c1_i32_630
  let c4_i32_631 : BitVec 32 := 4#32
  let v907 : BitVec 32 := Scalar.remsi v906 c4_i32_631
  let v913 : BitVec 32 := Scalar.addi v30 v907
  let c1_i32_636 : BitVec 32 := 1#32
  let v914 : BitVec 32 := Scalar.muli v913 c1_i32_636
  let v915 : BitVec 32 := Scalar.addi c0_i32_637 v914
  v915.toNat
def k0_dev19 (d0 : Dev nD) : Nat :=
  let c0_i32_646 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_639 : BitVec 32 := 3#32
  let v922 : BitVec 32 := Scalar.addi v29 c3_i32_639
  let c4_i32_640 : BitVec 32 := 4#32
  let v923 : BitVec 32 := Scalar.remsi v922 c4_i32_640
  let v929 : BitVec 32 := Scalar.addi v30 v923
  let c1_i32_645 : BitVec 32 := 1#32
  let v930 : BitVec 32 := Scalar.muli v929 c1_i32_645
  let v931 : BitVec 32 := Scalar.addi c0_i32_646 v930
  v931.toNat
def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c0_i32_611 : BitVec 32 := 0#32
  let v870 : BitVec 32 := Scalar.addi v869 c0_i32_611
  let c256_i32_648 : BitVec 32 := 256#32
  let v938 : BitVec 32 := Scalar.muli v870 c256_i32_648
  let v940 : Index := Scalar.indexCast v938
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c512_i32_649 : BitVec 32 := 512#32
  let v939 : BitVec 32 := Scalar.muli v29 c512_i32_649
  let v941 : Index := Scalar.indexCast v939
  ![v940.toNat, v941.toNat]
def k0_off58 (d0 : Dev nD) : Fin 2 → Nat :=
  let c4_i32_650 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c0_i32_611 : BitVec 32 := 0#32
  let v870 : BitVec 32 := Scalar.addi v869 c0_i32_611
  let v944 : BitVec 32 := Scalar.muli c4_i32_650 v870
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v945 : BitVec 32 := Scalar.addi v944 v29
  let c256_i32_651 : BitVec 32 := 256#32
  let v946 : BitVec 32 := Scalar.muli v945 c256_i32_651
  let v947 : Index := Scalar.indexCast v946
  let c0_652 : Index := 0#32
  ![v947.toNat, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_190 : BitVec 32 := 2#32
  let v308 : BitVec 1 := Scalar.cmpi .sge v19 c2_i32_190
  let v310 : BitVec 32 := Scalar.extui v308
  let c0_i32_192 : BitVec 32 := 0#32
  let v311 : BitVec 1 := Scalar.cmpi .ne v310 c0_i32_192
  v311

def k0_off59 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c1_i32_611 : BitVec 32 := 1#32
  let v870 : BitVec 32 := Scalar.subi v869 c1_i32_611
  ![v870.toNat]
def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c1_i32_611 : BitVec 32 := 1#32
  let v870 : BitVec 32 := Scalar.subi v869 c1_i32_611
  let c256_i32_614 : BitVec 32 := 256#32
  let v873 : BitVec 32 := Scalar.muli v870 c256_i32_614
  let c0_i32_618 : BitVec 32 := 0#32
  ![v873.toNat, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_190 : BitVec 32 := 2#32
  let v308 : BitVec 1 := Scalar.cmpi .sge v19 c2_i32_190
  let c2_i32_193 : BitVec 32 := 2#32
  let v312 : BitVec 1 := Scalar.cmpi .sle v19 c2_i32_193
  let v313 : BitVec 1 := Scalar.andi v308 v312
  let v314 : BitVec 32 := Scalar.extui v313
  let c0_i32_194 : BitVec 32 := 0#32
  let v315 : BitVec 1 := Scalar.cmpi .ne v314 c0_i32_194
  v315

def k0_off61 (d0 : Dev nD) : Fin 2 → Nat :=
  let c0_i32_615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c1_i32_611 : BitVec 32 := 1#32
  let v870 : BitVec 32 := Scalar.subi v869 c1_i32_611
  ![0, v870.toNat]
def k0_off62 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c1_i32_611 : BitVec 32 := 1#32
  let v870 : BitVec 32 := Scalar.subi v869 c1_i32_611
  ![v870.toNat]
def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c1_i32_611 : BitVec 32 := 1#32
  let v870 : BitVec 32 := Scalar.subi v869 c1_i32_611
  let c256_i32_614 : BitVec 32 := 256#32
  let v873 : BitVec 32 := Scalar.muli v870 c256_i32_614
  let c0_i32_618 : BitVec 32 := 0#32
  ![v873.toNat, 0]
def k0_dev20 (d0 : Dev nD) : Nat :=
  let c0_i32_617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_612 : BitVec 32 := 4#32
  let v871 : BitVec 32 := Scalar.addi v2 c4_i32_612
  let c1_i32_616 : BitVec 32 := 1#32
  let v874 : BitVec 32 := Scalar.muli v871 c1_i32_616
  let v875 : BitVec 32 := Scalar.addi c0_i32_617 v874
  v875.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_191 : BitVec 32 := 1#32
  let v309 : BitVec 1 := Scalar.cmpi .sle v19 c1_i32_191
  let v316 : BitVec 32 := Scalar.extui v309
  let c0_i32_195 : BitVec 32 := 0#32
  let v317 : BitVec 1 := Scalar.cmpi .ne v316 c0_i32_195
  v317

def k0_off64 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c1_i32_611 : BitVec 32 := 1#32
  let v870 : BitVec 32 := Scalar.addi v869 c1_i32_611
  ![v870.toNat]
def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c1_i32_611 : BitVec 32 := 1#32
  let v870 : BitVec 32 := Scalar.addi v869 c1_i32_611
  let c256_i32_614 : BitVec 32 := 256#32
  let v873 : BitVec 32 := Scalar.muli v870 c256_i32_614
  let c0_i32_618 : BitVec 32 := 0#32
  ![v873.toNat, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_191 : BitVec 32 := 1#32
  let v309 : BitVec 1 := Scalar.cmpi .sle v19 c1_i32_191
  let c1_i32_196 : BitVec 32 := 1#32
  let v318 : BitVec 1 := Scalar.cmpi .sge v19 c1_i32_196
  let v319 : BitVec 1 := Scalar.andi v309 v318
  let v320 : BitVec 32 := Scalar.extui v319
  let c0_i32_197 : BitVec 32 := 0#32
  let v321 : BitVec 1 := Scalar.cmpi .ne v320 c0_i32_197
  v321

def k0_off66 (d0 : Dev nD) : Fin 2 → Nat :=
  let c1_i32_615 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c1_i32_611 : BitVec 32 := 1#32
  let v870 : BitVec 32 := Scalar.addi v869 c1_i32_611
  ![1, v870.toNat]
def k0_off67 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c1_i32_611 : BitVec 32 := 1#32
  let v870 : BitVec 32 := Scalar.addi v869 c1_i32_611
  ![v870.toNat]
def k0_off68 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c1_i32_611 : BitVec 32 := 1#32
  let v870 : BitVec 32 := Scalar.addi v869 c1_i32_611
  let c256_i32_614 : BitVec 32 := 256#32
  let v873 : BitVec 32 := Scalar.muli v870 c256_i32_614
  let c0_i32_618 : BitVec 32 := 0#32
  ![v873.toNat, 0]
def k0_dev21 (d0 : Dev nD) : Nat :=
  let c0_i32_617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_612 : BitVec 32 := 4#32
  let v871 : BitVec 32 := Scalar.subi v2 c4_i32_612
  let c1_i32_616 : BitVec 32 := 1#32
  let v874 : BitVec 32 := Scalar.muli v871 c1_i32_616
  let v875 : BitVec 32 := Scalar.addi c0_i32_617 v874
  v875.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_190 : BitVec 32 := 2#32
  let v308 : BitVec 1 := Scalar.cmpi .sge v19 c2_i32_190
  let v322 : BitVec 32 := Scalar.extui v308
  let c0_i32_198 : BitVec 32 := 0#32
  let v323 : BitVec 1 := Scalar.cmpi .ne v322 c0_i32_198
  v323

def k0_off69 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c1_i32_611 : BitVec 32 := 1#32
  let v870 : BitVec 32 := Scalar.subi v869 c1_i32_611
  let c256_i32_612 : BitVec 32 := 256#32
  let v871 : BitVec 32 := Scalar.muli v870 c256_i32_612
  let v872 : Index := Scalar.indexCast v871
  let c0_613 : Index := 0#32
  ![v872.toNat, 0]
def k0_off70 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c1_i32_611 : BitVec 32 := 1#32
  let v870 : BitVec 32 := Scalar.subi v869 c1_i32_611
  let c256_i32_619 : BitVec 32 := 256#32
  let v885 : BitVec 32 := Scalar.muli v870 c256_i32_619
  let v886 : Index := Scalar.indexCast v885
  let c0_620 : Index := 0#32
  ![v886.toNat, 0]
def k0_off71 (d0 : Dev nD) (c2_i32_621 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v890 : BitVec 32 := Scalar.addi v29 c2_i32_621
  let c4_i32_622 : BitVec 32 := 4#32
  let v891 : BitVec 32 := Scalar.remsi v890 c4_i32_622
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c1_i32_611 : BitVec 32 := 1#32
  let v870 : BitVec 32 := Scalar.subi v869 c1_i32_611
  ![v891.toNat, v870.toNat]
def k0_off72 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c1_i32_611 : BitVec 32 := 1#32
  let v870 : BitVec 32 := Scalar.subi v869 c1_i32_611
  ![v29.toNat, v870.toNat]
def k0_off73 (d0 : Dev nD) : Fin 2 → Nat :=
  let c4_i32_625 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c1_i32_611 : BitVec 32 := 1#32
  let v870 : BitVec 32 := Scalar.subi v869 c1_i32_611
  let v894 : BitVec 32 := Scalar.muli c4_i32_625 v870
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v895 : BitVec 32 := Scalar.addi v894 v29
  let c256_i32_626 : BitVec 32 := 256#32
  let v896 : BitVec 32 := Scalar.muli v895 c256_i32_626
  let c0_i32_629 : BitVec 32 := 0#32
  ![v896.toNat, 0]
def k0_off74 (d0 : Dev nD) (c2_i32_621 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c1_i32_611 : BitVec 32 := 1#32
  let v870 : BitVec 32 := Scalar.subi v869 c1_i32_611
  let c256_i32_623 : BitVec 32 := 256#32
  let v892 : BitVec 32 := Scalar.muli v870 c256_i32_623
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v890 : BitVec 32 := Scalar.addi v29 c2_i32_621
  let c4_i32_622 : BitVec 32 := 4#32
  let v891 : BitVec 32 := Scalar.remsi v890 c4_i32_622
  let c512_i32_624 : BitVec 32 := 512#32
  let v893 : BitVec 32 := Scalar.muli v891 c512_i32_624
  ![v892.toNat, v893.toNat]
def k0_dev22 (d0 : Dev nD) : Nat :=
  let c0_i32_628 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_621 : BitVec 32 := 2#32
  let v890 : BitVec 32 := Scalar.addi v29 c2_i32_621
  let c4_i32_622 : BitVec 32 := 4#32
  let v891 : BitVec 32 := Scalar.remsi v890 c4_i32_622
  let v897 : BitVec 32 := Scalar.addi v30 v891
  let c1_i32_627 : BitVec 32 := 1#32
  let v898 : BitVec 32 := Scalar.muli v897 c1_i32_627
  let v899 : BitVec 32 := Scalar.addi c0_i32_628 v898
  v899.toNat
def k0_dev23 (d0 : Dev nD) : Nat :=
  let c0_i32_637 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_630 : BitVec 32 := 1#32
  let v906 : BitVec 32 := Scalar.addi v29 c1_i32_630
  let c4_i32_631 : BitVec 32 := 4#32
  let v907 : BitVec 32 := Scalar.remsi v906 c4_i32_631
  let v913 : BitVec 32 := Scalar.addi v30 v907
  let c1_i32_636 : BitVec 32 := 1#32
  let v914 : BitVec 32 := Scalar.muli v913 c1_i32_636
  let v915 : BitVec 32 := Scalar.addi c0_i32_637 v914
  v915.toNat
def k0_dev24 (d0 : Dev nD) : Nat :=
  let c0_i32_646 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_639 : BitVec 32 := 3#32
  let v922 : BitVec 32 := Scalar.addi v29 c3_i32_639
  let c4_i32_640 : BitVec 32 := 4#32
  let v923 : BitVec 32 := Scalar.remsi v922 c4_i32_640
  let v929 : BitVec 32 := Scalar.addi v30 v923
  let c1_i32_645 : BitVec 32 := 1#32
  let v930 : BitVec 32 := Scalar.muli v929 c1_i32_645
  let v931 : BitVec 32 := Scalar.addi c0_i32_646 v930
  v931.toNat
def k0_off75 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c1_i32_611 : BitVec 32 := 1#32
  let v870 : BitVec 32 := Scalar.subi v869 c1_i32_611
  let c256_i32_648 : BitVec 32 := 256#32
  let v938 : BitVec 32 := Scalar.muli v870 c256_i32_648
  let v940 : Index := Scalar.indexCast v938
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c512_i32_649 : BitVec 32 := 512#32
  let v939 : BitVec 32 := Scalar.muli v29 c512_i32_649
  let v941 : Index := Scalar.indexCast v939
  ![v940.toNat, v941.toNat]
def k0_off76 (d0 : Dev nD) : Fin 2 → Nat :=
  let c4_i32_650 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c1_i32_611 : BitVec 32 := 1#32
  let v870 : BitVec 32 := Scalar.subi v869 c1_i32_611
  let v944 : BitVec 32 := Scalar.muli c4_i32_650 v870
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v945 : BitVec 32 := Scalar.addi v944 v29
  let c256_i32_651 : BitVec 32 := 256#32
  let v946 : BitVec 32 := Scalar.muli v945 c256_i32_651
  let v947 : Index := Scalar.indexCast v946
  let c0_652 : Index := 0#32
  ![v947.toNat, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_191 : BitVec 32 := 1#32
  let v309 : BitVec 1 := Scalar.cmpi .sle v19 c1_i32_191
  let v324 : BitVec 32 := Scalar.extui v309
  let c0_i32_199 : BitVec 32 := 0#32
  let v325 : BitVec 1 := Scalar.cmpi .ne v324 c0_i32_199
  v325

def k0_off77 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c1_i32_611 : BitVec 32 := 1#32
  let v870 : BitVec 32 := Scalar.addi v869 c1_i32_611
  let c256_i32_612 : BitVec 32 := 256#32
  let v871 : BitVec 32 := Scalar.muli v870 c256_i32_612
  let v872 : Index := Scalar.indexCast v871
  let c0_613 : Index := 0#32
  ![v872.toNat, 0]
def k0_off78 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c1_i32_611 : BitVec 32 := 1#32
  let v870 : BitVec 32 := Scalar.addi v869 c1_i32_611
  let c256_i32_619 : BitVec 32 := 256#32
  let v885 : BitVec 32 := Scalar.muli v870 c256_i32_619
  let v886 : Index := Scalar.indexCast v885
  let c0_620 : Index := 0#32
  ![v886.toNat, 0]
def k0_off79 (d0 : Dev nD) (c2_i32_621 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v890 : BitVec 32 := Scalar.addi v29 c2_i32_621
  let c4_i32_622 : BitVec 32 := 4#32
  let v891 : BitVec 32 := Scalar.remsi v890 c4_i32_622
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c1_i32_611 : BitVec 32 := 1#32
  let v870 : BitVec 32 := Scalar.addi v869 c1_i32_611
  ![v891.toNat, v870.toNat]
def k0_off80 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c1_i32_611 : BitVec 32 := 1#32
  let v870 : BitVec 32 := Scalar.addi v869 c1_i32_611
  ![v29.toNat, v870.toNat]
def k0_off81 (d0 : Dev nD) : Fin 2 → Nat :=
  let c4_i32_625 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c1_i32_611 : BitVec 32 := 1#32
  let v870 : BitVec 32 := Scalar.addi v869 c1_i32_611
  let v894 : BitVec 32 := Scalar.muli c4_i32_625 v870
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v895 : BitVec 32 := Scalar.addi v894 v29
  let c256_i32_626 : BitVec 32 := 256#32
  let v896 : BitVec 32 := Scalar.muli v895 c256_i32_626
  let c0_i32_629 : BitVec 32 := 0#32
  ![v896.toNat, 0]
def k0_off82 (d0 : Dev nD) (c2_i32_621 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c1_i32_611 : BitVec 32 := 1#32
  let v870 : BitVec 32 := Scalar.addi v869 c1_i32_611
  let c256_i32_623 : BitVec 32 := 256#32
  let v892 : BitVec 32 := Scalar.muli v870 c256_i32_623
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v890 : BitVec 32 := Scalar.addi v29 c2_i32_621
  let c4_i32_622 : BitVec 32 := 4#32
  let v891 : BitVec 32 := Scalar.remsi v890 c4_i32_622
  let c512_i32_624 : BitVec 32 := 512#32
  let v893 : BitVec 32 := Scalar.muli v891 c512_i32_624
  ![v892.toNat, v893.toNat]
def k0_dev25 (d0 : Dev nD) : Nat :=
  let c0_i32_628 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_621 : BitVec 32 := 2#32
  let v890 : BitVec 32 := Scalar.addi v29 c2_i32_621
  let c4_i32_622 : BitVec 32 := 4#32
  let v891 : BitVec 32 := Scalar.remsi v890 c4_i32_622
  let v897 : BitVec 32 := Scalar.addi v30 v891
  let c1_i32_627 : BitVec 32 := 1#32
  let v898 : BitVec 32 := Scalar.muli v897 c1_i32_627
  let v899 : BitVec 32 := Scalar.addi c0_i32_628 v898
  v899.toNat
def k0_dev26 (d0 : Dev nD) : Nat :=
  let c0_i32_637 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_630 : BitVec 32 := 1#32
  let v906 : BitVec 32 := Scalar.addi v29 c1_i32_630
  let c4_i32_631 : BitVec 32 := 4#32
  let v907 : BitVec 32 := Scalar.remsi v906 c4_i32_631
  let v913 : BitVec 32 := Scalar.addi v30 v907
  let c1_i32_636 : BitVec 32 := 1#32
  let v914 : BitVec 32 := Scalar.muli v913 c1_i32_636
  let v915 : BitVec 32 := Scalar.addi c0_i32_637 v914
  v915.toNat
def k0_dev27 (d0 : Dev nD) : Nat :=
  let c0_i32_646 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_639 : BitVec 32 := 3#32
  let v922 : BitVec 32 := Scalar.addi v29 c3_i32_639
  let c4_i32_640 : BitVec 32 := 4#32
  let v923 : BitVec 32 := Scalar.remsi v922 c4_i32_640
  let v929 : BitVec 32 := Scalar.addi v30 v923
  let c1_i32_645 : BitVec 32 := 1#32
  let v930 : BitVec 32 := Scalar.muli v929 c1_i32_645
  let v931 : BitVec 32 := Scalar.addi c0_i32_646 v930
  v931.toNat
def k0_off83 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c1_i32_611 : BitVec 32 := 1#32
  let v870 : BitVec 32 := Scalar.addi v869 c1_i32_611
  let c256_i32_648 : BitVec 32 := 256#32
  let v938 : BitVec 32 := Scalar.muli v870 c256_i32_648
  let v940 : Index := Scalar.indexCast v938
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c512_i32_649 : BitVec 32 := 512#32
  let v939 : BitVec 32 := Scalar.muli v29 c512_i32_649
  let v941 : Index := Scalar.indexCast v939
  ![v940.toNat, v941.toNat]
def k0_off84 (d0 : Dev nD) : Fin 2 → Nat :=
  let c4_i32_650 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c1_i32_611 : BitVec 32 := 1#32
  let v870 : BitVec 32 := Scalar.addi v869 c1_i32_611
  let v944 : BitVec 32 := Scalar.muli c4_i32_650 v870
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v945 : BitVec 32 := Scalar.addi v944 v29
  let c256_i32_651 : BitVec 32 := 256#32
  let v946 : BitVec 32 := Scalar.muli v945 c256_i32_651
  let v947 : Index := Scalar.indexCast v946
  let c0_652 : Index := 0#32
  ![v947.toNat, 0]
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_200 : BitVec 32 := 3#32
  let v326 : BitVec 1 := Scalar.cmpi .sge v19 c3_i32_200
  let v328 : BitVec 32 := Scalar.extui v326
  let c0_i32_202 : BitVec 32 := 0#32
  let v329 : BitVec 1 := Scalar.cmpi .ne v328 c0_i32_202
  v329

def k0_off85 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c2_i32_611 : BitVec 32 := 2#32
  let v870 : BitVec 32 := Scalar.subi v869 c2_i32_611
  ![v870.toNat]
def k0_off86 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c2_i32_611 : BitVec 32 := 2#32
  let v870 : BitVec 32 := Scalar.subi v869 c2_i32_611
  let c256_i32_614 : BitVec 32 := 256#32
  let v873 : BitVec 32 := Scalar.muli v870 c256_i32_614
  let c0_i32_618 : BitVec 32 := 0#32
  ![v873.toNat, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_200 : BitVec 32 := 3#32
  let v326 : BitVec 1 := Scalar.cmpi .sge v19 c3_i32_200
  let c2_i32_203 : BitVec 32 := 2#32
  let v330 : BitVec 1 := Scalar.cmpi .sle v19 c2_i32_203
  let v331 : BitVec 1 := Scalar.andi v326 v330
  let v332 : BitVec 32 := Scalar.extui v331
  let c0_i32_204 : BitVec 32 := 0#32
  let v333 : BitVec 1 := Scalar.cmpi .ne v332 c0_i32_204
  v333

def k0_off87 (d0 : Dev nD) : Fin 2 → Nat :=
  let c0_i32_615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c2_i32_611 : BitVec 32 := 2#32
  let v870 : BitVec 32 := Scalar.subi v869 c2_i32_611
  ![0, v870.toNat]
def k0_off88 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c2_i32_611 : BitVec 32 := 2#32
  let v870 : BitVec 32 := Scalar.subi v869 c2_i32_611
  ![v870.toNat]
def k0_off89 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c2_i32_611 : BitVec 32 := 2#32
  let v870 : BitVec 32 := Scalar.subi v869 c2_i32_611
  let c256_i32_614 : BitVec 32 := 256#32
  let v873 : BitVec 32 := Scalar.muli v870 c256_i32_614
  let c0_i32_618 : BitVec 32 := 0#32
  ![v873.toNat, 0]
def k0_dev28 (d0 : Dev nD) : Nat :=
  let c0_i32_617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_612 : BitVec 32 := 4#32
  let v871 : BitVec 32 := Scalar.addi v2 c4_i32_612
  let c1_i32_616 : BitVec 32 := 1#32
  let v874 : BitVec 32 := Scalar.muli v871 c1_i32_616
  let v875 : BitVec 32 := Scalar.addi c0_i32_617 v874
  v875.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_201 : BitVec 32 := 0#32
  let v327 : BitVec 1 := Scalar.cmpi .sle v19 c0_i32_201
  let v334 : BitVec 32 := Scalar.extui v327
  let c0_i32_205 : BitVec 32 := 0#32
  let v335 : BitVec 1 := Scalar.cmpi .ne v334 c0_i32_205
  v335

def k0_off90 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c2_i32_611 : BitVec 32 := 2#32
  let v870 : BitVec 32 := Scalar.addi v869 c2_i32_611
  ![v870.toNat]
def k0_off91 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c2_i32_611 : BitVec 32 := 2#32
  let v870 : BitVec 32 := Scalar.addi v869 c2_i32_611
  let c256_i32_614 : BitVec 32 := 256#32
  let v873 : BitVec 32 := Scalar.muli v870 c256_i32_614
  let c0_i32_618 : BitVec 32 := 0#32
  ![v873.toNat, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_201 : BitVec 32 := 0#32
  let v327 : BitVec 1 := Scalar.cmpi .sle v19 c0_i32_201
  let c1_i32_206 : BitVec 32 := 1#32
  let v336 : BitVec 1 := Scalar.cmpi .sge v19 c1_i32_206
  let v337 : BitVec 1 := Scalar.andi v327 v336
  let v338 : BitVec 32 := Scalar.extui v337
  let c0_i32_207 : BitVec 32 := 0#32
  let v339 : BitVec 1 := Scalar.cmpi .ne v338 c0_i32_207
  v339

def k0_off92 (d0 : Dev nD) : Fin 2 → Nat :=
  let c1_i32_615 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c2_i32_611 : BitVec 32 := 2#32
  let v870 : BitVec 32 := Scalar.addi v869 c2_i32_611
  ![1, v870.toNat]
def k0_off93 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c2_i32_611 : BitVec 32 := 2#32
  let v870 : BitVec 32 := Scalar.addi v869 c2_i32_611
  ![v870.toNat]
def k0_off94 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c2_i32_611 : BitVec 32 := 2#32
  let v870 : BitVec 32 := Scalar.addi v869 c2_i32_611
  let c256_i32_614 : BitVec 32 := 256#32
  let v873 : BitVec 32 := Scalar.muli v870 c256_i32_614
  let c0_i32_618 : BitVec 32 := 0#32
  ![v873.toNat, 0]
def k0_dev29 (d0 : Dev nD) : Nat :=
  let c0_i32_617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_612 : BitVec 32 := 4#32
  let v871 : BitVec 32 := Scalar.subi v2 c4_i32_612
  let c1_i32_616 : BitVec 32 := 1#32
  let v874 : BitVec 32 := Scalar.muli v871 c1_i32_616
  let v875 : BitVec 32 := Scalar.addi c0_i32_617 v874
  v875.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_200 : BitVec 32 := 3#32
  let v326 : BitVec 1 := Scalar.cmpi .sge v19 c3_i32_200
  let v340 : BitVec 32 := Scalar.extui v326
  let c0_i32_208 : BitVec 32 := 0#32
  let v341 : BitVec 1 := Scalar.cmpi .ne v340 c0_i32_208
  v341

def k0_off95 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c2_i32_611 : BitVec 32 := 2#32
  let v870 : BitVec 32 := Scalar.subi v869 c2_i32_611
  let c256_i32_612 : BitVec 32 := 256#32
  let v871 : BitVec 32 := Scalar.muli v870 c256_i32_612
  let v872 : Index := Scalar.indexCast v871
  let c0_613 : Index := 0#32
  ![v872.toNat, 0]
def k0_off96 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c2_i32_611 : BitVec 32 := 2#32
  let v870 : BitVec 32 := Scalar.subi v869 c2_i32_611
  let c256_i32_619 : BitVec 32 := 256#32
  let v885 : BitVec 32 := Scalar.muli v870 c256_i32_619
  let v886 : Index := Scalar.indexCast v885
  let c0_620 : Index := 0#32
  ![v886.toNat, 0]
def k0_off97 (d0 : Dev nD) (c2_i32_621 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v890 : BitVec 32 := Scalar.addi v29 c2_i32_621
  let c4_i32_622 : BitVec 32 := 4#32
  let v891 : BitVec 32 := Scalar.remsi v890 c4_i32_622
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c2_i32_611 : BitVec 32 := 2#32
  let v870 : BitVec 32 := Scalar.subi v869 c2_i32_611
  ![v891.toNat, v870.toNat]
def k0_off98 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c2_i32_611 : BitVec 32 := 2#32
  let v870 : BitVec 32 := Scalar.subi v869 c2_i32_611
  ![v29.toNat, v870.toNat]
def k0_off99 (d0 : Dev nD) : Fin 2 → Nat :=
  let c4_i32_625 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c2_i32_611 : BitVec 32 := 2#32
  let v870 : BitVec 32 := Scalar.subi v869 c2_i32_611
  let v894 : BitVec 32 := Scalar.muli c4_i32_625 v870
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v895 : BitVec 32 := Scalar.addi v894 v29
  let c256_i32_626 : BitVec 32 := 256#32
  let v896 : BitVec 32 := Scalar.muli v895 c256_i32_626
  let c0_i32_629 : BitVec 32 := 0#32
  ![v896.toNat, 0]
def k0_off100 (d0 : Dev nD) (c2_i32_621 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c2_i32_611 : BitVec 32 := 2#32
  let v870 : BitVec 32 := Scalar.subi v869 c2_i32_611
  let c256_i32_623 : BitVec 32 := 256#32
  let v892 : BitVec 32 := Scalar.muli v870 c256_i32_623
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v890 : BitVec 32 := Scalar.addi v29 c2_i32_621
  let c4_i32_622 : BitVec 32 := 4#32
  let v891 : BitVec 32 := Scalar.remsi v890 c4_i32_622
  let c512_i32_624 : BitVec 32 := 512#32
  let v893 : BitVec 32 := Scalar.muli v891 c512_i32_624
  ![v892.toNat, v893.toNat]
def k0_dev30 (d0 : Dev nD) : Nat :=
  let c0_i32_628 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_621 : BitVec 32 := 2#32
  let v890 : BitVec 32 := Scalar.addi v29 c2_i32_621
  let c4_i32_622 : BitVec 32 := 4#32
  let v891 : BitVec 32 := Scalar.remsi v890 c4_i32_622
  let v897 : BitVec 32 := Scalar.addi v30 v891
  let c1_i32_627 : BitVec 32 := 1#32
  let v898 : BitVec 32 := Scalar.muli v897 c1_i32_627
  let v899 : BitVec 32 := Scalar.addi c0_i32_628 v898
  v899.toNat
def k0_dev31 (d0 : Dev nD) : Nat :=
  let c0_i32_637 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_630 : BitVec 32 := 1#32
  let v906 : BitVec 32 := Scalar.addi v29 c1_i32_630
  let c4_i32_631 : BitVec 32 := 4#32
  let v907 : BitVec 32 := Scalar.remsi v906 c4_i32_631
  let v913 : BitVec 32 := Scalar.addi v30 v907
  let c1_i32_636 : BitVec 32 := 1#32
  let v914 : BitVec 32 := Scalar.muli v913 c1_i32_636
  let v915 : BitVec 32 := Scalar.addi c0_i32_637 v914
  v915.toNat
def k0_dev32 (d0 : Dev nD) : Nat :=
  let c0_i32_646 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_639 : BitVec 32 := 3#32
  let v922 : BitVec 32 := Scalar.addi v29 c3_i32_639
  let c4_i32_640 : BitVec 32 := 4#32
  let v923 : BitVec 32 := Scalar.remsi v922 c4_i32_640
  let v929 : BitVec 32 := Scalar.addi v30 v923
  let c1_i32_645 : BitVec 32 := 1#32
  let v930 : BitVec 32 := Scalar.muli v929 c1_i32_645
  let v931 : BitVec 32 := Scalar.addi c0_i32_646 v930
  v931.toNat
def k0_off101 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c2_i32_611 : BitVec 32 := 2#32
  let v870 : BitVec 32 := Scalar.subi v869 c2_i32_611
  let c256_i32_648 : BitVec 32 := 256#32
  let v938 : BitVec 32 := Scalar.muli v870 c256_i32_648
  let v940 : Index := Scalar.indexCast v938
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c512_i32_649 : BitVec 32 := 512#32
  let v939 : BitVec 32 := Scalar.muli v29 c512_i32_649
  let v941 : Index := Scalar.indexCast v939
  ![v940.toNat, v941.toNat]
def k0_off102 (d0 : Dev nD) : Fin 2 → Nat :=
  let c4_i32_650 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c2_i32_611 : BitVec 32 := 2#32
  let v870 : BitVec 32 := Scalar.subi v869 c2_i32_611
  let v944 : BitVec 32 := Scalar.muli c4_i32_650 v870
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v945 : BitVec 32 := Scalar.addi v944 v29
  let c256_i32_651 : BitVec 32 := 256#32
  let v946 : BitVec 32 := Scalar.muli v945 c256_i32_651
  let v947 : Index := Scalar.indexCast v946
  let c0_652 : Index := 0#32
  ![v947.toNat, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_201 : BitVec 32 := 0#32
  let v327 : BitVec 1 := Scalar.cmpi .sle v19 c0_i32_201
  let v342 : BitVec 32 := Scalar.extui v327
  let c0_i32_209 : BitVec 32 := 0#32
  let v343 : BitVec 1 := Scalar.cmpi .ne v342 c0_i32_209
  v343

def k0_off103 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c2_i32_611 : BitVec 32 := 2#32
  let v870 : BitVec 32 := Scalar.addi v869 c2_i32_611
  let c256_i32_612 : BitVec 32 := 256#32
  let v871 : BitVec 32 := Scalar.muli v870 c256_i32_612
  let v872 : Index := Scalar.indexCast v871
  let c0_613 : Index := 0#32
  ![v872.toNat, 0]
def k0_off104 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c2_i32_611 : BitVec 32 := 2#32
  let v870 : BitVec 32 := Scalar.addi v869 c2_i32_611
  let c256_i32_619 : BitVec 32 := 256#32
  let v885 : BitVec 32 := Scalar.muli v870 c256_i32_619
  let v886 : Index := Scalar.indexCast v885
  let c0_620 : Index := 0#32
  ![v886.toNat, 0]
def k0_off105 (d0 : Dev nD) (c2_i32_621 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v890 : BitVec 32 := Scalar.addi v29 c2_i32_621
  let c4_i32_622 : BitVec 32 := 4#32
  let v891 : BitVec 32 := Scalar.remsi v890 c4_i32_622
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c2_i32_611 : BitVec 32 := 2#32
  let v870 : BitVec 32 := Scalar.addi v869 c2_i32_611
  ![v891.toNat, v870.toNat]
def k0_off106 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c2_i32_611 : BitVec 32 := 2#32
  let v870 : BitVec 32 := Scalar.addi v869 c2_i32_611
  ![v29.toNat, v870.toNat]
def k0_off107 (d0 : Dev nD) : Fin 2 → Nat :=
  let c4_i32_625 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c2_i32_611 : BitVec 32 := 2#32
  let v870 : BitVec 32 := Scalar.addi v869 c2_i32_611
  let v894 : BitVec 32 := Scalar.muli c4_i32_625 v870
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v895 : BitVec 32 := Scalar.addi v894 v29
  let c256_i32_626 : BitVec 32 := 256#32
  let v896 : BitVec 32 := Scalar.muli v895 c256_i32_626
  let c0_i32_629 : BitVec 32 := 0#32
  ![v896.toNat, 0]
def k0_off108 (d0 : Dev nD) (c2_i32_621 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c2_i32_611 : BitVec 32 := 2#32
  let v870 : BitVec 32 := Scalar.addi v869 c2_i32_611
  let c256_i32_623 : BitVec 32 := 256#32
  let v892 : BitVec 32 := Scalar.muli v870 c256_i32_623
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v890 : BitVec 32 := Scalar.addi v29 c2_i32_621
  let c4_i32_622 : BitVec 32 := 4#32
  let v891 : BitVec 32 := Scalar.remsi v890 c4_i32_622
  let c512_i32_624 : BitVec 32 := 512#32
  let v893 : BitVec 32 := Scalar.muli v891 c512_i32_624
  ![v892.toNat, v893.toNat]
def k0_dev33 (d0 : Dev nD) : Nat :=
  let c0_i32_628 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_621 : BitVec 32 := 2#32
  let v890 : BitVec 32 := Scalar.addi v29 c2_i32_621
  let c4_i32_622 : BitVec 32 := 4#32
  let v891 : BitVec 32 := Scalar.remsi v890 c4_i32_622
  let v897 : BitVec 32 := Scalar.addi v30 v891
  let c1_i32_627 : BitVec 32 := 1#32
  let v898 : BitVec 32 := Scalar.muli v897 c1_i32_627
  let v899 : BitVec 32 := Scalar.addi c0_i32_628 v898
  v899.toNat
def k0_dev34 (d0 : Dev nD) : Nat :=
  let c0_i32_637 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_630 : BitVec 32 := 1#32
  let v906 : BitVec 32 := Scalar.addi v29 c1_i32_630
  let c4_i32_631 : BitVec 32 := 4#32
  let v907 : BitVec 32 := Scalar.remsi v906 c4_i32_631
  let v913 : BitVec 32 := Scalar.addi v30 v907
  let c1_i32_636 : BitVec 32 := 1#32
  let v914 : BitVec 32 := Scalar.muli v913 c1_i32_636
  let v915 : BitVec 32 := Scalar.addi c0_i32_637 v914
  v915.toNat
def k0_dev35 (d0 : Dev nD) : Nat :=
  let c0_i32_646 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_639 : BitVec 32 := 3#32
  let v922 : BitVec 32 := Scalar.addi v29 c3_i32_639
  let c4_i32_640 : BitVec 32 := 4#32
  let v923 : BitVec 32 := Scalar.remsi v922 c4_i32_640
  let v929 : BitVec 32 := Scalar.addi v30 v923
  let c1_i32_645 : BitVec 32 := 1#32
  let v930 : BitVec 32 := Scalar.muli v929 c1_i32_645
  let v931 : BitVec 32 := Scalar.addi c0_i32_646 v930
  v931.toNat
def k0_off109 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c2_i32_611 : BitVec 32 := 2#32
  let v870 : BitVec 32 := Scalar.addi v869 c2_i32_611
  let c256_i32_648 : BitVec 32 := 256#32
  let v938 : BitVec 32 := Scalar.muli v870 c256_i32_648
  let v940 : Index := Scalar.indexCast v938
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c512_i32_649 : BitVec 32 := 512#32
  let v939 : BitVec 32 := Scalar.muli v29 c512_i32_649
  let v941 : Index := Scalar.indexCast v939
  ![v940.toNat, v941.toNat]
def k0_off110 (d0 : Dev nD) : Fin 2 → Nat :=
  let c4_i32_650 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c2_i32_611 : BitVec 32 := 2#32
  let v870 : BitVec 32 := Scalar.addi v869 c2_i32_611
  let v944 : BitVec 32 := Scalar.muli c4_i32_650 v870
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v945 : BitVec 32 := Scalar.addi v944 v29
  let c256_i32_651 : BitVec 32 := 256#32
  let v946 : BitVec 32 := Scalar.muli v945 c256_i32_651
  let v947 : Index := Scalar.indexCast v946
  let c0_652 : Index := 0#32
  ![v947.toNat, 0]
def k0_off111 (d0 : Dev nD) (c1_i32_210 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v344 : BitVec 32 := Scalar.addi v29 c1_i32_210
  let c4_i32_211 : BitVec 32 := 4#32
  let c0_i32_212 : BitVec 32 := 0#32
  let v345 : BitVec 1 := Scalar.cmpi .eq c4_i32_211 c0_i32_212
  let c1_i32_213 : BitVec 32 := 1#32
  let v346 : BitVec 32 := Scalar.select v345 c1_i32_213 c4_i32_211
  let v347 : BitVec 32 := Scalar.remsi v344 v346
  let c0_i32_215 : BitVec 32 := 0#32
  let v349 : BitVec 1 := Scalar.cmpi .slt v347 c0_i32_215
  let c0_i32_216 : BitVec 32 := 0#32
  let v350 : BitVec 1 := Scalar.cmpi .slt v346 c0_i32_216
  let v351 : BitVec 1 := Scalar.xori v349 v350
  let c0_i32_214 : BitVec 32 := 0#32
  let v348 : BitVec 1 := Scalar.cmpi .ne v347 c0_i32_214
  let v352 : BitVec 1 := Scalar.andi v351 v348
  let v353 : BitVec 32 := Scalar.addi v347 v346
  let v354 : BitVec 32 := Scalar.select v352 v353 v347
  let c0_i32_220 : BitVec 32 := 0#32
  ![v354.toNat, 0]
def k0_off112 (d0 : Dev nD) (c0_i32_218 : BitVec 32) (c1_i32_210 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v344 : BitVec 32 := Scalar.addi v29 c1_i32_210
  let c4_i32_211 : BitVec 32 := 4#32
  let c0_i32_212 : BitVec 32 := 0#32
  let v345 : BitVec 1 := Scalar.cmpi .eq c4_i32_211 c0_i32_212
  let c1_i32_213 : BitVec 32 := 1#32
  let v346 : BitVec 32 := Scalar.select v345 c1_i32_213 c4_i32_211
  let v347 : BitVec 32 := Scalar.remsi v344 v346
  let c0_i32_215 : BitVec 32 := 0#32
  let v349 : BitVec 1 := Scalar.cmpi .slt v347 c0_i32_215
  let c0_i32_216 : BitVec 32 := 0#32
  let v350 : BitVec 1 := Scalar.cmpi .slt v346 c0_i32_216
  let v351 : BitVec 1 := Scalar.xori v349 v350
  let c0_i32_214 : BitVec 32 := 0#32
  let v348 : BitVec 1 := Scalar.cmpi .ne v347 c0_i32_214
  let v352 : BitVec 1 := Scalar.andi v351 v348
  let v353 : BitVec 32 := Scalar.addi v347 v346
  let v354 : BitVec 32 := Scalar.select v352 v353 v347
  let v356 : BitVec 32 := Scalar.addi c0_i32_218 v354
  let c256_i32_219 : BitVec 32 := 256#32
  let v357 : BitVec 32 := Scalar.muli v356 c256_i32_219
  let c0_i32_224 : BitVec 32 := 0#32
  ![v357.toNat, 0]
def k0_off113 (d0 : Dev nD) (c1_i32_210 : BitVec 32) : Fin 2 → Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v344 : BitVec 32 := Scalar.addi v29 c1_i32_210
  let c4_i32_211 : BitVec 32 := 4#32
  let c0_i32_212 : BitVec 32 := 0#32
  let v345 : BitVec 1 := Scalar.cmpi .eq c4_i32_211 c0_i32_212
  let c1_i32_213 : BitVec 32 := 1#32
  let v346 : BitVec 32 := Scalar.select v345 c1_i32_213 c4_i32_211
  let v347 : BitVec 32 := Scalar.remsi v344 v346
  let c0_i32_215 : BitVec 32 := 0#32
  let v349 : BitVec 1 := Scalar.cmpi .slt v347 c0_i32_215
  let c0_i32_216 : BitVec 32 := 0#32
  let v350 : BitVec 1 := Scalar.cmpi .slt v346 c0_i32_216
  let v351 : BitVec 1 := Scalar.xori v349 v350
  let c0_i32_214 : BitVec 32 := 0#32
  let v348 : BitVec 1 := Scalar.cmpi .ne v347 c0_i32_214
  let v352 : BitVec 1 := Scalar.andi v351 v348
  let v353 : BitVec 32 := Scalar.addi v347 v346
  let v354 : BitVec 32 := Scalar.select v352 v353 v347
  let c512_i32_217 : BitVec 32 := 512#32
  let v355 : BitVec 32 := Scalar.muli v354 c512_i32_217
  ![0, v355.toNat]
def k0_off114 (d0 : Dev nD) (c0_i32_226 : BitVec 32) (c1_i32_210 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v344 : BitVec 32 := Scalar.addi v29 c1_i32_210
  let c4_i32_211 : BitVec 32 := 4#32
  let c0_i32_212 : BitVec 32 := 0#32
  let v345 : BitVec 1 := Scalar.cmpi .eq c4_i32_211 c0_i32_212
  let c1_i32_213 : BitVec 32 := 1#32
  let v346 : BitVec 32 := Scalar.select v345 c1_i32_213 c4_i32_211
  let v347 : BitVec 32 := Scalar.remsi v344 v346
  let c0_i32_215 : BitVec 32 := 0#32
  let v349 : BitVec 1 := Scalar.cmpi .slt v347 c0_i32_215
  let c0_i32_216 : BitVec 32 := 0#32
  let v350 : BitVec 1 := Scalar.cmpi .slt v346 c0_i32_216
  let v351 : BitVec 1 := Scalar.xori v349 v350
  let c0_i32_214 : BitVec 32 := 0#32
  let v348 : BitVec 1 := Scalar.cmpi .ne v347 c0_i32_214
  let v352 : BitVec 1 := Scalar.andi v351 v348
  let v353 : BitVec 32 := Scalar.addi v347 v346
  let v354 : BitVec 32 := Scalar.select v352 v353 v347
  let v365 : BitVec 32 := Scalar.addi c0_i32_226 v354
  let c256_i32_227 : BitVec 32 := 256#32
  let v366 : BitVec 32 := Scalar.muli v365 c256_i32_227
  let v367 : Index := Scalar.indexCast v366
  let c0_228 : Index := 0#32
  ![v367.toNat, 0]
def k0_off115 (d0 : Dev nD) (c1_i32_210 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v344 : BitVec 32 := Scalar.addi v29 c1_i32_210
  let c4_i32_211 : BitVec 32 := 4#32
  let c0_i32_212 : BitVec 32 := 0#32
  let v345 : BitVec 1 := Scalar.cmpi .eq c4_i32_211 c0_i32_212
  let c1_i32_213 : BitVec 32 := 1#32
  let v346 : BitVec 32 := Scalar.select v345 c1_i32_213 c4_i32_211
  let v347 : BitVec 32 := Scalar.remsi v344 v346
  let c0_i32_215 : BitVec 32 := 0#32
  let v349 : BitVec 1 := Scalar.cmpi .slt v347 c0_i32_215
  let c0_i32_216 : BitVec 32 := 0#32
  let v350 : BitVec 1 := Scalar.cmpi .slt v346 c0_i32_216
  let v351 : BitVec 1 := Scalar.xori v349 v350
  let c0_i32_214 : BitVec 32 := 0#32
  let v348 : BitVec 1 := Scalar.cmpi .ne v347 c0_i32_214
  let v352 : BitVec 1 := Scalar.andi v351 v348
  let v353 : BitVec 32 := Scalar.addi v347 v346
  let v354 : BitVec 32 := Scalar.select v352 v353 v347
  let c1_i32_235 : BitVec 32 := 1#32
  ![v354.toNat, 1]
def k0_off116 (d0 : Dev nD) (c1_i32_210 : BitVec 32) : Fin 2 → Nat :=
  let c256_i32_240 : BitVec 32 := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v344 : BitVec 32 := Scalar.addi v29 c1_i32_210
  let c4_i32_211 : BitVec 32 := 4#32
  let c0_i32_212 : BitVec 32 := 0#32
  let v345 : BitVec 1 := Scalar.cmpi .eq c4_i32_211 c0_i32_212
  let c1_i32_213 : BitVec 32 := 1#32
  let v346 : BitVec 32 := Scalar.select v345 c1_i32_213 c4_i32_211
  let v347 : BitVec 32 := Scalar.remsi v344 v346
  let c0_i32_215 : BitVec 32 := 0#32
  let v349 : BitVec 1 := Scalar.cmpi .slt v347 c0_i32_215
  let c0_i32_216 : BitVec 32 := 0#32
  let v350 : BitVec 1 := Scalar.cmpi .slt v346 c0_i32_216
  let v351 : BitVec 1 := Scalar.xori v349 v350
  let c0_i32_214 : BitVec 32 := 0#32
  let v348 : BitVec 1 := Scalar.cmpi .ne v347 c0_i32_214
  let v352 : BitVec 1 := Scalar.andi v351 v348
  let v353 : BitVec 32 := Scalar.addi v347 v346
  let v354 : BitVec 32 := Scalar.select v352 v353 v347
  let c512_i32_232 : BitVec 32 := 512#32
  let v374 : BitVec 32 := Scalar.muli v354 c512_i32_232
  ![256, v374.toNat]
def k0_off117 (d0 : Dev nD) (c1_i32_210 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v344 : BitVec 32 := Scalar.addi v29 c1_i32_210
  let c4_i32_211 : BitVec 32 := 4#32
  let c0_i32_212 : BitVec 32 := 0#32
  let v345 : BitVec 1 := Scalar.cmpi .eq c4_i32_211 c0_i32_212
  let c1_i32_213 : BitVec 32 := 1#32
  let v346 : BitVec 32 := Scalar.select v345 c1_i32_213 c4_i32_211
  let v347 : BitVec 32 := Scalar.remsi v344 v346
  let c0_i32_215 : BitVec 32 := 0#32
  let v349 : BitVec 1 := Scalar.cmpi .slt v347 c0_i32_215
  let c0_i32_216 : BitVec 32 := 0#32
  let v350 : BitVec 1 := Scalar.cmpi .slt v346 c0_i32_216
  let v351 : BitVec 1 := Scalar.xori v349 v350
  let c0_i32_214 : BitVec 32 := 0#32
  let v348 : BitVec 1 := Scalar.cmpi .ne v347 c0_i32_214
  let v352 : BitVec 1 := Scalar.andi v351 v348
  let v353 : BitVec 32 := Scalar.addi v347 v346
  let v354 : BitVec 32 := Scalar.select v352 v353 v347
  let c2_i32_249 : BitVec 32 := 2#32
  ![v354.toNat, 2]
def k0_off118 (d0 : Dev nD) (c1_i32_210 : BitVec 32) : Fin 2 → Nat :=
  let c512_i32_254 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v344 : BitVec 32 := Scalar.addi v29 c1_i32_210
  let c4_i32_211 : BitVec 32 := 4#32
  let c0_i32_212 : BitVec 32 := 0#32
  let v345 : BitVec 1 := Scalar.cmpi .eq c4_i32_211 c0_i32_212
  let c1_i32_213 : BitVec 32 := 1#32
  let v346 : BitVec 32 := Scalar.select v345 c1_i32_213 c4_i32_211
  let v347 : BitVec 32 := Scalar.remsi v344 v346
  let c0_i32_215 : BitVec 32 := 0#32
  let v349 : BitVec 1 := Scalar.cmpi .slt v347 c0_i32_215
  let c0_i32_216 : BitVec 32 := 0#32
  let v350 : BitVec 1 := Scalar.cmpi .slt v346 c0_i32_216
  let v351 : BitVec 1 := Scalar.xori v349 v350
  let c0_i32_214 : BitVec 32 := 0#32
  let v348 : BitVec 1 := Scalar.cmpi .ne v347 c0_i32_214
  let v352 : BitVec 1 := Scalar.andi v351 v348
  let v353 : BitVec 32 := Scalar.addi v347 v346
  let v354 : BitVec 32 := Scalar.select v352 v353 v347
  let c512_i32_247 : BitVec 32 := 512#32
  let v393 : BitVec 32 := Scalar.muli v354 c512_i32_247
  ![512, v393.toNat]
def k0_off119 (d0 : Dev nD) (c1_i32_210 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v344 : BitVec 32 := Scalar.addi v29 c1_i32_210
  let c4_i32_211 : BitVec 32 := 4#32
  let c0_i32_212 : BitVec 32 := 0#32
  let v345 : BitVec 1 := Scalar.cmpi .eq c4_i32_211 c0_i32_212
  let c1_i32_213 : BitVec 32 := 1#32
  let v346 : BitVec 32 := Scalar.select v345 c1_i32_213 c4_i32_211
  let v347 : BitVec 32 := Scalar.remsi v344 v346
  let c0_i32_215 : BitVec 32 := 0#32
  let v349 : BitVec 1 := Scalar.cmpi .slt v347 c0_i32_215
  let c0_i32_216 : BitVec 32 := 0#32
  let v350 : BitVec 1 := Scalar.cmpi .slt v346 c0_i32_216
  let v351 : BitVec 1 := Scalar.xori v349 v350
  let c0_i32_214 : BitVec 32 := 0#32
  let v348 : BitVec 1 := Scalar.cmpi .ne v347 c0_i32_214
  let v352 : BitVec 1 := Scalar.andi v351 v348
  let v353 : BitVec 32 := Scalar.addi v347 v346
  let v354 : BitVec 32 := Scalar.select v352 v353 v347
  let c3_i32_263 : BitVec 32 := 3#32
  ![v354.toNat, 3]
def k0_off120 (d0 : Dev nD) (c1_i32_210 : BitVec 32) : Fin 2 → Nat :=
  let c768_i32 : BitVec 32 := 768#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v344 : BitVec 32 := Scalar.addi v29 c1_i32_210
  let c4_i32_211 : BitVec 32 := 4#32
  let c0_i32_212 : BitVec 32 := 0#32
  let v345 : BitVec 1 := Scalar.cmpi .eq c4_i32_211 c0_i32_212
  let c1_i32_213 : BitVec 32 := 1#32
  let v346 : BitVec 32 := Scalar.select v345 c1_i32_213 c4_i32_211
  let v347 : BitVec 32 := Scalar.remsi v344 v346
  let c0_i32_215 : BitVec 32 := 0#32
  let v349 : BitVec 1 := Scalar.cmpi .slt v347 c0_i32_215
  let c0_i32_216 : BitVec 32 := 0#32
  let v350 : BitVec 1 := Scalar.cmpi .slt v346 c0_i32_216
  let v351 : BitVec 1 := Scalar.xori v349 v350
  let c0_i32_214 : BitVec 32 := 0#32
  let v348 : BitVec 1 := Scalar.cmpi .ne v347 c0_i32_214
  let v352 : BitVec 1 := Scalar.andi v351 v348
  let v353 : BitVec 32 := Scalar.addi v347 v346
  let v354 : BitVec 32 := Scalar.select v352 v353 v347
  let c512_i32_261 : BitVec 32 := 512#32
  let v412 : BitVec 32 := Scalar.muli v354 c512_i32_261
  ![768, v412.toNat]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_408 : BitVec 32 := 2#32
  let v605 : BitVec 1 := Scalar.cmpi .sle v19 c2_i32_408
  let v606 : BitVec 32 := Scalar.extui v605
  let c0_i32_409 : BitVec 32 := 0#32
  let v607 : BitVec 1 := Scalar.cmpi .ne v606 c0_i32_409
  v607

def k0_off121 (d0 : Dev nD) : Fin 2 → Nat :=
  let c0_i32_613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![0, v19.toNat]
def k0_off122 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_611 : BitVec 32 := 256#32
  let v870 : BitVec 32 := Scalar.muli v19 c256_i32_611
  let c0_i32_615 : BitVec 32 := 0#32
  ![v870.toNat, 0]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_410 : BitVec 32 := 1#32
  let v608 : BitVec 1 := Scalar.cmpi .sge v19 c1_i32_410
  let v609 : BitVec 32 := Scalar.extui v608
  let c0_i32_411 : BitVec 32 := 0#32
  let v610 : BitVec 1 := Scalar.cmpi .ne v609 c0_i32_411
  v610

def k0_off123 (d0 : Dev nD) : Fin 2 → Nat :=
  let c1_i32_613 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![1, v19.toNat]
def k0_off124 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_611 : BitVec 32 := 256#32
  let v870 : BitVec 32 := Scalar.muli v19 c256_i32_611
  let c0_i32_615 : BitVec 32 := 0#32
  ![v870.toNat, 0]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_412 : BitVec 32 := 1#32
  let v611 : BitVec 1 := Scalar.cmpi .sge v19 c1_i32_412
  let c2_i32_413 : BitVec 32 := 2#32
  let v612 : BitVec 1 := Scalar.cmpi .sle v19 c2_i32_413
  let v613 : BitVec 1 := Scalar.andi v611 v612
  let v614 : BitVec 32 := Scalar.extui v613
  let c0_i32_414 : BitVec 32 := 0#32
  let v615 : BitVec 1 := Scalar.cmpi .ne v614 c0_i32_414
  v615

def k0_off125 (d0 : Dev nD) : Fin 2 → Nat :=
  let c0_i32_615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c0_i32_611 : BitVec 32 := 0#32
  let v870 : BitVec 32 := Scalar.subi v869 c0_i32_611
  ![0, v870.toNat]
def k0_off126 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c0_i32_611 : BitVec 32 := 0#32
  let v870 : BitVec 32 := Scalar.subi v869 c0_i32_611
  let c256_i32_613 : BitVec 32 := 256#32
  let v872 : BitVec 32 := Scalar.muli v870 c256_i32_613
  let c0_i32_617 : BitVec 32 := 0#32
  ![v872.toNat, 0]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_415 : BitVec 32 := 2#32
  let v616 : BitVec 1 := Scalar.cmpi .sle v19 c2_i32_415
  let c1_i32_416 : BitVec 32 := 1#32
  let v617 : BitVec 1 := Scalar.cmpi .sge v19 c1_i32_416
  let v618 : BitVec 1 := Scalar.andi v616 v617
  let v619 : BitVec 32 := Scalar.extui v618
  let c0_i32_417 : BitVec 32 := 0#32
  let v620 : BitVec 1 := Scalar.cmpi .ne v619 c0_i32_417
  v620

def k0_off127 (d0 : Dev nD) : Fin 2 → Nat :=
  let c1_i32_615 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c0_i32_611 : BitVec 32 := 0#32
  let v870 : BitVec 32 := Scalar.addi v869 c0_i32_611
  ![1, v870.toNat]
def k0_off128 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c0_i32_611 : BitVec 32 := 0#32
  let v870 : BitVec 32 := Scalar.addi v869 c0_i32_611
  let c256_i32_613 : BitVec 32 := 256#32
  let v872 : BitVec 32 := Scalar.muli v870 c256_i32_613
  let c0_i32_617 : BitVec 32 := 0#32
  ![v872.toNat, 0]
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_418 : BitVec 32 := 2#32
  let v621 : BitVec 1 := Scalar.cmpi .sge v19 c2_i32_418
  let c2_i32_419 : BitVec 32 := 2#32
  let v622 : BitVec 1 := Scalar.cmpi .sle v19 c2_i32_419
  let v623 : BitVec 1 := Scalar.andi v621 v622
  let v624 : BitVec 32 := Scalar.extui v623
  let c0_i32_420 : BitVec 32 := 0#32
  let v625 : BitVec 1 := Scalar.cmpi .ne v624 c0_i32_420
  v625

def k0_off129 (d0 : Dev nD) : Fin 2 → Nat :=
  let c0_i32_615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c1_i32_611 : BitVec 32 := 1#32
  let v870 : BitVec 32 := Scalar.subi v869 c1_i32_611
  ![0, v870.toNat]
def k0_off130 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c1_i32_611 : BitVec 32 := 1#32
  let v870 : BitVec 32 := Scalar.subi v869 c1_i32_611
  let c256_i32_613 : BitVec 32 := 256#32
  let v872 : BitVec 32 := Scalar.muli v870 c256_i32_613
  let c0_i32_617 : BitVec 32 := 0#32
  ![v872.toNat, 0]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_421 : BitVec 32 := 1#32
  let v626 : BitVec 1 := Scalar.cmpi .sle v19 c1_i32_421
  let c1_i32_422 : BitVec 32 := 1#32
  let v627 : BitVec 1 := Scalar.cmpi .sge v19 c1_i32_422
  let v628 : BitVec 1 := Scalar.andi v626 v627
  let v629 : BitVec 32 := Scalar.extui v628
  let c0_i32_423 : BitVec 32 := 0#32
  let v630 : BitVec 1 := Scalar.cmpi .ne v629 c0_i32_423
  v630

def k0_off131 (d0 : Dev nD) : Fin 2 → Nat :=
  let c1_i32_615 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c1_i32_611 : BitVec 32 := 1#32
  let v870 : BitVec 32 := Scalar.addi v869 c1_i32_611
  ![1, v870.toNat]
def k0_off132 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c1_i32_611 : BitVec 32 := 1#32
  let v870 : BitVec 32 := Scalar.addi v869 c1_i32_611
  let c256_i32_613 : BitVec 32 := 256#32
  let v872 : BitVec 32 := Scalar.muli v870 c256_i32_613
  let c0_i32_617 : BitVec 32 := 0#32
  ![v872.toNat, 0]
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_424 : BitVec 32 := 3#32
  let v631 : BitVec 1 := Scalar.cmpi .sge v19 c3_i32_424
  let c2_i32_425 : BitVec 32 := 2#32
  let v632 : BitVec 1 := Scalar.cmpi .sle v19 c2_i32_425
  let v633 : BitVec 1 := Scalar.andi v631 v632
  let v634 : BitVec 32 := Scalar.extui v633
  let c0_i32_426 : BitVec 32 := 0#32
  let v635 : BitVec 1 := Scalar.cmpi .ne v634 c0_i32_426
  v635

def k0_off133 (d0 : Dev nD) : Fin 2 → Nat :=
  let c0_i32_615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c2_i32_611 : BitVec 32 := 2#32
  let v870 : BitVec 32 := Scalar.subi v869 c2_i32_611
  ![0, v870.toNat]
def k0_off134 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.subi v19 c1_i32_610
  let c2_i32_611 : BitVec 32 := 2#32
  let v870 : BitVec 32 := Scalar.subi v869 c2_i32_611
  let c256_i32_613 : BitVec 32 := 256#32
  let v872 : BitVec 32 := Scalar.muli v870 c256_i32_613
  let c0_i32_617 : BitVec 32 := 0#32
  ![v872.toNat, 0]
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_427 : BitVec 32 := 0#32
  let v636 : BitVec 1 := Scalar.cmpi .sle v19 c0_i32_427
  let c1_i32_428 : BitVec 32 := 1#32
  let v637 : BitVec 1 := Scalar.cmpi .sge v19 c1_i32_428
  let v638 : BitVec 1 := Scalar.andi v636 v637
  let v639 : BitVec 32 := Scalar.extui v638
  let c0_i32_429 : BitVec 32 := 0#32
  let v640 : BitVec 1 := Scalar.cmpi .ne v639 c0_i32_429
  v640

def k0_off135 (d0 : Dev nD) : Fin 2 → Nat :=
  let c1_i32_615 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c2_i32_611 : BitVec 32 := 2#32
  let v870 : BitVec 32 := Scalar.addi v869 c2_i32_611
  ![1, v870.toNat]
def k0_off136 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_610 : BitVec 32 := 1#32
  let v869 : BitVec 32 := Scalar.addi v19 c1_i32_610
  let c2_i32_611 : BitVec 32 := 2#32
  let v870 : BitVec 32 := Scalar.addi v869 c2_i32_611
  let c256_i32_613 : BitVec 32 := 256#32
  let v872 : BitVec 32 := Scalar.muli v870 c256_i32_613
  let c0_i32_617 : BitVec 32 := 0#32
  ![v872.toNat, 0]
def k0_off137 (d0 : Dev nD) (c0_i32_438 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v653 : BitVec 32 := Scalar.addi c0_i32_438 v29
  let c256_i32_439 : BitVec 32 := 256#32
  let v654 : BitVec 32 := Scalar.muli v653 c256_i32_439
  let c0_i32_444 : BitVec 32 := 0#32
  ![v654.toNat, 0]
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Places.lean ====
/-
The mesh, the buffers and the semaphores of the kernel.

Device `c` sits in plane `zc c = c / 4` at place `pc c = c % 4`.  Blocks of `x` travel between planes
(`above`, `below`), blocks of the result between the places of one plane (`mate`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.Memref

@[expose] public section

noncomputable section

namespace Cert.Exchange

open Cert.KernelIdeal Cert.KernelIdeal.Gen
open Idealize.ShloMosaic
open Idealize.ShloMosaic.TcCoe

/-! ## The mesh -/

set_option backward.proofsInPublic true

/-- The plane of device `c`. -/
def zc (c : Dev nD) : Fin 4 := ⟨c.val / 4, Nat.div_lt_of_lt_mul c.isLt⟩
/-- The place of device `c` in its plane. -/
def pc (c : Dev nD) : Fin 4 := ⟨c.val % 4, Nat.mod_lt _ (by decide)⟩
/-- The device of plane `z` at place `p`. -/
def dev (z p : Fin 4) : Dev nD := ⟨4 * z.val + p.val, by show 4 * z.val + p.val < 16; omega⟩
/-- The device `k` places further in the same plane. -/
def mate (c : Dev nD) (k : Fin 4) : Dev nD := dev (zc c) (pc c + k)
/-- The device one plane up (wrapping round). -/
def above (c : Dev nD) : Dev nD := ⟨(c.val + 4) % 16, Nat.mod_lt _ (by decide)⟩
/-- The device one plane down (wrapping round). -/
def below (c : Dev nD) : Dev nD := ⟨(c.val + 12) % 16, Nat.mod_lt _ (by decide)⟩
/-- The slot that arrives from below at step `s`. -/
def up (c : Dev nD) (s : Fin 3) : Fin 4 := ⟨((zc c).val + 3 - s.val) % 4, Nat.mod_lt _ (by decide)⟩
/-- The slot that arrives from above at step `s`. -/
def dn (c : Dev nD) (s : Fin 3) : Fin 4 := ⟨((zc c).val + 1 + s.val) % 4, Nat.mod_lt _ (by decide)⟩
/-- A slot arrives from below at step `s`. -/
abbrev HasUp (c : Dev nD) (s : Fin 3) : Prop := s.val + 1 ≤ (zc c).val
/-- A slot arrives from above at step `s`. -/
abbrev HasDn (c : Dev nD) (s : Fin 3) : Prop := (zc c).val + 1 + s.val ≤ 3

/-- Slot `s` is sent on by device `c` up (`d = 0`) or down (`d = 1`). -/
abbrev ZV (c : Dev nD) (d : Fin 2) (s : Fin 4) : Prop :=
  (d = 0 ∧ (zc c).val ≤ 2 ∧ s.val ≤ (zc c).val) ∨ (d = 1 ∧ 1 ≤ (zc c).val ∧ (zc c).val ≤ s.val)

/-- A device is the one at its plane and place. -/
theorem dev_zc_pc (c : Dev nD) : dev (zc c) (pc c) = c := by revert c; decide +kernel
/-- The plane of the device at a plane and place. -/
theorem zc_dev (z p : Fin 4) : zc (dev z p) = z := by revert z p; decide +kernel
/-- The place of the device at a plane and place. -/
theorem pc_dev (z p : Fin 4) : pc (dev z p) = p := by revert z p; decide +kernel

/-! ## The buffers -/

/-- The staged rows of `x`. -/
abbrev xM : Memref sig .tc .vmem S256x4096 .f32 := Memref.whole cc0_stg0_0
/-- The weights, in HBM. -/
abbrev wM : Memref sig .tc .hbm S4096x8192 .f32 := Memref.whole main_arg1
/-- The staged scale of `x`. -/
abbrev sxM : Memref sig .tc .smem S1 .f32 := Memref.whole cc0_stg1_0
/-- The staged scale of the weights. -/
abbrev swM : Memref sig .tc .smem S1 .f32 := Memref.whole cc0_stg2_0
/-- The staged result. -/
abbrev oM : Memref sig .tc .vmem S4096x512 .f32 := Memref.whole cc0_stg3_0
/-- The gathered `x`. -/
abbrev xgM : Memref sig .tc .vmem S1024x4096 .fp8e4m3 := Memref.whole cc0_scratch0
/-- The staging buffer of the weights. -/
abbrev stM : Memref sig .tc .vmem S2x4096x512 .f32 := Memref.whole cc0_scratch1
/-- The narrowed weights. -/
abbrev w8M : Memref sig .tc .vmem S4096x2048 .fp8e4m3 := Memref.whole cc0_scratch2
/-- The results before they are sent. -/
abbrev ybM : Memref sig .tc .vmem S1024x2048 .bf16 := Memref.whole cc0_scratch3
/-- The results received. -/
abbrev yrM : Memref sig .tc .vmem S4096x512 .bf16 := Memref.whole cc0_scratch4

/-- A slot of the gathered `x` lies in the buffer. -/
theorem inb_xg (s : Fin 4) : ∀ a, (![256 * s.val, 0] : Fin 2 → ℕ) a + S256x4096.size a ≤ S1024x4096.size a := by revert s; decide +kernel
/-- A block of results lies in the buffer. -/
theorem inb_yb (s q : Fin 4) : ∀ a, (![256 * s.val, 512 * q.val] : Fin 2 → ℕ) a + S256x512.size a ≤ S1024x2048.size a := by revert s q; decide +kernel
/-- A row slot of results lies in the buffer. -/
theorem inb_ybRow (s : Fin 4) : ∀ a, (![256 * s.val, 0] : Fin 2 → ℕ) a + S256x2048.size a ≤ S1024x2048.size a := by revert s; decide +kernel
/-- A block of received rows lies in the buffer. -/
theorem inb_yr (z q : Fin 4) : ∀ a, (![1024 * z.val + 256 * q.val, 0] : Fin 2 → ℕ) a + S256x512.size a ≤ S4096x512.size a := by revert z q; decide +kernel
/-- A column chunk of the narrowed weights lies in the buffer. -/
theorem inb_w8 (q : Fin 4) : ∀ a, (![0, 512 * q.val] : Fin 2 → ℕ) a + S4096x512.size a ≤ S4096x2048.size a := by revert q; decide +kernel
/-- A column chunk of the weights lies in the array. -/
theorem inb_w (z q : Fin 4) : ∀ a, (![0, 2048 * z.val + 512 * q.val] : Fin 2 → ℕ) a + S4096x512.size a ≤ S4096x8192.size a := by revert z q; decide +kernel
/-- A staging slot lies in the buffer. -/
theorem inb_st (i : Fin 2) : ∀ a, (![i.val, 0, 0] : Fin 3 → ℕ) a + S1x4096x512.size a ≤ S2x4096x512.size a := by revert i; decide +kernel

/-- Slot `s` of the gathered `x`: rows `256 s ..`. -/
abbrev xgR (s : Fin 4) : Rect S1024x4096 := Rect.unit (s := S1024x4096) ![256 * s.val, 0] S256x4096.size (inb_xg s)
/-- The result block of row slot `s` and place `q` before it is sent. -/
abbrev ybR (s q : Fin 4) : Rect S1024x2048 := Rect.unit (s := S1024x2048) ![256 * s.val, 512 * q.val] S256x512.size (inb_yb s q)
/-- The row slot `s` of the results before they are sent. -/
abbrev ybRow (s : Fin 4) : Rect S1024x2048 := Rect.unit (s := S1024x2048) ![256 * s.val, 0] S256x2048.size (inb_ybRow s)
/-- The block of result rows that device `(z, q)`'s rows of `x` give, where it lands and in the result. -/
abbrev yrR (z q : Fin 4) : Rect S4096x512 := Rect.unit (s := S4096x512) ![1024 * z.val + 256 * q.val, 0] S256x512.size (inb_yr z q)
/-- Column chunk `q` of the narrowed weights of a plane. -/
abbrev w8R (q : Fin 4) : Rect S4096x2048 := Rect.unit (s := S4096x2048) ![0, 512 * q.val] S4096x512.size (inb_w8 q)
/-- Column chunk `q` of plane `z`'s weights. -/
abbrev wR (z q : Fin 4) : Rect S4096x8192 := Rect.unit (s := S4096x8192) ![0, 2048 * z.val + 512 * q.val] S4096x512.size (inb_w z q)
/-- Staging slot `i` of the weights. -/
abbrev stR (i : Fin 2) : Rect S2x4096x512 := Rect.unit (s := S2x4096x512) ![i.val, 0, 0] S1x4096x512.size (inb_st i)

/-- A slot of the gathered `x`, as a view. -/
abbrev xgV (s : Fin 4) : Memref sig .tc .vmem S256x4096 .fp8e4m3 := xgM.slice (xgR s) (fun _ => rfl)
/-- A block of results before it is sent, as a view. -/
abbrev ybV (s q : Fin 4) : Memref sig .tc .vmem S256x512 .bf16 := ybM.slice (ybR s q) (fun _ => rfl)
/-- A row slot of results, as a view. -/
abbrev ybW (s : Fin 4) : Memref sig .tc .vmem S256x2048 .bf16 := ybM.slice (ybRow s) (fun _ => rfl)
/-- A block of received results, as a view. -/
abbrev yrV (z q : Fin 4) : Memref sig .tc .vmem S256x512 .bf16 := yrM.slice (yrR z q) (fun _ => rfl)
/-- A block of the result, as a view. -/
abbrev oV (z q : Fin 4) : Memref sig .tc .vmem S256x512 .f32 := oM.slice (yrR z q) (fun _ => rfl)
/-- A chunk of the narrowed weights, as a view. -/
abbrev w8V (q : Fin 4) : Memref sig .tc .vmem S4096x512 .fp8e4m3 := w8M.slice (w8R q) (fun _ => rfl)
/-- A chunk of the weights, as a view. -/
abbrev wV (z q : Fin 4) : Memref sig .tc .hbm S4096x512 .f32 := wM.slice (wR z q) (fun _ => rfl)
/-- A staging slot, as a view. -/
abbrev stV (i : Fin 2) : Memref sig .tc .vmem S1x4096x512 .f32 := stM.slice (stR i) (fun _ => rfl)

/-- Staging slot `i` as the copy of a chunk writes it. -/
abbrev stSq (i : Fin 2) : Memref sig .tc .vmem S4096x512 .f32 := (stV i).squeeze S4096x512 squeezes_S1x4096x512_S4096x512

/-! ## The semaphores -/

/-- The send counter of a direction and slot is in its array. -/
theorem inb_zs (d : Fin 2) (s : Fin 4) : ∀ a, (![d.val, s.val] : Fin 2 → ℕ) a + S1x1.size a ≤ S2x4.size a := by revert d s; decide +kernel
/-- The receive counter of a slot is in its array. -/
theorem inb_zr (s : Fin 4) : ∀ a, (![s.val] : Fin 1 → ℕ) a + S1.size a ≤ S4.size a := by revert s; decide +kernel
/-- The send counter of a place and row slot is in its array. -/
theorem inb_ys (q s : Fin 4) : ∀ a, (![q.val, s.val] : Fin 2 → ℕ) a + S1x1.size a ≤ S4x4.size a := by revert q s; decide +kernel
/-- The counter of a staging slot is in its array. -/
theorem inb_ws (i : Fin 2) : ∀ a, (![i.val] : Fin 1 → ℕ) a + S1.size a ≤ S2.size a := by revert i; decide +kernel

/-- The handshake counter. -/
abbrev barS : Sem sig := (SemArray.scalar (sig.barrier 0 rfl) : Sems sig S_).sem
/-- The local copies of the weights into staging slot `i`. -/
abbrev wsS (i : Fin 2) : DmaSem sig :=
  ((cc0_scratch5 : DmaSems sig S2).slice (Rect.unit (s := S2) ![i.val] S1.size (inb_ws i)) |>.squeeze S_ squeezes_S1_S_).sem
/-- Sending slot `s` up (`d = 0`) or down (`d = 1`). -/
abbrev zsS (d : Fin 2) (s : Fin 4) : DmaSem sig :=
  ((cc0_scratch6 : DmaSems sig S2x4).slice (Rect.unit (s := S2x4) ![d.val, s.val] S1x1.size (inb_zs d s)) |>.squeeze S_ squeezes_S1x1_S_).sem
/-- The arrival of slot `s`. -/
abbrev zrS (s : Fin 4) : DmaSem sig :=
  ((cc0_scratch7 : DmaSems sig S4).slice (Rect.unit (s := S4) ![s.val] S1.size (inb_zr s)) |>.squeeze S_ squeezes_S1_S_).sem
/-- Sending the result block of row slot `s` to place `q`. -/
abbrev ysS (q s : Fin 4) : DmaSem sig :=
  ((cc0_scratch8 : DmaSems sig S4x4).slice (Rect.unit (s := S4x4) ![q.val, s.val] S1x1.size (inb_ys q s)) |>.squeeze S_ squeezes_S1x1_S_).sem
/-- The arrival of the result block of row slot `s` from place `q`. -/
abbrev yrS (q s : Fin 4) : DmaSem sig :=
  ((cc0_scratch9 : DmaSems sig S4x4).slice (Rect.unit (s := S4x4) ![q.val, s.val] S1x1.size (inb_ys q s)) |>.squeeze S_ squeezes_S1x1_S_).sem

/-- The cells that several devices share, and the send cells. -/
inductive CK : Type
  | bar
  | ws (i : Fin 2)
  | zs (d : Fin 2) (s : Fin 4)
  | zr (s : Fin 4)
  | ys (q s : Fin 4)
  | yr (q s : Fin 4)
  deriving DecidableEq

/-- The cells, one family after the other. -/
def CK.equiv : (Unit ⊕ (Fin 2 × Fin 4) ⊕ Fin 2) ⊕ (Fin 4 ⊕ ((Fin 4 × Fin 4) ⊕ (Fin 4 × Fin 4))) ≃ CK where
  toFun
    | .inl (.inl _) => .bar
    | .inl (.inr (.inl d)) => .zs d.1 d.2
    | .inl (.inr (.inr i)) => .ws i
    | .inr (.inl s) => .zr s
    | .inr (.inr (.inl d)) => .ys d.1 d.2
    | .inr (.inr (.inr d)) => .yr d.1 d.2
  invFun
    | .bar => .inl (.inl ())
    | .ws i => .inl (.inr (.inr i))
    | .zs d s => .inl (.inr (.inl (d, s)))
    | .zr s => .inr (.inl s)
    | .ys q s => .inr (.inr (.inl (q, s)))
    | .yr q s => .inr (.inr (.inr (q, s)))
  left_inv := by rintro ((_ | _ | _) | _ | _ | _) <;> rfl
  right_inv := by rintro (_ | _ | _ | _ | _ | _) <;> rfl

instance : Fintype CK := Fintype.ofEquiv _ CK.equiv

/-- The semaphore of a cell. -/
def csem : CK → SemLoc sig
  | .bar => .reg barS
  | .ws i => .dma (wsS i)
  | .zs d s => .dma (zsS d s)
  | .zr s => .dma (zrS s)
  | .ys q s => .dma (ysS q s)
  | .yr q s => .dma (yrS q s)

/-- The number of a staging counter. -/
theorem wsS_val : ∀ i, wsS i = ⟨4 + i.val, by show _ < 50; omega⟩ := by decide +kernel
/-- The number of a send counter of `x`. -/
theorem zsS_val : ∀ d s, zsS d s = ⟨6 + 4 * d.val + s.val, by show _ < 50; omega⟩ := by decide +kernel
/-- The number of a receive counter of `x`. -/
theorem zrS_val : ∀ s, zrS s = ⟨14 + s.val, by show _ < 50; omega⟩ := by decide +kernel
/-- The number of a send counter of the results. -/
theorem ysS_val : ∀ q s, ysS q s = ⟨18 + 4 * q.val + s.val, by show _ < 50; omega⟩ := by decide +kernel
/-- The number of a receive counter of the results. -/
theorem yrS_val : ∀ q s, yrS q s = ⟨34 + 4 * q.val + s.val, by show _ < 50; omega⟩ := by decide +kernel

/-- Different counters are different semaphores. -/
theorem csem_inj : Function.Injective csem := by
  intro a b h
  cases a <;> cases b <;> simp only [csem, wsS_val, zsS_val, zrS_val, ysS_val, yrS_val, reduceCtorEq, SemLoc.dma.injEq, Fin.mk.injEq] at h <;>
    first
    | rfl
    | (exfalso; omega)
    | (congr 1 <;> apply Fin.ext <;> omega)

end Cert.Exchange

end
-- ==== Proof.Forms.lean ====
/-
The places the program computes from the device number, in closed form: which semaphore, which
block and which device each operation names, and when each guard holds.
-/
module

public import proofs.«01_k».proof.Proof.Places

@[expose] public section

set_option maxRecDepth 4000

noncomputable section

namespace Cert.Exchange

open Cert.KernelIdeal Cert.KernelIdeal.Gen
open Idealize.ShloMosaic

/-- Offset 1 in closed form. -/
theorem off1_form : ∀ c : Dev nD, k0_off1 c = ![256 * (zc c).val, 0] := by decide +kernel
/-- Offset 8 in closed form. -/
theorem off8_form : ∀ (c : Dev nD) (q : Fin 4), k0_off8 c (BitVec.ofNat 32 (512 * q.val)) = ![0, 2048 * (zc c).val + 512 * q.val] := by decide +kernel
/-- Offset 9 in closed form. -/
theorem off9_form : ∀ c : Dev nD, k0_off9 c = ![256 * (zc c).val, 512 * (0 : Fin 4).val] := by decide +kernel
/-- Offset 15 in closed form. -/
theorem off15_form : ∀ c : Dev nD, k0_off15 c = ![256 * (zc c).val, 512 * (1 : Fin 4).val] := by decide +kernel
/-- Offset 21 in closed form. -/
theorem off21_form : ∀ c : Dev nD, k0_off21 c = ![256 * (zc c).val, 512 * (2 : Fin 4).val] := by decide +kernel
/-- Offset 27 in closed form. -/
theorem off27_form : ∀ c : Dev nD, k0_off27 c = ![256 * (zc c).val, 512 * (3 : Fin 4).val] := by decide +kernel
/-- When condition 1 holds: the device sends the block. -/
theorem cond1_iff : ∀ c : Dev nD, Iff (k0_cond1 c = 1#1) (ZV c 0 (zc c)) := by decide +kernel
/-- When condition 2 holds: the device sends the block. -/
theorem cond2_iff : ∀ c : Dev nD, Iff (k0_cond2 c = 1#1) (ZV c 1 (zc c)) := by decide +kernel
/-- The target of transfer 6 on the devices that send the block. -/
theorem dev6_form : ∀ c : Dev nD, ZV c 0 (zc c) → k0_dev6 c = (above c).val := by decide +kernel
/-- Offset 2 in closed form on the devices that send the block. -/
theorem off2_form : ∀ c : Dev nD, ZV c 0 (zc c) → k0_off2 c = ![(0 : Fin 2).val, (zc c).val] := by decide +kernel
/-- Offset 3 in closed form on the devices that send the block. -/
theorem off3_form : ∀ c : Dev nD, ZV c 0 (zc c) → k0_off3 c = ![(zc c).val] := by decide +kernel
/-- Offset 4 in closed form on the devices that send the block. -/
theorem off4_form : ∀ c : Dev nD, ZV c 0 (zc c) → k0_off4 c = ![256 * (zc c).val, 0] := by decide +kernel
/-- The target of transfer 7 on the devices that send the block. -/
theorem dev7_form : ∀ c : Dev nD, ZV c 1 (zc c) → k0_dev7 c = (below c).val := by decide +kernel
/-- Offset 5 in closed form on the devices that send the block. -/
theorem off5_form : ∀ c : Dev nD, ZV c 1 (zc c) → k0_off5 c = ![(1 : Fin 2).val, (zc c).val] := by decide +kernel
/-- Offset 6 in closed form on the devices that send the block. -/
theorem off6_form : ∀ c : Dev nD, ZV c 1 (zc c) → k0_off6 c = ![(zc c).val] := by decide +kernel
/-- Offset 7 in closed form on the devices that send the block. -/
theorem off7_form : ∀ c : Dev nD, ZV c 1 (zc c) → k0_off7 c = ![256 * (zc c).val, 0] := by decide +kernel
/-- When condition 3 holds: the device is at the place named. -/
theorem cond3_iff : ∀ c : Dev nD, Iff (k0_cond3 c = 1#1) (pc c = 0) := by decide +kernel
/-- When condition 4 holds: the device is at another place. -/
theorem cond4_iff : ∀ c : Dev nD, Iff (k0_cond4 c = 1#1) (pc c ≠ 0) := by decide +kernel
/-- Offset 10 in closed form on the devices at that place. -/
theorem off10_form : ∀ c : Dev nD, pc c = 0 → k0_off10 c = ![1024 * (zc c).val + 256 * (0 : Fin 4).val, 0] := by decide +kernel
/-- The target of transfer 8 on the devices at another place. -/
theorem dev8_form : ∀ c : Dev nD, pc c ≠ 0 → k0_dev8 c = (dev (zc c) 0).val := by decide +kernel
/-- Offset 11 in closed form on the devices at another place. -/
theorem off11_form : ∀ c : Dev nD, pc c ≠ 0 → k0_off11 c = ![(0 : Fin 4).val, (zc c).val] := by decide +kernel
/-- Offset 12 in closed form on the devices at another place. -/
theorem off12_form : ∀ c : Dev nD, pc c ≠ 0 → k0_off12 c = ![(pc c).val, (zc c).val] := by decide +kernel
/-- Offset 13 in closed form on the devices at another place. -/
theorem off13_form : ∀ c : Dev nD, pc c ≠ 0 → k0_off13 c = ![1024 * (zc c).val + 256 * (pc c).val, 0] := by decide +kernel
/-- Offset 14 in closed form on the devices at another place. -/
theorem off14_form : ∀ c : Dev nD, pc c ≠ 0 → k0_off14 c = ![256 * (zc c).val, 512 * (0 : Fin 4).val] := by decide +kernel
/-- When condition 5 holds: the device is at the place named. -/
theorem cond5_iff : ∀ c : Dev nD, Iff (k0_cond5 c = 1#1) (pc c = 1) := by decide +kernel
/-- When condition 6 holds: the device is at another place. -/
theorem cond6_iff : ∀ c : Dev nD, Iff (k0_cond6 c = 1#1) (pc c ≠ 1) := by decide +kernel
/-- Offset 16 in closed form on the devices at that place. -/
theorem off16_form : ∀ c : Dev nD, pc c = 1 → k0_off16 c = ![1024 * (zc c).val + 256 * (1 : Fin 4).val, 0] := by decide +kernel
/-- The target of transfer 9 on the devices at another place. -/
theorem dev9_form : ∀ c : Dev nD, pc c ≠ 1 → k0_dev9 c = (dev (zc c) 1).val := by decide +kernel
/-- Offset 17 in closed form on the devices at another place. -/
theorem off17_form : ∀ c : Dev nD, pc c ≠ 1 → k0_off17 c = ![(1 : Fin 4).val, (zc c).val] := by decide +kernel
/-- Offset 18 in closed form on the devices at another place. -/
theorem off18_form : ∀ c : Dev nD, pc c ≠ 1 → k0_off18 c = ![(pc c).val, (zc c).val] := by decide +kernel
/-- Offset 19 in closed form on the devices at another place. -/
theorem off19_form : ∀ c : Dev nD, pc c ≠ 1 → k0_off19 c = ![1024 * (zc c).val + 256 * (pc c).val, 0] := by decide +kernel
/-- Offset 20 in closed form on the devices at another place. -/
theorem off20_form : ∀ c : Dev nD, pc c ≠ 1 → k0_off20 c = ![256 * (zc c).val, 512 * (1 : Fin 4).val] := by decide +kernel
/-- When condition 7 holds: the device is at the place named. -/
theorem cond7_iff : ∀ c : Dev nD, Iff (k0_cond7 c = 1#1) (pc c = 2) := by decide +kernel
/-- When condition 8 holds: the device is at another place. -/
theorem cond8_iff : ∀ c : Dev nD, Iff (k0_cond8 c = 1#1) (pc c ≠ 2) := by decide +kernel
/-- Offset 22 in closed form on the devices at that place. -/
theorem off22_form : ∀ c : Dev nD, pc c = 2 → k0_off22 c = ![1024 * (zc c).val + 256 * (2 : Fin 4).val, 0] := by decide +kernel
/-- The target of transfer 10 on the devices at another place. -/
theorem dev10_form : ∀ c : Dev nD, pc c ≠ 2 → k0_dev10 c = (dev (zc c) 2).val := by decide +kernel
/-- Offset 23 in closed form on the devices at another place. -/
theorem off23_form : ∀ c : Dev nD, pc c ≠ 2 → k0_off23 c = ![(2 : Fin 4).val, (zc c).val] := by decide +kernel
/-- Offset 24 in closed form on the devices at another place. -/
theorem off24_form : ∀ c : Dev nD, pc c ≠ 2 → k0_off24 c = ![(pc c).val, (zc c).val] := by decide +kernel
/-- Offset 25 in closed form on the devices at another place. -/
theorem off25_form : ∀ c : Dev nD, pc c ≠ 2 → k0_off25 c = ![1024 * (zc c).val + 256 * (pc c).val, 0] := by decide +kernel
/-- Offset 26 in closed form on the devices at another place. -/
theorem off26_form : ∀ c : Dev nD, pc c ≠ 2 → k0_off26 c = ![256 * (zc c).val, 512 * (2 : Fin 4).val] := by decide +kernel
/-- When condition 9 holds: the device is at the place named. -/
theorem cond9_iff : ∀ c : Dev nD, Iff (k0_cond9 c = 1#1) (pc c = 3) := by decide +kernel
/-- When condition 10 holds: the device is at another place. -/
theorem cond10_iff : ∀ c : Dev nD, Iff (k0_cond10 c = 1#1) (pc c ≠ 3) := by decide +kernel
/-- Offset 28 in closed form on the devices at that place. -/
theorem off28_form : ∀ c : Dev nD, pc c = 3 → k0_off28 c = ![1024 * (zc c).val + 256 * (3 : Fin 4).val, 0] := by decide +kernel
/-- The target of transfer 11 on the devices at another place. -/
theorem dev11_form : ∀ c : Dev nD, pc c ≠ 3 → k0_dev11 c = (dev (zc c) 3).val := by decide +kernel
/-- Offset 29 in closed form on the devices at another place. -/
theorem off29_form : ∀ c : Dev nD, pc c ≠ 3 → k0_off29 c = ![(3 : Fin 4).val, (zc c).val] := by decide +kernel
/-- Offset 30 in closed form on the devices at another place. -/
theorem off30_form : ∀ c : Dev nD, pc c ≠ 3 → k0_off30 c = ![(pc c).val, (zc c).val] := by decide +kernel
/-- Offset 31 in closed form on the devices at another place. -/
theorem off31_form : ∀ c : Dev nD, pc c ≠ 3 → k0_off31 c = ![1024 * (zc c).val + 256 * (pc c).val, 0] := by decide +kernel
/-- Offset 32 in closed form on the devices at another place. -/
theorem off32_form : ∀ c : Dev nD, pc c ≠ 3 → k0_off32 c = ![256 * (zc c).val, 512 * (3 : Fin 4).val] := by decide +kernel
/-- When condition 11 holds: a block comes from below. -/
theorem cond11_iff : ∀ c : Dev nD, Iff (k0_cond11 c = 1#1) (HasUp c 0) := by decide +kernel
/-- Offset 33 in closed form on the devices whose round brings a block from below. -/
theorem off33_form : ∀ c : Dev nD, HasUp c 0 → k0_off33 c = ![(up c 0).val] := by decide +kernel
/-- Offset 34 in closed form on the devices whose round brings a block from below. -/
theorem off34_form : ∀ c : Dev nD, HasUp c 0 → k0_off34 c = ![256 * (up c 0).val, 0] := by decide +kernel
/-- When condition 12 holds: a block comes from below and is sent on. -/
theorem cond12_iff : ∀ c : Dev nD, Iff (k0_cond12 c = 1#1) (HasUp c 0 ∧ ZV c 0 (up c 0)) := by decide +kernel
/-- The target of transfer 12 on the devices that forward the block that came from below. -/
theorem dev12_form : ∀ c : Dev nD, HasUp c 0 ∧ ZV c 0 (up c 0) → k0_dev12 c = (above c).val := by decide +kernel
/-- Offset 35 in closed form on the devices that forward the block that came from below. -/
theorem off35_form : ∀ c : Dev nD, HasUp c 0 ∧ ZV c 0 (up c 0) → k0_off35 c = ![(0 : Fin 2).val, (up c 0).val] := by decide +kernel
/-- Offset 36 in closed form on the devices that forward the block that came from below. -/
theorem off36_form : ∀ c : Dev nD, HasUp c 0 ∧ ZV c 0 (up c 0) → k0_off36 c = ![(up c 0).val] := by decide +kernel
/-- Offset 37 in closed form on the devices that forward the block that came from below. -/
theorem off37_form : ∀ c : Dev nD, HasUp c 0 ∧ ZV c 0 (up c 0) → k0_off37 c = ![256 * (up c 0).val, 0] := by decide +kernel
/-- When condition 15 holds: a block comes from below. -/
theorem cond15_iff : ∀ c : Dev nD, Iff (k0_cond15 c = 1#1) (HasUp c 0) := by decide +kernel
/-- Offset 43 in closed form on the devices whose round brings a block from below. -/
theorem off43_form : ∀ c : Dev nD, HasUp c 0 → k0_off43 c = ![256 * (up c 0).val, 0] := by decide +kernel
/-- Offset 44 in closed form on the devices whose round brings a block from below. -/
theorem off44_form : ∀ c : Dev nD, HasUp c 0 → k0_off44 c = ![256 * (up c 0).val, 0] := by decide +kernel
/-- Offset 45 in closed form on the devices whose round brings a block from below. -/
theorem off45_form : ∀ (c : Dev nD) (r : Fin 3), HasUp c 0 → k0_off45 c (BitVec.ofNat 32 (1 + r.val)) = ![(pc c + r.succ).val, (up c 0).val] := by decide +kernel
/-- Offset 46 in closed form on the devices whose round brings a block from below. -/
theorem off46_form : ∀ c : Dev nD, HasUp c 0 → k0_off46 c = ![(pc c).val, (up c 0).val] := by decide +kernel
/-- Offset 47 in closed form on the devices whose round brings a block from below. -/
theorem off47_form : ∀ c : Dev nD, HasUp c 0 → k0_off47 c = ![1024 * (up c 0).val + 256 * (pc c).val, 0] := by decide +kernel
/-- Offset 48 in closed form on the devices whose round brings a block from below. -/
theorem off48_form : ∀ (c : Dev nD) (r : Fin 3), HasUp c 0 → k0_off48 c (BitVec.ofNat 32 (1 + r.val)) = ![256 * (up c 0).val, 512 * (pc c + r.succ).val] := by decide +kernel
/-- Offset 49 in closed form on the devices whose round brings a block from below. -/
theorem off49_form : ∀ c : Dev nD, HasUp c 0 → k0_off49 c = ![256 * (up c 0).val, 512 * (pc c).val] := by decide +kernel
/-- Offset 50 in closed form on the devices whose round brings a block from below. -/
theorem off50_form : ∀ c : Dev nD, HasUp c 0 → k0_off50 c = ![1024 * (up c 0).val + 256 * (pc c).val, 0] := by decide +kernel
/-- The target of transfer 14 on the devices whose round brings a block from below. -/
theorem dev14_form : ∀ c : Dev nD, HasUp c 0 → k0_dev14 c = (mate c (1 : Fin 3).succ).val := by decide +kernel
/-- The target of transfer 15 on the devices whose round brings a block from below. -/
theorem dev15_form : ∀ c : Dev nD, HasUp c 0 → k0_dev15 c = (mate c (0 : Fin 3).succ).val := by decide +kernel
/-- The target of transfer 16 on the devices whose round brings a block from below. -/
theorem dev16_form : ∀ c : Dev nD, HasUp c 0 → k0_dev16 c = (mate c (2 : Fin 3).succ).val := by decide +kernel
/-- When condition 13 holds: a block comes from above. -/
theorem cond13_iff : ∀ c : Dev nD, Iff (k0_cond13 c = 1#1) (HasDn c 0) := by decide +kernel
/-- Offset 38 in closed form on the devices whose round brings a block from above. -/
theorem off38_form : ∀ c : Dev nD, HasDn c 0 → k0_off38 c = ![(dn c 0).val] := by decide +kernel
/-- Offset 39 in closed form on the devices whose round brings a block from above. -/
theorem off39_form : ∀ c : Dev nD, HasDn c 0 → k0_off39 c = ![256 * (dn c 0).val, 0] := by decide +kernel
/-- When condition 14 holds: a block comes from above and is sent on. -/
theorem cond14_iff : ∀ c : Dev nD, Iff (k0_cond14 c = 1#1) (HasDn c 0 ∧ ZV c 1 (dn c 0)) := by decide +kernel
/-- The target of transfer 13 on the devices that forward the block that came from above. -/
theorem dev13_form : ∀ c : Dev nD, HasDn c 0 ∧ ZV c 1 (dn c 0) → k0_dev13 c = (below c).val := by decide +kernel
/-- Offset 40 in closed form on the devices that forward the block that came from above. -/
theorem off40_form : ∀ c : Dev nD, HasDn c 0 ∧ ZV c 1 (dn c 0) → k0_off40 c = ![(1 : Fin 2).val, (dn c 0).val] := by decide +kernel
/-- Offset 41 in closed form on the devices that forward the block that came from above. -/
theorem off41_form : ∀ c : Dev nD, HasDn c 0 ∧ ZV c 1 (dn c 0) → k0_off41 c = ![(dn c 0).val] := by decide +kernel
/-- Offset 42 in closed form on the devices that forward the block that came from above. -/
theorem off42_form : ∀ c : Dev nD, HasDn c 0 ∧ ZV c 1 (dn c 0) → k0_off42 c = ![256 * (dn c 0).val, 0] := by decide +kernel
/-- When condition 16 holds: a block comes from above. -/
theorem cond16_iff : ∀ c : Dev nD, Iff (k0_cond16 c = 1#1) (HasDn c 0) := by decide +kernel
/-- Offset 51 in closed form on the devices whose round brings a block from above. -/
theorem off51_form : ∀ c : Dev nD, HasDn c 0 → k0_off51 c = ![256 * (dn c 0).val, 0] := by decide +kernel
/-- Offset 52 in closed form on the devices whose round brings a block from above. -/
theorem off52_form : ∀ c : Dev nD, HasDn c 0 → k0_off52 c = ![256 * (dn c 0).val, 0] := by decide +kernel
/-- Offset 53 in closed form on the devices whose round brings a block from above. -/
theorem off53_form : ∀ (c : Dev nD) (r : Fin 3), HasDn c 0 → k0_off53 c (BitVec.ofNat 32 (1 + r.val)) = ![(pc c + r.succ).val, (dn c 0).val] := by decide +kernel
/-- Offset 54 in closed form on the devices whose round brings a block from above. -/
theorem off54_form : ∀ c : Dev nD, HasDn c 0 → k0_off54 c = ![(pc c).val, (dn c 0).val] := by decide +kernel
/-- Offset 55 in closed form on the devices whose round brings a block from above. -/
theorem off55_form : ∀ c : Dev nD, HasDn c 0 → k0_off55 c = ![1024 * (dn c 0).val + 256 * (pc c).val, 0] := by decide +kernel
/-- Offset 56 in closed form on the devices whose round brings a block from above. -/
theorem off56_form : ∀ (c : Dev nD) (r : Fin 3), HasDn c 0 → k0_off56 c (BitVec.ofNat 32 (1 + r.val)) = ![256 * (dn c 0).val, 512 * (pc c + r.succ).val] := by decide +kernel
/-- Offset 57 in closed form on the devices whose round brings a block from above. -/
theorem off57_form : ∀ c : Dev nD, HasDn c 0 → k0_off57 c = ![256 * (dn c 0).val, 512 * (pc c).val] := by decide +kernel
/-- Offset 58 in closed form on the devices whose round brings a block from above. -/
theorem off58_form : ∀ c : Dev nD, HasDn c 0 → k0_off58 c = ![1024 * (dn c 0).val + 256 * (pc c).val, 0] := by decide +kernel
/-- The target of transfer 17 on the devices whose round brings a block from above. -/
theorem dev17_form : ∀ c : Dev nD, HasDn c 0 → k0_dev17 c = (mate c (1 : Fin 3).succ).val := by decide +kernel
/-- The target of transfer 18 on the devices whose round brings a block from above. -/
theorem dev18_form : ∀ c : Dev nD, HasDn c 0 → k0_dev18 c = (mate c (0 : Fin 3).succ).val := by decide +kernel
/-- The target of transfer 19 on the devices whose round brings a block from above. -/
theorem dev19_form : ∀ c : Dev nD, HasDn c 0 → k0_dev19 c = (mate c (2 : Fin 3).succ).val := by decide +kernel
/-- When condition 17 holds: a block comes from below. -/
theorem cond17_iff : ∀ c : Dev nD, Iff (k0_cond17 c = 1#1) (HasUp c 1) := by decide +kernel
/-- Offset 59 in closed form on the devices whose round brings a block from below. -/
theorem off59_form : ∀ c : Dev nD, HasUp c 1 → k0_off59 c = ![(up c 1).val] := by decide +kernel
/-- Offset 60 in closed form on the devices whose round brings a block from below. -/
theorem off60_form : ∀ c : Dev nD, HasUp c 1 → k0_off60 c = ![256 * (up c 1).val, 0] := by decide +kernel
/-- When condition 18 holds: a block comes from below and is sent on. -/
theorem cond18_iff : ∀ c : Dev nD, Iff (k0_cond18 c = 1#1) (HasUp c 1 ∧ ZV c 0 (up c 1)) := by decide +kernel
/-- The target of transfer 20 on the devices that forward the block that came from below. -/
theorem dev20_form : ∀ c : Dev nD, HasUp c 1 ∧ ZV c 0 (up c 1) → k0_dev20 c = (above c).val := by decide +kernel
/-- Offset 61 in closed form on the devices that forward the block that came from below. -/
theorem off61_form : ∀ c : Dev nD, HasUp c 1 ∧ ZV c 0 (up c 1) → k0_off61 c = ![(0 : Fin 2).val, (up c 1).val] := by decide +kernel
/-- Offset 62 in closed form on the devices that forward the block that came from below. -/
theorem off62_form : ∀ c : Dev nD, HasUp c 1 ∧ ZV c 0 (up c 1) → k0_off62 c = ![(up c 1).val] := by decide +kernel
/-- Offset 63 in closed form on the devices that forward the block that came from below. -/
theorem off63_form : ∀ c : Dev nD, HasUp c 1 ∧ ZV c 0 (up c 1) → k0_off63 c = ![256 * (up c 1).val, 0] := by decide +kernel
/-- When condition 21 holds: a block comes from below. -/
theorem cond21_iff : ∀ c : Dev nD, Iff (k0_cond21 c = 1#1) (HasUp c 1) := by decide +kernel
/-- Offset 69 in closed form on the devices whose round brings a block from below. -/
theorem off69_form : ∀ c : Dev nD, HasUp c 1 → k0_off69 c = ![256 * (up c 1).val, 0] := by decide +kernel
/-- Offset 70 in closed form on the devices whose round brings a block from below. -/
theorem off70_form : ∀ c : Dev nD, HasUp c 1 → k0_off70 c = ![256 * (up c 1).val, 0] := by decide +kernel
/-- Offset 71 in closed form on the devices whose round brings a block from below. -/
theorem off71_form : ∀ (c : Dev nD) (r : Fin 3), HasUp c 1 → k0_off71 c (BitVec.ofNat 32 (1 + r.val)) = ![(pc c + r.succ).val, (up c 1).val] := by decide +kernel
/-- Offset 72 in closed form on the devices whose round brings a block from below. -/
theorem off72_form : ∀ c : Dev nD, HasUp c 1 → k0_off72 c = ![(pc c).val, (up c 1).val] := by decide +kernel
/-- Offset 73 in closed form on the devices whose round brings a block from below. -/
theorem off73_form : ∀ c : Dev nD, HasUp c 1 → k0_off73 c = ![1024 * (up c 1).val + 256 * (pc c).val, 0] := by decide +kernel
/-- Offset 74 in closed form on the devices whose round brings a block from below. -/
theorem off74_form : ∀ (c : Dev nD) (r : Fin 3), HasUp c 1 → k0_off74 c (BitVec.ofNat 32 (1 + r.val)) = ![256 * (up c 1).val, 512 * (pc c + r.succ).val] := by decide +kernel
/-- Offset 75 in closed form on the devices whose round brings a block from below. -/
theorem off75_form : ∀ c : Dev nD, HasUp c 1 → k0_off75 c = ![256 * (up c 1).val, 512 * (pc c).val] := by decide +kernel
/-- Offset 76 in closed form on the devices whose round brings a block from below. -/
theorem off76_form : ∀ c : Dev nD, HasUp c 1 → k0_off76 c = ![1024 * (up c 1).val + 256 * (pc c).val, 0] := by decide +kernel
/-- The target of transfer 22 on the devices whose round brings a block from below. -/
theorem dev22_form : ∀ c : Dev nD, HasUp c 1 → k0_dev22 c = (mate c (1 : Fin 3).succ).val := by decide +kernel
/-- The target of transfer 23 on the devices whose round brings a block from below. -/
theorem dev23_form : ∀ c : Dev nD, HasUp c 1 → k0_dev23 c = (mate c (0 : Fin 3).succ).val := by decide +kernel
/-- The target of transfer 24 on the devices whose round brings a block from below. -/
theorem dev24_form : ∀ c : Dev nD, HasUp c 1 → k0_dev24 c = (mate c (2 : Fin 3).succ).val := by decide +kernel
/-- When condition 19 holds: a block comes from above. -/
theorem cond19_iff : ∀ c : Dev nD, Iff (k0_cond19 c = 1#1) (HasDn c 1) := by decide +kernel
/-- Offset 64 in closed form on the devices whose round brings a block from above. -/
theorem off64_form : ∀ c : Dev nD, HasDn c 1 → k0_off64 c = ![(dn c 1).val] := by decide +kernel
/-- Offset 65 in closed form on the devices whose round brings a block from above. -/
theorem off65_form : ∀ c : Dev nD, HasDn c 1 → k0_off65 c = ![256 * (dn c 1).val, 0] := by decide +kernel
/-- When condition 20 holds: a block comes from above and is sent on. -/
theorem cond20_iff : ∀ c : Dev nD, Iff (k0_cond20 c = 1#1) (HasDn c 1 ∧ ZV c 1 (dn c 1)) := by decide +kernel
/-- The target of transfer 21 on the devices that forward the block that came from above. -/
theorem dev21_form : ∀ c : Dev nD, HasDn c 1 ∧ ZV c 1 (dn c 1) → k0_dev21 c = (below c).val := by decide +kernel
/-- Offset 66 in closed form on the devices that forward the block that came from above. -/
theorem off66_form : ∀ c : Dev nD, HasDn c 1 ∧ ZV c 1 (dn c 1) → k0_off66 c = ![(1 : Fin 2).val, (dn c 1).val] := by decide +kernel
/-- Offset 67 in closed form on the devices that forward the block that came from above. -/
theorem off67_form : ∀ c : Dev nD, HasDn c 1 ∧ ZV c 1 (dn c 1) → k0_off67 c = ![(dn c 1).val] := by decide +kernel
/-- Offset 68 in closed form on the devices that forward the block that came from above. -/
theorem off68_form : ∀ c : Dev nD, HasDn c 1 ∧ ZV c 1 (dn c 1) → k0_off68 c = ![256 * (dn c 1).val, 0] := by decide +kernel
/-- When condition 22 holds: a block comes from above. -/
theorem cond22_iff : ∀ c : Dev nD, Iff (k0_cond22 c = 1#1) (HasDn c 1) := by decide +kernel
/-- Offset 77 in closed form on the devices whose round brings a block from above. -/
theorem off77_form : ∀ c : Dev nD, HasDn c 1 → k0_off77 c = ![256 * (dn c 1).val, 0] := by decide +kernel
/-- Offset 78 in closed form on the devices whose round brings a block from above. -/
theorem off78_form : ∀ c : Dev nD, HasDn c 1 → k0_off78 c = ![256 * (dn c 1).val, 0] := by decide +kernel
/-- Offset 79 in closed form on the devices whose round brings a block from above. -/
theorem off79_form : ∀ (c : Dev nD) (r : Fin 3), HasDn c 1 → k0_off79 c (BitVec.ofNat 32 (1 + r.val)) = ![(pc c + r.succ).val, (dn c 1).val] := by decide +kernel
/-- Offset 80 in closed form on the devices whose round brings a block from above. -/
theorem off80_form : ∀ c : Dev nD, HasDn c 1 → k0_off80 c = ![(pc c).val, (dn c 1).val] := by decide +kernel
/-- Offset 81 in closed form on the devices whose round brings a block from above. -/
theorem off81_form : ∀ c : Dev nD, HasDn c 1 → k0_off81 c = ![1024 * (dn c 1).val + 256 * (pc c).val, 0] := by decide +kernel
/-- Offset 82 in closed form on the devices whose round brings a block from above. -/
theorem off82_form : ∀ (c : Dev nD) (r : Fin 3), HasDn c 1 → k0_off82 c (BitVec.ofNat 32 (1 + r.val)) = ![256 * (dn c 1).val, 512 * (pc c + r.succ).val] := by decide +kernel
/-- Offset 83 in closed form on the devices whose round brings a block from above. -/
theorem off83_form : ∀ c : Dev nD, HasDn c 1 → k0_off83 c = ![256 * (dn c 1).val, 512 * (pc c).val] := by decide +kernel
/-- Offset 84 in closed form on the devices whose round brings a block from above. -/
theorem off84_form : ∀ c : Dev nD, HasDn c 1 → k0_off84 c = ![1024 * (dn c 1).val + 256 * (pc c).val, 0] := by decide +kernel
/-- The target of transfer 25 on the devices whose round brings a block from above. -/
theorem dev25_form : ∀ c : Dev nD, HasDn c 1 → k0_dev25 c = (mate c (1 : Fin 3).succ).val := by decide +kernel
/-- The target of transfer 26 on the devices whose round brings a block from above. -/
theorem dev26_form : ∀ c : Dev nD, HasDn c 1 → k0_dev26 c = (mate c (0 : Fin 3).succ).val := by decide +kernel
/-- The target of transfer 27 on the devices whose round brings a block from above. -/
theorem dev27_form : ∀ c : Dev nD, HasDn c 1 → k0_dev27 c = (mate c (2 : Fin 3).succ).val := by decide +kernel
/-- When condition 23 holds: a block comes from below. -/
theorem cond23_iff : ∀ c : Dev nD, Iff (k0_cond23 c = 1#1) (HasUp c 2) := by decide +kernel
/-- Offset 85 in closed form on the devices whose round brings a block from below. -/
theorem off85_form : ∀ c : Dev nD, HasUp c 2 → k0_off85 c = ![(up c 2).val] := by decide +kernel
/-- Offset 86 in closed form on the devices whose round brings a block from below. -/
theorem off86_form : ∀ c : Dev nD, HasUp c 2 → k0_off86 c = ![256 * (up c 2).val, 0] := by decide +kernel
/-- When condition 24 holds: a block comes from below and is sent on. -/
theorem cond24_iff : ∀ c : Dev nD, Iff (k0_cond24 c = 1#1) (HasUp c 2 ∧ ZV c 0 (up c 2)) := by decide +kernel
/-- The target of transfer 28 on the devices that forward the block that came from below. -/
theorem dev28_form : ∀ c : Dev nD, HasUp c 2 ∧ ZV c 0 (up c 2) → k0_dev28 c = (above c).val := by decide +kernel
/-- Offset 87 in closed form on the devices that forward the block that came from below. -/
theorem off87_form : ∀ c : Dev nD, HasUp c 2 ∧ ZV c 0 (up c 2) → k0_off87 c = ![(0 : Fin 2).val, (up c 2).val] := by decide +kernel
/-- Offset 88 in closed form on the devices that forward the block that came from below. -/
theorem off88_form : ∀ c : Dev nD, HasUp c 2 ∧ ZV c 0 (up c 2) → k0_off88 c = ![(up c 2).val] := by decide +kernel
/-- Offset 89 in closed form on the devices that forward the block that came from below. -/
theorem off89_form : ∀ c : Dev nD, HasUp c 2 ∧ ZV c 0 (up c 2) → k0_off89 c = ![256 * (up c 2).val, 0] := by decide +kernel
/-- When condition 27 holds: a block comes from below. -/
theorem cond27_iff : ∀ c : Dev nD, Iff (k0_cond27 c = 1#1) (HasUp c 2) := by decide +kernel
/-- Offset 95 in closed form on the devices whose round brings a block from below. -/
theorem off95_form : ∀ c : Dev nD, HasUp c 2 → k0_off95 c = ![256 * (up c 2).val, 0] := by decide +kernel
/-- Offset 96 in closed form on the devices whose round brings a block from below. -/
theorem off96_form : ∀ c : Dev nD, HasUp c 2 → k0_off96 c = ![256 * (up c 2).val, 0] := by decide +kernel
/-- Offset 97 in closed form on the devices whose round brings a block from below. -/
theorem off97_form : ∀ (c : Dev nD) (r : Fin 3), HasUp c 2 → k0_off97 c (BitVec.ofNat 32 (1 + r.val)) = ![(pc c + r.succ).val, (up c 2).val] := by decide +kernel
/-- Offset 98 in closed form on the devices whose round brings a block from below. -/
theorem off98_form : ∀ c : Dev nD, HasUp c 2 → k0_off98 c = ![(pc c).val, (up c 2).val] := by decide +kernel
/-- Offset 99 in closed form on the devices whose round brings a block from below. -/
theorem off99_form : ∀ c : Dev nD, HasUp c 2 → k0_off99 c = ![1024 * (up c 2).val + 256 * (pc c).val, 0] := by decide +kernel
/-- Offset 100 in closed form on the devices whose round brings a block from below. -/
theorem off100_form : ∀ (c : Dev nD) (r : Fin 3), HasUp c 2 → k0_off100 c (BitVec.ofNat 32 (1 + r.val)) = ![256 * (up c 2).val, 512 * (pc c + r.succ).val] := by decide +kernel
/-- Offset 101 in closed form on the devices whose round brings a block from below. -/
theorem off101_form : ∀ c : Dev nD, HasUp c 2 → k0_off101 c = ![256 * (up c 2).val, 512 * (pc c).val] := by decide +kernel
/-- Offset 102 in closed form on the devices whose round brings a block from below. -/
theorem off102_form : ∀ c : Dev nD, HasUp c 2 → k0_off102 c = ![1024 * (up c 2).val + 256 * (pc c).val, 0] := by decide +kernel
/-- The target of transfer 30 on the devices whose round brings a block from below. -/
theorem dev30_form : ∀ c : Dev nD, HasUp c 2 → k0_dev30 c = (mate c (1 : Fin 3).succ).val := by decide +kernel
/-- The target of transfer 31 on the devices whose round brings a block from below. -/
theorem dev31_form : ∀ c : Dev nD, HasUp c 2 → k0_dev31 c = (mate c (0 : Fin 3).succ).val := by decide +kernel
/-- The target of transfer 32 on the devices whose round brings a block from below. -/
theorem dev32_form : ∀ c : Dev nD, HasUp c 2 → k0_dev32 c = (mate c (2 : Fin 3).succ).val := by decide +kernel
/-- When condition 25 holds: a block comes from above. -/
theorem cond25_iff : ∀ c : Dev nD, Iff (k0_cond25 c = 1#1) (HasDn c 2) := by decide +kernel
/-- Offset 90 in closed form on the devices whose round brings a block from above. -/
theorem off90_form : ∀ c : Dev nD, HasDn c 2 → k0_off90 c = ![(dn c 2).val] := by decide +kernel
/-- Offset 91 in closed form on the devices whose round brings a block from above. -/
theorem off91_form : ∀ c : Dev nD, HasDn c 2 → k0_off91 c = ![256 * (dn c 2).val, 0] := by decide +kernel
/-- When condition 26 holds: a block comes from above and is sent on. -/
theorem cond26_iff : ∀ c : Dev nD, Iff (k0_cond26 c = 1#1) (HasDn c 2 ∧ ZV c 1 (dn c 2)) := by decide +kernel
/-- The target of transfer 29 on the devices that forward the block that came from above. -/
theorem dev29_form : ∀ c : Dev nD, HasDn c 2 ∧ ZV c 1 (dn c 2) → k0_dev29 c = (below c).val := by decide +kernel
/-- Offset 92 in closed form on the devices that forward the block that came from above. -/
theorem off92_form : ∀ c : Dev nD, HasDn c 2 ∧ ZV c 1 (dn c 2) → k0_off92 c = ![(1 : Fin 2).val, (dn c 2).val] := by decide +kernel
/-- Offset 93 in closed form on the devices that forward the block that came from above. -/
theorem off93_form : ∀ c : Dev nD, HasDn c 2 ∧ ZV c 1 (dn c 2) → k0_off93 c = ![(dn c 2).val] := by decide +kernel
/-- Offset 94 in closed form on the devices that forward the block that came from above. -/
theorem off94_form : ∀ c : Dev nD, HasDn c 2 ∧ ZV c 1 (dn c 2) → k0_off94 c = ![256 * (dn c 2).val, 0] := by decide +kernel
/-- When condition 28 holds: a block comes from above. -/
theorem cond28_iff : ∀ c : Dev nD, Iff (k0_cond28 c = 1#1) (HasDn c 2) := by decide +kernel
/-- Offset 103 in closed form on the devices whose round brings a block from above. -/
theorem off103_form : ∀ c : Dev nD, HasDn c 2 → k0_off103 c = ![256 * (dn c 2).val, 0] := by decide +kernel
/-- Offset 104 in closed form on the devices whose round brings a block from above. -/
theorem off104_form : ∀ c : Dev nD, HasDn c 2 → k0_off104 c = ![256 * (dn c 2).val, 0] := by decide +kernel
/-- Offset 105 in closed form on the devices whose round brings a block from above. -/
theorem off105_form : ∀ (c : Dev nD) (r : Fin 3), HasDn c 2 → k0_off105 c (BitVec.ofNat 32 (1 + r.val)) = ![(pc c + r.succ).val, (dn c 2).val] := by decide +kernel
/-- Offset 106 in closed form on the devices whose round brings a block from above. -/
theorem off106_form : ∀ c : Dev nD, HasDn c 2 → k0_off106 c = ![(pc c).val, (dn c 2).val] := by decide +kernel
/-- Offset 107 in closed form on the devices whose round brings a block from above. -/
theorem off107_form : ∀ c : Dev nD, HasDn c 2 → k0_off107 c = ![1024 * (dn c 2).val + 256 * (pc c).val, 0] := by decide +kernel
/-- Offset 108 in closed form on the devices whose round brings a block from above. -/
theorem off108_form : ∀ (c : Dev nD) (r : Fin 3), HasDn c 2 → k0_off108 c (BitVec.ofNat 32 (1 + r.val)) = ![256 * (dn c 2).val, 512 * (pc c + r.succ).val] := by decide +kernel
/-- Offset 109 in closed form on the devices whose round brings a block from above. -/
theorem off109_form : ∀ c : Dev nD, HasDn c 2 → k0_off109 c = ![256 * (dn c 2).val, 512 * (pc c).val] := by decide +kernel
/-- Offset 110 in closed form on the devices whose round brings a block from above. -/
theorem off110_form : ∀ c : Dev nD, HasDn c 2 → k0_off110 c = ![1024 * (dn c 2).val + 256 * (pc c).val, 0] := by decide +kernel
/-- The target of transfer 33 on the devices whose round brings a block from above. -/
theorem dev33_form : ∀ c : Dev nD, HasDn c 2 → k0_dev33 c = (mate c (1 : Fin 3).succ).val := by decide +kernel
/-- The target of transfer 34 on the devices whose round brings a block from above. -/
theorem dev34_form : ∀ c : Dev nD, HasDn c 2 → k0_dev34 c = (mate c (0 : Fin 3).succ).val := by decide +kernel
/-- The target of transfer 35 on the devices whose round brings a block from above. -/
theorem dev35_form : ∀ c : Dev nD, HasDn c 2 → k0_dev35 c = (mate c (2 : Fin 3).succ).val := by decide +kernel
/-- The target of transfer 1. -/
theorem dev1_form : ∀ c : Dev nD, k0_dev1 c = (mate c (0 : Fin 3).succ).val := by decide +kernel
/-- The target of transfer 2. -/
theorem dev2_form : ∀ c : Dev nD, k0_dev2 c = (mate c (1 : Fin 3).succ).val := by decide +kernel
/-- The target of transfer 3. -/
theorem dev3_form : ∀ c : Dev nD, k0_dev3 c = (mate c (2 : Fin 3).succ).val := by decide +kernel
/-- The target of transfer 4. -/
theorem dev4_form : ∀ c : Dev nD, k0_dev4 c = (above c).val := by decide +kernel
/-- The target of transfer 5. -/
theorem dev5_form : ∀ c : Dev nD, k0_dev5 c = (below c).val := by decide +kernel
/-- Offset 111 in closed form. -/
theorem off111_form : ∀ (c : Dev nD) (r : Fin 3), k0_off111 c (BitVec.ofNat 32 (1 + r.val)) = ![(pc c + r.succ).val, (0 : Fin 4).val] := by decide +kernel
/-- Offset 113 in closed form. -/
theorem off113_form : ∀ (c : Dev nD) (r : Fin 3), k0_off113 c (BitVec.ofNat 32 (1 + r.val)) = ![256 * (0 : Fin 4).val, 512 * (pc c + r.succ).val] := by decide +kernel
/-- Offset 115 in closed form. -/
theorem off115_form : ∀ (c : Dev nD) (r : Fin 3), k0_off115 c (BitVec.ofNat 32 (1 + r.val)) = ![(pc c + r.succ).val, (1 : Fin 4).val] := by decide +kernel
/-- Offset 116 in closed form. -/
theorem off116_form : ∀ (c : Dev nD) (r : Fin 3), k0_off116 c (BitVec.ofNat 32 (1 + r.val)) = ![256 * (1 : Fin 4).val, 512 * (pc c + r.succ).val] := by decide +kernel
/-- Offset 117 in closed form. -/
theorem off117_form : ∀ (c : Dev nD) (r : Fin 3), k0_off117 c (BitVec.ofNat 32 (1 + r.val)) = ![(pc c + r.succ).val, (2 : Fin 4).val] := by decide +kernel
/-- Offset 118 in closed form. -/
theorem off118_form : ∀ (c : Dev nD) (r : Fin 3), k0_off118 c (BitVec.ofNat 32 (1 + r.val)) = ![256 * (2 : Fin 4).val, 512 * (pc c + r.succ).val] := by decide +kernel
/-- Offset 119 in closed form. -/
theorem off119_form : ∀ (c : Dev nD) (r : Fin 3), k0_off119 c (BitVec.ofNat 32 (1 + r.val)) = ![(pc c + r.succ).val, (3 : Fin 4).val] := by decide +kernel
/-- Offset 120 in closed form. -/
theorem off120_form : ∀ (c : Dev nD) (r : Fin 3), k0_off120 c (BitVec.ofNat 32 (1 + r.val)) = ![256 * (3 : Fin 4).val, 512 * (pc c + r.succ).val] := by decide +kernel
/-- Offset 112 in closed form. -/
theorem off112_form : ∀ (c : Dev nD) (s : Fin 4) (r : Fin 3), k0_off112 c (BitVec.ofNat 32 (4 * s.val)) (BitVec.ofNat 32 (1 + r.val)) = ![1024 * s.val + 256 * (pc c + r.succ).val, 0] := by decide +kernel
/-- Offset 114 in closed form. -/
theorem off114_form : ∀ (c : Dev nD) (s : Fin 4) (r : Fin 3), k0_off114 c (BitVec.ofNat 32 (4 * s.val)) (BitVec.ofNat 32 (1 + r.val)) = ![1024 * s.val + 256 * (pc c + r.succ).val, 0] := by decide +kernel
/-- Offset 137 in closed form. -/
theorem off137_form : ∀ (c : Dev nD) (s : Fin 4), k0_off137 c (BitVec.ofNat 32 (4 * s.val)) = ![1024 * s.val + 256 * (pc c).val, 0] := by decide +kernel
/-- When condition 29 holds: the device sends the block. -/
theorem cond29_iff : ∀ c : Dev nD, Iff (k0_cond29 c = 1#1) (ZV c 0 (zc c)) := by decide +kernel
/-- Offset 121 in closed form on the devices that send the block. -/
theorem off121_form : ∀ c : Dev nD, ZV c 0 (zc c) → k0_off121 c = ![(0 : Fin 2).val, (zc c).val] := by decide +kernel
/-- Offset 122 in closed form on the devices that send the block. -/
theorem off122_form : ∀ c : Dev nD, ZV c 0 (zc c) → k0_off122 c = ![256 * (zc c).val, 0] := by decide +kernel
/-- When condition 30 holds: the device sends the block. -/
theorem cond30_iff : ∀ c : Dev nD, Iff (k0_cond30 c = 1#1) (ZV c 1 (zc c)) := by decide +kernel
/-- Offset 123 in closed form on the devices that send the block. -/
theorem off123_form : ∀ c : Dev nD, ZV c 1 (zc c) → k0_off123 c = ![(1 : Fin 2).val, (zc c).val] := by decide +kernel
/-- Offset 124 in closed form on the devices that send the block. -/
theorem off124_form : ∀ c : Dev nD, ZV c 1 (zc c) → k0_off124 c = ![256 * (zc c).val, 0] := by decide +kernel
/-- When condition 31 holds: a block comes from below and is sent on. -/
theorem cond31_iff : ∀ c : Dev nD, Iff (k0_cond31 c = 1#1) (HasUp c 0 ∧ ZV c 0 (up c 0)) := by decide +kernel
/-- Offset 125 in closed form on the devices that forward the block that came from below. -/
theorem off125_form : ∀ c : Dev nD, HasUp c 0 ∧ ZV c 0 (up c 0) → k0_off125 c = ![(0 : Fin 2).val, (up c 0).val] := by decide +kernel
/-- Offset 126 in closed form on the devices that forward the block that came from below. -/
theorem off126_form : ∀ c : Dev nD, HasUp c 0 ∧ ZV c 0 (up c 0) → k0_off126 c = ![256 * (up c 0).val, 0] := by decide +kernel
/-- When condition 32 holds: a block comes from above and is sent on. -/
theorem cond32_iff : ∀ c : Dev nD, Iff (k0_cond32 c = 1#1) (HasDn c 0 ∧ ZV c 1 (dn c 0)) := by decide +kernel
/-- Offset 127 in closed form on the devices that forward the block that came from above. -/
theorem off127_form : ∀ c : Dev nD, HasDn c 0 ∧ ZV c 1 (dn c 0) → k0_off127 c = ![(1 : Fin 2).val, (dn c 0).val] := by decide +kernel
/-- Offset 128 in closed form on the devices that forward the block that came from above. -/
theorem off128_form : ∀ c : Dev nD, HasDn c 0 ∧ ZV c 1 (dn c 0) → k0_off128 c = ![256 * (dn c 0).val, 0] := by decide +kernel
/-- When condition 33 holds: a block comes from below and is sent on. -/
theorem cond33_iff : ∀ c : Dev nD, Iff (k0_cond33 c = 1#1) (HasUp c 1 ∧ ZV c 0 (up c 1)) := by decide +kernel
/-- Offset 129 in closed form on the devices that forward the block that came from below. -/
theorem off129_form : ∀ c : Dev nD, HasUp c 1 ∧ ZV c 0 (up c 1) → k0_off129 c = ![(0 : Fin 2).val, (up c 1).val] := by decide +kernel
/-- Offset 130 in closed form on the devices that forward the block that came from below. -/
theorem off130_form : ∀ c : Dev nD, HasUp c 1 ∧ ZV c 0 (up c 1) → k0_off130 c = ![256 * (up c 1).val, 0] := by decide +kernel
/-- When condition 34 holds: a block comes from above and is sent on. -/
theorem cond34_iff : ∀ c : Dev nD, Iff (k0_cond34 c = 1#1) (HasDn c 1 ∧ ZV c 1 (dn c 1)) := by decide +kernel
/-- Offset 131 in closed form on the devices that forward the block that came from above. -/
theorem off131_form : ∀ c : Dev nD, HasDn c 1 ∧ ZV c 1 (dn c 1) → k0_off131 c = ![(1 : Fin 2).val, (dn c 1).val] := by decide +kernel
/-- Offset 132 in closed form on the devices that forward the block that came from above. -/
theorem off132_form : ∀ c : Dev nD, HasDn c 1 ∧ ZV c 1 (dn c 1) → k0_off132 c = ![256 * (dn c 1).val, 0] := by decide +kernel
/-- When condition 35 holds: a block comes from below and is sent on. -/
theorem cond35_iff : ∀ c : Dev nD, Iff (k0_cond35 c = 1#1) (HasUp c 2 ∧ ZV c 0 (up c 2)) := by decide +kernel
/-- Offset 133 in closed form on the devices that forward the block that came from below. -/
theorem off133_form : ∀ c : Dev nD, HasUp c 2 ∧ ZV c 0 (up c 2) → k0_off133 c = ![(0 : Fin 2).val, (up c 2).val] := by decide +kernel
/-- Offset 134 in closed form on the devices that forward the block that came from below. -/
theorem off134_form : ∀ c : Dev nD, HasUp c 2 ∧ ZV c 0 (up c 2) → k0_off134 c = ![256 * (up c 2).val, 0] := by decide +kernel
/-- When condition 36 holds: a block comes from above and is sent on. -/
theorem cond36_iff : ∀ c : Dev nD, Iff (k0_cond36 c = 1#1) (HasDn c 2 ∧ ZV c 1 (dn c 2)) := by decide +kernel
/-- Offset 135 in closed form on the devices that forward the block that came from above. -/
theorem off135_form : ∀ c : Dev nD, HasDn c 2 ∧ ZV c 1 (dn c 2) → k0_off135 c = ![(1 : Fin 2).val, (dn c 2).val] := by decide +kernel
/-- Offset 136 in closed form on the devices that forward the block that came from above. -/
theorem off136_form : ∀ c : Dev nD, HasDn c 2 ∧ ZV c 1 (dn c 2) → k0_off136 c = ![256 * (dn c 2).val, 0] := by decide +kernel

end Cert.Exchange

end
-- ==== Proof.Vals.lean ====
/-
What every buffer holds: the contents each block has once it is written, on every device, computed
from the memory at the launch.
-/
module

public import proofs.«01_k».proof.Proof.Forms

@[expose] public section

noncomputable section

namespace Cert.Exchange

open Cert.KernelIdeal Cert.KernelIdeal.Gen
open Idealize.ShloMosaic
open Idealize.ShloMosaic.TcCoe

set_option backward.proofsInPublic true

/-! ## The tilings -/

/-- The slots of the gathered `x` do not meet. -/
theorem xg_disj (s t : Fin 4) (h : s ≠ t) : Disjoint (xgR s).set (xgR t).set :=
  Rect.unit_disjoint 0 (by
    have := Fin.val_ne_of_ne h
    show 256 * s.val + 256 ≤ 256 * t.val ∨ 256 * t.val + 256 ≤ 256 * s.val
    omega)

/-- Every row of the gathered `x` is in a slot. -/
theorem xg_cov : (Finset.univ : Finset (Fin 4)).biUnion (fun s => (xgR s).set) = Finset.univ := by
  ext i
  simp only [Finset.mem_biUnion, Finset.mem_univ, true_and, iff_true]
  have h0 : (i 0).val < 1024 := (i 0).isLt
  have h1 : (i 1).val < 4096 := (i 1).isLt
  refine ⟨⟨(i 0).val / 256, by omega⟩, Rect.mem_set_unit.mpr (Fin.forall_fin_two.mpr ⟨?_, ?_⟩)⟩
  · show 256 * ((i 0).val / 256) ≤ (i 0).val ∧ (i 0).val < 256 * ((i 0).val / 256) + 256
    omega
  · show 0 ≤ (i 1).val ∧ (i 1).val < 0 + 4096
    omega

/-- The row slots of the results do not meet. -/
theorem ybRow_disj (s t : Fin 4) (h : s ≠ t) : Disjoint (ybRow s).set (ybRow t).set :=
  Rect.unit_disjoint 0 (by
    have := Fin.val_ne_of_ne h
    show 256 * s.val + 256 ≤ 256 * t.val ∨ 256 * t.val + 256 ≤ 256 * s.val
    omega)

/-- Every row of the results is in a row slot. -/
theorem ybRow_cov : (Finset.univ : Finset (Fin 4)).biUnion (fun s => (ybRow s).set) = Finset.univ := by
  ext i
  simp only [Finset.mem_biUnion, Finset.mem_univ, true_and, iff_true]
  have h0 : (i 0).val < 1024 := (i 0).isLt
  have h1 : (i 1).val < 2048 := (i 1).isLt
  refine ⟨⟨(i 0).val / 256, by omega⟩, Rect.mem_set_unit.mpr (Fin.forall_fin_two.mpr ⟨?_, ?_⟩)⟩
  · show 256 * ((i 0).val / 256) ≤ (i 0).val ∧ (i 0).val < 256 * ((i 0).val / 256) + 256
    omega
  · show 0 ≤ (i 1).val ∧ (i 1).val < 0 + 2048
    omega

/-- The blocks of the results before they are sent do not meet. -/
theorem yb_disj (a b : Fin 4 × Fin 4) (h : a ≠ b) : Disjoint (ybR a.1 a.2).set (ybR b.1 b.2).set := by
  by_cases h1 : a.1 = b.1
  · have h2 : a.2 ≠ b.2 := fun h2 => h (Prod.ext h1 h2)
    exact Rect.unit_disjoint 1 (by
      have := Fin.val_ne_of_ne h2
      show 512 * a.2.val + 512 ≤ 512 * b.2.val ∨ 512 * b.2.val + 512 ≤ 512 * a.2.val
      omega)
  · exact Rect.unit_disjoint 0 (by
      have := Fin.val_ne_of_ne h1
      show 256 * a.1.val + 256 ≤ 256 * b.1.val ∨ 256 * b.1.val + 256 ≤ 256 * a.1.val
      omega)

/-- Every element of the results is in a block. -/
theorem yb_cov : (Finset.univ : Finset (Fin 4 × Fin 4)).biUnion (fun a => (ybR a.1 a.2).set) = Finset.univ := by
  ext i
  simp only [Finset.mem_biUnion, Finset.mem_univ, true_and, iff_true]
  have h0 : (i 0).val < 1024 := (i 0).isLt
  have h1 : (i 1).val < 2048 := (i 1).isLt
  refine ⟨(⟨(i 0).val / 256, by omega⟩, ⟨(i 1).val / 512, by omega⟩), Rect.mem_set_unit.mpr (Fin.forall_fin_two.mpr ⟨?_, ?_⟩)⟩
  · show 256 * ((i 0).val / 256) ≤ (i 0).val ∧ (i 0).val < 256 * ((i 0).val / 256) + 256
    omega
  · show 512 * ((i 1).val / 512) ≤ (i 1).val ∧ (i 1).val < 512 * ((i 1).val / 512) + 512
    omega

/-- The blocks of result rows do not meet. -/
theorem yr_disj (a b : Fin 4 × Fin 4) (h : a ≠ b) : Disjoint (yrR a.1 a.2).set (yrR b.1 b.2).set :=
  Rect.unit_disjoint 0 (by
    have : a.1.val ≠ b.1.val ∨ a.2.val ≠ b.2.val := by
      by_contra hc
      rw [not_or, not_not, not_not] at hc
      exact h (Prod.ext (Fin.ext hc.1) (Fin.ext hc.2))
    show 1024 * a.1.val + 256 * a.2.val + 256 ≤ 1024 * b.1.val + 256 * b.2.val ∨ 1024 * b.1.val + 256 * b.2.val + 256 ≤ 1024 * a.1.val + 256 * a.2.val
    omega)

/-- Every result row is in a block. -/
theorem yr_cov : (Finset.univ : Finset (Fin 4 × Fin 4)).biUnion (fun a => (yrR a.1 a.2).set) = Finset.univ := by
  ext i
  simp only [Finset.mem_biUnion, Finset.mem_univ, true_and, iff_true]
  have h0 : (i 0).val < 4096 := (i 0).isLt
  have h1 : (i 1).val < 512 := (i 1).isLt
  refine ⟨(⟨(i 0).val / 1024, by omega⟩, ⟨(i 0).val % 1024 / 256, by omega⟩), Rect.mem_set_unit.mpr (Fin.forall_fin_two.mpr ⟨?_, ?_⟩)⟩
  · show 1024 * ((i 0).val / 1024) + 256 * ((i 0).val % 1024 / 256) ≤ (i 0).val ∧ (i 0).val < 1024 * ((i 0).val / 1024) + 256 * ((i 0).val % 1024 / 256) + 256
    omega
  · show 0 ≤ (i 1).val ∧ (i 1).val < 0 + 512
    omega

/-- The column chunks of the narrowed weights do not meet. -/
theorem w8_disj (s t : Fin 4) (h : s ≠ t) : Disjoint (w8R s).set (w8R t).set :=
  Rect.unit_disjoint 1 (by
    have := Fin.val_ne_of_ne h
    show 512 * s.val + 512 ≤ 512 * t.val ∨ 512 * t.val + 512 ≤ 512 * s.val
    omega)

/-- Every column of the narrowed weights is in a chunk. -/
theorem w8_cov : (Finset.univ : Finset (Fin 4)).biUnion (fun s => (w8R s).set) = Finset.univ := by
  ext i
  simp only [Finset.mem_biUnion, Finset.mem_univ, true_and, iff_true]
  have h0 : (i 0).val < 4096 := (i 0).isLt
  have h1 : (i 1).val < 2048 := (i 1).isLt
  refine ⟨⟨(i 1).val / 512, by omega⟩, Rect.mem_set_unit.mpr (Fin.forall_fin_two.mpr ⟨?_, ?_⟩)⟩
  · show 0 ≤ (i 0).val ∧ (i 0).val < 0 + 4096
    omega
  · show 512 * ((i 1).val / 512) ≤ (i 1).val ∧ (i 1).val < 512 * ((i 1).val / 512) + 512
    omega

/-- The two staging slots do not meet. -/
theorem st_disj (s t : Fin 2) (h : s ≠ t) : Disjoint (stR s).set (stR t).set :=
  Rect.unit_disjoint 0 (by
    have := Fin.val_ne_of_ne h
    show s.val + 1 ≤ t.val ∨ t.val + 1 ≤ s.val
    omega)

/-- Every element of the staging buffer is in a slot. -/
theorem st_cov : (Finset.univ : Finset (Fin 2)).biUnion (fun s => (stR s).set) = Finset.univ := by
  ext i
  simp only [Finset.mem_biUnion, Finset.mem_univ, true_and, iff_true]
  have h0 : (i 0).val < 2 := (i 0).isLt
  have h1 : (i 1).val < 4096 := (i 1).isLt
  have h2 : (i 2).val < 512 := (i 2).isLt
  refine ⟨⟨(i 0).val, h0⟩, Rect.mem_set_unit.mpr ?_⟩
  intro a
  fin_cases a
  · show (i 0).val ≤ (i 0).val ∧ (i 0).val < (i 0).val + 1
    omega
  · show 0 ≤ (i 1).val ∧ (i 1).val < 0 + 4096
    omega
  · show 0 ≤ (i 2).val ∧ (i 2).val < 0 + 512
    omega

/-- Column block `q` of a row slot. -/
theorem inb_col (q : Fin 4) : ∀ a, (![0, 512 * q.val] : Fin 2 → ℕ) a + S256x512.size a ≤ S256x2048.size a := by revert q; decide +kernel
/-- Column block `q` of a row slot. -/
abbrev colR (q : Fin 4) : Rect S256x2048 := Rect.unit (s := S256x2048) ![0, 512 * q.val] S256x512.size (inb_col q)

/-- A block of the results is the column block of its row slot. -/
theorem yb_emb (s q : Fin 4) (j : S256x512.Idx) : (ybR s q).emb j = (ybRow s).emb ((colR q).emb j) := by
  funext a
  apply Fin.ext
  rw [Rect.emb_apply, Rect.emb_apply, Rect.emb_apply]
  fin_cases a
  · show 256 * s.val + 1 * (j 0).val = 256 * s.val + 1 * (0 + 1 * (j 0).val)
    omega
  · show 512 * q.val + 1 * (j 1).val = 0 + 1 * (512 * q.val + 1 * (j 1).val)
    omega

/-! ## The contents -/

variable {F : FTy → Type} [FloatOps F]
variable (m : (ℓ : Loc nD τ sig) → Buf (Elt F) ℓ)

/-- Column block `q` of a row of results. -/
def cols (q : Fin 4) (X : Vec F S256x2048 .bf16) : Vec F S256x512 .bf16 := fun j => X ((colR q).emb j)

/-- Device `d`'s block of `x`. -/
def xA (d : Dev nD) : Vec F S256x4096 .f32 :=
  (win0_0.blk (0 : Fin 1)).view.read (Elt F) (m ((d : Thread nD τ).loc main_arg0))
/-- Device `d`'s scale of `x`, as it is staged. -/
def scA (d : Dev nD) : Vec F S1 .f32 :=
  (win0_1.blk (0 : Fin 1)).view.read (Elt F) (m ((d : Thread nD τ).loc main_arg2))
/-- Device `d`'s scale of the weights, as it is staged. -/
def scB (d : Dev nD) : Vec F S1 .f32 :=
  (win0_2.blk (0 : Fin 1)).view.read (Elt F) (m ((d : Thread nD τ).loc main_arg3))
/-- The weights on device `d`. -/
def wA (d : Dev nD) : Vec F S4096x8192 .f32 := m ((d : Thread nD τ).loc main_arg1)

/-- The one index of a scale. -/
abbrev sIx : (Rect.unit (s := S1) ![0] S1.size inb_S1_S1_0).shape.Idx := Shape.Idx.first (numel1_S1.symm ▸ Nat.one_pos)

/-- The product of the two scales on device `c`. -/
def sc (c : Dev nD) : F .f32 :=
  k0_pay13 (scA m c ((Rect.unit (s := S1) ![0] S1.size inb_S1_S1_0).emb sIx)) (scB m c ((Rect.unit (s := S1) ![0] S1.size inb_S1_S1_0).emb sIx))

/-- Device `d`'s block of `x`, narrowed: what travels. -/
def XB (d : Dev nD) : Vec F S256x4096 .fp8e4m3 := k0_pay14 (xA m d)

/-- Column chunk `q` of the weights of device `c`'s plane. -/
def wC (c : Dev nD) (q : Fin 4) : Vec F S4096x512 .f32 := fun j => wA m c ((wR (zc c) q).emb j)
/-- The same chunk as a load of its staging slot reads it. -/
def wL (c : Dev nD) (q : Fin 4) : Vec F S1x4096x512 .f32 :=
  fun j => wC m c q (Shape.reshapeEquiv squeezes_S1x4096x512_S4096x512.numel_eq.symm j)
/-- The same chunk, narrowed. -/
def wB (c : Dev nD) (q : Fin 4) : Vec F S4096x512 .fp8e4m3 := k0_pay15 (wL m c q)
/-- The weights of device `c`'s plane, narrowed. -/
def W8 (c : Dev nD) : Vec F S4096x2048 .fp8e4m3 := Rect.glue w8R w8_cov (fun q => wB m c q)

/-- The result block of device `c`'s own rows of `x` and chunk `q`. -/
def CH (c : Dev nD) (q : Fin 4) : Vec F S256x512 .f32 := k0_pay16 (sc m c) (XB m c) (wB m c q)
/-- The same block, narrowed: what is sent. -/
def CHb (c : Dev nD) (q : Fin 4) : Vec F S256x512 .bf16 := k0_pay18 (k0_pay17 (sc m c) (XB m c) (wB m c q))
/-- The results of the rows in slot `s` on device `c`. -/
def ROW (c : Dev nD) (s : Fin 4) : Vec F S256x2048 .bf16 := k0_pay1 (sc m c) (XB m (dev s (pc c))) (W8 m c)
/-- The result block of row slot `s` and place `q` that device `c` computes. -/
def YB (c : Dev nD) (s q : Fin 4) : Vec F S256x512 .bf16 := if s = zc c then CHb m c q else cols q (ROW m c s)

/-- The result block of the rows of device `(s, q)` on device `c`. -/
def OB (c : Dev nD) (s q : Fin 4) : Vec F S256x512 .f32 :=
  if q = pc c then (if s = zc c then CH m c q else k0_pay2 (YB m c s q)) else k0_pay29 (YB m (dev (zc c) q) s (pc c))
/-- The result on device `c`. -/
def OUT (c : Dev nD) : Vec F S4096x512 .f32 :=
  Rect.glue (fun a : Fin 4 × Fin 4 => yrR a.1 a.2) yr_cov (fun a => OB m c a.1 a.2)

/-- A chunk of the narrowed weights is the chunk that was stored there. -/
theorem W8_emb (c : Dev nD) (q : Fin 4) (j : S4096x512.Idx) : W8 m c ((w8R q).emb j) = wB m c q j :=
  Rect.glue_emb w8R w8_cov w8_disj _ q j
/-- A block of the result is the block that was stored there. -/
theorem OUT_emb (c : Dev nD) (s q : Fin 4) (j : S256x512.Idx) : OUT m c ((yrR s q).emb j) = OB m c s q j :=
  Rect.glue_emb (fun a : Fin 4 × Fin 4 => yrR a.1 a.2) yr_cov yr_disj _ (s, q) j

/-! ## The printed payloads are these -/

/-- The narrowing of a later chunk is that of the first. -/
theorem pay19_eq : (k0_pay19 (F := F)) = k0_pay15 := rfl
/-- The narrowing of a later chunk is that of the first. -/
theorem pay22_eq : (k0_pay22 (F := F)) = k0_pay15 := rfl
/-- The narrowing of a later chunk is that of the first. -/
theorem pay26_eq (v : Vec F S1x4096x512 .f32) : k0_pay26 (k0_pay25 v) = k0_pay15 v := rfl
/-- The product of a later chunk is that of the first. -/
theorem pay20_eq : (k0_pay20 (F := F)) = k0_pay16 := rfl
/-- The product of a later chunk is that of the first. -/
theorem pay23_eq : (k0_pay23 (F := F)) = k0_pay16 := rfl
/-- The product of a later chunk is that of the first. -/
theorem pay27_eq : (k0_pay27 (F := F)) = k0_pay16 := rfl
/-- The narrowed product of a later chunk is that of the first. -/
theorem pay21_eq (a : F .f32) (b : Vec F S256x4096 .fp8e4m3) (w : Vec F S4096x512 .fp8e4m3) : k0_pay21 a b w = k0_pay18 (k0_pay17 a b w) := rfl
/-- The narrowed product of a later chunk is that of the first. -/
theorem pay24_eq (a : F .f32) (b : Vec F S256x4096 .fp8e4m3) (w : Vec F S4096x512 .fp8e4m3) : k0_pay24 a b w = k0_pay18 (k0_pay17 a b w) := rfl
/-- The narrowed product of a later chunk is that of the first. -/
theorem pay28_eq (a : F .f32) (b : Vec F S256x4096 .fp8e4m3) (w : Vec F S4096x512 .fp8e4m3) : k0_pay28 a b w = k0_pay18 (k0_pay17 a b w) := rfl

end Cert.Exchange

end
-- ==== Proof.Sched.lean ====
/-
The protocol: who pays which semaphore, how much, in which order, and what the units hand over.
-/
module

public import proofs.«01_k».proof.Proof.Vals

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

/-! ## The ghost state -/

/-- The ghost state of the schedule's rounds. -/
abbrev UB : Type := URounds (GSem nD τ sig) (Fin 5)
/-- The ghost state of the call's pipeline and of the schedule. -/
abbrev UU : Type := UR sig nD τ × UB

local notation "𝕄" => MT nD τ sig Unit (Elt F) ℕ UU ℕ

/-- Where the pipeline's ghost state lies in the whole. -/
abbrev EP : Emb (UR sig nD τ) (MT nD τ sig Unit (Elt F) ℕ UU ℕ) := embL
/-- Where the schedule's ghost state lies in the whole. -/
abbrev ER : Emb UB (MT nD τ sig Unit (Elt F) ℕ UU ℕ) := embR
/-- No loop needs a variant. -/
abbrev 𝒱₀ : Variants := Variants.none

variable (m : (ℓ : Loc nD τ sig) → Buf (Elt F) ℓ)

/-- Share `q` of the block `M` on device `c`, holding `X`. -/
abbrev blk (c : Dev nD) {sp : Space} {s : Shape} {e : EltTy} (M : Memref sig .tc sp s e) (q : PosShare TreeShare) (X : Vec F s e) : sProp 𝕄 :=
  owns (c : Thread nD τ) M q X
/-- The block `M` on device `c`, holding anything. -/
abbrev blkE (c : Dev nD) {sp : Space} {s : Shape} {e : EltTy} (M : Memref sig .tc sp s e) : sProp 𝕄 :=
  iprop(∃ X : Vec F s e, blk c M fullShare X)

/-- Cell `k` of device `c`. -/
abbrev cell (c : Dev nD) (k : CK) : GSem nD τ sig := ((c : Thread nD τ), csem k)

/-! ## The schedule -/

/-- The credit of a cell: one unit per handshake, a block's credit per copy. -/
def amt : CK → ℕ
  | .bar => 1
  | .ws _ => (stSq 0).view.dmaCredit
  | .zs _ _ => (xgV 0).view.dmaCredit
  | .zr _ => (xgV 0).view.dmaCredit
  | .ys _ _ => (yrV 0 0).view.dmaCredit
  | .yr _ _ => (yrV 0 0).view.dmaCredit

/-- Every duty has a positive amount. -/
theorem amt_pos (k : CK) : 0 < amt k := by
  cases k with
  | bar => exact Nat.one_pos
  | ws i => exact View.dmaCredit_pos _ (by decide)
  | zs d s => exact View.dmaCredit_pos _ (by decide)
  | zr s => exact View.dmaCredit_pos _ (by decide)
  | ys q s => exact View.dmaCredit_pos _ (by decide)
  | yr q s => exact View.dmaCredit_pos _ (by decide)

/-- The cells of device `c` that are ever used. -/
def valid (c : Dev nD) : CK → Prop
  | .bar => True
  | .ws _ => True
  | .zs d s => ZV c d s
  | .zr s => s ≠ zc c
  | .ys q _ => q ≠ pc c
  | .yr q _ => q ≠ pc c

instance (c : Dev nD) (k : CK) : Decidable (valid c k) := by
  cases k <;> unfold valid <;> infer_instance

/-- The number of rounds of a cell: two copies into each staging slot, one round of everything else. -/
def rounds : CK → ℕ
  | .ws _ => 2
  | _ => 1

/-- Every counter has a round. -/
theorem rounds_pos (k : CK) : 0 < rounds k := by cases k <;> exact Nat.succ_pos _

/-- The duties of round `r` of a cell: five devices sign the handshake, one copy fills a round of any other. -/
def dut (c : Dev nD) (k : CK) (r : ℕ) : Finset (Fin 5) :=
  if valid c k ∧ r < rounds k then (if k = .bar then Finset.univ else {0}) else ∅

/-- The chunk that round `r` of staging slot `i` brings. -/
def chk (r : ℕ) (i : Fin 2) : Fin 4 := ⟨(2 * r + i.val) % 4, Nat.mod_lt _ (by decide)⟩

/-- The share of a slot of the gathered `x` that is lent to the copy of direction `d`. -/
def zsh (c : Dev nD) (s : Fin 4) (d : Fin 2) : PosShare TreeShare :=
  if s = zc c then (if d = 0 then fullShare.right.left else fullShare.right.right) else fullShare.right

/-- The neighbour in direction `d`. -/
def nb (d : Fin 2) (c : Dev nD) : Dev nD := if d = 0 then above c else below c

/-- What the handshake hands device `c`, from its `j`-th partner: the blocks of that partner's buffers that `c` fills. -/
def barPay (c : Dev nD) (j : Fin 5) : sProp 𝕄 :=
  match j with
  | 0 => bigSep Finset.univ fun s : Fin 4 => blkE (mate c 1) (yrV s (pc c))
  | 1 => bigSep Finset.univ fun s : Fin 4 => blkE (mate c 2) (yrV s (pc c))
  | 2 => bigSep Finset.univ fun s : Fin 4 => blkE (mate c 3) (yrV s (pc c))
  | 3 => bigSep Finset.univ fun s : Fin 4 => if ZV c 0 s then blkE (nb 0 c) (xgV s) else iprop(emp)
  | 4 => bigSep Finset.univ fun s : Fin 4 => if ZV c 1 s then blkE (nb 1 c) (xgV s) else iprop(emp)

/-- What the units of a cell hand to its owner. -/
def pay (c : Dev nD) (k : CK) (r : ℕ) (j : Fin 5) : sProp 𝕄 :=
  match k with
  | .bar => barPay c j
  | .ws i => blk c (stSq i) fullShare (wC m c (chk r i))
  | .zs d s => blk c (xgV s) (zsh c s d) (XB m (dev s (pc c)))
  | .zr s => blk c (xgV s) fullShare (XB m (dev s (pc c)))
  | .ys q s => blk c (ybV s q) fullShare (YB m c s q)
  | .yr q s => blk c (yrV s q) fullShare (YB m (dev (zc c) q) s (pc c))

omit [FloatOps F] in
instance barPay_storable (c : Dev nD) (j : Fin 5) : BI.Storable (upEmb : UEmb _ 𝕄) (barPay (F := F) c j) := by
  have h : ∀ (d : Fin 2) (s : Fin 4), BI.Storable (upEmb : UEmb _ 𝕄) (if ZV c d s then blkE (F := F) (nb d c) (xgV s) else iprop(emp)) := by
    intro d s; split <;> infer_instance
  unfold barPay
  split <;> infer_instance

instance pay_storable (c : Dev nD) (k : CK) (r : ℕ) (j : Fin 5) : BI.Storable (upEmb : UEmb _ 𝕄) (pay m c k r j) := by
  unfold pay
  split <;> infer_instance

/-- The cell a semaphore is. -/
def ckOf (sm : SemLoc sig) : Option CK := open Classical in if h : ∃ k, csem k = sm then some h.choose else none

/-- A counter is recovered from its semaphore. -/
theorem ckOf_csem (k : CK) : ckOf (csem k) = some k := by
  have h : ∃ k', csem k' = csem k := ⟨k, rfl⟩
  unfold ckOf
  rw [dif_pos h]
  exact congrArg some (csem_inj h.choose_spec)

/-- The protocol. -/
def rd : Rounds.Schedule (GSem nD τ sig) (Fin 5) 𝕄 where
  duties g r := match ckOf g.2 with | some k => dut g.1.1 k r | none => ∅
  unitless _ := False
  amount g _ _ := match ckOf g.2 with | some k => amt k | none => 1
  payload g r d := match ckOf g.2 with | some k => pay m g.1.1 k r d | none => iprop(emp)
  amount_pos g _ _ _ := by
    split
    · exact amt_pos _
    · exact Nat.one_pos

instance rd_storable (g : GSem nD τ sig) (r : ℕ) (d : Fin 5) : BI.Storable (upEmb : UEmb _ 𝕄) ((rd m).payload g r d) := by
  show BI.Storable upEmb (match ckOf g.2 with | some k => pay m g.1.1 k r d | none => iprop(emp))
  split <;> infer_instance

section Facts
variable (c : Dev nD) (k : CK)

/-- The duties of a counter's round. -/
theorem rd_duties (r : ℕ) : (rd m).duties (cell c k) r = dut c k r := by
  show (match ckOf (csem k) with | some k => dut c k r | none => ∅) = _
  rw [ckOf_csem]
/-- The amount of a duty. -/
theorem rd_amount (r : ℕ) (d : Fin 5) : (rd m).amount (cell c k) r d = amt k := by
  show (match ckOf (csem k) with | some k => amt k | none => 1) = _
  rw [ckOf_csem]
/-- The contents that a duty hands over. -/
theorem rd_payload (r : ℕ) (d : Fin 5) : (rd m).payload (cell c k) r d = pay m c k r d := by
  show (match ckOf (csem k) with | some k => pay m c k r d | none => iprop(emp)) = _
  rw [ckOf_csem]

/-- One duty per round of a copy's cell. -/
theorem dut_one (hk : k ≠ .bar) (hv : valid c k) {r : ℕ} (hr : r < rounds k) : dut c k r = {0} := by
  unfold dut; rw [if_pos ⟨hv, hr⟩, if_neg hk]
/-- Nothing is due after the last round. -/
theorem dut_end {r : ℕ} (hr : rounds k ≤ r) : dut c k r = ∅ := by
  unfold dut; rw [if_neg fun h => by omega]
/-- Nothing is ever due at an unused cell. -/
theorem dut_invalid (hv : ¬ valid c k) (r : ℕ) : dut c k r = ∅ := by
  unfold dut; rw [if_neg fun h => hv h.1]
/-- The handshake has five duties. -/
theorem dut_bar : dut c .bar 0 = Finset.univ := rfl

/-- A used counter waits for the amount of its one duty. -/
theorem rd_expect (hk : k ≠ .bar) (hv : valid c k) {r : ℕ} (hr : r < rounds k) : (rd m).expect (cell c k) r = amt k := by
  unfold Schedule.expect Schedule.amountOf; rw [rd_duties, dut_one c k hk hv hr, Finset.sum_singleton, rd_amount]
/-- The handshake waits for five units. -/
theorem rd_expect_bar : (rd m).expect (cell c .bar) 0 = 5 := by
  unfold Schedule.expect Schedule.amountOf
  rw [rd_duties, dut_bar, Finset.sum_congr rfl fun d _ => rd_amount m c .bar 0 d, Finset.sum_const]
  rfl
/-- All of a used counter's round is its one duty's contents. -/
theorem rd_rest (hk : k ≠ .bar) (hv : valid c k) {r : ℕ} (hr : r < rounds k) :
    bigSep ((rd m).duties (cell c k) r \ ∅) (fun d => (rd m).payload (cell c k) r d) = pay m c k r 0 := by
  rw [Finset.sdiff_empty, rd_duties, dut_one c k hk hv hr, bigSep_singleton, rd_payload]
/-- All of the handshake's round is its five duties' contents. -/
theorem rd_rest_bar :
    bigSep ((rd m).duties (cell c .bar) 0 \ ∅) (fun d => (rd m).payload (cell c .bar) 0 d) = bigSep Finset.univ (fun j => barPay c j) := by
  rw [Finset.sdiff_empty, rd_duties, dut_bar]
  exact bigSep_congr fun j _ => rd_payload m c .bar 0 j

end Facts

/-! ## The levels, and what a device still owes -/

/-- Local copies lowest, then the handshake, then the slots by the distance they travel, then the results. -/
def lvk (c : Dev nD) : CK → ℕ
  | .bar => 1
  | .ws _ => 0
  | .zs _ _ => 0
  | .zr s => 1 + ((zc c).val - s.val) + (s.val - (zc c).val)
  | .ys _ _ => 0
  | .yr _ _ => 5

/-- Every counter of a tensor core has one level. -/
def L (g : GSem nD τ sig) : Finset Unit := if g.1.2 = .tc then {()} else ∅
/-- The level of a counter. -/
def lv (g : GSem nD τ sig) (_ : Unit) : ℕ := match ckOf g.2 with | some k => lvk g.1.1 k | none => 0

/-- Other cores' semaphores have no level. -/
theorem L_of_ne (g : GSem nD τ sig) (h : g.1.2 ≠ .tc) : L g = ∅ := if_neg h
/-- A tensor core's semaphores have the one level. -/
theorem L_tc (c : Dev nD) (sm : SemLoc sig) : L ((c : Thread nD τ), sm) = {()} := if_pos rfl
/-- The level of a counter of the schedule. -/
theorem lv_cell (c : Dev nD) (k : CK) (u : Unit) : lv (cell c k) u = lvk c k := by
  show (match ckOf (csem k) with | some k => lvk c k | none => 0) = _
  rw [ckOf_csem]

/-- The tally of a list of cells, each to be paid once. -/
def tal : List (Dev nD × CK) → CellTallies nD τ sig Unit
  | [] => 0
  | x :: l => tal l + tallyAt (cell x.1 x.2) () (amt x.2)

/-- The tally of two lists together. -/
theorem tal_append (l l' : List (Dev nD × CK)) : tal (l ++ l') = tal l + tal l' := by
  induction l with
  | nil => exact (zero_add _).symm
  | cons x l ih => show tal (l ++ l') + _ = tal l + _ + _; rw [ih]; exact add_right_comm _ _ _

/-- The tally does not depend on the order. -/
theorem tal_perm {l l' : List (Dev nD × CK)} (h : l.Perm l') : tal l = tal l' := by
  induction h with
  | nil => rfl
  | cons x _ ih => show tal _ + _ = tal _ + _; rw [ih]
  | swap x y l => exact add_right_comm _ _ _
  | trans _ _ h1 h2 => exact Eq.trans h1 h2

/-- Only listed cells are owed anything. -/
theorem tal_pos {l : List (Dev nD × CK)} {g : GSem nD τ sig} {u : Unit} (h : tal l g u ≠ 0) : ∃ x ∈ l, g = cell x.1 x.2 := by
  induction l with
  | nil => exact absurd rfl h
  | cons x l ih =>
    by_cases hx : g = cell x.1 x.2
    · exact ⟨x, List.mem_cons_self, hx⟩
    · have h' : tal l g u + tallyAt (cell x.1 x.2) () (amt x.2) g u ≠ 0 := h
      rw [tallyAt_apply, if_neg (fun hc => hx hc.1), add_zero] at h'
      obtain ⟨y, hy, e⟩ := ih h'
      exact ⟨y, List.mem_cons_of_mem _ hy, e⟩

/-- Device `c` still owes the cells of `l`. -/
def owesL (c : Dev nD) (l : List (Dev nD × CK)) : sProp 𝕄 := iprop(∃ W, owes (c : Thread nD τ) (tal l) W)

omit [FloatOps F] in
/-- A device may wait at a level below everything it still owes. -/
theorem mayWait (c : Dev nD) (sm : SemLoc sig) (n : ℕ) (hn : lv ((c : Thread nD τ), sm) () = n) (l : List (Dev nD × CK)) (h : ∀ x ∈ l, n < lvk x.1 x.2) :
    (levAts L lv : sProp 𝕄) ⊢ MayWait (c : Thread nD τ) sm () (tal l) :=
  Pipeline.mayWait_of_levAts (by rw [L_tc]; exact Finset.mem_singleton_self _) fun g i hg => by
    obtain ⟨x, hx, rfl⟩ := tal_pos (Nat.pos_iff_ne_zero.mp hg)
    refine ⟨by rw [L_tc]; exact Finset.mem_singleton_self _, ?_⟩
    rw [lv_cell, hn]
    exact h x hx

/-- The handshake: three mates, the neighbour above, the neighbour below. -/
def segB (c : Dev nD) : List (Dev nD × CK) := [(mate c 1, .bar), (mate c 2, .bar), (mate c 3, .bar), (above c, .bar), (below c, .bar)]
/-- Slot `s` sent on in direction `d`. -/
def segZ (c : Dev nD) (d : Fin 2) (s : Fin 4) : List (Dev nD × CK) := if ZV c d s then [(nb d c, .zr s)] else []
/-- The result block of the own rows sent to place `q`. -/
def segH (c : Dev nD) (q : Fin 4) : List (Dev nD × CK) := if pc c ≠ q then [(dev (zc c) q, .yr (pc c) (zc c))] else []
/-- The result blocks of slot `s` sent to the three mates. -/
def segM (c : Dev nD) (s : Fin 4) : List (Dev nD × CK) := [(mate c 2, .yr (pc c) s), (mate c 1, .yr (pc c) s), (mate c 3, .yr (pc c) s)]

/-- The slot that arrives in direction `d` at step `r`. -/
def slot (c : Dev nD) (d : Fin 2) (r : Fin 3) : Fin 4 := if d = 0 then up c r else dn c r
/-- A slot arrives in direction `d` at step `r`. -/
abbrev Has (c : Dev nD) (d : Fin 2) (r : Fin 3) : Prop := (d = 0 ∧ HasUp c r) ∨ (d = 1 ∧ HasDn c r)

/-- What is owed from step `r`'s slots on, in program order, before `l`. -/
def segS (c : Dev nD) (r : Fin 3) (l : List (Dev nD × CK)) : List (Dev nD × CK) :=
  (if Has c 0 r then segZ c 0 (slot c 0 r) else []) ++ ((if Has c 1 r then segZ c 1 (slot c 1 r) else [])
    ++ ((if Has c 0 r then segM c (slot c 0 r) else []) ++ ((if Has c 1 r then segM c (slot c 1 r) else []) ++ l)))

/-- What is owed once the own rows are done. -/
def owed3 (c : Dev nD) : List (Dev nD × CK) := segS c 0 (segS c 1 (segS c 2 []))
/-- What is owed after the handshake. -/
def owed1 (c : Dev nD) : List (Dev nD × CK) :=
  segZ c 0 (zc c) ++ (segZ c 1 (zc c) ++ (segH c 0 ++ (segH c 1 ++ (segH c 2 ++ (segH c 3 ++ owed3 c)))))
/-- All that a device owes. -/
def owed0 (c : Dev nD) : List (Dev nD × CK) := segB c ++ owed1 c

/-- All that a device is paid. -/
def paid (c : Dev nD) : List (Dev nD × CK) :=
  [(c, .bar), (c, .bar), (c, .bar), (c, .bar), (c, .bar)]
    ++ ([0, 1, 2, 3].flatMap fun s : Fin 4 => if s ≠ zc c then [(c, CK.zr s)] else [])
    ++ ([0, 1, 2, 3].flatMap fun s : Fin 4 => [1, 2, 3].flatMap fun k : Fin 4 => [(c, CK.yr (pc c + k) s)])

/-- What is owed for the sends of a block of `x`. -/
theorem mem_segZ {c : Dev nD} {d : Fin 2} {s : Fin 4} {x : Dev nD × CK} (h : x ∈ segZ c d s) : ZV c d s ∧ x = (nb d c, .zr s) := by
  unfold segZ at h
  by_cases hv : ZV c d s
  · rw [if_pos hv] at h; exact ⟨hv, List.mem_singleton.mp h⟩
  · rw [if_neg hv] at h; exact absurd h List.not_mem_nil

/-- The results are owed at the top level. -/
theorem lev_segM {c : Dev nD} {s : Fin 4} {x : Dev nD × CK} (h : x ∈ segM c s) : lvk x.1 x.2 = 5 := by
  unfold segM at h
  rcases List.mem_cons.mp h with rfl | h
  · rfl
  rcases List.mem_cons.mp h with rfl | h
  · rfl
  rcases List.mem_singleton.mp h with rfl
  rfl
/-- The sends of a device's own result blocks are at level five. -/
theorem lev_segH {c : Dev nD} {q : Fin 4} {x : Dev nD × CK} (h : x ∈ segH c q) : lvk x.1 x.2 = 5 := by
  unfold segH at h
  split at h
  · rcases List.mem_singleton.mp h with rfl; rfl
  · exact absurd h List.not_mem_nil

/-- A member of a list under a condition. -/
theorem mem_if {α : Type} {P : Prop} [Decidable P] {l : List α} {x : α} (h : x ∈ (if P then l else [])) : P ∧ x ∈ l := by
  split at h
  · exact ⟨‹_›, h⟩
  · exact absurd h List.not_mem_nil

/-- A level below a step's own slots, below the top and below what follows is below all that is owed from that step on. -/
theorem lev_segS {c : Dev nD} {r : Fin 3} {l : List (Dev nD × CK)} {n : ℕ}
    (h : ∀ d, Has c d r → ZV c d (slot c d r) → n < lvk (nb d c) (.zr (slot c d r))) (h5 : n < 5) (hl : ∀ x ∈ l, n < lvk x.1 x.2) :
    ∀ x ∈ segS c r l, n < lvk x.1 x.2 := by
  intro x hx
  unfold segS at hx
  simp only [List.mem_append] at hx
  rcases hx with hx | hx | hx | hx | hx
  · obtain ⟨hP, hx⟩ := mem_if hx; obtain ⟨hv, rfl⟩ := mem_segZ hx; exact h 0 hP hv
  · obtain ⟨hP, hx⟩ := mem_if hx; obtain ⟨hv, rfl⟩ := mem_segZ hx; exact h 1 hP hv
  · rw [lev_segM (mem_if hx).2]; exact h5
  · rw [lev_segM (mem_if hx).2]; exact h5
  · exact hl x hx

/-- A slot that is sent on lies above the slots that arrived no later. -/
theorem lev_slot : ∀ (c : Dev nD) (d d' : Fin 2) (r r' : Fin 3), r ≤ r' → Has c d r → Has c d' r' → ZV c d' (slot c d' r') →
    lvk c (.zr (slot c d r)) < lvk (nb d' c) (.zr (slot c d' r')) := by decide +kernel
/-- The receive counters of `x` lie below level five. -/
theorem lev_slot_lt : ∀ (c : Dev nD) (d : Fin 2) (r : Fin 3), Has c d r → lvk c (.zr (slot c d r)) < 5 := by decide +kernel
/-- A slot that is sent on lies above the handshake. -/
theorem lev_sent : ∀ (c : Dev nD) (d : Fin 2) (s : Fin 4), ZV c d s → 1 < lvk (nb d c) (.zr s) := by decide +kernel

/-- What is owed from step `r` on. -/
def stepsFrom (c : Dev nD) : ℕ → List (Dev nD × CK)
  | 0 => segS c 0 (segS c 1 (segS c 2 []))
  | 1 => segS c 1 (segS c 2 [])
  | 2 => segS c 2 []
  | _ => []

/-- All that is owed from step `r` on lies above a level below each later step's slots. -/
theorem lev_steps {c : Dev nD} {n : ℕ} (h5 : n < 5) (k : ℕ) (h : ∀ (r : Fin 3) d, k ≤ r.val → Has c d r → ZV c d (slot c d r) → n < lvk (nb d c) (.zr (slot c d r))) :
    ∀ x ∈ stepsFrom c k, n < lvk x.1 x.2 := by
  have h3 : ∀ x ∈ ([] : List (Dev nD × CK)), n < lvk x.1 x.2 := fun x hx => absurd hx List.not_mem_nil
  have h2 : k ≤ 2 → ∀ x ∈ segS c 2 [], n < lvk x.1 x.2 := fun hk => lev_segS (fun d => h 2 d hk) h5 h3
  have h1 : k ≤ 1 → ∀ x ∈ segS c 1 (segS c 2 []), n < lvk x.1 x.2 := fun hk => lev_segS (fun d => h 1 d hk) h5 (h2 (by omega))
  match k with
  | 0 => exact lev_segS (fun d => h 0 d (Nat.le_refl 0)) h5 (h1 (by omega))
  | 1 => exact h1 (by omega)
  | 2 => exact h2 (by omega)
  | _ + 3 => exact h3

/-- What is owed after the handshake lies above its level. -/
theorem lev_owed1 (c : Dev nD) : ∀ x ∈ owed1 c, 1 < lvk x.1 x.2 := by
  intro x hx
  unfold owed1 at hx
  simp only [List.mem_append] at hx
  rcases hx with hx | hx | hx | hx | hx | hx | hx
  · obtain ⟨hv, rfl⟩ := mem_segZ hx; exact lev_sent c _ _ hv
  · obtain ⟨hv, rfl⟩ := mem_segZ hx; exact lev_sent c _ _ hv
  · rw [lev_segH hx]; decide
  · rw [lev_segH hx]; decide
  · rw [lev_segH hx]; decide
  · rw [lev_segH hx]; decide
  · exact lev_steps (by decide) 0 (fun r d _ _ hv => lev_sent c d _ hv) x hx
/-- All that a device owes lies above its local copies. -/
theorem lev_owed0 (c : Dev nD) : ∀ x ∈ owed0 c, 0 < lvk x.1 x.2 := by
  intro x hx
  rcases List.mem_append.mp hx with hx | hx
  · unfold segB at hx
    simp only [List.mem_cons, List.not_mem_nil, or_false] at hx
    rcases hx with rfl | rfl | rfl | rfl | rfl <;> exact Nat.one_pos
  · exact Nat.lt_of_succ_lt (lev_owed1 c x hx)

end Cert.Exchange

end
-- ==== Proof.Ops.lean ====
/-
One rule per kind of operation of the kernel, over blocks and cells: loads, stores, copies, signals and waits.
-/
module

public import proofs.«01_k».proof.Proof.Sched

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

variable (m : (ℓ : Loc nD τ sig) → Buf (Elt F) ℓ)

/-- Running `p` on device `c` ends in `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The pieces of ghost state -/

/-- Device `c` stands at round `r` of its cell `k`. -/
def atp (c : Dev nD) (k : CK) (r : ℕ) : sProp 𝕄 := atPos ER (cell c k) r ∅ 0
/-- The right to pay duty `d` of round `r`. -/
def tok (c : Dev nD) (k : CK) (r : ℕ) (d : Fin 5) : sProp 𝕄 := dutyTok ER (cell c k) r d
/-- The right to wait for one payment of cell `k`. -/
def crd (c : Dev nD) (k : CK) : sProp 𝕄 := cred (tallyAt (cell c k) () (amt k))
/-- Cell `k` is at zero for good. -/
def Z (c : Dev nD) (k : CK) : sProp 𝕄 := semVal (cell c k) 0
/-- The start of a cell: at its first round if it is used, at zero if it is not. -/
def AV (c : Dev nD) (k : CK) : sProp 𝕄 := if valid c k then atp c k 0 else Z c k

/-- A counter that is used is at its first round. -/
theorem AV_pos {c : Dev nD} {k : CK} (h : valid c k) : AV (F := F) c k = atp c k 0 := if_pos h
/-- A counter that is not used is at zero. -/
theorem AV_neg {c : Dev nD} {k : CK} (h : ¬ valid c k) : AV (F := F) c k = Z c k := if_neg h

/-- The protocol of every cell. -/
def recsI (K : Dev nD × CK → ℕ) : sProp 𝕄 := bigSep Finset.univ fun x : Dev nD × CK => cellInv ER (rd m) (K x) (cell x.1 x.2)
/-- Every cell has begun. -/
def recsR : sProp 𝕄 := bigSep Finset.univ fun x : Dev nD × CK => reached ER (cell x.1 x.2) 0

instance recsI_persistent (K : Dev nD × CK → ℕ) : BI.Persistent (recsI m K) := by unfold recsI; infer_instance
instance recsR_persistent : BI.Persistent (recsR (F := F)) := by unfold recsR; infer_instance

/-- Of all invariants take one counter's. -/
theorem recsI_at (K : Dev nD × CK → ℕ) (c : Dev nD) (k : CK) : recsI m K ⊢ cellInv ER (rd m) (K (c, k)) (cell c k) :=
  bigSep_elim (Φ := fun x : Dev nD × CK => cellInv ER (rd m) (K x) (cell x.1 x.2)) (Finset.mem_univ (c, k))
/-- Every counter has reached its first round. -/
theorem recsR_at (c : Dev nD) (k : CK) : recsR (F := F) ⊢ reached ER (cell c k) 0 :=
  bigSep_elim (Φ := fun x : Dev nD × CK => (reached ER (cell x.1 x.2) 0 : sProp 𝕄)) (Finset.mem_univ (c, k))

/-- What every device knows: the protocol of every cell, that each has begun, and the levels. -/
def recs (K : Dev nD × CK → ℕ) : sProp 𝕄 := iprop(recsI m K ∗ recsR (F := F) ∗ levAts L lv)

instance recs_persistent (K : Dev nD × CK → ℕ) : BI.Persistent (recs m K) := by unfold recs; infer_instance

/-- Of the common facts take one counter's invariant. -/
theorem recs_inv (K : Dev nD × CK → ℕ) (c : Dev nD) (k : CK) : recs m K ⊢ cellInv ER (rd m) (K (c, k)) (cell c k) := by
  unfold recs
  iintro ⟨H, -, -⟩
  iapply (recsI_at m K c k)
  iexact H
/-- Of the common facts take that a counter has reached its first round. -/
theorem recs_reached (K : Dev nD × CK → ℕ) (c : Dev nD) (k : CK) : recs m K ⊢ reached ER (cell c k) 0 := by
  unfold recs
  iintro ⟨-, H, -⟩
  iapply (recsR_at c k)
  iexact H
/-- Of the common facts take the levels. -/
theorem recs_lev (K : Dev nD × CK → ℕ) : recs m K ⊢ levAts L lv := by
  unfold recs
  iintro ⟨H1, H2, H⟩
  iexact H

/-- A device may wait at a cell below all that it owes. -/
theorem mayWait_cell (c : Dev nD) (k : CK) (R : List (Dev nD × CK)) (h : ∀ x ∈ R, lvk c k < lvk x.1 x.2) :
    (levAts L lv : sProp 𝕄) ⊢ MayWait (c : Thread nD τ) (csem k) () (tal R) := by
  have h3 := lv_cell c k ()
  exact @mayWait F c (csem k) (lvk c k) h3 R h
/-- The levels that every device knows let it wait. -/
theorem recs_mayWait (K : Dev nD × CK → ℕ) (c : Dev nD) (k : CK) (R : List (Dev nD × CK))
    (h0 : (levAts L lv : sProp 𝕄) ⊢ MayWait (c : Thread nD τ) (csem k) () (tal R)) :
    recs m K ⊢ MayWait (c : Thread nD τ) (csem k) () (tal R) := by
  unfold recs
  iintro ⟨-, -, H⟩
  iapply h0
  iexact H

section Ops

variable (K : Dev nD × CK → ℕ) {c : Dev nD} {α : Type} {Q : α → sProp (MT nD τ sig Unit (Elt F) ℕ UU ℕ)}

/-! ## Loads and stores -/

/-- A load of a block. -/
theorem op_load {cs : CoreSpace} {s : Shape} {e : EltTy} {M : Memref sig .tc cs s e} {off size : Fin s.rank → ℕ} {inb : ∀ a, off a + size a ≤ s.size a}
    {hl : M.view.LoadsAt (Rect.unit off size inb)} {k : ((Rect.unit off size inb).shape.Idx → Elt F e) → Prog (TpuEff nD τ sig (Elt F) Λ₀ .tc) α}
    {off' : Fin s.rank → ℕ} {inb' : ∀ a, off' a + size a ≤ s.size a} {q : PosShare TreeShare} {X : Vec F (Rect.unit off' size inb').shape e} (h : off = off') :
    blk c (M.slice (Rect.unit off' size inb') (fun _ => rfl)) q X
      ⊢ iprop((blk c (M.slice (Rect.unit off' size inb') (fun _ => rfl)) q X -∗ WP c (k X) Q)
        -∗ WP c (.op (.load M (Rect.unit off size inb).toLoadRect hl) k) Q) := by
  subst h
  unfold blk owns
  iintro ⟨%f, %hf, H⟩ Hk
  subst hf
  iapply (wp_load_rect 𝒱₀ (c : Thread nD τ) none Set.univ (Finset.Subset.refl _)) $$ [H]
  · iexact H
  iintro H
  iapply Hk
  iexists f
  isplitr
  · ipureintro; rfl
  · iexact H

/-- A store over a block. -/
theorem op_store {cs : CoreSpace} {s : Shape} {e : EltTy} {M : Memref sig .tc cs s e} {off size : Fin s.rank → ℕ} {inb : ∀ a, off a + size a ≤ s.size a}
    {w : (Rect.unit off size inb).shape.Idx → Elt F e} {hx : (M.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α}
    {off' : Fin s.rank → ℕ} {inb' : ∀ a, off' a + size a ≤ s.size a} {X : Vec F (Rect.unit off' size inb').shape e} (h : off = off') :
    blk c (M.slice (Rect.unit off' size inb') (fun _ => rfl)) fullShare X
      ⊢ iprop((blk c (M.slice (Rect.unit off' size inb') (fun _ => rfl)) fullShare w -∗ WP c (k ⟨⟩) Q)
        -∗ WP c (.op (.store M (Rect.unit off size inb) w Finset.univ hx hm) k) Q) := by
  subst h
  unfold blk owns
  iintro ⟨%f, %hf, H⟩ Hk
  iapply (wp_store 𝒱₀ (c : Thread nD τ) none Set.univ (S := (M.access (Rect.unit off size inb)).set) (Finset.Subset.refl _)) $$ [H]
  · iexact H
  iintro H
  iapply Hk
  iexists _
  isplitr
  · ipureintro; exact View.read_write_univ f w
  · iexact H

/-- A block read under another shape. -/
theorem sq_read {sp : Space} {s s' : Shape} {e : EltTy} (M : Memref sig .tc sp s e) (h : s.Squeezes s') (q : PosShare TreeShare) (X : Vec F s' e) :
    blk c (M.squeeze s' h) q X ⊢ blk c M q (fun j => X (Shape.reshapeEquiv h.numel_eq.symm j)) := by
  unfold blk owns
  iintro ⟨%f, %hf, H⟩
  subst hf
  iexists f
  isplitr
  · ipureintro
    funext j
    show _ = M.view.read (Elt F) f (Shape.reshapeEquiv _ (Shape.reshapeEquiv _ j))
    rw [Shape.reshapeEquiv_reshapeEquiv]
    simp
  · rw [← View.set_reshape M.view h.numel_eq]; iexact H
/-- A block given back under another shape. -/
theorem sq_write {sp : Space} {s s' : Shape} {e : EltTy} (M : Memref sig .tc sp s e) (h : s.Squeezes s') (X : Vec F s e) :
    blk c M fullShare X ⊢ blkE c (M.squeeze s' h) := by
  unfold blk owns
  iintro ⟨%f, %hf, H⟩
  iexists _
  iapply (owns_intro (c : Thread nD τ) (M.squeeze s' h) fullShare f)
  rw [← View.set_reshape M.view h.numel_eq]; iexact H

/-! ## Copies -/

/-- A copy to another device: the source block's share goes to the send cell, the destination block to the arrival cell. -/
theorem op_send {sp sp' : Space} {s : Shape} {e : EltTy} {src : Memref sig .tc sp s e} {dst : Memref sig .tc sp' s e} {n c' : Dev nD} {sS : DmaSem sig} {sR : DmaSem sig}
    {hsc : dst.view.ref.isScScratch = false} {hsrc : src.view.WordExact} {hdst : dst.view.WordExact}
    {hsem : DmaTarget.Typed sp (.dma sR) (.remote (Dev.tc n : Thread nD τ) dst (.dma sS) hsc)}
    {k : PUnit → Prog (TpuEff nD τ sig (Elt F) Λ₀ .tc) α}
    (k₁ k₂ : CK) {q : PosShare TreeShare} {X : Vec F s e} {R : List (Dev nD × CK)} {src' : Memref sig .tc sp s e} {dst' : Memref sig .tc sp' s e}
    (hn : n = c') (h₁ : SemLoc.dma sS = csem k₁) (h₂ : SemLoc.dma sR = csem k₂) (hs : src = src') (hd : dst = dst')
    (hv₁ : valid c k₁) (hv₂ : valid c' k₂) (hb₁ : k₁ ≠ .bar) (hb₂ : k₂ ≠ .bar) (hN₁ : dst.view.dmaCredit = amt k₁) (hN₂ : amt k₁ = amt k₂)
    (hp₁ : blk c src' q X ⊢ pay m c k₁ 0 0) (hp₂ : blk c' dst' fullShare X ⊢ pay m c' k₂ 0 0) :
    iprop(recs m K ∗ blk c src' q X ∗ blkE c' dst' ∗ owesL c ((c', k₂) :: R) ∗ tok c k₁ 0 0 ∗ tok c' k₂ 0 0)
      ⊢ iprop(((crd c k₁ ∗ owesL c R) -∗ WP c (k ⟨⟩) Q)
        -∗ WP c (.op (.enqueueDma src (.remote (Dev.tc n) dst (.dma sS) hsc) (.dma sR) hsrc hdst hsem) k) Q) := by
  subst hn hs hd
  unfold owesL
  iintro ⟨#HR, Hs, ⟨%Y, Hd⟩, ⟨%W, HO⟩, Ht₁, Ht₂⟩ Hk
  ihave HI₁ := (recs_inv m K c k₁) $$ HR
  ihave HI₂ := (recs_inv m K n k₂) $$ HR
  ihave Hr₁ := (recs_reached m K c k₁) $$ HR
  ihave Hr₂ := (recs_reached m K n k₂) $$ HR
  unfold blk at hp₁ hp₂ ⊢
  unfold owns at hp₁ hp₂ ⊢
  icases Hs with ⟨%fs, %hfs, Hs⟩
  icases Hd with ⟨%fd, %hfd, Hd⟩
  subst hfs
  have e₁ : cell c k₁ = ((c : Thread nD τ), SemLoc.dma sS) := by rw [h₁]
  have e₂ : cell n k₂ = ((n : Thread nD τ), SemLoc.dma sR) := by rw [h₂]
  unfold tok crd
  have ht : tal ((n, k₂) :: R) = tal R + tallyAt (cell n k₂) () (amt k₁) := by rw [hN₂]; rfl
  rw [ht]
  have hd₁ : (0 : Fin 5) ∈ (rd m).duties (cell c k₁) 0 := by
    rw [rd_duties, dut_one c k₁ hb₁ hv₁ (rounds_pos k₁)]; exact Finset.mem_singleton_self _
  have hd₂ : (0 : Fin 5) ∈ (rd m).duties (cell n k₂) 0 := by
    rw [rd_duties, dut_one n k₂ hb₂ hv₂ (rounds_pos k₂)]; exact Finset.mem_singleton_self _
  have ha₁ := rd_amount m c k₁ 0 0
  have ha₂ := (rd_amount m n k₂ 0 0).trans hN₂.symm
  have hq₁ := hp₁.trans (Entails.of_eq (rd_payload m c k₁ 0 0).symm)
  have hq₂ := hp₂.trans (Entails.of_eq (rd_payload m n k₂ 0 0).symm)
  rw [e₁] at hd₁ ha₁ hq₁ ⊢
  rw [e₂] at hd₂ ha₂ hq₂ ⊢
  iapply (Rounds.wp_send_pointsTo 𝒱₀ ER (rd m) (c : Thread nD τ) none (κ₁ := K (c, k₁)) (κ₂ := K (n, k₂)) (r₁ := 0) (r₂ := 0) (d₁ := 0) (d₂ := 0) (fs := fs) (fd := fd)
    hd₁ hd₂ () () (amt k₁) hN₁ ha₁ ha₂ (tal R) rfl (W := W)
    (BIBase.Entails.trans (by iintro H; iexists fs; isplitr; · ipureintro; rfl
                              iexact H) hq₁)
    (BIBase.Entails.trans (by iintro H; iexists _; isplitr; · ipureintro; exact View.read_write_univ (f := fd) (w := src.view.read (Elt F) fs)
                              iexact H) hq₂)) $$ [HI₁ HI₂ Hs Hd HO Ht₁ Ht₂ Hr₁ Hr₂]
  · isplitl [HI₁]; · iexact HI₁
    isplitl [HI₂]; · iexact HI₂
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [Hc]; · iexact Hc
  iexists W
  iexact HO

/-- A copy of a chunk of the weights into its staging slot. -/
theorem op_copy {sp sp' : Space} {s : Shape} {e : EltTy} {src : Memref sig .tc sp s e} {dst : Memref sig .tc sp' s e} {sm : DmaSem sig}
    {hsrc : src.view.WordExact} {hdst : dst.view.WordExact} {hsem : DmaTarget.Typed (nD := nD) sp (.dma sm) (DmaTarget.here (τ := τ) (p := .tc) dst)}
    {k : PUnit → Prog (TpuEff nD τ sig (Elt F) Λ₀ .tc) α}
    (k₁ : CK) (r : ℕ) {q : PosShare TreeShare} {X : Vec F s e} {src' : Memref sig .tc sp s e} {dst' : Memref sig .tc sp' s e}
    (h₁ : SemLoc.dma sm = csem k₁) (hs : src = src') (hd : dst = dst')
    (hv₁ : valid c k₁) (hb₁ : k₁ ≠ .bar) (hr : r < rounds k₁) (hN₁ : dst.view.dmaCredit = amt k₁)
    (hp₁ : blk c dst' fullShare X ⊢ pay m c k₁ r 0) :
    iprop(recs m K ∗ blk c src' q X ∗ blkE c dst' ∗ tok c k₁ r 0 ∗ reached ER (cell c k₁) r)
      ⊢ iprop((crd c k₁ -∗ WP c (k ⟨⟩) Q) -∗ WP c (.op (.enqueueDma src (.here dst) (.dma sm) hsrc hdst hsem) k) Q) := by
  subst hs hd
  iintro ⟨#HR, Hs, ⟨%Y, Hd⟩, Ht₁, Hr₁⟩ Hk
  ihave HI₁ := (recs_inv m K c k₁) $$ HR
  unfold blk at hp₁ ⊢
  unfold owns at hp₁ ⊢
  icases Hs with ⟨%fs, %hfs, Hs⟩
  icases Hd with ⟨%fd, %hfd, Hd⟩
  subst hfs
  have e₁ : cell c k₁ = ((c : Thread nD τ), SemLoc.dma sm) := by rw [h₁]
  unfold tok crd
  have hd₁ : (0 : Fin 5) ∈ (rd m).duties (cell c k₁) r := by
    rw [rd_duties, dut_one c k₁ hb₁ hv₁ hr]; exact Finset.mem_singleton_self _
  have ha₁ := rd_amount m c k₁ r 0
  have hq₁ := hp₁.trans (Entails.of_eq (rd_payload m c k₁ r 0).symm)
  rw [e₁] at hd₁ ha₁ hq₁ ⊢
  iapply (Rounds.wp_copy_pointsTo 𝒱₀ ER (rd m) (c : Thread nD τ) none (κ := K (c, k₁)) (r := r) (d := 0) (fs := fs) (fd := fd) (q := q)
    hd₁ () (amt k₁) hN₁ ha₁
    (BIBase.Entails.trans (by iintro ⟨H, -⟩; iexists _; isplitr; · ipureintro; exact View.read_write_univ (f := fd) (w := src.view.read (Elt F) fs)
                              iexact H) hq₁)) $$ [HI₁ Hs Hd Ht₁ Hr₁]
  · isplitl [HI₁]; · iexact HI₁
    isplitl [Hs]; · iexact Hs
    isplitl [Hd]; · iexact Hd
    isplitl [Ht₁]; · iexact Ht₁
    iexact Hr₁
  iexact Hk

/-! ## Waits and signals -/

/-- A wait for a copy. -/
theorem op_wait {sp sp' : Space} {s s' : Shape} {e e' : EltTy} {src : Memref sig .tc sp' s' e'} {dst : Memref sig .tc sp s e} {sm : DmaSem sig}
    {hsrc : src.view.WordExact} {hdst : dst.view.WordExact} {k : PUnit → Prog (TpuEff nD τ sig (Elt F) Λ₀ .tc) α}
    (k₁ : CK) (r : ℕ) {R : List (Dev nD × CK)} (h₁ : SemLoc.dma sm = csem k₁)
    (hv₁ : valid c k₁) (hb₁ : k₁ ≠ .bar) (hr : r < rounds k₁) (hN₁ : dst.view.dmaCredit = amt k₁) (hlev : ∀ x ∈ R, lvk c k₁ < lvk x.1 x.2) :
    iprop(recs m K ∗ atp c k₁ r ∗ crd c k₁ ∗ owesL c R)
      ⊢ iprop(((atp c k₁ (r + 1) ∗ reached ER (cell c k₁) (r + 1) ∗ pay m c k₁ r 0 ∗ owesL c R) -∗ WP c (k ⟨⟩) Q)
        -∗ WP c (.op (.waitDma2 sm src dst hsrc hdst) k) Q) := by
  unfold atp crd owesL
  iintro ⟨#HR, Ha, Hc, ⟨%W, HO⟩⟩ Hk
  ihave HI := (recs_inv m K c k₁) $$ HR
  ihave HM := (recs_mayWait m K c k₁ R (mayWait_cell c k₁ R hlev)) $$ HR
  have hx := rd_expect m c k₁ hb₁ hv₁ hr
  have hp := rd_rest m c k₁ hb₁ hv₁ hr
  have e₁ : cell c k₁ = ((c : Thread nD τ), SemLoc.dma sm) := by rw [h₁]
  rw [e₁] at hx hp ⊢
  rw [← h₁, ← hN₁]
  iapply (Rounds.wp_wait_rest_token 𝒱₀ ER (rd m) (c : Thread nD τ) none (κ := K (c, k₁))
    (wpE_waitDma2_eq 𝒱₀ (c : Thread nD τ) none Set.univ) (Set.mem_univ _) () (O := tal R) (W := W) (R := r) (m := 0) (T := ∅)
    (by rw [Nat.zero_add, hx, hN₁])) $$ [HI Hc HO HM Ha]
  · isplitl [HI]; · iexact HI
    isplitl [Hc]; · iexact Hc
    isplitl [HO]; · iexact HO
    isplitl [HM]; · iexact HM
    iexact Ha
  rw [hp]
  iintro ⟨HO, Ha, Hr, Hp⟩
  iapply Hk
  isplitl [Ha]; · iexact Ha
  isplitl [Hr]; · iexact Hr
  isplitl [Hp]; · iexact Hp
  iexists _
  iexact HO

/-- A cell that is past its last round is at zero for good. -/
theorem fin_cell (k₁ : CK) {r : ℕ} (hr : ∀ r', r ≤ r' → dut c k₁ r' = ∅) : iprop(recs m K ∗ atp c k₁ r) ⊢ iprop(|={Set.univ}=> Z c k₁) := by
  unfold atp Z
  iintro ⟨#HR, Ha⟩
  ihave HI := (recs_inv m K c k₁) $$ HR
  iapply (Rounds.cell_close ER (rd m) (Set.mem_univ (K (c, k₁))) (fun h => h) (R := r) (fun r' h => (rd_duties m c k₁ r').trans (hr r' h))) $$ [HI Ha]
  isplitl [HI]; · iexact HI
  iexact Ha

/-- A wait for the only copy of a cell. -/
theorem op_waitZ {sp sp' : Space} {s s' : Shape} {e e' : EltTy} {src : Memref sig .tc sp' s' e'} {dst : Memref sig .tc sp s e} {sm : DmaSem sig}
    {hsrc : src.view.WordExact} {hdst : dst.view.WordExact} {k : PUnit → Prog (TpuEff nD τ sig (Elt F) Λ₀ .tc) α}
    (k₁ : CK) {R : List (Dev nD × CK)} (h₁ : SemLoc.dma sm = csem k₁)
    (hv₁ : valid c k₁) (hb₁ : k₁ ≠ .bar) (hr : rounds k₁ = 1) (hN₁ : dst.view.dmaCredit = amt k₁) (hlev : ∀ x ∈ R, lvk c k₁ < lvk x.1 x.2) :
    iprop(recs m K ∗ AV c k₁ ∗ crd c k₁ ∗ owesL c R)
      ⊢ iprop(((Z c k₁ ∗ pay m c k₁ 0 0 ∗ owesL c R) -∗ WP c (k ⟨⟩) Q) -∗ WP c (.op (.waitDma2 sm src dst hsrc hdst) k) Q) := by
  rw [AV_pos hv₁]
  iintro ⟨#HR, Ha, Hc, HO⟩ Hk
  iapply (op_wait m K k₁ 0 h₁ hv₁ hb₁ (by omega) hN₁ hlev) $$ [Ha Hc HO]
  · isplitr; · iexact HR
    isplitl [Ha]; · iexact Ha
    isplitl [Hc]; · iexact Hc
    iexact HO
  iintro ⟨Ha, -, Hp, HO⟩
  imod (fin_cell m K (c := c) k₁ (r := 0 + 1) (fun r' h => dut_end c k₁ (by omega))) $$ [Ha] with HZ
  · isplitr; · iexact HR
    iexact Ha
  iapply Hk
  isplitl [HZ]; · iexact HZ
  isplitl [Hp]; · iexact Hp
  iexact HO

/-- The same, over the block the program means. -/
theorem op_waitD {sp sp' : Space} {s s' : Shape} {e e' : EltTy} {src : Memref sig .tc sp' s' e'} {dst : Memref sig .tc sp s e} {sm : DmaSem sig}
    {hsrc : src.view.WordExact} {hdst : dst.view.WordExact} {k : PUnit → Prog (TpuEff nD τ sig (Elt F) Λ₀ .tc) α}
    (k₁ : CK) {R : List (Dev nD × CK)} (A : sProp (MT nD τ sig Unit (Elt F) ℕ UU ℕ)) (dst' : Memref sig .tc sp s e) (h₁ : SemLoc.dma sm = csem k₁) (hd : dst = dst')
    (hv₁ : valid c k₁) (hb₁ : k₁ ≠ .bar) (hr : rounds k₁ = 1) (hN₁ : dst'.view.dmaCredit = amt k₁) (hA : pay m c k₁ 0 0 = A) (hlev : ∀ x ∈ R, lvk c k₁ < lvk x.1 x.2) :
    iprop(recs m K ∗ AV c k₁ ∗ crd c k₁ ∗ owesL c R)
      ⊢ iprop(((Z c k₁ ∗ A ∗ owesL c R) -∗ WP c (k ⟨⟩) Q) -∗ WP c (.op (.waitDma2 sm src dst hsrc hdst) k) Q) := by
  rw [← hA]
  exact op_waitZ m K k₁ h₁ hv₁ hb₁ hr (by rw [hd]; exact hN₁) hlev

/-- A sign of the handshake. -/
theorem op_signal {n c' : Dev nD} {sm : Sem sig} {w : ℕ} {k : PUnit → Prog (TpuEff nD τ sig (Elt F) Λ₀ .tc) α} (d : Fin 5) {R : List (Dev nD × CK)}
    (hn : n = c') (h₁ : SemLoc.reg sm = csem .bar) (hw : w = 1) :
    iprop(recs m K ∗ owesL c ((c', .bar) :: R) ∗ tok c' .bar 0 d ∗ barPay c' d)
      ⊢ iprop((owesL c R -∗ WP c (k ⟨⟩) Q) -∗ WP c (.op (.semSignal (n, .tc) sm w) k) Q) := by
  subst hn hw
  unfold owesL tok
  iintro ⟨#HR, ⟨%W, HO⟩, Ht, Hp⟩ Hk
  ihave HI := (recs_inv m K n .bar) $$ HR
  ihave Hr := (recs_reached m K n .bar) $$ HR
  have e₁ : cell n .bar = ((n : Thread nD τ), SemLoc.reg sm) := by rw [h₁]
  have hd₁ : d ∈ (rd m).duties (cell n .bar) 0 := by rw [rd_duties, dut_bar]; exact Finset.mem_univ _
  have ha₁ := rd_amount m n .bar 0 d
  have hp₁ : (rd m).payload (cell n .bar) 0 d = barPay n d := rd_payload m n .bar 0 d
  have ht : tal ((n, CK.bar) :: R) = tal R + tallyAt (cell n .bar) () 1 := rfl
  rw [ht]
  rw [e₁] at hd₁ ha₁ hp₁ ⊢
  iapply (Rounds.wp_signal 𝒱₀ ER (rd m) (c : Thread nD τ) none (dst := (n : Thread nD τ)) (κ := K (n, .bar)) (d := d) hd₁ ha₁ () (tal R) rfl) $$ [HI HO Ht Hp Hr]
  · isplitl [HI]; · iexact HI
    isplitl [HO]; · iexact HO
    isplitl [Ht]; · iexact Ht
    isplitl [Hp]; · rw [hp₁]; iexact Hp
    iexact Hr
  iintro HO
  iapply Hk
  iexists _
  iexact HO

/-- The wait of the handshake. -/
theorem op_waitBar {sm : Sem sig} {w : ℕ} {k : PUnit → Prog (TpuEff nD τ sig (Elt F) Λ₀ .tc) α} {R : List (Dev nD × CK)}
    (h₁ : SemLoc.reg sm = csem .bar) (hw : w = 5) (hlev : ∀ x ∈ R, 1 < lvk x.1 x.2) :
    iprop(recs m K ∗ atp c .bar 0 ∗ cred (tallyAt (cell c .bar) () 5) ∗ owesL c R)
      ⊢ iprop(((Z c .bar ∗ (bigSep Finset.univ fun j => barPay c j) ∗ owesL c R) -∗ WP c (k ⟨⟩) Q) -∗ WP c (.op (.semWait sm w) k) Q) := by
  subst hw
  iintro ⟨#HR, Ha, Hc, HO⟩ Hk
  unfold owesL
  icases HO with ⟨%W, HO⟩
  unfold atp
  ihave HI := (recs_inv m K c .bar) $$ HR
  ihave HM := (recs_mayWait m K c .bar R (mayWait_cell c .bar R hlev)) $$ HR
  have hx := rd_expect_bar m c
  have hp := rd_rest_bar m c
  have e₁ : cell c .bar = ((c : Thread nD τ), SemLoc.reg sm) := by rw [h₁]
  rw [e₁] at hx hp ⊢
  rw [← h₁]
  iapply (Rounds.wp_wait_rest_token 𝒱₀ ER (rd m) (c : Thread nD τ) none (κ := K (c, .bar))
    (wpE_semWait_eq 𝒱₀ (c : Thread nD τ) none Set.univ) (Set.mem_univ _) () (O := tal R) (W := W) (R := 0) (m := 0) (T := ∅)
    (by rw [Nat.zero_add, hx])) $$ [HI Hc HO HM Ha]
  · isplitl [HI]; · iexact HI
    isplitl [Hc]; · iexact Hc
    isplitl [HO]; · iexact HO
    isplitl [HM]; · iexact HM
    iexact Ha
  rw [hp]
  iintro ⟨HO, Ha, -, Hp⟩
  rw [← e₁]
  imod (fin_cell m K (c := c) .bar (r := 0 + 1) (fun r' h => dut_end c .bar h)) $$ [Ha] with HZ
  · isplitr; · iexact HR
    unfold atp
    iexact Ha
  iapply Hk
  isplitl [HZ]; · iexact HZ
  isplitl [Hp]; · iexact Hp
  iexists _
  iexact HO

/-! ## Loads of a whole buffer -/

/-- A load of a whole buffer. -/
theorem op_loadW {cs : CoreSpace} {i : Fin (sig.nNear .tc cs)} {hκ : sig.names .tc cs i = true} {off : Fin (sig.tyNear .tc cs i).shape.rank → ℕ}
    {inb : ∀ a, off a + (sig.tyNear .tc cs i).shape.size a ≤ (sig.tyNear .tc cs i).shape.size a}
    {hl : (Memref.whole ⟨cs, i, hκ⟩ : Memref sig .tc _ _ _).view.LoadsAt (Rect.unit off (sig.tyNear .tc cs i).shape.size inb)}
    {k : ((sig.tyNear .tc cs i).Contents (Elt F)) → Prog (TpuEff nD τ sig (Elt F) Λ₀ .tc) α} {q : PosShare TreeShare} {X : Vec F (sig.tyNear .tc cs i).shape (sig.tyNear .tc cs i).elt}
    (h : off = fun _ => 0) :
    blk c (Memref.whole ⟨cs, i, hκ⟩) q X
      ⊢ iprop((blk c (Memref.whole ⟨cs, i, hκ⟩) q X -∗ WP c (k X) Q) -∗ WP c (.op (.load (Memref.whole ⟨cs, i, hκ⟩) (Rect.unit off (sig.tyNear .tc cs i).shape.size inb).toLoadRect hl) k) Q) := by
  unfold blk
  rw [owns_whole]
  iintro H Hk
  have h' := wp_load (defs := defs₀ (F := F)) (Γ := PendingWaitsCtx.empty) 𝒱₀ (c : Thread nD τ) none Set.univ (Q := Q) (m := Memref.whole ⟨cs, i, hκ⟩) (r := (Rect.unit off (sig.tyNear .tc cs i).shape.size inb).toLoadRect) (hl := hl)
    (k := k) (q := q) (f := X) (S := Finset.univ) (Finset.subset_univ _)
  rw [Memref.readAt_unit_zero (Elt F) ⟨cs, i, hκ⟩ h inb X] at h'
  iapply h' $$ H
  iexact Hk

/-! ## Guarded parts -/

/-- A guarded part: what holds before it, if the guard does, turns into what holds after it, and if the guard does not, is already that. -/
theorem gd {C P : Prop} [Decidable C] (hC : C ↔ P) {A B : sProp (MT nD τ sig Unit (Elt F) ℕ UU ℕ)} {p : C → Prog (TpuEff nD τ sig (Elt F) Λ₀ .tc) α} {kk : Prog (TpuEff nD τ sig (Elt F) Λ₀ .tc) α}
    (h1 : ∀ h : C, P → (A ⊢ iprop((B -∗ WP c kk Q) -∗ WP c (p h) Q))) (h2 : ¬ P → (A ⊢ B)) :
    A ⊢ iprop((B -∗ WP c kk Q) -∗ WP c (dite C p (fun _ => kk)) Q) := by
  by_cases h : C
  · rw [dif_pos h]; exact h1 h (hC.mp h)
  · rw [dif_neg h]
    iintro HA Hk
    iapply Hk
    iapply (h2 fun hp => h (hC.mpr hp))
    iexact HA

end Ops

end Cert.Exchange

end
-- ==== Proof.Units.lean ====
/-
The repeated pieces of the kernel, each proved once: a guarded send of a slot, the guarded wait for a slot,
the results of a slot and their sends, a chunk of the own rows, the receipt of a block, the drains.
-/
module

public import proofs.«01_k».proof.Proof.Ops

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped Idealize.SL.RA.PCS

set_option backward.proofsInPublic true

variable {F : FTy → Type} [FloatOps F]

local notation "𝕄" => MT nD τ sig Unit (Elt F) ℕ UU ℕ

variable (m : (ℓ : Loc nD τ sig) → Buf (Elt F) ℓ)

/-- `A`, if `P`. -/
def gi (P : Prop) [Decidable P] (A : sProp 𝕄) : sProp 𝕄 := if P then A else iprop(emp)

/-- Something held under a condition that is met. -/
theorem gi_pos {P : Prop} [Decidable P] (h : P) (A : sProp 𝕄) : gi P A = A := if_pos h
/-- Something held under a condition that is not met. -/
theorem gi_neg {P : Prop} [Decidable P] (h : ¬ P) (A : sProp 𝕄) : gi P A = iprop(emp) := if_neg h
/-- Something held under no condition. -/
theorem gi_true (A : sProp 𝕄) : gi True A = A := if_pos trivial

/-- The end of a program. -/
theorem ret_intro {c : Dev nD} {α : Type} {Q : α → sProp (MT nD τ sig Unit (Elt F) ℕ UU ℕ)} {a : α} : Q a ⊢ WP c (.ret a) Q := by
  iintro H
  unfold WP
  rw [wp_ret]
  imodintro
  iexact H

/-! ## Places named twice -/

/-- Slices of a buffer at equal offsets are equal. -/
theorem slice_eq {sp : Space} {s : Shape} {e : EltTy} (M : Memref sig .tc sp s e) {off off' size : Fin s.rank → ℕ} (h : off = off') (inb : ∀ a, off a + size a ≤ s.size a) (inb' : ∀ a, off' a + size a ≤ s.size a) :
    M.slice (Rect.unit off size inb) (fun _ => rfl) = M.slice (Rect.unit off' size inb') (fun _ => rfl) := by
  subst h; rfl
/-- Counters of an array at equal offsets are equal. -/
theorem sem_eq {s : Shape} (A : DmaSems sig s) {off off' size : Fin s.rank → ℕ} (h : off = off') (inb : ∀ a, off a + size a ≤ s.size a) (inb' : ∀ a, off' a + size a ≤ s.size a)
    (hq : (Rect.unit off size inb).shape.Squeezes S_) (hq' : (Rect.unit off' size inb').shape.Squeezes S_) :
    ((A.slice (Rect.unit off size inb)).squeeze S_ hq).sem = ((A.slice (Rect.unit off' size inb')).squeeze S_ hq').sem := by
  subst h; rfl

/-! ## Shares and parts of a block -/

/-- A block's share in two. -/
theorem blk_halve {c : Dev nD} {sp : Space} {s : Shape} {e : EltTy} (M : Memref sig .tc sp s e) {q q₁ q₂ : PosShare TreeShare} (h : q ∈ q₁ ·? q₂) (X : Vec F s e) :
    blk c M q X ⊢ iprop(blk c M q₁ X ∗ blk c M q₂ X) := by
  unfold blk owns
  iintro ⟨%f, %hf, H⟩
  ihave H' := (pointsTo_share h).1 $$ H
  icases H' with ⟨H1, H2⟩
  isplitl [H1]
  · iexists f; isplitr; · ipureintro; exact hf
    iexact H1
  · iexists f; isplitr; · ipureintro; exact hf
    iexact H2
/-- Two shares of a block in one. -/
theorem blk_join {c : Dev nD} {sp : Space} {s : Shape} {e : EltTy} (M : Memref sig .tc sp s e) {q q₁ q₂ : PosShare TreeShare} (h : q ∈ q₁ ·? q₂) (X Y : Vec F s e) :
    iprop(blk c M q₁ X ∗ blk c M q₂ Y) ⊢ blk c M q X := by
  unfold blk owns
  iintro ⟨⟨%f, %hf, H1⟩, ⟨%g, %hg, H2⟩⟩
  ihave %hfg := (pointsTo_agree) $$ [H1 H2]
  · isplitl [H1]; · iexact H1
    iexact H2
  ihave H2 := (Entails.of_eq (pointsTo_congr (q := q₂) (f := g) (g := f) (fun i hi => ((hfg i (Finset.mem_inter.mpr ⟨hi, hi⟩)).1).symm))) $$ H2
  iexists f
  isplitr; · ipureintro; exact hf
  iapply (pointsTo_share h).2
  isplitl [H1]; · iexact H1
  iexact H2

/-- The column chunks of a row slot do not meet. -/
theorem col_disj (s t : Fin 4) (h : s ≠ t) : Disjoint (colR s).set (colR t).set :=
  Rect.unit_disjoint 1 (by
    have := Fin.val_ne_of_ne h
    show 512 * s.val + 512 ≤ 512 * t.val ∨ 512 * t.val + 512 ≤ 512 * s.val
    omega)
/-- Every column of a row slot is in a chunk. -/
theorem col_cov : (Finset.univ : Finset (Fin 4)).biUnion (fun s => (colR s).set) = Finset.univ := by
  ext i
  simp only [Finset.mem_biUnion, Finset.mem_univ, true_and, iff_true]
  have h0 : (i 0).val < 256 := (i 0).isLt
  have h1 : (i 1).val < 2048 := (i 1).isLt
  refine ⟨⟨(i 1).val / 512, by omega⟩, Rect.mem_set_unit.mpr (Fin.forall_fin_two.mpr ⟨?_, ?_⟩)⟩
  · show 0 ≤ (i 0).val ∧ (i 0).val < 0 + 256
    omega
  · show 512 * ((i 1).val / 512) ≤ (i 1).val ∧ (i 1).val < 512 * ((i 1).val / 512) + 512
    omega

/-- A row slot of the results in its blocks. -/
theorem row_split {c : Dev nD} (s : Fin 4) (X : Vec F S256x2048 .bf16) :
    blk c (ybW s) fullShare X ⊢ bigSep Finset.univ fun q : Fin 4 => blk c (ybV s q) fullShare (cols q X) := by
  refine (owns_rects (c : Thread nD τ) (ybW s) fullShare colR (fun _ _ => rfl) col_disj col_cov X).trans (bigSep_mono fun q _ => ?_)
  have he : ((ybV s q).view.emb) = ((ybW s).slice (colR q) (fun _ => rfl)).view.emb := by
    ext j : 1
    exact yb_emb s q j
  have hs : (ybV s q).view.set = ((ybW s).slice (colR q) (fun _ => rfl)).view.set := by
    show Finset.univ.map (ybV s q).view.emb = Finset.univ.map ((ybW s).slice (colR q) (fun _ => rfl)).view.emb
    rw [he]
  show (blk c ((ybW s).slice (colR q) (fun _ => rfl)) fullShare (cols q X) : sProp 𝕄) ⊢ blk c (ybV s q) fullShare (cols q X)
  unfold blk owns
  iintro ⟨%f, %hf, H⟩
  iexists f
  isplitr
  · ipureintro
    funext j
    have := congrFun hf j
    refine Eq.trans ?_ this
    show (ybM.view.read (Elt F) f) ((ybR s q).emb j) = ybM.view.read (Elt F) f ((ybRow s).emb ((colR q).emb j))
    rw [yb_emb]
  · rw [hs]; iexact H
/-! ## The pieces of the state -/

/-- The rights to send slot `s` on in direction `d`. -/
def zTok (c : Dev nD) (d : Fin 2) (s : Fin 4) : sProp 𝕄 :=
  gi (ZV c d s) iprop(tok c (.zs d s) 0 0 ∗ tok (nb d c) (.zr s) 0 0 ∗ blkE (nb d c) (xgV s))
/-- The share of slot `s` that is lent, or the right to get it back. -/
def zPost (c : Dev nD) (d : Fin 2) (s : Fin 4) : sProp 𝕄 :=
  if ZV c d s then crd c (.zs d s) else blk c (xgV s) (zsh c s d) (XB m (dev s (pc c)))
/-- The rights to send the result block of row slot `s` to the place `k` further. -/
def yTok (c : Dev nD) (s k : Fin 4) : sProp 𝕄 :=
  iprop(tok c (.ys (pc c + k) s) 0 0 ∗ tok (mate c k) (.yr (pc c) s) 0 0 ∗ blkE (mate c k) (yrV s (pc c)))
/-- The rights to send chunk `q` of the own rows. -/
def hTok (c : Dev nD) (q : Fin 4) : sProp 𝕄 :=
  gi (pc c ≠ q) iprop(tok c (.ys q (zc c)) 0 0 ∗ tok (dev (zc c) q) (.yr (pc c) (zc c)) 0 0 ∗ blkE (dev (zc c) q) (yrV (zc c) (pc c)))
/-- Chunk `q` of the own rows' results, or the right to get it back. -/
def hPost (c : Dev nD) (q : Fin 4) : sProp 𝕄 :=
  if pc c ≠ q then crd c (.ys q (zc c)) else blk c (ybV (zc c) q) fullShare (YB m c (zc c) q)

/-- A neighbour stands at the same place of its group. -/
theorem pc_nb (d : Fin 2) (c : Dev nD) : pc (nb d c) = pc c := by revert d c; decide +kernel
/-- A slot sent on is not the neighbour's own. -/
theorem zr_valid {c : Dev nD} {d : Fin 2} {s : Fin 4} : ZV c d s → valid (nb d c) (.zr s) := by
  show ZV c d s → s ≠ zc (nb d c)
  revert c d s; decide +kernel
/-- What arrives is what is announced. -/
theorem zr_pay {c : Dev nD} (d : Fin 2) (s : Fin 4) : blk (nb d c) (xgV s) fullShare (XB m (dev s (pc c))) ⊢ pay m (nb d c) (.zr s) 0 0 := by
  show blk (nb d c) (xgV s) fullShare (XB m (dev s (pc c))) ⊢ blk (nb d c) (xgV s) fullShare (XB m (dev s (pc (nb d c))))
  rw [pc_nb]
/-- A slot that arrives is not the device's own. -/
theorem slot_ne {c : Dev nD} {d : Fin 2} {r : Fin 3} : Has c d r → slot c d r ≠ zc c := by
  revert c d r; decide +kernel
/-- The place `k` further on is another place, for `k` not zero. -/
theorem add_ne {k : Fin 4} (h : k ≠ 0) (p : Fin 4) : p + k ≠ p := by revert k p; decide
/-- The first direction has a round when a block comes from below. -/
theorem has_up {c : Dev nD} {r : Fin 3} : Has c 0 r ↔ HasUp c r := by simp [Has]
/-- The second direction has a round when a block comes from above. -/
theorem has_dn {c : Dev nD} {r : Fin 3} : Has c 1 r ↔ HasDn c r := by simp [Has]
/-- Mates are in the same plane. -/
theorem zc_mate (c : Dev nD) (k : Fin 4) : zc (mate c k) = zc c := zc_dev _ _
/-- The place of a mate. -/
theorem pc_mate (c : Dev nD) (k : Fin 4) : pc (mate c k) = pc c + k := pc_dev _ _

section Units

variable (K : Dev nD × CK → ℕ) {c : Dev nD} {α : Type} {Q : α → sProp (MT nD τ sig Unit (Elt F) ℕ UU ℕ)} {kk : Prog (TpuEff nD τ sig (Elt F) Λ₀ .tc) α} {C : Prop} [Decidable C]

/-- A slot is sent on, if it is there and goes further. -/
theorem z_send {G : Prop} [Decidable G] (d : Fin 2) (s : Fin 4) (hC : C ↔ G ∧ ZV c d s)
    {src dst : C → Memref sig .tc .vmem S256x4096 .fp8e4m3} {n : C → Dev nD} {sS sR : C → DmaSem sig}
    {hsc : ∀ h, (dst h).view.ref.isScScratch = false} {hsrc : ∀ h, (src h).view.WordExact} {hdst : ∀ h, (dst h).view.WordExact}
    {hsem : ∀ h, DmaTarget.Typed .vmem (.dma (sR h)) (.remote (Dev.tc (n h) : Thread nD τ) (dst h) (.dma (sS h)) (hsc h))} {R : List (Dev nD × CK)}
    (hn : ∀ h, n h = nb d c) (h₁ : ∀ h, sS h = zsS d s) (h₂ : ∀ h, sR h = zrS s) (hs : ∀ h, src h = xgV s) (hd : ∀ h, dst h = xgV s)
    (hv : ZV c d s → valid (nb d c) (.zr s)) :
    iprop(recs m K ∗ gi G (blk c (xgV s) (zsh c s d) (XB m (dev s (pc c)))) ∗ gi G (zTok c d s) ∗ owesL c ((if G then segZ c d s else []) ++ R))
      ⊢ iprop(((gi G (zPost m c d s) ∗ owesL c R) -∗ WP c kk Q)
        -∗ WP c (dite C (fun h => .op (.enqueueDma (src h) (.remote (Dev.tc (n h)) (dst h) (.dma (sS h)) (hsc h)) (.dma (sR h)) (hsrc h) (hdst h) (hsem h)) (fun _ => kk)) (fun _ => kk)) Q) := by
  refine gd hC (fun h hp => ?_) (fun hp => ?_)
  · obtain ⟨hG, hZ⟩ := hp
    rw [gi_pos hG, gi_pos hG, gi_pos hG, if_pos hG]
    unfold zTok zPost segZ
    rw [gi_pos hZ, if_pos hZ, if_pos hZ]
    iintro ⟨#HR, Hb, ⟨Ht1, Ht2, Hd⟩, HO⟩ Hk
    iapply (op_send m K (c' := nb d c) (.zs d s) (.zr s) (q := zsh c s d) (X := XB m (dev s (pc c))) (R := R) (src' := xgV s) (dst' := xgV s) (hn h)
      (congrArg SemLoc.dma (h₁ h)) (congrArg SemLoc.dma (h₂ h)) (hs h) (hd h) hZ (hv hZ) (by simp) (by simp) (by rw [hd h]; rfl) rfl .rfl
      (zr_pay m d s)) $$ [Hb Hd HO Ht1 Ht2]
    · isplitr; · iexact HR
      isplitl [Hb]; · iexact Hb
      isplitl [Hd]; · iexact Hd
      isplitl [HO]; · iexact HO
      isplitl [Ht1]; · iexact Ht1
      iexact Ht2
    iintro ⟨Hc, HO⟩
    iapply Hk
    isplitl [Hc]; · iexact Hc
    iexact HO
  · by_cases hG : G
    · have hZ : ¬ ZV c d s := fun h => hp ⟨hG, h⟩
      rw [gi_pos hG, gi_pos hG, gi_pos hG, if_pos hG]
      unfold zTok zPost segZ
      rw [gi_neg hZ, if_neg hZ, if_neg hZ]
      iintro ⟨#HR, Hb, -, HO⟩
      isplitl [Hb]; · iexact Hb
      iexact HO
    · rw [gi_neg hG, gi_neg hG, gi_neg hG, if_neg hG]
      iintro ⟨#HR, -, -, HO⟩
      isplitr; · iempintro
      iexact HO

/-- A guarded part that settles what it owes. -/
theorem gg {P : Prop} [Decidable P] (hC : C ↔ P) {E A B : sProp (MT nD τ sig Unit (Elt F) ℕ UU ℕ)} {l R : List (Dev nD × CK)} {p : C → Prog (TpuEff nD τ sig (Elt F) Λ₀ .tc) α}
    (h1 : ∀ h : C, P → (iprop(recs m K ∗ E ∗ A ∗ owesL c (l ++ R)) ⊢ iprop(((E ∗ B ∗ owesL c R) -∗ WP c kk Q) -∗ WP c (p h) Q))) :
    iprop(recs m K ∗ E ∗ gi P A ∗ owesL c ((if P then l else []) ++ R)) ⊢ iprop(((E ∗ gi P B ∗ owesL c R) -∗ WP c kk Q) -∗ WP c (dite C p (fun _ => kk)) Q) := by
  refine gd hC (fun h hp => ?_) (fun hp => ?_)
  · rw [gi_pos hp, gi_pos hp, if_pos hp]; exact h1 h hp
  · rw [gi_neg hp, gi_neg hp, if_neg hp]
    iintro ⟨-, HE, -, HO⟩
    isplitl [HE]; · iexact HE
    isplitr; · iempintro
    iexact HO

/-- The wait for a slot that arrives. -/
theorem x_wait (d : Fin 2) (r : Fin 3) (hC : C ↔ Has c d r)
    {src dst : C → Memref sig .tc .vmem S256x4096 .fp8e4m3} {sm : C → DmaSem sig}
    {hsrc : ∀ h, (src h).view.WordExact} {hdst : ∀ h, (dst h).view.WordExact} {R : List (Dev nD × CK)}
    (h₁ : ∀ h, sm h = zrS (slot c d r)) (hd : ∀ h, dst h = xgV (slot c d r))
    (hlev : Has c d r → ∀ x ∈ R, lvk c (.zr (slot c d r)) < lvk x.1 x.2) :
    iprop(recs m K ∗ gi (Has c d r) (AV c (.zr (slot c d r))) ∗ gi (Has c d r) (crd c (.zr (slot c d r))) ∗ owesL c R)
      ⊢ iprop(((gi (Has c d r) (Z c (.zr (slot c d r))) ∗ gi (Has c d r) (blk c (xgV (slot c d r)) fullShare.left (XB m (dev (slot c d r) (pc c))))
            ∗ gi (Has c d r) (blk c (xgV (slot c d r)) (zsh c (slot c d r) d) (XB m (dev (slot c d r) (pc c)))) ∗ owesL c R) -∗ WP c kk Q)
        -∗ WP c (dite C (fun h => .op (.waitDma2 (sm h) (src h) (dst h) (hsrc h) (hdst h)) (fun _ => kk)) (fun _ => kk)) Q) := by
  refine gd hC (fun h hp => ?_) (fun hp => ?_)
  · rw [gi_pos hp, gi_pos hp, gi_pos hp, gi_pos hp, gi_pos hp]
    have hn := slot_ne hp
    iintro ⟨#HR, Ha, Hc, HO⟩ Hk
    iapply (op_waitZ m K (.zr (slot c d r)) (R := R) (congrArg SemLoc.dma (h₁ h)) hn (by simp) rfl (by rw [hd h]; rfl) (hlev hp)) $$ [Ha Hc HO]
    · isplitr; · iexact HR
      isplitl [Ha]; · iexact Ha
      isplitl [Hc]; · iexact Hc
      iexact HO
    rw [show pay m c (.zr (slot c d r)) 0 0 = blk c (xgV (slot c d r)) fullShare (XB m (dev (slot c d r) (pc c))) from rfl]
    iintro ⟨HZ, Hp, HO⟩
    ihave Hp' := (blk_halve (xgV (slot c d r)) (PosShare.mem_left_op_right fullShare) (XB m (dev (slot c d r) (pc c)))) $$ Hp
    icases Hp' with ⟨Hl, Hr⟩
    iapply Hk
    isplitl [HZ]; · iexact HZ
    isplitl [Hl]; · iexact Hl
    isplitl [Hr]
    · rw [show zsh c (slot c d r) d = fullShare.right from if_neg hn]; iexact Hr
    iexact HO
  · rw [gi_neg hp, gi_neg hp, gi_neg hp, gi_neg hp, gi_neg hp]
    iintro ⟨#HR, -, -, HO⟩
    isplitr; · iempintro
    isplitr; · iempintro
    isplitr; · iempintro
    iexact HO

/-- The last of a slot sent on: the share lent comes back. -/
theorem z_drain {G : Prop} [Decidable G] (d : Fin 2) (s : Fin 4) (hC : C ↔ G ∧ ZV c d s)
    {src dst : C → Memref sig .tc .vmem S256x4096 .fp8e4m3} {sm : C → DmaSem sig}
    {hsrc : ∀ h, (src h).view.WordExact} {hdst : ∀ h, (dst h).view.WordExact} {R : List (Dev nD × CK)}
    (h₁ : ∀ h, sm h = zsS d s) (hd : ∀ h, dst h = xgV s) (hlev : ∀ x ∈ R, lvk c (.zs d s) < lvk x.1 x.2) :
    iprop(recs m K ∗ gi G (AV c (.zs d s)) ∗ gi G (zPost m c d s) ∗ owesL c R)
      ⊢ iprop(((gi G (Z c (.zs d s)) ∗ gi G (blk c (xgV s) (zsh c s d) (XB m (dev s (pc c)))) ∗ owesL c R) -∗ WP c kk Q)
        -∗ WP c (dite C (fun h => .op (.waitDma2 (sm h) (src h) (dst h) (hsrc h) (hdst h)) (fun _ => kk)) (fun _ => kk)) Q) := by
  refine gd hC (fun h hp => ?_) (fun hp => ?_)
  · obtain ⟨hG, hZ⟩ := hp
    rw [gi_pos hG, gi_pos hG, gi_pos hG, gi_pos hG]
    unfold zPost
    rw [if_pos hZ]
    iintro ⟨#HR, Ha, Hc, HO⟩ Hk
    iapply (op_waitZ m K (.zs d s) (R := R) (congrArg SemLoc.dma (h₁ h)) hZ (by simp) rfl (by rw [hd h]; rfl) hlev) $$ [Ha Hc HO]
    · isplitr; · iexact HR
      isplitl [Ha]; · iexact Ha
      isplitl [Hc]; · iexact Hc
      iexact HO
    rw [show pay m c (.zs d s) 0 0 = blk c (xgV s) (zsh c s d) (XB m (dev s (pc c))) from rfl]
    iintro ⟨HZ, Hp, HO⟩
    iapply Hk
    isplitl [HZ]; · iexact HZ
    isplitl [Hp]; · iexact Hp
    iexact HO
  · by_cases hG : G
    · have hZ : ¬ ZV c d s := fun h => hp ⟨hG, h⟩
      rw [gi_pos hG, gi_pos hG, gi_pos hG, gi_pos hG]
      unfold zPost
      rw [if_neg hZ, AV_neg (k := .zs d s) hZ]
      iintro ⟨#HR, Ha, Hb, HO⟩
      isplitl [Ha]; · iexact Ha
      isplitl [Hb]; · iexact Hb
      iexact HO
    · rw [gi_neg hG, gi_neg hG, gi_neg hG, gi_neg hG]
      iintro ⟨#HR, -, -, HO⟩
      isplitr; · iempintro
      isplitr; · iempintro
      iexact HO

/-- The chunk of the own rows that stays is written to the result. -/
theorem own_store (q : Fin 4) (hC : C ↔ pc c = q) {o : C → Fin S4096x512.rank → ℕ} {b : ∀ h a, o h a + S256x512.size a ≤ S4096x512.size a}
    {l : ∀ h, oM.view.LoadsAt (Rect.unit (s := S4096x512) (o h) S256x512.size (b h))}
    {w : ∀ h, (Rect.unit (s := S4096x512) (o h) S256x512.size (b h)).shape.Idx → Elt F .f32}
    {hx : ∀ h, (oM.access (Rect.unit (s := S4096x512) (o h) S256x512.size (b h))).Stores Finset.univ}
    {hm : ∀ h, (Finset.univ : Finset (Rect.unit (s := S4096x512) (o h) S256x512.size (b h)).shape.Idx) = Finset.univ ∨ ∀ a, (Rect.unit (s := S4096x512) (o h) S256x512.size (b h)).stride a = 1}
    (ho : ∀ h, o h = ![1024 * (zc c).val + 256 * q.val, 0]) (hw : ∀ h, w h = CH m c q) :
    gi (pc c = q) (blkE c (oV (zc c) q))
      ⊢ iprop((gi (pc c = q) (blk c (oV (zc c) q) fullShare (OB m c (zc c) q)) -∗ WP c kk Q)
        -∗ WP c (dite C (fun h => .op (.load oM (Rect.unit (s := S4096x512) (o h) S256x512.size (b h)).toLoadRect (l h)) fun _ =>
            .op (.store oM (Rect.unit (s := S4096x512) (o h) S256x512.size (b h)) (w h) Finset.univ (hx h) (hm h)) fun _ => kk) (fun _ => kk)) Q) := by
  refine gd hC (fun h hp => ?_) (fun hp => ?_)
  · rw [gi_pos hp, gi_pos hp]
    iintro ⟨%X, Hb⟩ Hk
    iapply (op_load (ho h)) $$ Hb
    iintro Hb
    iapply (op_store (ho h)) $$ Hb
    iintro Hb
    iapply Hk
    rw [show OB m c (zc c) q = CH m c q by unfold OB; rw [if_pos hp.symm, if_pos rfl], ← hw h]
    iexact Hb
  · rw [gi_neg hp, gi_neg hp]

/-- A chunk of the own rows is sent to the mate it belongs to. -/
theorem h_send (q : Fin 4) (hC : C ↔ pc c ≠ q)
    {src dst : C → Memref sig .tc .vmem S256x512 .bf16} {n : C → Dev nD} {sS sR : C → DmaSem sig}
    {hsc : ∀ h, (dst h).view.ref.isScScratch = false} {hsrc : ∀ h, (src h).view.WordExact} {hdst : ∀ h, (dst h).view.WordExact}
    {hsem : ∀ h, DmaTarget.Typed .vmem (.dma (sR h)) (.remote (Dev.tc (n h) : Thread nD τ) (dst h) (.dma (sS h)) (hsc h))} {R : List (Dev nD × CK)}
    (hn : ∀ h, n h = dev (zc c) q) (h₁ : ∀ h, sS h = ysS q (zc c)) (h₂ : ∀ h, sR h = yrS (pc c) (zc c)) (hs : ∀ h, src h = ybV (zc c) q) (hd : ∀ h, dst h = yrV (zc c) (pc c)) :
    iprop(recs m K ∗ blk c (ybV (zc c) q) fullShare (YB m c (zc c) q) ∗ hTok c q ∗ owesL c (segH c q ++ R))
      ⊢ iprop(((hPost m c q ∗ owesL c R) -∗ WP c kk Q)
        -∗ WP c (dite C (fun h => .op (.enqueueDma (src h) (.remote (Dev.tc (n h)) (dst h) (.dma (sS h)) (hsc h)) (.dma (sR h)) (hsrc h) (hdst h) (hsem h)) (fun _ => kk)) (fun _ => kk)) Q) := by
  refine gd hC (fun h hp => ?_) (fun hp => ?_)
  · unfold hTok hPost segH
    rw [gi_pos hp, if_pos hp, if_pos hp]
    iintro ⟨#HR, Hb, ⟨Ht1, Ht2, Hd⟩, HO⟩ Hk
    iapply (op_send m K (c' := dev (zc c) q) (.ys q (zc c)) (.yr (pc c) (zc c)) (q := fullShare) (X := YB m c (zc c) q) (R := R) (src' := ybV (zc c) q) (dst' := yrV (zc c) (pc c)) (hn h)
      (congrArg SemLoc.dma (h₁ h)) (congrArg SemLoc.dma (h₂ h)) (hs h) (hd h) (fun e => hp e.symm) (by show pc c ≠ pc (dev (zc c) q); rw [pc_dev]; exact hp) (by simp) (by simp) (by rw [hd h]; rfl) rfl .rfl
      (by show _ ⊢ blk (dev (zc c) q) (yrV (zc c) (pc c)) fullShare (YB m (dev (zc (dev (zc c) q)) (pc c)) (zc c) (pc (dev (zc c) q)))
          rw [zc_dev, pc_dev, dev_zc_pc])) $$ [Hb Hd HO Ht1 Ht2]
    · isplitr; · iexact HR
      isplitl [Hb]; · iexact Hb
      isplitl [Hd]; · iexact Hd
      isplitl [HO]; · iexact HO
      isplitl [Ht1]; · iexact Ht1
      iexact Ht2
    iintro ⟨Hc, HO⟩
    iapply Hk
    isplitl [Hc]; · iexact Hc
    iexact HO
  · unfold hTok hPost segH
    rw [gi_neg hp, if_neg hp, if_neg hp]
    iintro ⟨#HR, Hb, -, HO⟩
    isplitl [Hb]; · iexact Hb
    iexact HO

end Units

section Units2

variable (K : Dev nD × CK → ℕ) {c : Dev nD} {α : Type} {Q : α → sProp (MT nD τ sig Unit (Elt F) ℕ UU ℕ)}

/-- A result block is sent to the mate `k` further. -/
theorem y_send (s k : Fin 4) (hk : k ≠ 0)
    {src dst : Memref sig .tc .vmem S256x512 .bf16} {n : Dev nD} {sS sR : DmaSem sig}
    {hsc : dst.view.ref.isScScratch = false} {hsrc : src.view.WordExact} {hdst : dst.view.WordExact}
    {hsem : DmaTarget.Typed .vmem (.dma sR) (.remote (Dev.tc n : Thread nD τ) dst (.dma sS) hsc)} {kk : PUnit → Prog (TpuEff nD τ sig (Elt F) Λ₀ .tc) α} {R : List (Dev nD × CK)}
    (hn : n = mate c k) (h₁ : sS = ysS (pc c + k) s) (h₂ : sR = yrS (pc c) s) (hs : src = ybV s (pc c + k)) (hd : dst = yrV s (pc c)) :
    iprop(recs m K ∗ blk c (ybV s (pc c + k)) fullShare (YB m c s (pc c + k)) ∗ yTok c s k ∗ owesL c ((mate c k, .yr (pc c) s) :: R))
      ⊢ iprop(((crd c (.ys (pc c + k) s) ∗ owesL c R) -∗ WP c (kk ⟨⟩) Q)
        -∗ WP c (.op (.enqueueDma src (.remote (Dev.tc n) dst (.dma sS) hsc) (.dma sR) hsrc hdst hsem) kk) Q) := by
  unfold yTok
  iintro ⟨#HR, Hb, ⟨Ht1, Ht2, Hd⟩, HO⟩ Hk
  iapply (op_send m K (c' := mate c k) (.ys (pc c + k) s) (.yr (pc c) s) (q := fullShare) (X := YB m c s (pc c + k)) (R := R) (src' := ybV s (pc c + k)) (dst' := yrV s (pc c)) hn
      (congrArg SemLoc.dma h₁) (congrArg SemLoc.dma h₂) hs hd (add_ne hk (pc c)) (by show pc c ≠ pc (mate c k); rw [pc_mate]; exact (add_ne hk (pc c)).symm) (by simp) (by simp) (by rw [hd]; rfl) rfl .rfl
      (by show _ ⊢ blk (mate c k) (yrV s (pc c)) fullShare (YB m (dev (zc (mate c k)) (pc c)) s (pc (mate c k)))
          rw [zc_mate, pc_mate, dev_zc_pc])) $$ [Hb Hd HO Ht1 Ht2]
  · isplitr; · iexact HR
    isplitl [Hb]; · iexact Hb
    isplitl [Hd]; · iexact Hd
    isplitl [HO]; · iexact HO
    isplitl [Ht1]; · iexact Ht1
    iexact Ht2
  iexact Hk

/-- A result block arrives and is written to the result. -/
theorem recv (s k : Fin 4) (hk : k ≠ 0)
    {src dst : Memref sig .tc .vmem S256x512 .bf16} {sm : DmaSem sig} {hsrc : src.view.WordExact} {hdst : dst.view.WordExact}
    {o : Fin S4096x512.rank → ℕ} {b : ∀ a, o a + S256x512.size a ≤ S4096x512.size a}
    {l₁ : yrM.view.LoadsAt (Rect.unit (s := S4096x512) o S256x512.size b)} {l₂ : oM.view.LoadsAt (Rect.unit (s := S4096x512) o S256x512.size b)}
    {P : Vec F S256x512 .bf16 → Vec F S256x512 .f32}
    {hx : (oM.access (Rect.unit (s := S4096x512) o S256x512.size b)).Stores Finset.univ}
    {hm : (Finset.univ : Finset (Rect.unit (s := S4096x512) o S256x512.size b).shape.Idx) = Finset.univ ∨ ∀ a, (Rect.unit (s := S4096x512) o S256x512.size b).stride a = 1}
    {kk : PUnit → Prog (TpuEff nD τ sig (Elt F) Λ₀ .tc) α} {R : List (Dev nD × CK)}
    (h₁ : sm = yrS (pc c + k) s) (hd : dst = yrV s (pc c + k)) (ho : o = ![1024 * s.val + 256 * (pc c + k).val, 0]) (hP : P = k0_pay29)
    (hlev : ∀ x ∈ R, lvk c (.yr (pc c + k) s) < lvk x.1 x.2) :
    iprop(recs m K ∗ AV c (.yr (pc c + k) s) ∗ crd c (.yr (pc c + k) s) ∗ blkE c (oV s (pc c + k)) ∗ owesL c R)
      ⊢ iprop(((Z c (.yr (pc c + k) s) ∗ blkE c (yrV s (pc c + k)) ∗ blk c (oV s (pc c + k)) fullShare (OB m c s (pc c + k)) ∗ owesL c R) -∗ WP c (kk ⟨⟩) Q)
        -∗ WP c (.op (.waitDma2 sm src dst hsrc hdst) fun _ =>
          .op (.load yrM (Rect.unit (s := S4096x512) o S256x512.size b).toLoadRect l₁) fun a =>
          .op (.load oM (Rect.unit (s := S4096x512) o S256x512.size b).toLoadRect l₂) fun _ =>
          .op (.store oM (Rect.unit (s := S4096x512) o S256x512.size b) (P a) Finset.univ hx hm) kk) Q) := by
  have hq := add_ne hk (pc c)
  iintro ⟨#HR, Ha, Hc, ⟨%X, Hb⟩, HO⟩ Hk
  iapply (op_waitZ m K (.yr (pc c + k) s) (R := R) (congrArg SemLoc.dma h₁) hq (by simp) rfl (by rw [hd]; rfl) hlev) $$ [Ha Hc HO]
  · isplitr; · iexact HR
    isplitl [Ha]; · iexact Ha
    isplitl [Hc]; · iexact Hc
    iexact HO
  rw [show pay m c (.yr (pc c + k) s) 0 0 = blk c (yrV s (pc c + k)) fullShare (YB m (dev (zc c) (pc c + k)) s (pc c)) from rfl]
  iintro ⟨HZ, Hp, HO⟩
  iapply (op_load ho) $$ Hp
  iintro Hp
  iapply (op_load ho) $$ Hb
  iintro Hb
  iapply (op_store ho) $$ Hb
  iintro Hb
  iapply Hk
  isplitl [HZ]; · iexact HZ
  isplitl [Hp]; · iexists _; iexact Hp
  isplitl [Hb]
  · rw [show OB m c s (pc c + k) = k0_pay29 (YB m (dev (zc c) (pc c + k)) s (pc c)) by unfold OB; rw [if_neg hq], ← hP]
    iexact Hb
  iexact HO

end Units2

/-- The rights and places the results of row slot `s` take. -/
def compA (c : Dev nD) (s : Fin 4) : sProp 𝕄 :=
  iprop(yTok c s 2 ∗ yTok c s 1 ∗ yTok c s 3 ∗ blkE c (oV s (pc c)) ∗ blkE c (ybW s))
/-- What is left of them. -/
def compB (c : Dev nD) (s : Fin 4) : sProp 𝕄 :=
  iprop(crd c (.ys (pc c + 2) s) ∗ crd c (.ys (pc c + 1) s) ∗ crd c (.ys (pc c + 3) s) ∗ blkE c (ybV s (pc c)) ∗ blk c (oV s (pc c)) fullShare (OB m c s (pc c)))

/-- Nothing beside something, on the right. -/
theorem sE (A : sProp 𝕄) : iprop(A ∗ emp) = A := equiv_iff.mp BI.sep_emp
/-- Nothing beside something, on the left. -/
theorem eS (A : sProp 𝕄) : iprop(emp ∗ A) = A := equiv_iff.mp BI.emp_sep
/-- Three parts, regrouped. -/
theorem sA (A B C : sProp 𝕄) : iprop((A ∗ B) ∗ C) = iprop(A ∗ B ∗ C) := equiv_iff.mp ⟨BI.sep_assoc, BI.sep_assoc'⟩
/-- Two parts, swapped. -/
theorem sC (A B : sProp 𝕄) : iprop(A ∗ B) = iprop(B ∗ A) := equiv_iff.mp ⟨BI.sep_comm, BI.sep_comm⟩

/-- Two things held under one condition. -/
theorem gi_sep (P : Prop) [Decidable P] (A B : sProp 𝕄) : gi P iprop(A ∗ B) = iprop(gi P A ∗ gi P B) := by
  unfold gi
  by_cases h : P
  · rw [if_pos h, if_pos h, if_pos h]
  · rw [if_neg h, if_neg h, if_neg h, sE]

/-- Four things in a row. -/
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl
/-- A turn of the four places. -/
def rot (p : Fin 4) : Fin 4 ≃ Fin 4 := ⟨fun k => p + k, fun k => k - p, by revert p; decide, by revert p; decide⟩
/-- Four things, from a device's place on. -/
theorem reip (c : Dev nD) (Φ : Fin 4 → sProp 𝕄) : bigSep Finset.univ Φ = iprop(Φ (pc c) ∗ Φ (pc c + 1) ∗ Φ (pc c + 2) ∗ Φ (pc c + 3)) := by
  rw [bigSep_univ_equiv (rot (pc c)) Φ, four]
  show iprop(Φ (pc c + 0) ∗ _) = _
  rw [Fin.add_zero]
  rfl

/-- The rounds and slots of the first plane. -/
theorem slots0 : ∀ c : Dev nD, zc c = 0 → (¬ Has c 0 0 ∧ ¬ Has c 0 1 ∧ ¬ Has c 0 2 ∧ Has c 1 0 ∧ Has c 1 1 ∧ Has c 1 2) ∧ slot c 1 0 = 1 ∧ slot c 1 1 = 2 ∧ slot c 1 2 = 3 := by decide +kernel
/-- The rounds and slots of the second plane. -/
theorem slots1 : ∀ c : Dev nD, zc c = 1 → (Has c 0 0 ∧ ¬ Has c 0 1 ∧ ¬ Has c 0 2 ∧ Has c 1 0 ∧ Has c 1 1 ∧ ¬ Has c 1 2) ∧ slot c 0 0 = 0 ∧ slot c 1 0 = 2 ∧ slot c 1 1 = 3 := by decide +kernel
/-- The rounds and slots of the third plane. -/
theorem slots2 : ∀ c : Dev nD, zc c = 2 → (Has c 0 0 ∧ Has c 0 1 ∧ ¬ Has c 0 2 ∧ Has c 1 0 ∧ ¬ Has c 1 1 ∧ ¬ Has c 1 2) ∧ slot c 0 0 = 1 ∧ slot c 0 1 = 0 ∧ slot c 1 0 = 3 := by decide +kernel
/-- The rounds and slots of the last plane. -/
theorem slots3 : ∀ c : Dev nD, zc c = 3 → (Has c 0 0 ∧ Has c 0 1 ∧ Has c 0 2 ∧ ¬ Has c 1 0 ∧ ¬ Has c 1 1 ∧ ¬ Has c 1 2) ∧ slot c 0 0 = 2 ∧ slot c 0 1 = 1 ∧ slot c 0 2 = 0 := by decide +kernel

/-- Four things, the device's own first, then one for each slot that arrives. -/
theorem reix (c : Dev nD) (Φ : Fin 4 → sProp 𝕄) : bigSep Finset.univ Φ = iprop(Φ (zc c) ∗ gi (Has c 0 0) (Φ (slot c 0 0)) ∗ gi (Has c 1 0) (Φ (slot c 1 0))
    ∗ gi (Has c 0 1) (Φ (slot c 0 1)) ∗ gi (Has c 1 1) (Φ (slot c 1 1)) ∗ gi (Has c 0 2) (Φ (slot c 0 2)) ∗ gi (Has c 1 2) (Φ (slot c 1 2))) := by
  rw [four]
  have hz : zc c = 0 ∨ zc c = 1 ∨ zc c = 2 ∨ zc c = 3 := by generalize zc c = z; revert z; decide
  have hc : ∀ A B : sProp 𝕄, iprop(A ∗ B) = iprop(B ∗ A) := sC
  have hl : ∀ A B C : sProp 𝕄, iprop(A ∗ B ∗ C) = iprop(B ∗ A ∗ C) := fun A B C => by rw [← sA, hc A B, sA]
  rcases hz with h | h | h | h
  · obtain ⟨⟨h1, h2, h3, h4, h5, h6⟩, e1, e2, e3⟩ := slots0 c h
    rw [gi_neg h1, gi_neg h2, gi_neg h3, gi_pos h4, gi_pos h5, gi_pos h6, e1, e2, e3, h]
    simp only [eS]
  · obtain ⟨⟨h1, h2, h3, h4, h5, h6⟩, e1, e2, e3⟩ := slots1 c h
    rw [gi_pos h1, gi_neg h2, gi_neg h3, gi_pos h4, gi_pos h5, gi_neg h6, e1, e2, e3, h]
    simp only [eS, sE]
    rw [hl (Φ 0)]
  · obtain ⟨⟨h1, h2, h3, h4, h5, h6⟩, e1, e2, e3⟩ := slots2 c h
    rw [gi_pos h1, gi_pos h2, gi_neg h3, gi_pos h4, gi_neg h5, gi_neg h6, e1, e2, e3, h]
    simp only [eS, sE]
    rw [hc (Φ 3) (Φ 0), hl (Φ 1) (Φ 0), hl (Φ 2) (Φ 0), hl (Φ 2) (Φ 1)]
  · obtain ⟨⟨h1, h2, h3, h4, h5, h6⟩, e1, e2, e3⟩ := slots3 c h
    rw [gi_pos h1, gi_pos h2, gi_pos h3, gi_neg h4, gi_neg h5, gi_neg h6, e1, e2, e3, h]
    simp only [eS, sE]
    rw [hc (Φ 1) (Φ 0), hl (Φ 2) (Φ 0), hl (Φ 3) (Φ 0), hc (Φ 2) (Φ 1), hl (Φ 3) (Φ 1), hc (Φ 3) (Φ 2)]

section Units3

variable (K : Dev nD × CK → ℕ) {c : Dev nD} {α : Type} {Q : α → sProp (MT nD τ sig Unit (Elt F) ℕ UU ℕ)} {kk : Prog (TpuEff nD τ sig (Elt F) Λ₀ .tc) α} {C : Prop} [Decidable C]

/-- The results of a slot that arrived: computed, sent to the three mates, the own block written to the result. -/
theorem comp (d : Fin 2) (r : Fin 3) (hC : C ↔ Has c d r)
    {o1 : C → Fin S1024x4096.rank → ℕ} {b1 : ∀ h a, o1 h a + S256x4096.size a ≤ S1024x4096.size a} {l1 : ∀ h, xgM.view.LoadsAt (Rect.unit (s := S1024x4096) (o1 h) S256x4096.size (b1 h))}
    {b2 : ∀ a, (![0, 0] : Fin S4096x2048.rank → ℕ) a + S4096x2048.size a ≤ S4096x2048.size a} {l2 : C → w8M.view.LoadsAt (Rect.unit (s := S4096x2048) ![0, 0] S4096x2048.size b2)}
    {o3 : C → Fin S1024x2048.rank → ℕ} {b3 : ∀ h a, o3 h a + S256x2048.size a ≤ S1024x2048.size a} {l3 : ∀ h, ybM.view.LoadsAt (Rect.unit (s := S1024x2048) (o3 h) S256x2048.size (b3 h))}
    {P : Vec F S256x4096 .fp8e4m3 → Vec F S4096x2048 .fp8e4m3 → Vec F S256x2048 .bf16}
    {x3 : ∀ h, (ybM.access (Rect.unit (s := S1024x2048) (o3 h) S256x2048.size (b3 h))).Stores Finset.univ}
    {y3 : ∀ h, (Finset.univ : Finset (Rect.unit (s := S1024x2048) (o3 h) S256x2048.size (b3 h)).shape.Idx) = Finset.univ ∨ ∀ a, (Rect.unit (s := S1024x2048) (o3 h) S256x2048.size (b3 h)).stride a = 1}
    {src₂ src₁ src₃ dst₂ dst₁ dst₃ : C → Memref sig .tc .vmem S256x512 .bf16} {n₂ n₁ n₃ : C → Dev nD} {sS₂ sS₁ sS₃ sR₂ sR₁ sR₃ : C → DmaSem sig}
    {hsc₂ : ∀ h, (dst₂ h).view.ref.isScScratch = false} {hsrc₂ : ∀ h, (src₂ h).view.WordExact} {hdst₂ : ∀ h, (dst₂ h).view.WordExact}
    {hsem₂ : ∀ h, DmaTarget.Typed .vmem (.dma (sR₂ h)) (.remote (Dev.tc (n₂ h) : Thread nD τ) (dst₂ h) (.dma (sS₂ h)) (hsc₂ h))}
    {hsc₁ : ∀ h, (dst₁ h).view.ref.isScScratch = false} {hsrc₁ : ∀ h, (src₁ h).view.WordExact} {hdst₁ : ∀ h, (dst₁ h).view.WordExact}
    {hsem₁ : ∀ h, DmaTarget.Typed .vmem (.dma (sR₁ h)) (.remote (Dev.tc (n₁ h) : Thread nD τ) (dst₁ h) (.dma (sS₁ h)) (hsc₁ h))}
    {hsc₃ : ∀ h, (dst₃ h).view.ref.isScScratch = false} {hsrc₃ : ∀ h, (src₃ h).view.WordExact} {hdst₃ : ∀ h, (dst₃ h).view.WordExact}
    {hsem₃ : ∀ h, DmaTarget.Typed .vmem (.dma (sR₃ h)) (.remote (Dev.tc (n₃ h) : Thread nD τ) (dst₃ h) (.dma (sS₃ h)) (hsc₃ h))}
    {o4 : C → Fin S1024x2048.rank → ℕ} {b4 : ∀ h a, o4 h a + S256x512.size a ≤ S1024x2048.size a} {l4 : ∀ h, ybM.view.LoadsAt (Rect.unit (s := S1024x2048) (o4 h) S256x512.size (b4 h))}
    {o5 : C → Fin S4096x512.rank → ℕ} {b5 : ∀ h a, o5 h a + S256x512.size a ≤ S4096x512.size a} {l5 : ∀ h, oM.view.LoadsAt (Rect.unit (s := S4096x512) (o5 h) S256x512.size (b5 h))}
    {P' : Vec F S256x512 .bf16 → Vec F S256x512 .f32}
    {x5 : ∀ h, (oM.access (Rect.unit (s := S4096x512) (o5 h) S256x512.size (b5 h))).Stores Finset.univ}
    {y5 : ∀ h, (Finset.univ : Finset (Rect.unit (s := S4096x512) (o5 h) S256x512.size (b5 h)).shape.Idx) = Finset.univ ∨ ∀ a, (Rect.unit (s := S4096x512) (o5 h) S256x512.size (b5 h)).stride a = 1}
    {R : List (Dev nD × CK)}
    (e1 : ∀ h, o1 h = ![256 * (slot c d r).val, 0]) (e3 : ∀ h, o3 h = ![256 * (slot c d r).val, 0]) (hP : P = k0_pay1 (sc m c)) (hP' : P' = k0_pay2)
    (hn₂ : ∀ h, n₂ h = mate c 2) (i₂ : ∀ h, sS₂ h = ysS (pc c + 2) (slot c d r)) (j₂ : ∀ h, sR₂ h = yrS (pc c) (slot c d r)) (hs₂ : ∀ h, src₂ h = ybV (slot c d r) (pc c + 2)) (hd₂ : ∀ h, dst₂ h = yrV (slot c d r) (pc c))
    (hn₁ : ∀ h, n₁ h = mate c 1) (i₁ : ∀ h, sS₁ h = ysS (pc c + 1) (slot c d r)) (j₁ : ∀ h, sR₁ h = yrS (pc c) (slot c d r)) (hs₁ : ∀ h, src₁ h = ybV (slot c d r) (pc c + 1)) (hd₁ : ∀ h, dst₁ h = yrV (slot c d r) (pc c))
    (hn₃ : ∀ h, n₃ h = mate c 3) (i₃ : ∀ h, sS₃ h = ysS (pc c + 3) (slot c d r)) (j₃ : ∀ h, sR₃ h = yrS (pc c) (slot c d r)) (hs₃ : ∀ h, src₃ h = ybV (slot c d r) (pc c + 3)) (hd₃ : ∀ h, dst₃ h = yrV (slot c d r) (pc c))
    (e4 : ∀ h, o4 h = ![256 * (slot c d r).val, 512 * (pc c).val]) (e5 : ∀ h, o5 h = ![1024 * (slot c d r).val + 256 * (pc c).val, 0]) :
    iprop(recs m K ∗ blk c w8M fullShare (W8 m c) ∗ gi (Has c d r) iprop(blk c (xgV (slot c d r)) fullShare.left (XB m (dev (slot c d r) (pc c))) ∗ compA c (slot c d r))
        ∗ owesL c ((if Has c d r then segM c (slot c d r) else []) ++ R))
      ⊢ iprop(((blk c w8M fullShare (W8 m c) ∗ gi (Has c d r) iprop(blk c (xgV (slot c d r)) fullShare.left (XB m (dev (slot c d r) (pc c))) ∗ compB m c (slot c d r)) ∗ owesL c R) -∗ WP c kk Q)
        -∗ WP c (dite C (fun h =>
            .op (.load xgM (Rect.unit (s := S1024x4096) (o1 h) S256x4096.size (b1 h)).toLoadRect (l1 h)) fun a =>
            .op (.load w8M (Rect.unit (s := S4096x2048) ![0, 0] S4096x2048.size b2).toLoadRect (l2 h)) fun b =>
            .op (.load ybM (Rect.unit (s := S1024x2048) (o3 h) S256x2048.size (b3 h)).toLoadRect (l3 h)) fun _ =>
            .op (.store ybM (Rect.unit (s := S1024x2048) (o3 h) S256x2048.size (b3 h)) (P a b) Finset.univ (x3 h) (y3 h)) fun _ =>
            .op (.enqueueDma (src₂ h) (.remote (Dev.tc (n₂ h)) (dst₂ h) (.dma (sS₂ h)) (hsc₂ h)) (.dma (sR₂ h)) (hsrc₂ h) (hdst₂ h) (hsem₂ h)) fun _ =>
            .op (.enqueueDma (src₁ h) (.remote (Dev.tc (n₁ h)) (dst₁ h) (.dma (sS₁ h)) (hsc₁ h)) (.dma (sR₁ h)) (hsrc₁ h) (hdst₁ h) (hsem₁ h)) fun _ =>
            .op (.enqueueDma (src₃ h) (.remote (Dev.tc (n₃ h)) (dst₃ h) (.dma (sS₃ h)) (hsc₃ h)) (.dma (sR₃ h)) (hsrc₃ h) (hdst₃ h) (hsem₃ h)) fun _ =>
            .op (.load ybM (Rect.unit (s := S1024x2048) (o4 h) S256x512.size (b4 h)).toLoadRect (l4 h)) fun a' =>
            .op (.load oM (Rect.unit (s := S4096x512) (o5 h) S256x512.size (b5 h)).toLoadRect (l5 h)) fun _ =>
            .op (.store oM (Rect.unit (s := S4096x512) (o5 h) S256x512.size (b5 h)) (P' a') Finset.univ (x5 h) (y5 h)) fun _ => kk) (fun _ => kk)) Q) := by
  refine gg m K hC fun h hp => ?_
  have hz := slot_ne hp
  generalize slot c d r = s at *
  unfold compA compB segM
  iintro ⟨#HR, Hw, ⟨Hx, Ht2, Ht1, Ht3, ⟨%Xo, Ho⟩, ⟨%Xw, Hb⟩⟩, HO⟩ Hk
  iapply (op_load (e1 h)) $$ Hx
  iintro Hx
  iapply (op_loadW (cs := .vmem) (i := (4 : Fin _)) (hκ := rfl) (q := fullShare) (X := W8 m c) (by funext a; fin_cases a <;> rfl)) $$ Hw
  iintro Hw
  iapply (op_load (e3 h)) $$ Hb
  iintro Hb
  iapply (op_store (e3 h)) $$ Hb
  iintro Hb
  have hyb : ∀ q, YB m c s q = cols q (P (XB m (dev s (pc c))) (W8 m c)) := fun q => by
    rw [hP]; unfold YB; rw [if_neg hz]; rfl
  have hrow : blk c (ybW s) fullShare (P (XB m (dev s (pc c))) (W8 m c)) ⊢ iprop(blk c (ybV s (pc c)) fullShare (YB m c s (pc c)) ∗ blk c (ybV s (pc c + 1)) fullShare (YB m c s (pc c + 1))
      ∗ blk c (ybV s (pc c + 2)) fullShare (YB m c s (pc c + 2)) ∗ blk c (ybV s (pc c + 3)) fullShare (YB m c s (pc c + 3))) := by
    refine (row_split s _).trans (Entails.of_eq ?_)
    rw [reip c, ← hyb, ← hyb, ← hyb, ← hyb]
  ihave Hb := hrow $$ Hb
  icases Hb with ⟨Hb0, Hb1, Hb2, Hb3⟩
  iapply (y_send m K s 2 (by decide) (hn₂ h) (i₂ h) (j₂ h) (hs₂ h) (hd₂ h)) $$ [Hb2 Ht2 HO]
  · isplitr; · iexact HR
    isplitl [Hb2]; · iexact Hb2
    isplitl [Ht2]; · iexact Ht2
    iexact HO
  iintro ⟨Hc2, HO⟩
  iapply (y_send m K s 1 (by decide) (hn₁ h) (i₁ h) (j₁ h) (hs₁ h) (hd₁ h)) $$ [Hb1 Ht1 HO]
  · isplitr; · iexact HR
    isplitl [Hb1]; · iexact Hb1
    isplitl [Ht1]; · iexact Ht1
    iexact HO
  iintro ⟨Hc1, HO⟩
  iapply (y_send m K s 3 (by decide) (hn₃ h) (i₃ h) (j₃ h) (hs₃ h) (hd₃ h)) $$ [Hb3 Ht3 HO]
  · isplitr; · iexact HR
    isplitl [Hb3]; · iexact Hb3
    isplitl [Ht3]; · iexact Ht3
    iexact HO
  iintro ⟨Hc3, HO⟩
  iapply (op_load (e4 h)) $$ Hb0
  iintro Hb0
  iapply (op_load (e5 h)) $$ Ho
  iintro Ho
  iapply (op_store (e5 h)) $$ Ho
  iintro Ho
  iapply Hk
  isplitl [Hw]; · iexact Hw
  isplitr [HO]
  · isplitl [Hx]; · iexact Hx
    isplitl [Hc2]; · iexact Hc2
    isplitl [Hc1]; · iexact Hc1
    isplitl [Hc3]; · iexact Hc3
    isplitl [Hb0]; · iexists _; iexact Hb0
    rw [show OB m c s (pc c) = k0_pay2 (YB m c s (pc c)) by unfold OB; rw [if_pos rfl, if_neg hz], ← hP']
    iexact Ho
  iexact HO

end Units3

end Cert.Exchange

end
-- ==== Proof.Recv.lean ====
/-
The receipt of the result blocks from the mates.
-/
module

public import proofs.«01_k».proof.Proof.Units

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

variable (m : (ℓ : Loc nD τ sig) → Buf (Elt F) ℓ)

/-- What the receipt of the block of row slot `s` from the mate `k` further takes. -/
def rPre (c : Dev nD) (s k : Fin 4) : sProp 𝕄 := iprop(AV c (.yr (pc c + k) s) ∗ crd c (.yr (pc c + k) s) ∗ blkE c (oV s (pc c + k)))
/-- Between the arrival and the write. -/
def rMid (c : Dev nD) (s k : Fin 4) : sProp 𝕄 := iprop(Z c (.yr (pc c + k) s) ∗ blk c (yrV s (pc c + k)) fullShare (YB m (dev (zc c) (pc c + k)) s (pc c)) ∗ blkE c (oV s (pc c + k)))
/-- What it leaves. -/
def rPost (c : Dev nD) (s k : Fin 4) : sProp 𝕄 := iprop(Z c (.yr (pc c + k) s) ∗ blkE c (yrV s (pc c + k)) ∗ blk c (oV s (pc c + k)) fullShare (OB m c s (pc c + k)))

/-- A block received from a mate is the mate's block of results, widened. -/
theorem ob_recv (c : Dev nD) (s k : Fin 4) (hk : k ≠ 0) : OB m c s (pc c + k) = k0_pay29 (YB m (dev (zc c) (pc c + k)) s (pc c)) := by
  unfold OB; rw [if_neg (add_ne hk (pc c))]

section Recv

variable (K : Dev nD × CK → ℕ) {c : Dev nD}

/-- Receipts: slot 0 from the mate 1 further, slot 1 from the mate 1 further. -/
theorem part24 {Q : (Σ' (v394 : BitVec 32), BitVec 32) → sProp (MT nD τ sig Unit (Elt F) ℕ UU ℕ)} (v30 : BitVec 32) (v354 : BitVec 32) :
    iprop(recs m K ∗ rPre c 0 1 ∗ rPre c 1 1 ∗ owesL c []) ⊢ iprop((∀ r, (rPost m c 0 1 ∗ rPost m c 1 1 ∗ owesL c []) -∗ Q r)
      -∗ WP c (k0_part24 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v30 v354) Q) := by
  rw [k0_part24_eq_skeleton]
  unfold k0_part24_skel rPost rPre
  simp only [Prog.lift, Prog.bind_op, Prog.bind_ret, Prog.pure_eq_ret]
  iintro ⟨#HR, ⟨Ha01, Hc01, Hb01⟩, ⟨Ha11, Hc11, Hb11⟩, HO⟩ Hk
  iapply (op_waitD m K (.yr (pc c + 1) 0) (R := []) (blk c (yrV 0 (pc c + 1)) fullShare (YB m (dev (zc c) (pc c + 1)) 0 (pc c))) (yrV 0 (pc c + 1)) (congrArg SemLoc.dma (sem_eq cc0_scratch9 (off111_form c 0) _ _ _ _)) (slice_eq yrM (off112_form c 0 0) _ _) (add_ne (by decide) (pc c)) (by simp) rfl rfl rfl (fun x h => absurd h (List.not_mem_nil))) $$ [Ha01 Hc01 HO]
  · isplitr; · iexact HR
    isplitl [Ha01]; · iexact Ha01
    isplitl [Hc01]; · iexact Hc01
    iexact HO
  iintro ⟨Hz01, Hy01, HO⟩
  iapply (op_load (X := YB m (dev (zc c) (pc c + 1)) 0 (pc c)) (off114_form c 0 0)) $$ Hy01
  iintro Hy01
  icases Hb01 with ⟨%X01, Hb01⟩
  iapply (op_load (off114_form c 0 0)) $$ Hb01
  iintro Hb01
  iapply (op_store (off114_form c 0 0)) $$ Hb01
  iintro Hb01
  iapply (op_waitD m K (.yr (pc c + 1) 1) (R := []) (blk c (yrV 1 (pc c + 1)) fullShare (YB m (dev (zc c) (pc c + 1)) 1 (pc c))) (yrV 1 (pc c + 1)) (congrArg SemLoc.dma (sem_eq cc0_scratch9 (off115_form c 0) _ _ _ _)) (slice_eq yrM (off112_form c 1 0) _ _) (add_ne (by decide) (pc c)) (by simp) rfl rfl rfl (fun x h => absurd h (List.not_mem_nil))) $$ [Ha11 Hc11 HO]
  · isplitr; · iexact HR
    isplitl [Ha11]; · iexact Ha11
    isplitl [Hc11]; · iexact Hc11
    iexact HO
  iintro ⟨Hz11, Hy11, HO⟩
  iapply (op_load (X := YB m (dev (zc c) (pc c + 1)) 1 (pc c)) (off114_form c 1 0)) $$ Hy11
  iintro Hy11
  icases Hb11 with ⟨%X11, Hb11⟩
  iapply (op_load (off114_form c 1 0)) $$ Hb11
  iintro Hb11
  iapply (op_store (off114_form c 1 0)) $$ Hb11
  iintro Hb11
  unfold WP
  rw [wp_ret]
  imodintro
  iapply Hk
  isplitl [Hz01 Hy01 Hb01]
  · isplitl [Hz01]; · iexact Hz01
    isplitl [Hy01]; · iexists _; iexact Hy01
    rw [ob_recv m c 0 1 (by decide)]; iexact Hb01
  isplitl [Hz11 Hy11 Hb11]
  · isplitl [Hz11]; · iexact Hz11
    isplitl [Hy11]; · iexists _; iexact Hy11
    rw [ob_recv m c 1 1 (by decide)]; iexact Hb11
  iexact HO

/-- Receipts: slot 2 from the mate 1 further, slot 3 from the mate 1 further. -/
theorem part25 {Q : (Σ' (v426 : FVec F S256x512 .f32), BitVec 32) → sProp (MT nD τ sig Unit (Elt F) ℕ UU ℕ)} (v30 : BitVec 32) (v354 : BitVec 32) (v394 : BitVec 32) (c256 : BitVec 32) :
    iprop(recs m K ∗ rPre c 2 1 ∗ rPre c 3 1 ∗ owesL c []) ⊢ iprop((∀ r, ⌜r.1 = k0_pay29 (YB m (dev (zc c) (pc c + 1)) 3 (pc c))⌝ -∗ (rPost m c 2 1 ∗ rMid m c 3 1 ∗ owesL c []) -∗ Q r)
      -∗ WP c (k0_part25 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v30 v354 v394 c256) Q) := by
  rw [k0_part25_eq_skeleton]
  unfold k0_part25_skel rMid rPost rPre
  simp only [Prog.lift, Prog.bind_op, Prog.bind_ret, Prog.pure_eq_ret]
  iintro ⟨#HR, ⟨Ha21, Hc21, Hb21⟩, ⟨Ha31, Hc31, Hb31⟩, HO⟩ Hk
  iapply (op_waitD m K (.yr (pc c + 1) 2) (R := []) (blk c (yrV 2 (pc c + 1)) fullShare (YB m (dev (zc c) (pc c + 1)) 2 (pc c))) (yrV 2 (pc c + 1)) (congrArg SemLoc.dma (sem_eq cc0_scratch9 (off117_form c 0) _ _ _ _)) (slice_eq yrM (off112_form c 2 0) _ _) (add_ne (by decide) (pc c)) (by simp) rfl rfl rfl (fun x h => absurd h (List.not_mem_nil))) $$ [Ha21 Hc21 HO]
  · isplitr; · iexact HR
    isplitl [Ha21]; · iexact Ha21
    isplitl [Hc21]; · iexact Hc21
    iexact HO
  iintro ⟨Hz21, Hy21, HO⟩
  iapply (op_load (X := YB m (dev (zc c) (pc c + 1)) 2 (pc c)) (off114_form c 2 0)) $$ Hy21
  iintro Hy21
  icases Hb21 with ⟨%X21, Hb21⟩
  iapply (op_load (off114_form c 2 0)) $$ Hb21
  iintro Hb21
  iapply (op_store (off114_form c 2 0)) $$ Hb21
  iintro Hb21
  iapply (op_waitD m K (.yr (pc c + 1) 3) (R := []) (blk c (yrV 3 (pc c + 1)) fullShare (YB m (dev (zc c) (pc c + 1)) 3 (pc c))) (yrV 3 (pc c + 1)) (congrArg SemLoc.dma (sem_eq cc0_scratch9 (off119_form c 0) _ _ _ _)) (slice_eq yrM (off112_form c 3 0) _ _) (add_ne (by decide) (pc c)) (by simp) rfl rfl rfl (fun x h => absurd h (List.not_mem_nil))) $$ [Ha31 Hc31 HO]
  · isplitr; · iexact HR
    isplitl [Ha31]; · iexact Ha31
    isplitl [Hc31]; · iexact Hc31
    iexact HO
  iintro ⟨Hz31, Hy31, HO⟩
  iapply (op_load (X := YB m (dev (zc c) (pc c + 1)) 3 (pc c)) (off114_form c 3 0)) $$ Hy31
  iintro Hy31
  unfold WP
  rw [wp_ret]
  imodintro
  iapply Hk $$ %_ []
  · ipureintro; rfl
  isplitl [Hz21 Hy21 Hb21]
  · isplitl [Hz21]; · iexact Hz21
    isplitl [Hy21]; · iexists _; iexact Hy21
    rw [ob_recv m c 2 1 (by decide)]; iexact Hb21
  isplitl [Hz31 Hy31 Hb31]
  · isplitl [Hz31]; · iexact Hz31
    isplitl [Hy31]; · iexact Hy31
    iexact Hb31
  iexact HO

/-- Receipts: slot 3 from the mate 1 further, slot 0 from the mate 2 further. -/
theorem part26 {Q : (Σ' (v441 : BitVec 32), FVec F S256x512 .f32) → sProp (MT nD τ sig Unit (Elt F) ℕ UU ℕ)} (v29 : BitVec 32) (v30 : BitVec 32) (v354 : BitVec 32) (V : FVec F S256x512 .f32) (c12 : BitVec 32) (hV : V = k0_pay29 (YB m (dev (zc c) (pc c + 1)) 3 (pc c))) :
    iprop(recs m K ∗ rMid m c 3 1 ∗ rPre c 0 2 ∗ owesL c []) ⊢ iprop((∀ r, ⌜r.2 = k0_pay29 (YB m (dev (zc c) (pc c + 2)) 0 (pc c))⌝ -∗ (rPost m c 3 1 ∗ rMid m c 0 2 ∗ owesL c []) -∗ Q r)
      -∗ WP c (k0_part26 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v29 v30 v354 V c12) Q) := by
  rw [k0_part26_eq_skeleton]
  unfold k0_part26_skel rMid rPost rPre
  simp only [Prog.lift, Prog.bind_op, Prog.bind_ret, Prog.pure_eq_ret]
  iintro ⟨#HR, ⟨Hz31, Hy31, Hb31⟩, ⟨Ha02, Hc02, Hb02⟩, HO⟩ Hk
  icases Hb31 with ⟨%X31, Hb31⟩
  iapply (op_load (off114_form c 3 0)) $$ Hb31
  iintro Hb31
  iapply (op_store (off114_form c 3 0)) $$ Hb31
  iintro Hb31
  iapply (op_waitD m K (.yr (pc c + 2) 0) (R := []) (blk c (yrV 0 (pc c + 2)) fullShare (YB m (dev (zc c) (pc c + 2)) 0 (pc c))) (yrV 0 (pc c + 2)) (congrArg SemLoc.dma (sem_eq cc0_scratch9 (off111_form c 1) _ _ _ _)) (slice_eq yrM (off112_form c 0 1) _ _) (add_ne (by decide) (pc c)) (by simp) rfl rfl rfl (fun x h => absurd h (List.not_mem_nil))) $$ [Ha02 Hc02 HO]
  · isplitr; · iexact HR
    isplitl [Ha02]; · iexact Ha02
    isplitl [Hc02]; · iexact Hc02
    iexact HO
  iintro ⟨Hz02, Hy02, HO⟩
  iapply (op_load (X := YB m (dev (zc c) (pc c + 2)) 0 (pc c)) (off114_form c 0 1)) $$ Hy02
  iintro Hy02
  icases Hb02 with ⟨%X02, Hb02⟩
  iapply (op_load (off114_form c 0 1)) $$ Hb02
  iintro Hb02
  unfold WP
  rw [wp_ret]
  imodintro
  iapply Hk $$ %_ []
  · ipureintro; rfl
  isplitl [Hz31 Hy31 Hb31]
  · isplitl [Hz31]; · iexact Hz31
    isplitl [Hy31]; · iexists _; iexact Hy31
    rw [ob_recv m c 3 1 (by decide), ← hV]; iexact Hb31
  isplitl [Hz02 Hy02 Hb02]
  · isplitl [Hz02]; · iexact Hz02
    isplitl [Hy02]; · iexact Hy02
    iexists _; iexact Hb02
  iexact HO

/-- Receipts: slot 0 from the mate 2 further, slot 1 from the mate 2 further, slot 2 from the mate 2 further. -/
theorem part27 {Q : (Σ' (v490 : BitVec 32), BitVec 32) → sProp (MT nD τ sig Unit (Elt F) ℕ UU ℕ)} (v30 : BitVec 32) (v441 : BitVec 32) (V : FVec F S256x512 .f32) (hV : V = k0_pay29 (YB m (dev (zc c) (pc c + 2)) 0 (pc c))) :
    iprop(recs m K ∗ rMid m c 0 2 ∗ rPre c 1 2 ∗ rPre c 2 2 ∗ owesL c []) ⊢ iprop((∀ r, (rPost m c 0 2 ∗ rPost m c 1 2 ∗ rMid m c 2 2 ∗ owesL c []) -∗ Q r)
      -∗ WP c (k0_part27 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v30 v441 V) Q) := by
  rw [k0_part27_eq_skeleton]
  unfold k0_part27_skel rMid rPost rPre
  simp only [Prog.lift, Prog.bind_op, Prog.bind_ret, Prog.pure_eq_ret]
  iintro ⟨#HR, ⟨Hz02, Hy02, Hb02⟩, ⟨Ha12, Hc12, Hb12⟩, ⟨Ha22, Hc22, Hb22⟩, HO⟩ Hk
  icases Hb02 with ⟨%X02, Hb02⟩
  iapply (op_store (off114_form c 0 1)) $$ Hb02
  iintro Hb02
  iapply (op_waitD m K (.yr (pc c + 2) 1) (R := []) (blk c (yrV 1 (pc c + 2)) fullShare (YB m (dev (zc c) (pc c + 2)) 1 (pc c))) (yrV 1 (pc c + 2)) (congrArg SemLoc.dma (sem_eq cc0_scratch9 (off115_form c 1) _ _ _ _)) (slice_eq yrM (off112_form c 1 1) _ _) (add_ne (by decide) (pc c)) (by simp) rfl rfl rfl (fun x h => absurd h (List.not_mem_nil))) $$ [Ha12 Hc12 HO]
  · isplitr; · iexact HR
    isplitl [Ha12]; · iexact Ha12
    isplitl [Hc12]; · iexact Hc12
    iexact HO
  iintro ⟨Hz12, Hy12, HO⟩
  iapply (op_load (X := YB m (dev (zc c) (pc c + 2)) 1 (pc c)) (off114_form c 1 1)) $$ Hy12
  iintro Hy12
  icases Hb12 with ⟨%X12, Hb12⟩
  iapply (op_load (off114_form c 1 1)) $$ Hb12
  iintro Hb12
  iapply (op_store (off114_form c 1 1)) $$ Hb12
  iintro Hb12
  iapply (op_waitD m K (.yr (pc c + 2) 2) (R := []) (blk c (yrV 2 (pc c + 2)) fullShare (YB m (dev (zc c) (pc c + 2)) 2 (pc c))) (yrV 2 (pc c + 2)) (congrArg SemLoc.dma (sem_eq cc0_scratch9 (off117_form c 1) _ _ _ _)) (slice_eq yrM (off112_form c 2 1) _ _) (add_ne (by decide) (pc c)) (by simp) rfl rfl rfl (fun x h => absurd h (List.not_mem_nil))) $$ [Ha22 Hc22 HO]
  · isplitr; · iexact HR
    isplitl [Ha22]; · iexact Ha22
    isplitl [Hc22]; · iexact Hc22
    iexact HO
  iintro ⟨Hz22, Hy22, HO⟩
  unfold WP
  rw [wp_ret]
  imodintro
  iapply Hk
  isplitl [Hz02 Hy02 Hb02]
  · isplitl [Hz02]; · iexact Hz02
    isplitl [Hy02]; · iexists _; iexact Hy02
    rw [ob_recv m c 0 2 (by decide), ← hV]; iexact Hb02
  isplitl [Hz12 Hy12 Hb12]
  · isplitl [Hz12]; · iexact Hz12
    isplitl [Hy12]; · iexists _; iexact Hy12
    rw [ob_recv m c 1 2 (by decide)]; iexact Hb12
  isplitl [Hz22 Hy22 Hb22]
  · isplitl [Hz22]; · iexact Hz22
    isplitl [Hy22]; · iexact Hy22
    iexact Hb22
  iexact HO

/-- Receipts: slot 2 from the mate 2 further, slot 3 from the mate 2 further. -/
theorem part28 {Q : (Σ' (v520 : BitVec 32) (v521 : BitVec 32) (v522 : BitVec 1), BitVec 32) → sProp (MT nD τ sig Unit (Elt F) ℕ UU ℕ)} (v29 : BitVec 32) (v30 : BitVec 32) (v441 : BitVec 32) (v490 : BitVec 32) (c256 : BitVec 32) :
    iprop(recs m K ∗ rMid m c 2 2 ∗ rPre c 3 2 ∗ owesL c []) ⊢ iprop((∀ r, (rPost m c 2 2 ∗ rPost m c 3 2 ∗ owesL c []) -∗ Q r)
      -∗ WP c (k0_part28 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v29 v30 v441 v490 c256) Q) := by
  rw [k0_part28_eq_skeleton]
  unfold k0_part28_skel rMid rPost rPre
  simp only [Prog.lift, Prog.bind_op, Prog.bind_ret, Prog.pure_eq_ret]
  iintro ⟨#HR, ⟨Hz22, Hy22, Hb22⟩, ⟨Ha32, Hc32, Hb32⟩, HO⟩ Hk
  iapply (op_load (X := YB m (dev (zc c) (pc c + 2)) 2 (pc c)) (off114_form c 2 1)) $$ Hy22
  iintro Hy22
  icases Hb22 with ⟨%X22, Hb22⟩
  iapply (op_load (off114_form c 2 1)) $$ Hb22
  iintro Hb22
  iapply (op_store (off114_form c 2 1)) $$ Hb22
  iintro Hb22
  iapply (op_waitD m K (.yr (pc c + 2) 3) (R := []) (blk c (yrV 3 (pc c + 2)) fullShare (YB m (dev (zc c) (pc c + 2)) 3 (pc c))) (yrV 3 (pc c + 2)) (congrArg SemLoc.dma (sem_eq cc0_scratch9 (off119_form c 1) _ _ _ _)) (slice_eq yrM (off112_form c 3 1) _ _) (add_ne (by decide) (pc c)) (by simp) rfl rfl rfl (fun x h => absurd h (List.not_mem_nil))) $$ [Ha32 Hc32 HO]
  · isplitr; · iexact HR
    isplitl [Ha32]; · iexact Ha32
    isplitl [Hc32]; · iexact Hc32
    iexact HO
  iintro ⟨Hz32, Hy32, HO⟩
  iapply (op_load (X := YB m (dev (zc c) (pc c + 2)) 3 (pc c)) (off114_form c 3 1)) $$ Hy32
  iintro Hy32
  icases Hb32 with ⟨%X32, Hb32⟩
  iapply (op_load (off114_form c 3 1)) $$ Hb32
  iintro Hb32
  iapply (op_store (off114_form c 3 1)) $$ Hb32
  iintro Hb32
  unfold WP
  rw [wp_ret]
  imodintro
  iapply Hk
  isplitl [Hz22 Hy22 Hb22]
  · isplitl [Hz22]; · iexact Hz22
    isplitl [Hy22]; · iexists _; iexact Hy22
    rw [ob_recv m c 2 2 (by decide)]; iexact Hb22
  isplitl [Hz32 Hy32 Hb32]
  · isplitl [Hz32]; · iexact Hz32
    isplitl [Hy32]; · iexists _; iexact Hy32
    rw [ob_recv m c 3 2 (by decide)]; iexact Hb32
  iexact HO

/-- Receipts: slot 0 from the mate 3 further. -/
theorem part29 {Q : (BitVec 32) → sProp (MT nD τ sig Unit (Elt F) ℕ UU ℕ)} (v30 : BitVec 32) (v520 : BitVec 32) (v521 : BitVec 32) (v522 : BitVec 1) (c0 : BitVec 32) :
    iprop(recs m K ∗ rPre c 0 3 ∗ owesL c []) ⊢ iprop((∀ r, (rPost m c 0 3 ∗ owesL c []) -∗ Q r)
      -∗ WP c (k0_part29 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v30 v520 v521 v522 c0) Q) := by
  rw [k0_part29_eq_skeleton]
  unfold k0_part29_skel rPost rPre
  simp only [Prog.lift, Prog.bind_op, Prog.bind_ret, Prog.pure_eq_ret]
  iintro ⟨#HR, ⟨Ha03, Hc03, Hb03⟩, HO⟩ Hk
  iapply (op_waitD m K (.yr (pc c + 3) 0) (R := []) (blk c (yrV 0 (pc c + 3)) fullShare (YB m (dev (zc c) (pc c + 3)) 0 (pc c))) (yrV 0 (pc c + 3)) (congrArg SemLoc.dma (sem_eq cc0_scratch9 (off111_form c 2) _ _ _ _)) (slice_eq yrM (off112_form c 0 2) _ _) (add_ne (by decide) (pc c)) (by simp) rfl rfl rfl (fun x h => absurd h (List.not_mem_nil))) $$ [Ha03 Hc03 HO]
  · isplitr; · iexact HR
    isplitl [Ha03]; · iexact Ha03
    isplitl [Hc03]; · iexact Hc03
    iexact HO
  iintro ⟨Hz03, Hy03, HO⟩
  iapply (op_load (X := YB m (dev (zc c) (pc c + 3)) 0 (pc c)) (off114_form c 0 2)) $$ Hy03
  iintro Hy03
  icases Hb03 with ⟨%X03, Hb03⟩
  iapply (op_load (off114_form c 0 2)) $$ Hb03
  iintro Hb03
  iapply (op_store (off114_form c 0 2)) $$ Hb03
  iintro Hb03
  unfold WP
  rw [wp_ret]
  imodintro
  iapply Hk
  isplitl [Hz03 Hy03 Hb03]
  · isplitl [Hz03]; · iexact Hz03
    isplitl [Hy03]; · iexists _; iexact Hy03
    rw [ob_recv m c 0 3 (by decide)]; iexact Hb03
  iexact HO

/-- Receipts: slot 1 from the mate 3 further, slot 2 from the mate 3 further. -/
theorem part30 {Q : (Σ' (v587 : BitVec 32), BitVec 32) → sProp (MT nD τ sig Unit (Elt F) ℕ UU ℕ)} (v30 : BitVec 32) (v528 : BitVec 32) :
    iprop(recs m K ∗ rPre c 1 3 ∗ rPre c 2 3 ∗ owesL c []) ⊢ iprop((∀ r, (rPost m c 1 3 ∗ rPost m c 2 3 ∗ owesL c []) -∗ Q r)
      -∗ WP c (k0_part30 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v30 v528) Q) := by
  rw [k0_part30_eq_skeleton]
  unfold k0_part30_skel rPost rPre
  simp only [Prog.lift, Prog.bind_op, Prog.bind_ret, Prog.pure_eq_ret]
  iintro ⟨#HR, ⟨Ha13, Hc13, Hb13⟩, ⟨Ha23, Hc23, Hb23⟩, HO⟩ Hk
  iapply (op_waitD m K (.yr (pc c + 3) 1) (R := []) (blk c (yrV 1 (pc c + 3)) fullShare (YB m (dev (zc c) (pc c + 3)) 1 (pc c))) (yrV 1 (pc c + 3)) (congrArg SemLoc.dma (sem_eq cc0_scratch9 (off115_form c 2) _ _ _ _)) (slice_eq yrM (off112_form c 1 2) _ _) (add_ne (by decide) (pc c)) (by simp) rfl rfl rfl (fun x h => absurd h (List.not_mem_nil))) $$ [Ha13 Hc13 HO]
  · isplitr; · iexact HR
    isplitl [Ha13]; · iexact Ha13
    isplitl [Hc13]; · iexact Hc13
    iexact HO
  iintro ⟨Hz13, Hy13, HO⟩
  iapply (op_load (X := YB m (dev (zc c) (pc c + 3)) 1 (pc c)) (off114_form c 1 2)) $$ Hy13
  iintro Hy13
  icases Hb13 with ⟨%X13, Hb13⟩
  iapply (op_load (off114_form c 1 2)) $$ Hb13
  iintro Hb13
  iapply (op_store (off114_form c 1 2)) $$ Hb13
  iintro Hb13
  iapply (op_waitD m K (.yr (pc c + 3) 2) (R := []) (blk c (yrV 2 (pc c + 3)) fullShare (YB m (dev (zc c) (pc c + 3)) 2 (pc c))) (yrV 2 (pc c + 3)) (congrArg SemLoc.dma (sem_eq cc0_scratch9 (off117_form c 2) _ _ _ _)) (slice_eq yrM (off112_form c 2 2) _ _) (add_ne (by decide) (pc c)) (by simp) rfl rfl rfl (fun x h => absurd h (List.not_mem_nil))) $$ [Ha23 Hc23 HO]
  · isplitr; · iexact HR
    isplitl [Ha23]; · iexact Ha23
    isplitl [Hc23]; · iexact Hc23
    iexact HO
  iintro ⟨Hz23, Hy23, HO⟩
  iapply (op_load (X := YB m (dev (zc c) (pc c + 3)) 2 (pc c)) (off114_form c 2 2)) $$ Hy23
  iintro Hy23
  icases Hb23 with ⟨%X23, Hb23⟩
  iapply (op_load (off114_form c 2 2)) $$ Hb23
  iintro Hb23
  iapply (op_store (off114_form c 2 2)) $$ Hb23
  iintro Hb23
  unfold WP
  rw [wp_ret]
  imodintro
  iapply Hk
  isplitl [Hz13 Hy13 Hb13]
  · isplitl [Hz13]; · iexact Hz13
    isplitl [Hy13]; · iexists _; iexact Hy13
    rw [ob_recv m c 1 3 (by decide)]; iexact Hb13
  isplitl [Hz23 Hy23 Hb23]
  · isplitl [Hz23]; · iexact Hz23
    isplitl [Hy23]; · iexists _; iexact Hy23
    rw [ob_recv m c 2 3 (by decide)]; iexact Hb23
  iexact HO

end Recv

end Cert.Exchange

end
-- ==== Proof.Drain.lean ====
/-
The end of the kernel: every copy sent is waited for.
-/
module

public import proofs.«01_k».proof.Proof.Recv

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

variable (m : (ℓ : Loc nD τ sig) → Buf (Elt F) ℓ)

/-- What the last wait for slot `s`, sent in direction `d`, takes. -/
def zdPre (G : Prop) [Decidable G] (c : Dev nD) (d : Fin 2) (s : Fin 4) : sProp 𝕄 := iprop(gi G (AV c (.zs d s)) ∗ gi G (zPost m c d s))
/-- What it leaves. -/
def zdPost (G : Prop) [Decidable G] (c : Dev nD) (d : Fin 2) (s : Fin 4) : sProp 𝕄 :=
  iprop(gi G (Z c (.zs d s)) ∗ gi G (blk c (xgV s) (zsh c s d) (XB m (dev s (pc c)))))
/-- What the last wait for the result block of row slot `s`, sent to the mate `k` further, takes. -/
def ydPre (c : Dev nD) (s k : Fin 4) : sProp 𝕄 := iprop(AV c (.ys (pc c + k) s) ∗ crd c (.ys (pc c + k) s))
/-- What it leaves. -/
def ydPost (c : Dev nD) (s k : Fin 4) : sProp 𝕄 := iprop(Z c (.ys (pc c + k) s) ∗ blkE c (ybV s (pc c + k)))

/-- A device that owes nothing may wait anywhere. -/
theorem nolev {c : Dev nD} {k : CK} : ∀ x ∈ ([] : List (Dev nD × CK)), lvk c k < lvk x.1 x.2 := fun x h => absurd h List.not_mem_nil

section Drain

variable (K : Dev nD × CK → ℕ) {c : Dev nD}

/-- Part 31 of the kernel. -/
theorem part31 {Q : (PUnit) → sProp (MT nD τ sig Unit (Elt F) ℕ UU ℕ)} (v2 : BitVec 32) (v19 : BitVec 32) (v30 : BitVec 32) (v528 : BitVec 32) (v587 : BitVec 32) (c256 : BitVec 32) :
    iprop(recs m K ∗ rPre c 3 3 ∗ zdPre m True c 0 (zc c) ∗ zdPre m True c 1 (zc c) ∗ zdPre m (Has c 0 0) c 0 (slot c 0 0) ∗ owesL c []) ⊢ iprop((∀ r, (rPost m c 3 3 ∗ zdPost m True c 0 (zc c) ∗ zdPost m True c 1 (zc c) ∗ zdPost m (Has c 0 0) c 0 (slot c 0 0) ∗ owesL c []) -∗ Q r)
      -∗ WP c (k0_part31 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 v19 v30 v528 v587 c256) Q) := by
  rw [k0_part31_eq_skeleton]
  unfold k0_part31_skel rPost rPre zdPost zdPre
  simp (config := {zeta := false}) only [Prog.lift, Prog.bind_op, Prog.bind_ret, Prog.pure_eq_ret]
  iintro ⟨#HR, ⟨Ha33, Hc33, Hb33⟩, ⟨Ha29, Hb29⟩, ⟨Ha30, Hb30⟩, ⟨Ha31, Hb31⟩, HO⟩ Hk
  iapply (recv m K 3 3 (by decide) (R := []) (sem_eq cc0_scratch9 (off119_form c 2) _ _ _ _) (slice_eq yrM (off112_form c 3 2) _ _) (off114_form c 3 2) rfl nolev) $$ [Ha33 Hc33 Hb33 HO]
  · isplitr; · iexact HR
    isplitl [Ha33]; · iexact Ha33
    isplitl [Hc33]; · iexact Hc33
    isplitl [Hb33]; · iexact Hb33
    iexact HO
  iintro ⟨Hz33, Hy33, Hb33, HO⟩
  iapply (z_drain m K (G := True) 0 (zc c) (R := []) ((cond29_iff c).trans (by simp)) (fun h => sem_eq cc0_scratch6 (off121_form c ((cond29_iff c).mp h)) _ _ _ _) (fun h => slice_eq xgM (off122_form c ((cond29_iff c).mp h)) _ _) nolev) $$ [Ha29 Hb29 HO]
  · isplitr; · iexact HR
    isplitl [Ha29]; · iexact Ha29
    isplitl [Hb29]; · iexact Hb29
    iexact HO
  iintro ⟨Hz29, Hy29, HO⟩
  iapply (z_drain m K (G := True) 1 (zc c) (R := []) ((cond30_iff c).trans (by simp)) (fun h => sem_eq cc0_scratch6 (off123_form c ((cond30_iff c).mp h)) _ _ _ _) (fun h => slice_eq xgM (off124_form c ((cond30_iff c).mp h)) _ _) nolev) $$ [Ha30 Hb30 HO]
  · isplitr; · iexact HR
    isplitl [Ha30]; · iexact Ha30
    isplitl [Hb30]; · iexact Hb30
    iexact HO
  iintro ⟨Hz30, Hy30, HO⟩
  iapply (z_drain m K (G := (Has c 0 0)) 0 (slot c 0 0) (R := []) ((cond31_iff c).trans (and_congr has_up.symm Iff.rfl)) (fun h => sem_eq cc0_scratch6 (off125_form c ((cond31_iff c).mp h)) _ _ _ _) (fun h => slice_eq xgM (off126_form c ((cond31_iff c).mp h)) _ _) nolev) $$ [Ha31 Hb31 HO]
  · isplitr; · iexact HR
    isplitl [Ha31]; · iexact Ha31
    isplitl [Hb31]; · iexact Hb31
    iexact HO
  iintro ⟨Hz31, Hy31, HO⟩
  iapply ret_intro
  iapply Hk
  isplitl [Hz33 Hy33 Hb33]
  · isplitl [Hz33]; · iexact Hz33
    isplitl [Hy33]; · iexact Hy33
    iexact Hb33
  isplitl [Hz29 Hy29]
  · isplitl [Hz29]; · iexact Hz29
    iexact Hy29
  isplitl [Hz30 Hy30]
  · isplitl [Hz30]; · iexact Hz30
    iexact Hy30
  isplitl [Hz31 Hy31]
  · isplitl [Hz31]; · iexact Hz31
    iexact Hy31
  iexact HO

/-- Part 32 of the kernel. -/
theorem part32 {Q : (Σ' (v651 : BitVec 32) (v653 : BitVec 32), BitVec 32) → sProp (MT nD τ sig Unit (Elt F) ℕ UU ℕ)} (v2 : BitVec 32) (v19 : BitVec 32) (v29 : BitVec 32) :
    iprop(recs m K ∗ zdPre m (Has c 1 0) c 1 (slot c 1 0) ∗ zdPre m (Has c 0 1) c 0 (slot c 0 1) ∗ zdPre m (Has c 1 1) c 1 (slot c 1 1) ∗ zdPre m (Has c 0 2) c 0 (slot c 0 2) ∗ zdPre m (Has c 1 2) c 1 (slot c 1 2) ∗ owesL c []) ⊢ iprop((∀ r, (zdPost m (Has c 1 0) c 1 (slot c 1 0) ∗ zdPost m (Has c 0 1) c 0 (slot c 0 1) ∗ zdPost m (Has c 1 1) c 1 (slot c 1 1) ∗ zdPost m (Has c 0 2) c 0 (slot c 0 2) ∗ zdPost m (Has c 1 2) c 1 (slot c 1 2) ∗ owesL c []) -∗ Q r)
      -∗ WP c (k0_part32 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 v19 v29) Q) := by
  rw [k0_part32_eq_skeleton]
  unfold k0_part32_skel zdPost zdPre
  simp (config := {zeta := false}) only [Prog.lift, Prog.bind_op, Prog.bind_ret, Prog.pure_eq_ret]
  iintro ⟨#HR, ⟨Ha32, Hb32⟩, ⟨Ha33, Hb33⟩, ⟨Ha34, Hb34⟩, ⟨Ha35, Hb35⟩, ⟨Ha36, Hb36⟩, HO⟩ Hk
  iapply (z_drain m K (G := (Has c 1 0)) 1 (slot c 1 0) (R := []) ((cond32_iff c).trans (and_congr has_dn.symm Iff.rfl)) (fun h => sem_eq cc0_scratch6 (off127_form c ((cond32_iff c).mp h)) _ _ _ _) (fun h => slice_eq xgM (off128_form c ((cond32_iff c).mp h)) _ _) nolev) $$ [Ha32 Hb32 HO]
  · isplitr; · iexact HR
    isplitl [Ha32]; · iexact Ha32
    isplitl [Hb32]; · iexact Hb32
    iexact HO
  iintro ⟨Hz32, Hy32, HO⟩
  iapply (z_drain m K (G := (Has c 0 1)) 0 (slot c 0 1) (R := []) ((cond33_iff c).trans (and_congr has_up.symm Iff.rfl)) (fun h => sem_eq cc0_scratch6 (off129_form c ((cond33_iff c).mp h)) _ _ _ _) (fun h => slice_eq xgM (off130_form c ((cond33_iff c).mp h)) _ _) nolev) $$ [Ha33 Hb33 HO]
  · isplitr; · iexact HR
    isplitl [Ha33]; · iexact Ha33
    isplitl [Hb33]; · iexact Hb33
    iexact HO
  iintro ⟨Hz33, Hy33, HO⟩
  iapply (z_drain m K (G := (Has c 1 1)) 1 (slot c 1 1) (R := []) ((cond34_iff c).trans (and_congr has_dn.symm Iff.rfl)) (fun h => sem_eq cc0_scratch6 (off131_form c ((cond34_iff c).mp h)) _ _ _ _) (fun h => slice_eq xgM (off132_form c ((cond34_iff c).mp h)) _ _) nolev) $$ [Ha34 Hb34 HO]
  · isplitr; · iexact HR
    isplitl [Ha34]; · iexact Ha34
    isplitl [Hb34]; · iexact Hb34
    iexact HO
  iintro ⟨Hz34, Hy34, HO⟩
  iapply (z_drain m K (G := (Has c 0 2)) 0 (slot c 0 2) (R := []) ((cond35_iff c).trans (and_congr has_up.symm Iff.rfl)) (fun h => sem_eq cc0_scratch6 (off133_form c ((cond35_iff c).mp h)) _ _ _ _) (fun h => slice_eq xgM (off134_form c ((cond35_iff c).mp h)) _ _) nolev) $$ [Ha35 Hb35 HO]
  · isplitr; · iexact HR
    isplitl [Ha35]; · iexact Ha35
    isplitl [Hb35]; · iexact Hb35
    iexact HO
  iintro ⟨Hz35, Hy35, HO⟩
  iapply (z_drain m K (G := (Has c 1 2)) 1 (slot c 1 2) (R := []) ((cond36_iff c).trans (and_congr has_dn.symm Iff.rfl)) (fun h => sem_eq cc0_scratch6 (off135_form c ((cond36_iff c).mp h)) _ _ _ _) (fun h => slice_eq xgM (off136_form c ((cond36_iff c).mp h)) _ _) nolev) $$ [Ha36 Hb36 HO]
  · isplitr; · iexact HR
    isplitl [Ha36]; · iexact Ha36
    isplitl [Hb36]; · iexact Hb36
    iexact HO
  iintro ⟨Hz36, Hy36, HO⟩
  iapply ret_intro
  iapply Hk
  isplitl [Hz32 Hy32]
  · isplitl [Hz32]; · iexact Hz32
    iexact Hy32
  isplitl [Hz33 Hy33]
  · isplitl [Hz33]; · iexact Hz33
    iexact Hy33
  isplitl [Hz34 Hy34]
  · isplitl [Hz34]; · iexact Hz34
    iexact Hy34
  isplitl [Hz35 Hy35]
  · isplitl [Hz35]; · iexact Hz35
    iexact Hy35
  isplitl [Hz36 Hy36]
  · isplitl [Hz36]; · iexact Hz36
    iexact Hy36
  iexact HO

/-- Part 33 of the kernel. -/
theorem part33 {Q : (Σ' (v681 : BitVec 32) (v682 : BitVec 32) (v683 : BitVec 1) (v684 : BitVec 1), BitVec 32) → sProp (MT nD τ sig Unit (Elt F) ℕ UU ℕ)} (v29 : BitVec 32) (v30 : BitVec 32) (v651 : BitVec 32) (v653 : BitVec 32) (c256 : BitVec 32) :
    iprop(recs m K ∗ ydPre c 0 1 ∗ ydPre c 1 1 ∗ owesL c []) ⊢ iprop((∀ r, (ydPost c 0 1 ∗ ydPost c 1 1 ∗ owesL c []) -∗ Q r)
      -∗ WP c (k0_part33 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v29 v30 v651 v653 c256) Q) := by
  rw [k0_part33_eq_skeleton]
  unfold k0_part33_skel ydPost ydPre
  simp (config := {zeta := false}) only [Prog.lift, Prog.bind_op, Prog.bind_ret, Prog.pure_eq_ret]
  iintro ⟨#HR, ⟨Ha01, Hc01⟩, ⟨Ha11, Hc11⟩, HO⟩ Hk
  iapply (op_waitD m K (.ys (pc c + 1) 0) (R := []) (blk c (ybV 0 (pc c + 1)) fullShare (YB m c 0 (pc c + 1))) (ybV 0 (pc c + 1)) (congrArg SemLoc.dma (sem_eq cc0_scratch8 (off111_form c 0) _ _ _ _)) (slice_eq ybM (off113_form c 0) _ _) (add_ne (by decide) (pc c)) (by simp) rfl rfl rfl nolev) $$ [Ha01 Hc01 HO]
  · isplitr; · iexact HR
    isplitl [Ha01]; · iexact Ha01
    isplitl [Hc01]; · iexact Hc01
    iexact HO
  iintro ⟨Hz01, Hy01, HO⟩
  iapply (op_waitD m K (.ys (pc c + 1) 1) (R := []) (blk c (ybV 1 (pc c + 1)) fullShare (YB m c 1 (pc c + 1))) (ybV 1 (pc c + 1)) (congrArg SemLoc.dma (sem_eq cc0_scratch8 (off115_form c 0) _ _ _ _)) (slice_eq ybM (off116_form c 0) _ _) (add_ne (by decide) (pc c)) (by simp) rfl rfl rfl nolev) $$ [Ha11 Hc11 HO]
  · isplitr; · iexact HR
    isplitl [Ha11]; · iexact Ha11
    isplitl [Hc11]; · iexact Hc11
    iexact HO
  iintro ⟨Hz11, Hy11, HO⟩
  iapply ret_intro
  iapply Hk
  isplitl [Hz01 Hy01]
  · isplitl [Hz01]; · iexact Hz01
    iexists _; iexact Hy01
  isplitl [Hz11 Hy11]
  · isplitl [Hz11]; · iexact Hz11
    iexists _; iexact Hy11
  iexact HO

/-- Part 34 of the kernel. -/
theorem part34 {Q : (Σ' (v717 : BitVec 32), BitVec 32) → sProp (MT nD τ sig Unit (Elt F) ℕ UU ℕ)} (v29 : BitVec 32) (v30 : BitVec 32) (v681 : BitVec 32) (v682 : BitVec 32) (v683 : BitVec 1) (v684 : BitVec 1) (c0 : BitVec 32) :
    iprop(recs m K ∗ ydPre c 2 1 ∗ ydPre c 3 1 ∗ owesL c []) ⊢ iprop((∀ r, (ydPost c 2 1 ∗ ydPost c 3 1 ∗ owesL c []) -∗ Q r)
      -∗ WP c (k0_part34 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v29 v30 v681 v682 v683 v684 c0) Q) := by
  rw [k0_part34_eq_skeleton]
  unfold k0_part34_skel ydPost ydPre
  simp (config := {zeta := false}) only [Prog.lift, Prog.bind_op, Prog.bind_ret, Prog.pure_eq_ret]
  iintro ⟨#HR, ⟨Ha21, Hc21⟩, ⟨Ha31, Hc31⟩, HO⟩ Hk
  iapply (op_waitD m K (.ys (pc c + 1) 2) (R := []) (blk c (ybV 2 (pc c + 1)) fullShare (YB m c 2 (pc c + 1))) (ybV 2 (pc c + 1)) (congrArg SemLoc.dma (sem_eq cc0_scratch8 (off117_form c 0) _ _ _ _)) (slice_eq ybM (off118_form c 0) _ _) (add_ne (by decide) (pc c)) (by simp) rfl rfl rfl nolev) $$ [Ha21 Hc21 HO]
  · isplitr; · iexact HR
    isplitl [Ha21]; · iexact Ha21
    isplitl [Hc21]; · iexact Hc21
    iexact HO
  iintro ⟨Hz21, Hy21, HO⟩
  iapply (op_waitD m K (.ys (pc c + 1) 3) (R := []) (blk c (ybV 3 (pc c + 1)) fullShare (YB m c 3 (pc c + 1))) (ybV 3 (pc c + 1)) (congrArg SemLoc.dma (sem_eq cc0_scratch8 (off119_form c 0) _ _ _ _)) (slice_eq ybM (off120_form c 0) _ _) (add_ne (by decide) (pc c)) (by simp) rfl rfl rfl nolev) $$ [Ha31 Hc31 HO]
  · isplitr; · iexact HR
    isplitl [Ha31]; · iexact Ha31
    isplitl [Hc31]; · iexact Hc31
    iexact HO
  iintro ⟨Hz31, Hy31, HO⟩
  iapply ret_intro
  iapply Hk
  isplitl [Hz21 Hy21]
  · isplitl [Hz21]; · iexact Hz21
    iexists _; iexact Hy21
  isplitl [Hz31 Hy31]
  · isplitl [Hz31]; · iexact Hz31
    iexists _; iexact Hy31
  iexact HO

/-- Part 35 of the kernel. -/
theorem part35 {Q : (PUnit) → sProp (MT nD τ sig Unit (Elt F) ℕ UU ℕ)} (v29 : BitVec 32) (v30 : BitVec 32) (v717 : BitVec 32) (c4 : BitVec 32) :
    iprop(recs m K ∗ ydPre c 0 2 ∗ owesL c []) ⊢ iprop((∀ r, (ydPost c 0 2 ∗ owesL c []) -∗ Q r)
      -∗ WP c (k0_part35 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v29 v30 v717 c4) Q) := by
  rw [k0_part35_eq_skeleton]
  unfold k0_part35_skel ydPost ydPre
  simp (config := {zeta := false}) only [Prog.lift, Prog.bind_op, Prog.bind_ret, Prog.pure_eq_ret]
  iintro ⟨#HR, ⟨Ha02, Hc02⟩, HO⟩ Hk
  iapply (op_waitD m K (.ys (pc c + 2) 0) (R := []) (blk c (ybV 0 (pc c + 2)) fullShare (YB m c 0 (pc c + 2))) (ybV 0 (pc c + 2)) (congrArg SemLoc.dma (sem_eq cc0_scratch8 (off111_form c 1) _ _ _ _)) (slice_eq ybM (off113_form c 1) _ _) (add_ne (by decide) (pc c)) (by simp) rfl rfl rfl nolev) $$ [Ha02 Hc02 HO]
  · isplitr; · iexact HR
    isplitl [Ha02]; · iexact Ha02
    isplitl [Hc02]; · iexact Hc02
    iexact HO
  iintro ⟨Hz02, Hy02, HO⟩
  iapply ret_intro
  iapply Hk
  isplitl [Hz02 Hy02]
  · isplitl [Hz02]; · iexact Hz02
    iexists _; iexact Hy02
  iexact HO

/-- Part 36 of the kernel. -/
theorem part36 {Q : (BitVec 32) → sProp (MT nD τ sig Unit (Elt F) ℕ UU ℕ)} (v29 : BitVec 32) (v30 : BitVec 32) :
    iprop(recs m K ∗ ydPre c 1 2 ∗ ydPre c 2 2 ∗ owesL c []) ⊢ iprop((∀ r, (ydPost c 1 2 ∗ ydPost c 2 2 ∗ owesL c []) -∗ Q r)
      -∗ WP c (k0_part36 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v29 v30) Q) := by
  rw [k0_part36_eq_skeleton]
  unfold k0_part36_skel ydPost ydPre
  simp (config := {zeta := false}) only [Prog.lift, Prog.bind_op, Prog.bind_ret, Prog.pure_eq_ret]
  iintro ⟨#HR, ⟨Ha12, Hc12⟩, ⟨Ha22, Hc22⟩, HO⟩ Hk
  iapply (op_waitD m K (.ys (pc c + 2) 1) (R := []) (blk c (ybV 1 (pc c + 2)) fullShare (YB m c 1 (pc c + 2))) (ybV 1 (pc c + 2)) (congrArg SemLoc.dma (sem_eq cc0_scratch8 (off115_form c 1) _ _ _ _)) (slice_eq ybM (off116_form c 1) _ _) (add_ne (by decide) (pc c)) (by simp) rfl rfl rfl nolev) $$ [Ha12 Hc12 HO]
  · isplitr; · iexact HR
    isplitl [Ha12]; · iexact Ha12
    isplitl [Hc12]; · iexact Hc12
    iexact HO
  iintro ⟨Hz12, Hy12, HO⟩
  iapply (op_waitD m K (.ys (pc c + 2) 2) (R := []) (blk c (ybV 2 (pc c + 2)) fullShare (YB m c 2 (pc c + 2))) (ybV 2 (pc c + 2)) (congrArg SemLoc.dma (sem_eq cc0_scratch8 (off117_form c 1) _ _ _ _)) (slice_eq ybM (off118_form c 1) _ _) (add_ne (by decide) (pc c)) (by simp) rfl rfl rfl nolev) $$ [Ha22 Hc22 HO]
  · isplitr; · iexact HR
    isplitl [Ha22]; · iexact Ha22
    isplitl [Hc22]; · iexact Hc22
    iexact HO
  iintro ⟨Hz22, Hy22, HO⟩
  iapply ret_intro
  iapply Hk
  isplitl [Hz12 Hy12]
  · isplitl [Hz12]; · iexact Hz12
    iexists _; iexact Hy12
  isplitl [Hz22 Hy22]
  · isplitl [Hz22]; · iexact Hz22
    iexists _; iexact Hy22
  iexact HO

/-- Part 37 of the kernel. -/
theorem part37 {Q : (Σ' (v814 : BitVec 32), BitVec 32) → sProp (MT nD τ sig Unit (Elt F) ℕ UU ℕ)} (v29 : BitVec 32) (v30 : BitVec 32) (v784 : BitVec 32) :
    iprop(recs m K ∗ ydPre c 3 2 ∗ ydPre c 0 3 ∗ owesL c []) ⊢ iprop((∀ r, (ydPost c 3 2 ∗ ydPost c 0 3 ∗ owesL c []) -∗ Q r)
      -∗ WP c (k0_part37 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v29 v30 v784) Q) := by
  rw [k0_part37_eq_skeleton]
  unfold k0_part37_skel ydPost ydPre
  simp (config := {zeta := false}) only [Prog.lift, Prog.bind_op, Prog.bind_ret, Prog.pure_eq_ret]
  iintro ⟨#HR, ⟨Ha32, Hc32⟩, ⟨Ha03, Hc03⟩, HO⟩ Hk
  iapply (op_waitD m K (.ys (pc c + 2) 3) (R := []) (blk c (ybV 3 (pc c + 2)) fullShare (YB m c 3 (pc c + 2))) (ybV 3 (pc c + 2)) (congrArg SemLoc.dma (sem_eq cc0_scratch8 (off119_form c 1) _ _ _ _)) (slice_eq ybM (off120_form c 1) _ _) (add_ne (by decide) (pc c)) (by simp) rfl rfl rfl nolev) $$ [Ha32 Hc32 HO]
  · isplitr; · iexact HR
    isplitl [Ha32]; · iexact Ha32
    isplitl [Hc32]; · iexact Hc32
    iexact HO
  iintro ⟨Hz32, Hy32, HO⟩
  iapply (op_waitD m K (.ys (pc c + 3) 0) (R := []) (blk c (ybV 0 (pc c + 3)) fullShare (YB m c 0 (pc c + 3))) (ybV 0 (pc c + 3)) (congrArg SemLoc.dma (sem_eq cc0_scratch8 (off111_form c 2) _ _ _ _)) (slice_eq ybM (off113_form c 2) _ _) (add_ne (by decide) (pc c)) (by simp) rfl rfl rfl nolev) $$ [Ha03 Hc03 HO]
  · isplitr; · iexact HR
    isplitl [Ha03]; · iexact Ha03
    isplitl [Hc03]; · iexact Hc03
    iexact HO
  iintro ⟨Hz03, Hy03, HO⟩
  iapply ret_intro
  iapply Hk
  isplitl [Hz32 Hy32]
  · isplitl [Hz32]; · iexact Hz32
    iexists _; iexact Hy32
  isplitl [Hz03 Hy03]
  · isplitl [Hz03]; · iexact Hz03
    iexists _; iexact Hy03
  iexact HO

/-- Part 38 of the kernel. -/
theorem part38 {Q : (PUnit) → sProp (MT nD τ sig Unit (Elt F) ℕ UU ℕ)} (v29 : BitVec 32) (v30 : BitVec 32) (v814 : BitVec 32) (v815 : BitVec 32) :
    iprop(recs m K ∗ ydPre c 1 3 ∗ owesL c []) ⊢ iprop((∀ r, (ydPost c 1 3 ∗ owesL c []) -∗ Q r)
      -∗ WP c (k0_part38 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v29 v30 v814 v815) Q) := by
  rw [k0_part38_eq_skeleton]
  unfold k0_part38_skel ydPost ydPre
  simp (config := {zeta := false}) only [Prog.lift, Prog.bind_op, Prog.bind_ret, Prog.pure_eq_ret]
  iintro ⟨#HR, ⟨Ha13, Hc13⟩, HO⟩ Hk
  iapply (op_waitD m K (.ys (pc c + 3) 1) (R := []) (blk c (ybV 1 (pc c + 3)) fullShare (YB m c 1 (pc c + 3))) (ybV 1 (pc c + 3)) (congrArg SemLoc.dma (sem_eq cc0_scratch8 (off115_form c 2) _ _ _ _)) (slice_eq ybM (off116_form c 2) _ _) (add_ne (by decide) (pc c)) (by simp) rfl rfl rfl nolev) $$ [Ha13 Hc13 HO]
  · isplitr; · iexact HR
    isplitl [Ha13]; · iexact Ha13
    isplitl [Hc13]; · iexact Hc13
    iexact HO
  iintro ⟨Hz13, Hy13, HO⟩
  iapply ret_intro
  iapply Hk
  isplitl [Hz13 Hy13]
  · isplitl [Hz13]; · iexact Hz13
    iexists _; iexact Hy13
  iexact HO

end Drain

end Cert.Exchange

end
-- ==== Proof.Head.lean ====
/-
The start of the kernel: the handshake, the own block of `x`, the chunks of the weights and the results of the own rows.
-/
module

public import proofs.«01_k».proof.Proof.Drain

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

variable (m : (ℓ : Loc nD τ sig) → Buf (Elt F) ℓ)

/-- The places of the handshake and the rights to sign it. -/
def bPre (b : Dev nD) (d : Fin 5) : sProp 𝕄 := iprop(tok b .bar 0 d ∗ barPay b d)
/-- The rights to send the result block of row slot `s` to the mate `k` further, before the handshake. -/
def yT (c : Dev nD) (s k : Fin 4) : sProp 𝕄 := iprop(tok c (.ys (pc c + k) s) 0 0 ∗ tok (mate c k) (.yr (pc c) s) 0 0)
/-- The rights to send slot `s` on in direction `d`, before the handshake. -/
def zT (c : Dev nD) (d : Fin 2) (s : Fin 4) : sProp 𝕄 := gi (ZV c d s) iprop(tok c (.zs d s) 0 0 ∗ tok (nb d c) (.zr s) 0 0)
/-- All the rights to send, before the handshake. -/
def TOKS (c : Dev nD) : sProp 𝕄 := bigSep Finset.univ fun s : Fin 4 => iprop(yT c s 2 ∗ yT c s 1 ∗ yT c s 3 ∗ zT c 0 s ∗ zT c 1 s)
/-- The rights to send of row slot `s`, after it. -/
def tokS (c : Dev nD) (s : Fin 4) : sProp 𝕄 := iprop(yTok c s 2 ∗ yTok c s 1 ∗ yTok c s 3 ∗ zTok c 0 s ∗ zTok c 1 s)

/-- Equivalent conditions guard the same thing. -/
theorem gi_four {P Q R : Prop} [Decidable P] [Decidable Q] (h : P ↔ Q) (A : sProp 𝕄) : gi P A = gi Q A := by
  by_cases hp : P
  · rw [gi_pos hp, gi_pos (h.mp hp)]
  · rw [gi_neg hp, gi_neg fun hq => hp (h.mpr hq)]

/-- The handshake completes the rights to send. -/
theorem bar_use (c : Dev nD) : iprop(TOKS (F := F) c ∗ bigSep Finset.univ fun j => barPay c j) ⊢ bigSep Finset.univ fun s : Fin 4 => tokS (F := F) c s := by
  rw [bigSep_univ_eq_bigSepL [(0 : Fin 5), 1, 2, 3, 4] (by decide) (by decide), bigSepL_cons_cons, bigSepL_cons_cons, bigSepL_cons_cons, bigSepL_cons_cons, bigSepL_singleton,
    show barPay (F := F) c 0 = bigSep Finset.univ fun s : Fin 4 => blkE (mate c 1) (yrV s (pc c)) from rfl,
    show barPay (F := F) c 1 = bigSep Finset.univ fun s : Fin 4 => blkE (mate c 2) (yrV s (pc c)) from rfl,
    show barPay (F := F) c 2 = bigSep Finset.univ fun s : Fin 4 => blkE (mate c 3) (yrV s (pc c)) from rfl,
    show barPay (F := F) c 3 = bigSep Finset.univ fun s : Fin 4 => if ZV c 0 s then blkE (nb 0 c) (xgV s) else iprop(emp) from rfl,
    show barPay (F := F) c 4 = bigSep Finset.univ fun s : Fin 4 => if ZV c 1 s then blkE (nb 1 c) (xgV s) else iprop(emp) from rfl]
  unfold TOKS
  have h : ∀ s : Fin 4, iprop(iprop(yT c s 2 ∗ yT c s 1 ∗ yT c s 3 ∗ zT c 0 s ∗ zT c 1 s) ∗ blkE (mate c 1) (yrV s (pc c)) ∗ blkE (mate c 2) (yrV s (pc c)) ∗ blkE (mate c 3) (yrV s (pc c))
      ∗ (if ZV c 0 s then blkE (nb 0 c) (xgV s) else iprop(emp)) ∗ (if ZV c 1 s then blkE (nb 1 c) (xgV s) else iprop(emp))) ⊢ tokS (F := F) c s := by
    intro s
    unfold tokS yTok yT zT zTok
    have hz : ∀ d : Fin 2, iprop(gi (ZV c d s) iprop(tok c (.zs d s) 0 0 ∗ tok (nb d c) (.zr s) 0 0) ∗ (if ZV c d s then blkE (nb d c) (xgV s) else iprop(emp)))
        ⊢ gi (F := F) (ZV c d s) iprop(tok c (.zs d s) 0 0 ∗ tok (nb d c) (.zr s) 0 0 ∗ blkE (nb d c) (xgV s)) := by
      intro d
      by_cases hv : ZV c d s
      · rw [gi_pos hv, gi_pos hv, if_pos hv]
        exact BI.sep_assoc
      · rw [gi_neg hv, gi_neg hv, if_neg hv]
        exact BI.sep_emp.1
    iintro ⟨⟨⟨A2, B2⟩, ⟨A1, B1⟩, ⟨A3, B3⟩, Z0, Z1⟩, E1, E2, E3, X0, X1⟩
    isplitl [A2 B2 E2]
    · isplitl [A2]; · iexact A2
      isplitl [B2]; · iexact B2
      iexact E2
    isplitl [A1 B1 E1]
    · isplitl [A1]; · iexact A1
      isplitl [B1]; · iexact B1
      iexact E1
    isplitl [A3 B3 E3]
    · isplitl [A3]; · iexact A3
      isplitl [B3]; · iexact B3
      iexact E3
    isplitl [Z0 X0]
    · iapply (hz 0)
      isplitl [Z0]; · iexact Z0
      iexact X0
    iapply (hz 1)
    isplitl [Z1]; · iexact Z1
    iexact X1
  refine BIBase.Entails.trans (Entails.of_eq ?_) (bigSep_mono fun s _ => h s)
  rw [bigSep_sep' Finset.univ (fun s : Fin 4 => iprop(yT c s 2 ∗ yT c s 1 ∗ yT c s 3 ∗ zT c 0 s ∗ zT c 1 s)), bigSep_sep' Finset.univ (fun s : Fin 4 => blkE (mate c 1) (yrV s (pc c))),
    bigSep_sep' Finset.univ (fun s : Fin 4 => blkE (mate c 2) (yrV s (pc c))), bigSep_sep' Finset.univ (fun s : Fin 4 => blkE (mate c 3) (yrV s (pc c))),
    bigSep_sep' Finset.univ (fun s : Fin 4 => if ZV c 0 s then blkE (nb 0 c) (xgV s) else iprop(emp))]
  rfl

section Head

variable (K : Dev nD × CK → ℕ) {c : Dev nD} {α : Type} {Q : α → sProp (MT nD τ sig Unit (Elt F) ℕ UU ℕ)}

/-- Chunk `q` of the weights is copied into its staging slot. -/
theorem w_copy (q : Fin 4) (i : Fin 2) (r : ℕ) (hr : r < 2) (hq : chk r i = q) {sh : PosShare TreeShare}
    {src : Memref sig .tc .hbm S4096x512 .f32} {dst : Memref sig .tc .vmem S4096x512 .f32} {sm : DmaSem sig}
    {hsrc : src.view.WordExact} {hdst : dst.view.WordExact} {hsem : DmaTarget.Typed (nD := nD) .hbm (.dma sm) (DmaTarget.here (τ := τ) (p := .tc) dst)}
    {k : PUnit → Prog (TpuEff nD τ sig (Elt F) Λ₀ .tc) α} (h₁ : sm = wsS i) (hs : src = wV (zc c) q) (hd : dst = stSq i) :
    iprop(recs m K ∗ blk c (wV (zc c) q) sh (wC m c q) ∗ blkE c (stSq i) ∗ tok c (.ws i) r 0 ∗ reached ER (cell c (.ws i)) r)
      ⊢ iprop((crd c (.ws i) -∗ WP c (k ⟨⟩) Q) -∗ WP c (.op (.enqueueDma src (.here dst) (.dma sm) hsrc hdst hsem) k) Q) := by
  subst hq
  exact op_copy m K (.ws i) r (congrArg SemLoc.dma h₁) hs hd trivial (by simp) hr (by rw [hd]; rfl) .rfl

/-- The wait for chunk `q` of the weights. -/
theorem w_wait (q : Fin 4) (i : Fin 2) (r : ℕ) (hr : r < 2) (hq : chk r i = q)
    {src : Memref sig .tc .hbm S4096x512 .f32} {dst : Memref sig .tc .vmem S4096x512 .f32} {sm : DmaSem sig}
    {hsrc : src.view.WordExact} {hdst : dst.view.WordExact} {k : PUnit → Prog (TpuEff nD τ sig (Elt F) Λ₀ .tc) α} {R : List (Dev nD × CK)}
    (h₁ : sm = wsS i) (hd : dst = stSq i) (hlev : ∀ x ∈ R, 0 < lvk x.1 x.2) :
    iprop(recs m K ∗ atp c (.ws i) r ∗ crd c (.ws i) ∗ owesL c R)
      ⊢ iprop(((atp c (.ws i) (r + 1) ∗ reached ER (cell c (.ws i)) (r + 1) ∗ blk c (stSq i) fullShare (wC m c q) ∗ owesL c R) -∗ WP c (k ⟨⟩) Q)
        -∗ WP c (.op (.waitDma2 sm src dst hsrc hdst) k) Q) := by
  subst hq
  exact op_wait m K (.ws i) r (congrArg SemLoc.dma h₁) trivial (by simp) hr (by rw [hd]; rfl) hlev

/-- The last wait of a staging slot. -/
theorem w_waitZ (q : Fin 4) (i : Fin 2) (hq : chk 1 i = q)
    {src : Memref sig .tc .hbm S4096x512 .f32} {dst : Memref sig .tc .vmem S4096x512 .f32} {sm : DmaSem sig}
    {hsrc : src.view.WordExact} {hdst : dst.view.WordExact} {k : PUnit → Prog (TpuEff nD τ sig (Elt F) Λ₀ .tc) α} {R : List (Dev nD × CK)}
    (h₁ : sm = wsS i) (hd : dst = stSq i) (hlev : ∀ x ∈ R, 0 < lvk x.1 x.2) :
    iprop(recs m K ∗ atp c (.ws i) 1 ∗ crd c (.ws i) ∗ owesL c R)
      ⊢ iprop(((Z c (.ws i) ∗ blk c (stSq i) fullShare (wC m c q) ∗ owesL c R) -∗ WP c (k ⟨⟩) Q)
        -∗ WP c (.op (.waitDma2 sm src dst hsrc hdst) k) Q) := by
  iintro ⟨#HR, Ha, Hc, HO⟩ Hk
  iapply (w_wait m K q i 1 (by decide) hq h₁ hd hlev) $$ [Ha Hc HO]
  · isplitr; · iexact HR
    isplitl [Ha]; · iexact Ha
    isplitl [Hc]; · iexact Hc
    iexact HO
  iintro ⟨Ha, -, Hb, HO⟩
  imod (fin_cell m K (c := c) (.ws i) (r := 1 + 1) (fun r' h => dut_end c (.ws i) h)) $$ [Ha] with HZ
  · isplitr; · iexact HR
    iexact Ha
  iapply Hk
  isplitl [HZ]; · iexact HZ
  isplitl [Hb]; · iexact Hb
  iexact HO

/-- A chunk of the weights is read from its staging slot. -/
theorem st_load (q : Fin 4) (i : Fin 2) {off : Fin S2x4096x512.rank → ℕ} {inb : ∀ a, off a + S1x4096x512.size a ≤ S2x4096x512.size a}
    {hl : stM.view.LoadsAt (Rect.unit (s := S2x4096x512) off S1x4096x512.size inb)} {k : Vec F S1x4096x512 .f32 → Prog (TpuEff nD τ sig (Elt F) Λ₀ .tc) α} (h : off = ![i.val, 0, 0]) :
    blk c (stSq i) fullShare (wC m c q)
      ⊢ iprop((blkE c (stSq i) -∗ WP c (k (wL m c q)) Q) -∗ WP c (.op (.load stM (Rect.unit (s := S2x4096x512) off S1x4096x512.size inb).toLoadRect hl) k) Q) := by
  iintro Hb Hk
  have h1 : blk c (stSq i) fullShare (wC m c q) ⊢ blk c (stV i) fullShare (wL m c q) := sq_read (stV i) squeezes_S1x4096x512_S4096x512 fullShare (wC m c q)
  ihave Hb := h1 $$ Hb
  iapply (op_load (M := stM) (size := S1x4096x512.size) (inb' := inb_st i) (X := wL m c q) h) $$ Hb
  iintro Hb
  ihave Hb := (sq_write (stV i) squeezes_S1x4096x512_S4096x512 (wL m c q)) $$ Hb
  iapply Hk
  iexact Hb

/-- A scalar buffer is read. -/
theorem s_load {M : Memref sig .tc .smem S1 .f32} {hl : M.view.LoadsAt (Rect.unit (s := S1) ![0] S1.size inb_S1_S1_0)} {q : PosShare TreeShare} {X : Vec F S1 .f32}
    {k : ((Rect.unit (s := S1) ![0] S1.size inb_S1_S1_0).shape.Idx → Elt F .f32) → Prog (TpuEff nD τ sig (Elt F) Λ₀ .tc) α} :
    blk c M q X ⊢ iprop((blk c M q X -∗ WP c (k (fun j => X ((Rect.unit (s := S1) ![0] S1.size inb_S1_S1_0).emb j))) Q)
      -∗ WP c (.op (.load M (Rect.unit (s := S1) ![0] S1.size inb_S1_S1_0).toLoadRect hl) k) Q) := by
  unfold blk owns
  iintro ⟨%f, %hf, H⟩ Hk
  subst hf
  iapply (wp_load_rect 𝒱₀ (c : Thread nD τ) none Set.univ (S := M.view.set) (M.view.set_slice_subset _)) $$ [H]
  · iexact H
  iintro H
  iapply Hk
  iexists f
  isplitr
  · ipureintro; rfl
  · iexact H

end Head

section Parts

variable (K : Dev nD × CK → ℕ) {c : Dev nD}

/-- Part 13 of the kernel: the device's number and the scales. -/
theorem part13 {Q : (Σ' (d0 : Dev nD) (v2 : BitVec 32) (v19 : BitVec 32) (v29 : BitVec 32) (v30 : BitVec 32) (v33 : F .f32) (v34 : Sems sig S_) (v35 : BitVec 32) (c4_i32_14 : BitVec 32) (v36 : BitVec 1), BitVec 32) → sProp (MT nD τ sig Unit (Elt F) ℕ UU ℕ)} :
    iprop(blk c sxM fullShare (scA m c) ∗ blk c swM fullShare (scB m c))
      ⊢ iprop((∀ r, ⌜r.1 = c ∧ r.2.2.2.2.2.1 = sc m c ∧ r.2.2.2.2.2.2.1 = SemArray.scalar (sig.barrier 0 rfl)⌝ -∗ (blk c sxM fullShare (scA m c) ∗ blk c swM fullShare (scB m c)) -∗ Q r)
        -∗ WP c (k0_part13 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  rw [k0_part13_eq_skeleton]
  unfold k0_part13_skel
  simp (config := {zeta := false}) only [Prog.lift, Prog.bind_op, Prog.bind_ret, Prog.pure_eq_ret, smemLoad, smemLoadElt]
  iintro ⟨Ha, Hb⟩ Hk
  unfold WP
  rw [wp_deviceId]
  iapply (s_load (M := sxM)) $$ Ha
  iintro Ha
  iapply (s_load (M := swM)) $$ Hb
  iintro Hb
  iapply ret_intro
  iapply Hk
  · ipureintro; exact ⟨rfl, rfl, rfl⟩
  isplitl [Ha]; · iexact Ha
  iexact Hb

/-- Part 14 of the kernel: numbers only. -/
theorem part14 {Q : (Σ' (v46 : BitVec 32) (v58 : BitVec 32) (v70 : BitVec 32) (v73 : BitVec 32) (v74 : BitVec 32), BitVec 32) → sProp (MT nD τ sig Unit (Elt F) ℕ UU ℕ)} (v2 v29 v30 v35 c4 : BitVec 32) (v36 : BitVec 1) (c1 : BitVec 32) :
    iprop(∀ r, Q r) ⊢ WP c (k0_part14 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v2 v29 v30 v35 c4 v36 c1) Q := by
  rw [k0_part14_eq_skeleton]
  unfold k0_part14_skel
  simp (config := {zeta := false}) only [Prog.lift, Prog.bind_op, Prog.bind_ret, Prog.pure_eq_ret]
  iintro Hk
  iapply ret_intro
  iapply Hk

/-- Part 15 of the kernel: the signs of the handshake. -/
theorem part15 {Q : PUnit → sProp (MT nD τ sig Unit (Elt F) ℕ UU ℕ)} (v2 v46 v58 v70 v73 v74 c0 : BitVec 32) :
    iprop(recs m K ∗ bPre (mate c 1) 2 ∗ bPre (mate c 2) 1 ∗ bPre (mate c 3) 0 ∗ bPre (above c) 4 ∗ bPre (below c) 3 ∗ owesL c (owed0 c))
      ⊢ iprop((∀ r, owesL c (owed1 c) -∗ Q r) -∗ WP c (k0_part15 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 (SemArray.scalar (sig.barrier 0 rfl)) v46 v58 v70 v73 v74 c0) Q) := by
  rw [k0_part15_eq_skeleton]
  unfold k0_part15_skel bPre
  rw [show owed0 c = (mate c 1, .bar) :: (mate c 2, .bar) :: (mate c 3, .bar) :: (above c, .bar) :: (below c, .bar) :: owed1 c from rfl]
  simp (config := {zeta := false}) only [Prog.lift, Prog.bind_op, Prog.bind_ret, Prog.pure_eq_ret, semSignalWord]
  iintro ⟨#HR, ⟨Ht0, Hp0⟩, ⟨Ht1, Hp1⟩, ⟨Ht2, Hp2⟩, ⟨Ht3, Hp3⟩, ⟨Ht4, Hp4⟩, HO⟩ Hk
  iapply (op_signal m K 2 (Fin.ext (dev1_form c)) rfl rfl) $$ [HO Ht0 Hp0]
  · isplitr; · iexact HR
    isplitl [HO]; · iexact HO
    isplitl [Ht0]; · iexact Ht0
    iexact Hp0
  iintro HO
  iapply (op_signal m K 1 (Fin.ext (dev2_form c)) rfl rfl) $$ [HO Ht1 Hp1]
  · isplitr; · iexact HR
    isplitl [HO]; · iexact HO
    isplitl [Ht1]; · iexact Ht1
    iexact Hp1
  iintro HO
  iapply (op_signal m K 0 (Fin.ext (dev3_form c)) rfl rfl) $$ [HO Ht2 Hp2]
  · isplitr; · iexact HR
    isplitl [HO]; · iexact HO
    isplitl [Ht2]; · iexact Ht2
    iexact Hp2
  iintro HO
  iapply (op_signal m K 4 (Fin.ext (dev4_form c)) rfl rfl) $$ [HO Ht3 Hp3]
  · isplitr; · iexact HR
    isplitl [HO]; · iexact HO
    isplitl [Ht3]; · iexact Ht3
    iexact Hp3
  iintro HO
  iapply (op_signal m K 3 (Fin.ext (dev5_form c)) rfl rfl) $$ [HO Ht4 Hp4]
  · isplitr; · iexact HR
    isplitl [HO]; · iexact HO
    isplitl [Ht4]; · iexact Ht4
    iexact Hp4
  iintro HO
  iapply ret_intro
  iapply Hk
  iexact HO

/-- What is owed once the own block of `x` is on its way, with the result chunks from `n` on to be sent. -/
def owedH (c : Dev nD) : ℕ → List (Dev nD × CK)
  | 0 => segH c 0 ++ (segH c 1 ++ (segH c 2 ++ (segH c 3 ++ owed3 c)))
  | 1 => segH c 1 ++ (segH c 2 ++ (segH c 3 ++ owed3 c))
  | 2 => segH c 2 ++ (segH c 3 ++ owed3 c)
  | 3 => segH c 3 ++ owed3 c
  | _ => owed3 c

/-- It lies above the local copies. -/
theorem lev_owedH (c : Dev nD) (n : ℕ) : ∀ x ∈ owedH c n, 0 < lvk x.1 x.2 := by
  have h0 : ∀ x ∈ owedH c 0, 0 < lvk x.1 x.2 := fun x hx =>
    Nat.lt_of_succ_lt (lev_owed1 c x (by
      unfold owed1; exact List.mem_append.mpr (.inr (List.mem_append.mpr (.inr hx)))))
  have h1 : ∀ x ∈ owedH c 1, 0 < lvk x.1 x.2 := fun x hx => h0 x (List.mem_append.mpr (.inr hx))
  have h2 : ∀ x ∈ owedH c 2, 0 < lvk x.1 x.2 := fun x hx => h1 x (List.mem_append.mpr (.inr hx))
  have h3 : ∀ x ∈ owedH c 3, 0 < lvk x.1 x.2 := fun x hx => h2 x (List.mem_append.mpr (.inr hx))
  have h4 : ∀ x ∈ owed3 c, 0 < lvk x.1 x.2 := fun x hx => h3 x (List.mem_append.mpr (.inr hx))
  match n with
  | 0 => exact h0
  | 1 => exact h1
  | 2 => exact h2
  | 3 => exact h3
  | _ + 4 => exact h4

/-- The lent half of the own block of `x` in two. -/
theorem own_shares (c : Dev nD) (X : Vec F S256x4096 .fp8e4m3) : blk c (xgV (zc c)) fullShare X
    ⊢ iprop(blk c (xgV (zc c)) fullShare.left X ∗ gi True (blk c (xgV (zc c)) (zsh c (zc c) 0) X) ∗ gi True (blk c (xgV (zc c)) (zsh c (zc c) 1) X)) := by
  rw [gi_true, gi_true]
  have h0 : zsh c (zc c) 0 = fullShare.right.left := by unfold zsh; rw [if_pos rfl, if_pos rfl]
  have h1 : zsh c (zc c) 1 = fullShare.right.right := by unfold zsh; rw [if_pos rfl, if_neg (by decide)]
  rw [h0, h1]
  iintro H
  ihave H := (blk_halve (xgV (zc c)) (PosShare.mem_left_op_right fullShare) X) $$ H
  icases H with ⟨Hl, Hr⟩
  ihave Hr := (blk_halve (xgV (zc c)) (PosShare.mem_left_op_right fullShare.right) X) $$ Hr
  isplitl [Hl]; · iexact Hl
  iexact Hr

/-- The rights to send of the slots that arrive. -/
def tokR (c : Dev nD) : sProp 𝕄 :=
  iprop(gi (Has c 0 0) (tokS c (slot c 0 0)) ∗ gi (Has c 1 0) (tokS c (slot c 1 0)) ∗ gi (Has c 0 1) (tokS c (slot c 0 1)) ∗ gi (Has c 1 1) (tokS c (slot c 1 1)) ∗ gi (Has c 0 2) (tokS c (slot c 0 2)) ∗ gi (Has c 1 2) (tokS c (slot c 1 2)))

/-- The own row slot's rights apart. -/
theorem tok_own (c : Dev nD) : (bigSep Finset.univ fun s : Fin 4 => tokS (F := F) c s)
    ⊢ iprop(gi True (zTok c 0 (zc c)) ∗ gi True (zTok c 1 (zc c)) ∗ yTok c (zc c) 1 ∗ yTok c (zc c) 2 ∗ yTok c (zc c) 3 ∗ tokR c) := by
  rw [reix c, gi_true, gi_true]
  unfold tokR
  rw [show tokS (F := F) c (zc c) = iprop(yTok c (zc c) 2 ∗ yTok c (zc c) 1 ∗ yTok c (zc c) 3 ∗ zTok c 0 (zc c) ∗ zTok c 1 (zc c)) from rfl]
  iintro ⟨⟨A2, A1, A3, Z0, Z1⟩, H⟩
  isplitl [Z0]; · iexact Z0
  isplitl [Z1]; · iexact Z1
  isplitl [A1]; · iexact A1
  isplitl [A2]; · iexact A2
  isplitl [A3]; · iexact A3
  iexact H

/-- Part 16 of the kernel: the handshake ends, the own block of `x` is sent both ways, the first chunk of the weights is fetched. -/
theorem part16 {Q : PUnit → sProp (MT nD τ sig Unit (Elt F) ℕ UU ℕ)} {sh : PosShare TreeShare} (v2 v19 : BitVec 32) :
    iprop(recs m K ∗ atp c .bar 0 ∗ cred (tallyAt (cell c .bar) () 5) ∗ TOKS c ∗ blk c xM fullShare (xA m c) ∗ blkE c (xgV (zc c))
        ∗ blk c (wV (zc c) 0) sh (wC m c 0) ∗ blkE c (stSq 0) ∗ tok c (.ws 0) 0 0 ∗ owesL c (owed1 c))
      ⊢ iprop((∀ r, (Z c .bar ∗ blk c xM fullShare (xA m c) ∗ blk c (xgV (zc c)) fullShare.left (XB m c) ∗ gi True (zPost m c 0 (zc c)) ∗ gi True (zPost m c 1 (zc c))
          ∗ yTok c (zc c) 1 ∗ yTok c (zc c) 2 ∗ yTok c (zc c) 3 ∗ tokR c ∗ crd c (.ws 0) ∗ owesL c (owedH c 0)) -∗ Q r)
        -∗ WP c (k0_part16 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 v19 (SemArray.scalar (sig.barrier 0 rfl))) Q) := by
  rw [k0_part16_eq_skeleton]
  unfold k0_part16_skel
  simp (config := {zeta := false}) only [Prog.lift, Prog.bind_op, Prog.bind_ret, Prog.pure_eq_ret, semWaitWord]
  iintro ⟨#HR, Hat, Hcr, HT, Hx, Hg, Hw0, Hs0, Ht0, HO⟩ Hk
  iapply (op_waitBar m K rfl rfl (lev_owed1 c)) $$ [Hat Hcr HO]
  · isplitr; · iexact HR
    isplitl [Hat]; · iexact Hat
    isplitl [Hcr]; · iexact Hcr
    iexact HO
  iintro ⟨HZ, HB, HO⟩
  ihave HT := (bar_use c) $$ [HT HB]
  · isplitl [HT]; · iexact HT
    iexact HB
  ihave HT := (tok_own c) $$ HT
  icases HT with ⟨Hz0, Hz1, Hy1, Hy2, Hy3, HT⟩
  iapply (op_loadW (cs := .vmem) (i := (0 : Fin _)) (hκ := rfl) (q := fullShare) (X := xA m c) (by funext a; fin_cases a <;> rfl)) $$ Hx
  iintro Hx
  icases Hg with ⟨%X0, Hg⟩
  iapply (op_load (off1_form c)) $$ Hg
  iintro Hg
  iapply (op_store (off1_form c)) $$ Hg
  iintro Hg
  ihave Hg := (Entails.of_eq (show blk c (xgV (zc c)) fullShare (k0_pay14 (xA m c)) = blk c (xgV (zc c)) fullShare (XB m c) from rfl)) $$ Hg
  ihave Hg := (own_shares c (XB m c)) $$ Hg
  icases Hg with ⟨Hl, Hg0, Hg1⟩
  have e0 : XB m c = XB m (dev (zc c) (pc c)) := by rw [dev_zc_pc]
  have eO : owesL (F := F) c (owed1 c) = owesL c ((if True then segZ c 0 (zc c) else []) ++ ((if True then segZ c 1 (zc c) else []) ++ owedH c 0)) := by
    rw [if_pos trivial, if_pos trivial]; rfl
  ihave HO := (Entails.of_eq eO) $$ HO
  ihave Hg0 := (Entails.of_eq (congrArg (fun X => gi True (blk c (xgV (zc c)) (zsh c (zc c) 0) X)) e0)) $$ Hg0
  ihave Hg1 := (Entails.of_eq (congrArg (fun X => gi True (blk c (xgV (zc c)) (zsh c (zc c) 1) X)) e0)) $$ Hg1
  iapply (z_send m K (G := True) 0 (zc c) ((cond1_iff c).trans (by simp)) (fun h => Fin.ext (dev6_form c ((cond1_iff c).mp h))) (fun h => sem_eq cc0_scratch6 (off2_form c ((cond1_iff c).mp h)) _ _ _ _) (fun h => sem_eq cc0_scratch7 (off3_form c ((cond1_iff c).mp h)) _ _ _ _) (fun h => slice_eq xgM (off4_form c ((cond1_iff c).mp h)) _ _) (fun h => slice_eq xgM (off4_form c ((cond1_iff c).mp h)) _ _) zr_valid) $$ [Hg0 Hz0 HO]
  · isplitr; · iexact HR
    isplitl [Hg0]; · iexact Hg0
    isplitl [Hz0]; · iexact Hz0
    iexact HO
  iintro ⟨Hp0, HO⟩
  iapply (z_send m K (G := True) 1 (zc c) ((cond2_iff c).trans (by simp)) (fun h => Fin.ext (dev7_form c ((cond2_iff c).mp h))) (fun h => sem_eq cc0_scratch6 (off5_form c ((cond2_iff c).mp h)) _ _ _ _) (fun h => sem_eq cc0_scratch7 (off6_form c ((cond2_iff c).mp h)) _ _ _ _) (fun h => slice_eq xgM (off7_form c ((cond2_iff c).mp h)) _ _) (fun h => slice_eq xgM (off7_form c ((cond2_iff c).mp h)) _ _) zr_valid) $$ [Hg1 Hz1 HO]
  · isplitr; · iexact HR
    isplitl [Hg1]; · iexact Hg1
    isplitl [Hz1]; · iexact Hz1
    iexact HO
  iintro ⟨Hp1, HO⟩
  iapply (w_copy m K 0 0 0 (by decide) rfl rfl (slice_eq wM (off8_form c 0) _ _) rfl) $$ [Hw0 Hs0 Ht0]
  · isplitr; · iexact HR
    isplitl [Hw0]; · iexact Hw0
    isplitl [Hs0]; · iexact Hs0
    isplitl [Ht0]; · iexact Ht0
    iapply (recs_reached m K c (.ws 0))
    iexact HR
  iintro Hc0
  iapply ret_intro
  iapply Hk
  isplitl [HZ]; · iexact HZ
  isplitl [Hx]; · iexact Hx
  isplitl [Hl]; · iexact Hl
  isplitl [Hp0]; · iexact Hp0
  isplitl [Hp1]; · iexact Hp1
  isplitl [Hy1]; · iexact Hy1
  isplitl [Hy2]; · iexact Hy2
  isplitl [Hy3]; · iexact Hy3
  isplitl [HT]; · iexact HT
  isplitl [Hc0]; · iexact Hc0
  iexact HO

/-- A chunk of the own rows, narrowed, is what is sent. -/
theorem yb_own (c : Dev nD) (q : Fin 4) : k0_pay18 (k0_pay17 (sc m c) (XB m c) (wB m c q)) = YB m c (zc c) q := by
  unfold YB; rw [if_pos rfl]; rfl

/-- Part 17 of the kernel: the first chunk of the weights arrives, the results of the own rows for it. -/
theorem part17 {Q : (Σ' (v164 : FVec F S256x512 .f32), FVec F S256x512 .bf16) → sProp (MT nD τ sig Unit (Elt F) ℕ UU ℕ)} {sh1 sh2 : PosShare TreeShare} (v19 : BitVec 32) :
    iprop(recs m K ∗ blk c (wV (zc c) 1) sh1 (wC m c 1) ∗ blkE c (stSq 1) ∗ tok c (.ws 1) 0 0 ∗ atp c (.ws 0) 0 ∗ crd c (.ws 0) ∗ blkE c (w8V 0)
        ∗ blk c (wV (zc c) 2) sh2 (wC m c 2) ∗ tok c (.ws 0) 1 0 ∗ blk c (xgV (zc c)) fullShare.left (XB m c) ∗ owesL c (owedH c 0))
      ⊢ iprop((∀ r, ⌜r.1 = CH m c 0 ∧ r.2 = k0_pay17 (sc m c) (XB m c) (wB m c 0)⌝ -∗ (crd c (.ws 1) ∗ atp c (.ws 0) 1 ∗ crd c (.ws 0) ∗ blk c (w8V 0) fullShare (wB m c 0) ∗ blk c (xgV (zc c)) fullShare.left (XB m c) ∗ owesL c (owedH c 0)) -∗ Q r)
        -∗ WP c (k0_part17 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v19 (sc m c)) Q) := by
  rw [k0_part17_eq_skeleton]
  unfold k0_part17_skel
  simp (config := {zeta := false}) only [Prog.lift, Prog.bind_op, Prog.bind_ret, Prog.pure_eq_ret]
  iintro ⟨#HR, Hw1, Hs1, Ht1, Ha0, Hc0, Hq0, Hw2, Ht2, Hl, HO⟩ Hk
  iapply (w_copy m K 1 1 0 (by decide) rfl rfl (slice_eq wM (off8_form c 1) _ _) rfl) $$ [Hw1 Hs1 Ht1]
  · isplitr; · iexact HR
    isplitl [Hw1]; · iexact Hw1
    isplitl [Hs1]; · iexact Hs1
    isplitl [Ht1]; · iexact Ht1
    iapply (recs_reached m K c (.ws 1))
    iexact HR
  iintro Hc1
  iapply (w_wait m K 0 0 0 (by decide) rfl rfl rfl (lev_owedH c 0)) $$ [Ha0 Hc0 HO]
  · isplitr; · iexact HR
    isplitl [Ha0]; · iexact Ha0
    isplitl [Hc0]; · iexact Hc0
    iexact HO
  iintro ⟨Ha0, Hr0, Hs0, HO⟩
  iapply (st_load m 0 0 rfl) $$ Hs0
  iintro Hs0
  icases Hq0 with ⟨%Xq0, Hq0⟩
  iapply (op_load (M := w8M) (off' := ![0, 512 * (0 : Fin 4).val]) (inb' := inb_w8 0) rfl) $$ Hq0
  iintro Hq0
  iapply (op_store (M := w8M) (off' := ![0, 512 * (0 : Fin 4).val]) (inb' := inb_w8 0) rfl) $$ Hq0
  iintro Hq0
  ihave Hq0 := (Entails.of_eq (show blk c (w8V 0) fullShare (k0_pay15 (wL m c 0)) = blk c (w8V 0) fullShare (wB m c 0) from rfl)) $$ Hq0
  iapply (w_copy m K 2 0 1 (by decide) rfl rfl (slice_eq wM (off8_form c 2) _ _) rfl) $$ [Hw2 Hs0 Ht2 Hr0]
  · isplitr; · iexact HR
    isplitl [Hw2]; · iexact Hw2
    isplitl [Hs0]; · iexact Hs0
    isplitl [Ht2]; · iexact Ht2
    iexact Hr0
  iintro Hc0
  iapply (op_load (X := XB m c) (off1_form c)) $$ Hl
  iintro Hl
  iapply (op_load (M := w8M) (off' := ![0, 512 * (0 : Fin 4).val]) (inb' := inb_w8 0) (X := wB m c 0) rfl) $$ Hq0
  iintro Hq0
  iapply ret_intro
  iapply Hk
  · ipureintro; exact ⟨rfl, rfl⟩
  isplitl [Hc1]; · iexact Hc1
  isplitl [Ha0]; · iexact Ha0
  isplitl [Hc0]; · iexact Hc0
  isplitl [Hq0]; · iexact Hq0
  isplitl [Hl]; · iexact Hl
  iexact HO

/-- Part 18 of the kernel: the first chunk of the own rows is sent, the second chunk of the weights arrives. -/
theorem part18 {Q : Vec F S256x4096 .fp8e4m3 → sProp (MT nD τ sig Unit (Elt F) ℕ UU ℕ)} {sh : PosShare TreeShare} (v19 v29 v30 : BitVec 32) {a : FVec F S256x512 .f32} {b : FVec F S256x512 .bf16} (ha : a = CH m c 0) (hb : b = k0_pay17 (sc m c) (XB m c) (wB m c 0)) :
    iprop(recs m K ∗ blkE c (ybV (zc c) 0) ∗ gi (pc c = 0) (blkE c (oV (zc c) 0)) ∗ hTok c 0 ∗ atp c (.ws 1) 0 ∗ crd c (.ws 1) ∗ blkE c (w8V 1) ∗ blk c (wV (zc c) 3) sh (wC m c 3) ∗ tok c (.ws 1) 1 0 ∗ blk c (xgV (zc c)) fullShare.left (XB m c) ∗ owesL c (owedH c 0))
      ⊢ iprop((∀ r, ⌜r = XB m c⌝ -∗ (gi (pc c = 0) (blk c (oV (zc c) 0) fullShare (OB m c (zc c) 0)) ∗ hPost m c 0 ∗ atp c (.ws 1) 1 ∗ crd c (.ws 1) ∗ blk c (w8V 1) fullShare (wB m c 1) ∗ blk c (xgV (zc c)) fullShare.left (XB m c) ∗ owesL c (owedH c 1)) -∗ Q r)
        -∗ WP c (k0_part18 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v19 v29 v30 a b) Q) := by
  rw [k0_part18_eq_skeleton]
  unfold k0_part18_skel
  simp (config := {zeta := false}) only [Prog.lift, Prog.bind_op, Prog.bind_ret, Prog.pure_eq_ret]
  subst ha hb
  have HV : CH m c 0 = CH m c 0 := rfl
  iintro ⟨#HR, Hb, Ho, Hh, Ha1, Hc1, Hq1, Hw3, Ht3, Hl, HO⟩ Hk
  icases Hb with ⟨%Xb, Hb⟩
  iapply (op_load (off9_form c)) $$ Hb
  iintro Hb
  iapply (op_store (off9_form c)) $$ Hb
  iintro Hb
  ihave Hb := (Entails.of_eq (congrArg (blk c (ybV (zc c) 0) fullShare) (show k0_pay18 (k0_pay17 (sc m c) (XB m c) (wB m c 0)) = YB m c (zc c) 0 from yb_own m c 0))) $$ Hb
  iapply (own_store m 0 (cond3_iff c) (fun h => off10_form c ((cond3_iff c).mp h)) (fun h => HV)) $$ Ho
  iintro Ho
  iapply (h_send m K 0 (R := owedH c 1) (cond4_iff c) (fun h => Fin.ext (dev8_form c ((cond4_iff c).mp h))) (fun h => sem_eq cc0_scratch8 (off11_form c ((cond4_iff c).mp h)) _ _ _ _) (fun h => sem_eq cc0_scratch9 (off12_form c ((cond4_iff c).mp h)) _ _ _ _) (fun h => slice_eq ybM (off14_form c ((cond4_iff c).mp h)) _ _) (fun h => slice_eq yrM (off13_form c ((cond4_iff c).mp h)) _ _)) $$ [Hb Hh HO]
  · isplitr; · iexact HR
    isplitl [Hb]; · iexact Hb
    isplitl [Hh]; · iexact Hh
    iexact HO
  iintro ⟨Hh, HO⟩
  iapply (w_wait m K 1 1 0 (by decide) rfl rfl rfl (lev_owedH c 1)) $$ [Ha1 Hc1 HO]
  · isplitr; · iexact HR
    isplitl [Ha1]; · iexact Ha1
    isplitl [Hc1]; · iexact Hc1
    iexact HO
  iintro ⟨Ha1, Hr1, Hs1, HO⟩
  iapply (st_load m 1 1 rfl) $$ Hs1
  iintro Hs1
  icases Hq1 with ⟨%Xq1, Hq1⟩
  iapply (op_load (M := w8M) (off' := ![0, 512 * (1 : Fin 4).val]) (inb' := inb_w8 1) rfl) $$ Hq1
  iintro Hq1
  iapply (op_store (M := w8M) (off' := ![0, 512 * (1 : Fin 4).val]) (inb' := inb_w8 1) rfl) $$ Hq1
  iintro Hq1
  ihave Hq1 := (Entails.of_eq (show blk c (w8V 1) fullShare (k0_pay19 (wL m c 1)) = blk c (w8V 1) fullShare (wB m c 1) from rfl)) $$ Hq1
  iapply (w_copy m K 3 1 1 (by decide) rfl rfl (slice_eq wM (off8_form c 3) _ _) rfl) $$ [Hw3 Hs1 Ht3 Hr1]
  · isplitr; · iexact HR
    isplitl [Hw3]; · iexact Hw3
    isplitl [Hs1]; · iexact Hs1
    isplitl [Ht3]; · iexact Ht3
    iexact Hr1
  iintro Hc1
  iapply (op_load (X := XB m c) (off1_form c)) $$ Hl
  iintro Hl
  iapply ret_intro
  iapply Hk
  · ipureintro; rfl
  isplitl [Ho]; · iexact Ho
  isplitl [Hh]; · iexact Hh
  isplitl [Ha1]; · iexact Ha1
  isplitl [Hc1]; · iexact Hc1
  isplitl [Hq1]; · iexact Hq1
  isplitl [Hl]; · iexact Hl
  iexact HO

/-- Part 19 of the kernel: the second chunk of the own rows is sent, the third chunk of the weights arrives. -/
theorem part19 {Q : BitVec 32 → sProp (MT nD τ sig Unit (Elt F) ℕ UU ℕ)} (v19 v29 v30 : BitVec 32) {a : Vec F S256x4096 .fp8e4m3} (ha : a = XB m c) :
    iprop(recs m K ∗ blk c (w8V 1) fullShare (wB m c 1) ∗ blkE c (ybV (zc c) 1) ∗ gi (pc c = 1) (blkE c (oV (zc c) 1)) ∗ hTok c 1 ∗ atp c (.ws 0) 1 ∗ crd c (.ws 0) ∗ blkE c (w8V 2) ∗ owesL c (owedH c 1))
      ⊢ iprop((∀ r, (blk c (w8V 1) fullShare (wB m c 1) ∗ gi (pc c = 1) (blk c (oV (zc c) 1) fullShare (OB m c (zc c) 1)) ∗ hPost m c 1 ∗ Z c (.ws 0) ∗ blkE c (stSq 0) ∗ blk c (w8V 2) fullShare (wB m c 2) ∗ owesL c (owedH c 2)) -∗ Q r)
        -∗ WP c (k0_part19 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v19 v29 v30 (sc m c) a) Q) := by
  rw [k0_part19_eq_skeleton]
  unfold k0_part19_skel
  simp (config := {zeta := false}) only [Prog.lift, Prog.bind_op, Prog.bind_ret, Prog.pure_eq_ret]
  subst ha
  have HV : k0_pay20 (sc m c) (XB m c) (wB m c 1) = CH m c 1 := rfl
  iintro ⟨#HR, Hq1, Hb, Ho, Hh, Ha0, Hc0, Hq2, HO⟩ Hk
  iapply (op_load (M := w8M) (off' := ![0, 512 * (1 : Fin 4).val]) (inb' := inb_w8 1) (X := wB m c 1) rfl) $$ Hq1
  iintro Hq1
  icases Hb with ⟨%Xb, Hb⟩
  iapply (op_load (off15_form c)) $$ Hb
  iintro Hb
  iapply (op_store (off15_form c)) $$ Hb
  iintro Hb
  ihave Hb := (Entails.of_eq (congrArg (blk c (ybV (zc c) 1) fullShare) (show k0_pay21 (sc m c) (XB m c) (wB m c 1) = YB m c (zc c) 1 from yb_own m c 1))) $$ Hb
  iapply (own_store m 1 (cond5_iff c) (fun h => off16_form c ((cond5_iff c).mp h)) (fun h => HV)) $$ Ho
  iintro Ho
  iapply (h_send m K 1 (R := owedH c 2) (cond6_iff c) (fun h => Fin.ext (dev9_form c ((cond6_iff c).mp h))) (fun h => sem_eq cc0_scratch8 (off17_form c ((cond6_iff c).mp h)) _ _ _ _) (fun h => sem_eq cc0_scratch9 (off18_form c ((cond6_iff c).mp h)) _ _ _ _) (fun h => slice_eq ybM (off20_form c ((cond6_iff c).mp h)) _ _) (fun h => slice_eq yrM (off19_form c ((cond6_iff c).mp h)) _ _)) $$ [Hb Hh HO]
  · isplitr; · iexact HR
    isplitl [Hb]; · iexact Hb
    isplitl [Hh]; · iexact Hh
    iexact HO
  iintro ⟨Hh, HO⟩
  iapply (w_waitZ m K 2 0 rfl rfl rfl (lev_owedH c 2)) $$ [Ha0 Hc0 HO]
  · isplitr; · iexact HR
    isplitl [Ha0]; · iexact Ha0
    isplitl [Hc0]; · iexact Hc0
    iexact HO
  iintro ⟨Hz0, Hs0, HO⟩
  iapply (st_load m 2 0 rfl) $$ Hs0
  iintro Hs0
  icases Hq2 with ⟨%Xq2, Hq2⟩
  iapply (op_load (M := w8M) (off' := ![0, 512 * (2 : Fin 4).val]) (inb' := inb_w8 2) rfl) $$ Hq2
  iintro Hq2
  iapply (op_store (M := w8M) (off' := ![0, 512 * (2 : Fin 4).val]) (inb' := inb_w8 2) rfl) $$ Hq2
  iintro Hq2
  ihave Hq2 := (Entails.of_eq (show blk c (w8V 2) fullShare (k0_pay22 (wL m c 2)) = blk c (w8V 2) fullShare (wB m c 2) from rfl)) $$ Hq2
  iapply ret_intro
  iapply Hk
  isplitl [Hq1]; · iexact Hq1
  isplitl [Ho]; · iexact Ho
  isplitl [Hh]; · iexact Hh
  isplitl [Hz0]; · iexact Hz0
  isplitl [Hs0]; · iexact Hs0
  isplitl [Hq2]; · iexact Hq2
  iexact HO

/-- Part 20 of the kernel: the third chunk of the own rows is sent, the last chunk of the weights arrives. -/
theorem part20 {Q : FVec F S4096x512 .fp8e4m3 → sProp (MT nD τ sig Unit (Elt F) ℕ UU ℕ)} (v19 v29 v30 v229 : BitVec 32) :
    iprop(recs m K ∗ blk c (xgV (zc c)) fullShare.left (XB m c) ∗ blk c (w8V 2) fullShare (wB m c 2) ∗ blkE c (ybV (zc c) 2) ∗ gi (pc c = 2) (blkE c (oV (zc c) 2)) ∗ hTok c 2 ∗ atp c (.ws 1) 1 ∗ crd c (.ws 1) ∗ blkE c (w8V 3) ∗ owesL c (owedH c 2))
      ⊢ iprop((∀ r, ⌜r = k0_pay25 (wL m c 3)⌝ -∗ (blk c (xgV (zc c)) fullShare.left (XB m c) ∗ blk c (w8V 2) fullShare (wB m c 2) ∗ gi (pc c = 2) (blk c (oV (zc c) 2) fullShare (OB m c (zc c) 2)) ∗ hPost m c 2 ∗ Z c (.ws 1) ∗ blkE c (stSq 1) ∗ blkE c (w8V 3) ∗ owesL c (owedH c 3)) -∗ Q r)
        -∗ WP c (k0_part20 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v19 v29 v30 (sc m c) v229) Q) := by
  rw [k0_part20_eq_skeleton]
  unfold k0_part20_skel
  simp (config := {zeta := false}) only [Prog.lift, Prog.bind_op, Prog.bind_ret, Prog.pure_eq_ret]
  have HV : k0_pay23 (sc m c) (XB m c) (wB m c 2) = CH m c 2 := rfl
  iintro ⟨#HR, Hl, Hq2, Hb, Ho, Hh, Ha1, Hc1, Hq3, HO⟩ Hk
  iapply (op_load (X := XB m c) (off1_form c)) $$ Hl
  iintro Hl
  iapply (op_load (M := w8M) (off' := ![0, 512 * (2 : Fin 4).val]) (inb' := inb_w8 2) (X := wB m c 2) rfl) $$ Hq2
  iintro Hq2
  icases Hb with ⟨%Xb, Hb⟩
  iapply (op_load (off21_form c)) $$ Hb
  iintro Hb
  iapply (op_store (off21_form c)) $$ Hb
  iintro Hb
  ihave Hb := (Entails.of_eq (congrArg (blk c (ybV (zc c) 2) fullShare) (show k0_pay24 (sc m c) (XB m c) (wB m c 2) = YB m c (zc c) 2 from yb_own m c 2))) $$ Hb
  iapply (own_store m 2 (cond7_iff c) (fun h => off22_form c ((cond7_iff c).mp h)) (fun h => HV)) $$ Ho
  iintro Ho
  iapply (h_send m K 2 (R := owedH c 3) (cond8_iff c) (fun h => Fin.ext (dev10_form c ((cond8_iff c).mp h))) (fun h => sem_eq cc0_scratch8 (off23_form c ((cond8_iff c).mp h)) _ _ _ _) (fun h => sem_eq cc0_scratch9 (off24_form c ((cond8_iff c).mp h)) _ _ _ _) (fun h => slice_eq ybM (off26_form c ((cond8_iff c).mp h)) _ _) (fun h => slice_eq yrM (off25_form c ((cond8_iff c).mp h)) _ _)) $$ [Hb Hh HO]
  · isplitr; · iexact HR
    isplitl [Hb]; · iexact Hb
    isplitl [Hh]; · iexact Hh
    iexact HO
  iintro ⟨Hh, HO⟩
  iapply (w_waitZ m K 3 1 rfl rfl rfl (lev_owedH c 3)) $$ [Ha1 Hc1 HO]
  · isplitr; · iexact HR
    isplitl [Ha1]; · iexact Ha1
    isplitl [Hc1]; · iexact Hc1
    iexact HO
  iintro ⟨Hz1, Hs1, HO⟩
  iapply (st_load m 3 1 rfl) $$ Hs1
  iintro Hs1
  icases Hq3 with ⟨%Xq3, Hq3⟩
  iapply (op_load (M := w8M) (off' := ![0, 512 * (3 : Fin 4).val]) (inb' := inb_w8 3) rfl) $$ Hq3
  iintro Hq3
  iapply ret_intro
  iapply Hk
  · ipureintro; rfl
  isplitl [Hl]; · iexact Hl
  isplitl [Hq2]; · iexact Hq2
  isplitl [Ho]; · iexact Ho
  isplitl [Hh]; · iexact Hh
  isplitl [Hz1]; · iexact Hz1
  isplitl [Hs1]; · iexact Hs1
  isplitl [Hq3]; · iexists _; iexact Hq3
  iexact HO

end Parts

end Cert.Exchange

end
-- ==== Proof.Mid.lean ====
/-
The middle of the kernel: the last chunk of the own rows, then the slots as they arrive: each is sent on, and its results are computed and sent.
-/
module

public import proofs.«01_k».proof.Proof.Head

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

variable (m : (ℓ : Loc nD τ sig) → Buf (Elt F) ℓ)

/-- What is owed within step `r`, `j` pieces done. -/
def midL (c : Dev nD) (r : Fin 3) : ℕ → List (Dev nD × CK)
  | 0 => (if Has c 0 r then segZ c 0 (slot c 0 r) else []) ++ ((if Has c 1 r then segZ c 1 (slot c 1 r) else [])
    ++ ((if Has c 0 r then segM c (slot c 0 r) else []) ++ ((if Has c 1 r then segM c (slot c 1 r) else []) ++ stepsFrom c (r.val + 1))))
  | 1 => (if Has c 1 r then segZ c 1 (slot c 1 r) else []) ++ ((if Has c 0 r then segM c (slot c 0 r) else []) ++ ((if Has c 1 r then segM c (slot c 1 r) else []) ++ stepsFrom c (r.val + 1)))
  | 2 => (if Has c 0 r then segM c (slot c 0 r) else []) ++ ((if Has c 1 r then segM c (slot c 1 r) else []) ++ stepsFrom c (r.val + 1))
  | 3 => (if Has c 1 r then segM c (slot c 1 r) else []) ++ stepsFrom c (r.val + 1)
  | _ => stepsFrom c (r.val + 1)

/-- A step begins with the slots to be sent on. -/
theorem midL_Z (c : Dev nD) (d : Fin 2) (r : Fin 3) : midL c r d.val = (if Has c d r then segZ c d (slot c d r) else []) ++ midL c r (d.val + 1) := by
  fin_cases d <;> rfl
/-- It ends with the results. -/
theorem midL_M (c : Dev nD) (d : Fin 2) (r : Fin 3) : midL c r (d.val + 2) = (if Has c d r then segM c (slot c d r) else []) ++ midL c r (d.val + 3) := by
  fin_cases d <;> rfl
/-- A step is all that is owed from it on. -/
theorem midL_start (c : Dev nD) (r : Fin 3) : midL c r 0 = stepsFrom c r.val := by
  fin_cases r <;> rfl
/-- The wait for a slot is below what is owed then. -/
theorem lev_mid {c : Dev nD} (d : Fin 2) (r : Fin 3) (h : Has c d r) : ∀ x ∈ midL c r d.val, lvk c (.zr (slot c d r)) < lvk x.1 x.2 := by
  have h0 : ∀ x ∈ midL c r 0, lvk c (.zr (slot c d r)) < lvk x.1 x.2 := by
    rw [midL_start]
    exact lev_steps (lev_slot_lt c d r h) r.val fun r' d' hr hH hZ => lev_slot c d d' r r' hr h hH hZ
  have h1 : ∀ x ∈ midL c r 1, lvk c (.zr (slot c d r)) < lvk x.1 x.2 := fun x hx => h0 x (List.mem_append.mpr (.inr hx))
  fin_cases d
  · exact h0
  · exact h1

/-- The wait for the slot of direction `d`, step `r`. -/
def wI (c : Dev nD) (d : Fin 2) (r : Fin 3) : sProp 𝕄 := iprop(gi (Has c d r) (AV c (.zr (slot c d r))) ∗ gi (Has c d r) (crd c (.zr (slot c d r))))
/-- The wait, done. -/
def zZ (c : Dev nD) (d : Fin 2) (r : Fin 3) : sProp 𝕄 := gi (Has c d r) (Z c (.zr (slot c d r)))
/-- The kept half of the slot. -/
def zL (c : Dev nD) (d : Fin 2) (r : Fin 3) : sProp 𝕄 := gi (Has c d r) (blk c (xgV (slot c d r)) fullShare.left (XB m (dev (slot c d r) (pc c))))
/-- The lent half of the slot. -/
def zH (c : Dev nD) (d : Fin 2) (r : Fin 3) : sProp 𝕄 := gi (Has c d r) (blk c (xgV (slot c d r)) (zsh c (slot c d r) d) (XB m (dev (slot c d r) (pc c))))
/-- The rights to send it on. -/
def zR (c : Dev nD) (d : Fin 2) (r : Fin 3) : sProp 𝕄 := gi (Has c d r) (zTok c d (slot c d r))
/-- It has been sent on. -/
def zP (c : Dev nD) (d : Fin 2) (r : Fin 3) : sProp 𝕄 := gi (Has c d r) (zPost m c d (slot c d r))
/-- The rights to its results. -/
def cA (c : Dev nD) (d : Fin 2) (r : Fin 3) : sProp 𝕄 := gi (Has c d r) (compA c (slot c d r))
/-- Its results, on their way. -/
def cB (c : Dev nD) (d : Fin 2) (r : Fin 3) : sProp 𝕄 := gi (Has c d r) (compB m c (slot c d r))

section Units

variable (K : Dev nD × CK → ℕ) {c : Dev nD} {α : Type} {Q : α → sProp (MT nD τ sig Unit (Elt F) ℕ UU ℕ)} {kk : Prog (TpuEff nD τ sig (Elt F) Λ₀ .tc) α} {C : Prop} [Decidable C]

/-- A slot arrives. -/
theorem xw (d : Fin 2) (r : Fin 3) (hC : C ↔ Has c d r)
    {src dst : C → Memref sig .tc .vmem S256x4096 .fp8e4m3} {sm : C → DmaSem sig}
    {hsrc : ∀ h, (src h).view.WordExact} {hdst : ∀ h, (dst h).view.WordExact}
    (h₁ : ∀ h, sm h = zrS (slot c d r)) (hd : ∀ h, dst h = xgV (slot c d r)) :
    iprop(recs m K ∗ wI c d r ∗ owesL c (midL c r d.val))
      ⊢ iprop(((zZ c d r ∗ zL m c d r ∗ zH m c d r ∗ owesL c (midL c r d.val)) -∗ WP c kk Q)
        -∗ WP c (dite C (fun h => .op (.waitDma2 (sm h) (src h) (dst h) (hsrc h) (hdst h)) (fun _ => kk)) (fun _ => kk)) Q) := by
  unfold wI zZ zL zH
  iintro ⟨#HR, ⟨H1, H2⟩, HO⟩
  iapply (x_wait m K d r hC h₁ hd (fun h => lev_mid d r h))
  isplitr; · iexact HR
  isplitl [H1]; · iexact H1
  isplitl [H2]; · iexact H2
  iexact HO

/-- A slot is sent on. -/
theorem zs (d : Fin 2) (r : Fin 3) (hC : C ↔ Has c d r ∧ ZV c d (slot c d r))
    {src dst : C → Memref sig .tc .vmem S256x4096 .fp8e4m3} {n : C → Dev nD} {sS sR : C → DmaSem sig}
    {hsc : ∀ h, (dst h).view.ref.isScScratch = false} {hsrc : ∀ h, (src h).view.WordExact} {hdst : ∀ h, (dst h).view.WordExact}
    {hsem : ∀ h, DmaTarget.Typed .vmem (.dma (sR h)) (.remote (Dev.tc (n h) : Thread nD τ) (dst h) (.dma (sS h)) (hsc h))}
    (hn : ∀ h, n h = nb d c) (h₁ : ∀ h, sS h = zsS d (slot c d r)) (h₂ : ∀ h, sR h = zrS (slot c d r)) (hs : ∀ h, src h = xgV (slot c d r)) (hd : ∀ h, dst h = xgV (slot c d r)) :
    iprop(recs m K ∗ zH m c d r ∗ zR c d r ∗ owesL c (midL c r d.val))
      ⊢ iprop(((zP m c d r ∗ owesL c (midL c r (d.val + 1))) -∗ WP c kk Q)
        -∗ WP c (dite C (fun h => .op (.enqueueDma (src h) (.remote (Dev.tc (n h)) (dst h) (.dma (sS h)) (hsc h)) (.dma (sR h)) (hsrc h) (hdst h) (hsem h)) (fun _ => kk)) (fun _ => kk)) Q) := by
  rw [midL_Z]
  exact z_send m K (G := Has c d r) d (slot c d r) hC hn h₁ h₂ hs hd zr_valid

/-- The results of a slot that arrived: computed, sent to the three mates, the own block written to the result. -/
theorem cm (d : Fin 2) (r : Fin 3) (hC : C ↔ Has c d r)
    {o1 : C → Fin S1024x4096.rank → ℕ} {b1 : ∀ h a, o1 h a + S256x4096.size a ≤ S1024x4096.size a} {l1 : ∀ h, xgM.view.LoadsAt (Rect.unit (s := S1024x4096) (o1 h) S256x4096.size (b1 h))}
    {b2 : ∀ a, (![0, 0] : Fin S4096x2048.rank → ℕ) a + S4096x2048.size a ≤ S4096x2048.size a} {l2 : C → w8M.view.LoadsAt (Rect.unit (s := S4096x2048) ![0, 0] S4096x2048.size b2)}
    {o3 : C → Fin S1024x2048.rank → ℕ} {b3 : ∀ h a, o3 h a + S256x2048.size a ≤ S1024x2048.size a} {l3 : ∀ h, ybM.view.LoadsAt (Rect.unit (s := S1024x2048) (o3 h) S256x2048.size (b3 h))}
    {P : Vec F S256x4096 .fp8e4m3 → Vec F S4096x2048 .fp8e4m3 → Vec F S256x2048 .bf16}
    {x3 : ∀ h, (ybM.access (Rect.unit (s := S1024x2048) (o3 h) S256x2048.size (b3 h))).Stores Finset.univ}
    {y3 : ∀ h, (Finset.univ : Finset (Rect.unit (s := S1024x2048) (o3 h) S256x2048.size (b3 h)).shape.Idx) = Finset.univ ∨ ∀ a, (Rect.unit (s := S1024x2048) (o3 h) S256x2048.size (b3 h)).stride a = 1}
    {src₂ src₁ src₃ dst₂ dst₁ dst₃ : C → Memref sig .tc .vmem S256x512 .bf16} {n₂ n₁ n₃ : C → Dev nD} {sS₂ sS₁ sS₃ sR₂ sR₁ sR₃ : C → DmaSem sig}
    {hsc₂ : ∀ h, (dst₂ h).view.ref.isScScratch = false} {hsrc₂ : ∀ h, (src₂ h).view.WordExact} {hdst₂ : ∀ h, (dst₂ h).view.WordExact}
    {hsem₂ : ∀ h, DmaTarget.Typed .vmem (.dma (sR₂ h)) (.remote (Dev.tc (n₂ h) : Thread nD τ) (dst₂ h) (.dma (sS₂ h)) (hsc₂ h))}
    {hsc₁ : ∀ h, (dst₁ h).view.ref.isScScratch = false} {hsrc₁ : ∀ h, (src₁ h).view.WordExact} {hdst₁ : ∀ h, (dst₁ h).view.WordExact}
    {hsem₁ : ∀ h, DmaTarget.Typed .vmem (.dma (sR₁ h)) (.remote (Dev.tc (n₁ h) : Thread nD τ) (dst₁ h) (.dma (sS₁ h)) (hsc₁ h))}
    {hsc₃ : ∀ h, (dst₃ h).view.ref.isScScratch = false} {hsrc₃ : ∀ h, (src₃ h).view.WordExact} {hdst₃ : ∀ h, (dst₃ h).view.WordExact}
    {hsem₃ : ∀ h, DmaTarget.Typed .vmem (.dma (sR₃ h)) (.remote (Dev.tc (n₃ h) : Thread nD τ) (dst₃ h) (.dma (sS₃ h)) (hsc₃ h))}
    {o4 : C → Fin S1024x2048.rank → ℕ} {b4 : ∀ h a, o4 h a + S256x512.size a ≤ S1024x2048.size a} {l4 : ∀ h, ybM.view.LoadsAt (Rect.unit (s := S1024x2048) (o4 h) S256x512.size (b4 h))}
    {o5 : C → Fin S4096x512.rank → ℕ} {b5 : ∀ h a, o5 h a + S256x512.size a ≤ S4096x512.size a} {l5 : ∀ h, oM.view.LoadsAt (Rect.unit (s := S4096x512) (o5 h) S256x512.size (b5 h))}
    {P' : Vec F S256x512 .bf16 → Vec F S256x512 .f32}
    {x5 : ∀ h, (oM.access (Rect.unit (s := S4096x512) (o5 h) S256x512.size (b5 h))).Stores Finset.univ}
    {y5 : ∀ h, (Finset.univ : Finset (Rect.unit (s := S4096x512) (o5 h) S256x512.size (b5 h)).shape.Idx) = Finset.univ ∨ ∀ a, (Rect.unit (s := S4096x512) (o5 h) S256x512.size (b5 h)).stride a = 1}
    (e1 : ∀ h, o1 h = ![256 * (slot c d r).val, 0]) (e3 : ∀ h, o3 h = ![256 * (slot c d r).val, 0]) (hP : P = k0_pay1 (sc m c)) (hP' : P' = k0_pay2)
    (hn₂ : ∀ h, n₂ h = mate c 2) (i₂ : ∀ h, sS₂ h = ysS (pc c + 2) (slot c d r)) (j₂ : ∀ h, sR₂ h = yrS (pc c) (slot c d r)) (hs₂ : ∀ h, src₂ h = ybV (slot c d r) (pc c + 2)) (hd₂ : ∀ h, dst₂ h = yrV (slot c d r) (pc c))
    (hn₁ : ∀ h, n₁ h = mate c 1) (i₁ : ∀ h, sS₁ h = ysS (pc c + 1) (slot c d r)) (j₁ : ∀ h, sR₁ h = yrS (pc c) (slot c d r)) (hs₁ : ∀ h, src₁ h = ybV (slot c d r) (pc c + 1)) (hd₁ : ∀ h, dst₁ h = yrV (slot c d r) (pc c))
    (hn₃ : ∀ h, n₃ h = mate c 3) (i₃ : ∀ h, sS₃ h = ysS (pc c + 3) (slot c d r)) (j₃ : ∀ h, sR₃ h = yrS (pc c) (slot c d r)) (hs₃ : ∀ h, src₃ h = ybV (slot c d r) (pc c + 3)) (hd₃ : ∀ h, dst₃ h = yrV (slot c d r) (pc c))
    (e4 : ∀ h, o4 h = ![256 * (slot c d r).val, 512 * (pc c).val]) (e5 : ∀ h, o5 h = ![1024 * (slot c d r).val + 256 * (pc c).val, 0]) :
    iprop(recs m K ∗ blk c w8M fullShare (W8 m c) ∗ zL m c d r ∗ cA c d r ∗ owesL c (midL c r (d.val + 2)))
      ⊢ iprop(((blk c w8M fullShare (W8 m c) ∗ zL m c d r ∗ cB m c d r ∗ owesL c (midL c r (d.val + 3))) -∗ WP c kk Q)
        -∗ WP c (dite C (fun h =>
            .op (.load xgM (Rect.unit (s := S1024x4096) (o1 h) S256x4096.size (b1 h)).toLoadRect (l1 h)) fun a =>
            .op (.load w8M (Rect.unit (s := S4096x2048) ![0, 0] S4096x2048.size b2).toLoadRect (l2 h)) fun b =>
            .op (.load ybM (Rect.unit (s := S1024x2048) (o3 h) S256x2048.size (b3 h)).toLoadRect (l3 h)) fun _ =>
            .op (.store ybM (Rect.unit (s := S1024x2048) (o3 h) S256x2048.size (b3 h)) (P a b) Finset.univ (x3 h) (y3 h)) fun _ =>
            .op (.enqueueDma (src₂ h) (.remote (Dev.tc (n₂ h)) (dst₂ h) (.dma (sS₂ h)) (hsc₂ h)) (.dma (sR₂ h)) (hsrc₂ h) (hdst₂ h) (hsem₂ h)) fun _ =>
            .op (.enqueueDma (src₁ h) (.remote (Dev.tc (n₁ h)) (dst₁ h) (.dma (sS₁ h)) (hsc₁ h)) (.dma (sR₁ h)) (hsrc₁ h) (hdst₁ h) (hsem₁ h)) fun _ =>
            .op (.enqueueDma (src₃ h) (.remote (Dev.tc (n₃ h)) (dst₃ h) (.dma (sS₃ h)) (hsc₃ h)) (.dma (sR₃ h)) (hsrc₃ h) (hdst₃ h) (hsem₃ h)) fun _ =>
            .op (.load ybM (Rect.unit (s := S1024x2048) (o4 h) S256x512.size (b4 h)).toLoadRect (l4 h)) fun a' =>
            .op (.load oM (Rect.unit (s := S4096x512) (o5 h) S256x512.size (b5 h)).toLoadRect (l5 h)) fun _ =>
            .op (.store oM (Rect.unit (s := S4096x512) (o5 h) S256x512.size (b5 h)) (P' a') Finset.univ (x5 h) (y5 h)) fun _ => kk) (fun _ => kk)) Q) := by
  unfold zL cA cB
  rw [midL_M]
  iintro ⟨#HR, HW, H1, H2, HO⟩ Hk
  iapply (comp m K d r hC e1 e3 hP hP' hn₂ i₂ j₂ hs₂ hd₂ hn₁ i₁ j₁ hs₁ hd₁ hn₃ i₃ j₃ hs₃ hd₃ e4 e5) $$ [HW H1 H2 HO]
  · rw [gi_sep]
    isplitr; · iexact HR
    isplitl [HW]; · iexact HW
    isplitl [H1 H2]
    · isplitl [H1]; · iexact H1
      iexact H2
    iexact HO
  rw [gi_sep]
  iintro ⟨HW, ⟨H1, H2⟩, HO⟩
  iapply Hk
  isplitl [HW]; · iexact HW
  isplitl [H1]; · iexact H1
  isplitl [H2]; · iexact H2
  iexact HO

end Units

section Parts

variable (K : Dev nD × CK → ℕ) {c : Dev nD}

/-- Part 21 of the kernel: the last chunk of the own rows, the first slot from below arrives and is sent on. -/
theorem part21 {Q : (Σ' (v290 : BitVec 1) (v291 : BitVec 1) (v298 : BitVec 32), BitVec 32) → sProp (MT nD τ sig Unit (Elt F) ℕ UU ℕ)} (v2 v19 v29 v30 : BitVec 32) {a : FVec F S4096x512 .fp8e4m3} (ha : a = k0_pay25 (wL m c 3)) :
    iprop(recs m K ∗ blk c (xgV (zc c)) fullShare.left (XB m c) ∗ blkE c (w8V 3) ∗ blkE c (ybV (zc c) 3) ∗ gi (pc c = 3) (blkE c (oV (zc c) 3)) ∗ hTok c 3 ∗ wI c 0 0 ∗ zR c 0 0 ∗ owesL c (owedH c 3))
      ⊢ iprop((∀ r, (blk c (xgV (zc c)) fullShare.left (XB m c) ∗ blk c (w8V 3) fullShare (wB m c 3) ∗ gi (pc c = 3) (blk c (oV (zc c) 3) fullShare (OB m c (zc c) 3)) ∗ hPost m c 3 ∗ zZ c 0 0 ∗ zL m c 0 0 ∗ zP m c 0 0 ∗ owesL c (midL c 0 1)) -∗ Q r)
        -∗ WP c (k0_part21 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 v19 v29 v30 (sc m c) a) Q) := by
  subst ha
  rw [k0_part21_eq_skeleton]
  unfold k0_part21_skel
  simp (config := {zeta := false}) only [Prog.lift, Prog.bind_op, Prog.bind_ret, Prog.pure_eq_ret]
  have HV : k0_pay27 (sc m c) (XB m c) (wB m c 3) = CH m c 3 := rfl
  iintro ⟨#HR, Hl, ⟨%X3, Hq3⟩, Hb, Ho, Hh, Hi00, Hr00, HO⟩ Hk
  iapply (op_store (M := w8M) (off' := ![0, 512 * (3 : Fin 4).val]) (inb' := inb_w8 3) rfl) $$ Hq3
  iintro Hq3
  ihave Hq3 := (Entails.of_eq (show blk c (w8V 3) fullShare (k0_pay26 (k0_pay25 (wL m c 3))) = blk c (w8V 3) fullShare (wB m c 3) from rfl)) $$ Hq3
  iapply (op_load (X := XB m c) (off1_form c)) $$ Hl
  iintro Hl
  iapply (op_load (M := w8M) (off' := ![0, 512 * (3 : Fin 4).val]) (inb' := inb_w8 3) (X := wB m c 3) rfl) $$ Hq3
  iintro Hq3
  icases Hb with ⟨%Xb, Hb⟩
  iapply (op_load (off27_form c)) $$ Hb
  iintro Hb
  iapply (op_store (off27_form c)) $$ Hb
  iintro Hb
  ihave Hb := (Entails.of_eq (congrArg (blk c (ybV (zc c) 3) fullShare) (show k0_pay28 (sc m c) (XB m c) (wB m c 3) = YB m c (zc c) 3 from yb_own m c 3))) $$ Hb
  iapply (own_store m 3 (cond9_iff c) (fun h => off28_form c ((cond9_iff c).mp h)) (fun h => HV)) $$ Ho
  iintro Ho
  iapply (h_send m K 3 (R := owedH c 4) (cond10_iff c) (fun h => Fin.ext (dev11_form c ((cond10_iff c).mp h))) (fun h => sem_eq cc0_scratch8 (off29_form c ((cond10_iff c).mp h)) _ _ _ _) (fun h => sem_eq cc0_scratch9 (off30_form c ((cond10_iff c).mp h)) _ _ _ _) (fun h => slice_eq ybM (off32_form c ((cond10_iff c).mp h)) _ _) (fun h => slice_eq yrM (off31_form c ((cond10_iff c).mp h)) _ _)) $$ [Hb Hh HO]
  · isplitr; · iexact HR
    isplitl [Hb]; · iexact Hb
    isplitl [Hh]; · iexact Hh
    iexact HO
  iintro ⟨Hh, HO⟩
  ihave HO := (Entails.of_eq (show owesL c (owedH c 4) = owesL c (midL c 0 0) from rfl)) $$ HO
  iapply (xw m K 0 0 ((cond11_iff c).trans has_up.symm) (fun h => sem_eq cc0_scratch7 (off33_form c ((cond11_iff c).mp h)) _ _ _ _) (fun h => slice_eq xgM (off34_form c ((cond11_iff c).mp h)) _ _)) $$ [Hi00 HO]
  · isplitr; · iexact HR
    isplitl [Hi00]; · iexact Hi00
    iexact HO
  iintro ⟨Hz00, Hl00, Hh00, HO⟩
  iapply (zs m K 0 0 ((cond12_iff c).trans (and_congr has_up.symm Iff.rfl)) (fun h => Fin.ext (dev12_form c ((cond12_iff c).mp h))) (fun h => sem_eq cc0_scratch6 (off35_form c ((cond12_iff c).mp h)) _ _ _ _) (fun h => sem_eq cc0_scratch7 (off36_form c ((cond12_iff c).mp h)) _ _ _ _) (fun h => slice_eq xgM (off37_form c ((cond12_iff c).mp h)) _ _) (fun h => slice_eq xgM (off37_form c ((cond12_iff c).mp h)) _ _)) $$ [Hh00 Hr00 HO]
  · isplitr; · iexact HR
    isplitl [Hh00]; · iexact Hh00
    isplitl [Hr00]; · iexact Hr00
    iexact HO
  iintro ⟨Hp00, HO⟩
  iapply ret_intro
  iapply Hk
  isplitl [Hl]; · iexact Hl
  isplitl [Hq3]; · iexact Hq3
  isplitl [Ho]; · iexact Ho
  isplitl [Hh]; · iexact Hh
  isplitl [Hz00]; · iexact Hz00
  isplitl [Hl00]; · iexact Hl00
  isplitl [Hp00]; · iexact Hp00
  iexact HO

set_option maxHeartbeats 1000000 in
/-- Part 22 of the kernel: the slots of the first two steps. -/
theorem part22 {Q : (Σ' (v326 : BitVec 1) (v327 : BitVec 1), BitVec 32) → sProp (MT nD τ sig Unit (Elt F) ℕ UU ℕ)} (v2 v19 v29 v30 : BitVec 32) (v290 v291 : BitVec 1) (v298 c0 : BitVec 32) :
    iprop(recs m K ∗ blk c w8M fullShare (W8 m c) ∗ zL m c 0 0 ∗ wI c 1 0 ∗ zR c 1 0 ∗ cA c 0 0 ∗ cA c 1 0 ∗ wI c 0 1 ∗ zR c 0 1 ∗ wI c 1 1 ∗ zR c 1 1 ∗ cA c 0 1 ∗ cA c 1 1 ∗ wI c 0 2 ∗ owesL c (midL c 0 1))
      ⊢ iprop((∀ r, (blk c w8M fullShare (W8 m c) ∗ zL m c 0 0 ∗ zZ c 1 0 ∗ zL m c 1 0 ∗ zP m c 1 0 ∗ cB m c 0 0 ∗ cB m c 1 0 ∗ zZ c 0 1 ∗ zL m c 0 1 ∗ zP m c 0 1 ∗ zZ c 1 1 ∗ zL m c 1 1 ∗ zP m c 1 1 ∗ cB m c 0 1 ∗ cB m c 1 1 ∗ zZ c 0 2 ∗ zL m c 0 2 ∗ zH m c 0 2 ∗ owesL c (midL c 2 0)) -∗ Q r)
        -∗ WP c (k0_part22 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 v19 v29 v30 (sc m c) v290 v291 v298 c0) Q) := by
  rw [k0_part22_eq_skeleton]
  unfold k0_part22_skel
  simp (config := {zeta := false}) only [Prog.lift, Prog.bind_op, Prog.bind_ret, Prog.pure_eq_ret, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel]
  iintro ⟨#HR, HW, Hl00, Hi10, Hr10, Ha00, Ha10, Hi01, Hr01, Hi11, Hr11, Ha01, Ha11, Hi02, HO⟩ Hk
  iapply (xw m K 1 0 ((cond13_iff c).trans has_dn.symm) (fun h => sem_eq cc0_scratch7 (off38_form c ((cond13_iff c).mp h)) _ _ _ _) (fun h => slice_eq xgM (off39_form c ((cond13_iff c).mp h)) _ _)) $$ [Hi10 HO]
  · isplitr; · iexact HR
    isplitl [Hi10]; · iexact Hi10
    iexact HO
  iintro ⟨Hz10, Hl10, Hh10, HO⟩
  iapply (zs m K 1 0 ((cond14_iff c).trans (and_congr has_dn.symm Iff.rfl)) (fun h => Fin.ext (dev13_form c ((cond14_iff c).mp h))) (fun h => sem_eq cc0_scratch6 (off40_form c ((cond14_iff c).mp h)) _ _ _ _) (fun h => sem_eq cc0_scratch7 (off41_form c ((cond14_iff c).mp h)) _ _ _ _) (fun h => slice_eq xgM (off42_form c ((cond14_iff c).mp h)) _ _) (fun h => slice_eq xgM (off42_form c ((cond14_iff c).mp h)) _ _)) $$ [Hh10 Hr10 HO]
  · isplitr; · iexact HR
    isplitl [Hh10]; · iexact Hh10
    isplitl [Hr10]; · iexact Hr10
    iexact HO
  iintro ⟨Hp10, HO⟩
  iapply (cm m K 0 0 ((cond15_iff c).trans has_up.symm) (fun h => off43_form c ((cond15_iff c).mp h)) (fun h => off44_form c ((cond15_iff c).mp h)) rfl rfl (fun h => Fin.ext (dev14_form c ((cond15_iff c).mp h))) (fun h => sem_eq cc0_scratch8 (off45_form c 1 ((cond15_iff c).mp h)) _ _ _ _) (fun h => sem_eq cc0_scratch9 (off46_form c ((cond15_iff c).mp h)) _ _ _ _) (fun h => slice_eq ybM (off48_form c 1 ((cond15_iff c).mp h)) _ _) (fun h => slice_eq yrM (off47_form c ((cond15_iff c).mp h)) _ _) (fun h => Fin.ext (dev15_form c ((cond15_iff c).mp h))) (fun h => sem_eq cc0_scratch8 (off45_form c 0 ((cond15_iff c).mp h)) _ _ _ _) (fun h => sem_eq cc0_scratch9 (off46_form c ((cond15_iff c).mp h)) _ _ _ _) (fun h => slice_eq ybM (off48_form c 0 ((cond15_iff c).mp h)) _ _) (fun h => slice_eq yrM (off47_form c ((cond15_iff c).mp h)) _ _) (fun h => Fin.ext (dev16_form c ((cond15_iff c).mp h))) (fun h => sem_eq cc0_scratch8 (off45_form c 2 ((cond15_iff c).mp h)) _ _ _ _) (fun h => sem_eq cc0_scratch9 (off46_form c ((cond15_iff c).mp h)) _ _ _ _) (fun h => slice_eq ybM (off48_form c 2 ((cond15_iff c).mp h)) _ _) (fun h => slice_eq yrM (off47_form c ((cond15_iff c).mp h)) _ _) (fun h => off49_form c ((cond15_iff c).mp h)) (fun h => off50_form c ((cond15_iff c).mp h))) $$ [HW Hl00 Ha00 HO]
  · isplitr; · iexact HR
    isplitl [HW]; · iexact HW
    isplitl [Hl00]; · iexact Hl00
    isplitl [Ha00]; · iexact Ha00
    iexact HO
  iintro ⟨HW, Hl00, Hb00, HO⟩
  iapply (cm m K 1 0 ((cond16_iff c).trans has_dn.symm) (fun h => off51_form c ((cond16_iff c).mp h)) (fun h => off52_form c ((cond16_iff c).mp h)) rfl rfl (fun h => Fin.ext (dev17_form c ((cond16_iff c).mp h))) (fun h => sem_eq cc0_scratch8 (off53_form c 1 ((cond16_iff c).mp h)) _ _ _ _) (fun h => sem_eq cc0_scratch9 (off54_form c ((cond16_iff c).mp h)) _ _ _ _) (fun h => slice_eq ybM (off56_form c 1 ((cond16_iff c).mp h)) _ _) (fun h => slice_eq yrM (off55_form c ((cond16_iff c).mp h)) _ _) (fun h => Fin.ext (dev18_form c ((cond16_iff c).mp h))) (fun h => sem_eq cc0_scratch8 (off53_form c 0 ((cond16_iff c).mp h)) _ _ _ _) (fun h => sem_eq cc0_scratch9 (off54_form c ((cond16_iff c).mp h)) _ _ _ _) (fun h => slice_eq ybM (off56_form c 0 ((cond16_iff c).mp h)) _ _) (fun h => slice_eq yrM (off55_form c ((cond16_iff c).mp h)) _ _) (fun h => Fin.ext (dev19_form c ((cond16_iff c).mp h))) (fun h => sem_eq cc0_scratch8 (off53_form c 2 ((cond16_iff c).mp h)) _ _ _ _) (fun h => sem_eq cc0_scratch9 (off54_form c ((cond16_iff c).mp h)) _ _ _ _) (fun h => slice_eq ybM (off56_form c 2 ((cond16_iff c).mp h)) _ _) (fun h => slice_eq yrM (off55_form c ((cond16_iff c).mp h)) _ _) (fun h => off57_form c ((cond16_iff c).mp h)) (fun h => off58_form c ((cond16_iff c).mp h))) $$ [HW Hl10 Ha10 HO]
  · isplitr; · iexact HR
    isplitl [HW]; · iexact HW
    isplitl [Hl10]; · iexact Hl10
    isplitl [Ha10]; · iexact Ha10
    iexact HO
  iintro ⟨HW, Hl10, Hb10, HO⟩
  ihave HO := (Entails.of_eq (show owesL c (midL c 0 ((1 : Fin 2).val + 3)) = owesL c (midL c 1 0) from rfl)) $$ HO
  iapply (xw m K 0 1 ((cond17_iff c).trans has_up.symm) (fun h => sem_eq cc0_scratch7 (off59_form c ((cond17_iff c).mp h)) _ _ _ _) (fun h => slice_eq xgM (off60_form c ((cond17_iff c).mp h)) _ _)) $$ [Hi01 HO]
  · isplitr; · iexact HR
    isplitl [Hi01]; · iexact Hi01
    iexact HO
  iintro ⟨Hz01, Hl01, Hh01, HO⟩
  iapply (zs m K 0 1 ((cond18_iff c).trans (and_congr has_up.symm Iff.rfl)) (fun h => Fin.ext (dev20_form c ((cond18_iff c).mp h))) (fun h => sem_eq cc0_scratch6 (off61_form c ((cond18_iff c).mp h)) _ _ _ _) (fun h => sem_eq cc0_scratch7 (off62_form c ((cond18_iff c).mp h)) _ _ _ _) (fun h => slice_eq xgM (off63_form c ((cond18_iff c).mp h)) _ _) (fun h => slice_eq xgM (off63_form c ((cond18_iff c).mp h)) _ _)) $$ [Hh01 Hr01 HO]
  · isplitr; · iexact HR
    isplitl [Hh01]; · iexact Hh01
    isplitl [Hr01]; · iexact Hr01
    iexact HO
  iintro ⟨Hp01, HO⟩
  iapply (xw m K 1 1 ((cond19_iff c).trans has_dn.symm) (fun h => sem_eq cc0_scratch7 (off64_form c ((cond19_iff c).mp h)) _ _ _ _) (fun h => slice_eq xgM (off65_form c ((cond19_iff c).mp h)) _ _)) $$ [Hi11 HO]
  · isplitr; · iexact HR
    isplitl [Hi11]; · iexact Hi11
    iexact HO
  iintro ⟨Hz11, Hl11, Hh11, HO⟩
  iapply (zs m K 1 1 ((cond20_iff c).trans (and_congr has_dn.symm Iff.rfl)) (fun h => Fin.ext (dev21_form c ((cond20_iff c).mp h))) (fun h => sem_eq cc0_scratch6 (off66_form c ((cond20_iff c).mp h)) _ _ _ _) (fun h => sem_eq cc0_scratch7 (off67_form c ((cond20_iff c).mp h)) _ _ _ _) (fun h => slice_eq xgM (off68_form c ((cond20_iff c).mp h)) _ _) (fun h => slice_eq xgM (off68_form c ((cond20_iff c).mp h)) _ _)) $$ [Hh11 Hr11 HO]
  · isplitr; · iexact HR
    isplitl [Hh11]; · iexact Hh11
    isplitl [Hr11]; · iexact Hr11
    iexact HO
  iintro ⟨Hp11, HO⟩
  iapply (cm m K 0 1 ((cond21_iff c).trans has_up.symm) (fun h => off69_form c ((cond21_iff c).mp h)) (fun h => off70_form c ((cond21_iff c).mp h)) rfl rfl (fun h => Fin.ext (dev22_form c ((cond21_iff c).mp h))) (fun h => sem_eq cc0_scratch8 (off71_form c 1 ((cond21_iff c).mp h)) _ _ _ _) (fun h => sem_eq cc0_scratch9 (off72_form c ((cond21_iff c).mp h)) _ _ _ _) (fun h => slice_eq ybM (off74_form c 1 ((cond21_iff c).mp h)) _ _) (fun h => slice_eq yrM (off73_form c ((cond21_iff c).mp h)) _ _) (fun h => Fin.ext (dev23_form c ((cond21_iff c).mp h))) (fun h => sem_eq cc0_scratch8 (off71_form c 0 ((cond21_iff c).mp h)) _ _ _ _) (fun h => sem_eq cc0_scratch9 (off72_form c ((cond21_iff c).mp h)) _ _ _ _) (fun h => slice_eq ybM (off74_form c 0 ((cond21_iff c).mp h)) _ _) (fun h => slice_eq yrM (off73_form c ((cond21_iff c).mp h)) _ _) (fun h => Fin.ext (dev24_form c ((cond21_iff c).mp h))) (fun h => sem_eq cc0_scratch8 (off71_form c 2 ((cond21_iff c).mp h)) _ _ _ _) (fun h => sem_eq cc0_scratch9 (off72_form c ((cond21_iff c).mp h)) _ _ _ _) (fun h => slice_eq ybM (off74_form c 2 ((cond21_iff c).mp h)) _ _) (fun h => slice_eq yrM (off73_form c ((cond21_iff c).mp h)) _ _) (fun h => off75_form c ((cond21_iff c).mp h)) (fun h => off76_form c ((cond21_iff c).mp h))) $$ [HW Hl01 Ha01 HO]
  · isplitr; · iexact HR
    isplitl [HW]; · iexact HW
    isplitl [Hl01]; · iexact Hl01
    isplitl [Ha01]; · iexact Ha01
    iexact HO
  iintro ⟨HW, Hl01, Hb01, HO⟩
  iapply (cm m K 1 1 ((cond22_iff c).trans has_dn.symm) (fun h => off77_form c ((cond22_iff c).mp h)) (fun h => off78_form c ((cond22_iff c).mp h)) rfl rfl (fun h => Fin.ext (dev25_form c ((cond22_iff c).mp h))) (fun h => sem_eq cc0_scratch8 (off79_form c 1 ((cond22_iff c).mp h)) _ _ _ _) (fun h => sem_eq cc0_scratch9 (off80_form c ((cond22_iff c).mp h)) _ _ _ _) (fun h => slice_eq ybM (off82_form c 1 ((cond22_iff c).mp h)) _ _) (fun h => slice_eq yrM (off81_form c ((cond22_iff c).mp h)) _ _) (fun h => Fin.ext (dev26_form c ((cond22_iff c).mp h))) (fun h => sem_eq cc0_scratch8 (off79_form c 0 ((cond22_iff c).mp h)) _ _ _ _) (fun h => sem_eq cc0_scratch9 (off80_form c ((cond22_iff c).mp h)) _ _ _ _) (fun h => slice_eq ybM (off82_form c 0 ((cond22_iff c).mp h)) _ _) (fun h => slice_eq yrM (off81_form c ((cond22_iff c).mp h)) _ _) (fun h => Fin.ext (dev27_form c ((cond22_iff c).mp h))) (fun h => sem_eq cc0_scratch8 (off79_form c 2 ((cond22_iff c).mp h)) _ _ _ _) (fun h => sem_eq cc0_scratch9 (off80_form c ((cond22_iff c).mp h)) _ _ _ _) (fun h => slice_eq ybM (off82_form c 2 ((cond22_iff c).mp h)) _ _) (fun h => slice_eq yrM (off81_form c ((cond22_iff c).mp h)) _ _) (fun h => off83_form c ((cond22_iff c).mp h)) (fun h => off84_form c ((cond22_iff c).mp h))) $$ [HW Hl11 Ha11 HO]
  · isplitr; · iexact HR
    isplitl [HW]; · iexact HW
    isplitl [Hl11]; · iexact Hl11
    isplitl [Ha11]; · iexact Ha11
    iexact HO
  iintro ⟨HW, Hl11, Hb11, HO⟩
  ihave HO := (Entails.of_eq (show owesL c (midL c 1 ((1 : Fin 2).val + 3)) = owesL c (midL c 2 0) from rfl)) $$ HO
  iapply (xw m K 0 2 ((cond23_iff c).trans has_up.symm) (fun h => sem_eq cc0_scratch7 (off85_form c ((cond23_iff c).mp h)) _ _ _ _) (fun h => slice_eq xgM (off86_form c ((cond23_iff c).mp h)) _ _)) $$ [Hi02 HO]
  · isplitr; · iexact HR
    isplitl [Hi02]; · iexact Hi02
    iexact HO
  iintro ⟨Hz02, Hl02, Hh02, HO⟩
  iapply ret_intro
  iapply Hk
  isplitl [HW]; · iexact HW
  isplitl [Hl00]; · iexact Hl00
  isplitl [Hz10]; · iexact Hz10
  isplitl [Hl10]; · iexact Hl10
  isplitl [Hp10]; · iexact Hp10
  isplitl [Hb00]; · iexact Hb00
  isplitl [Hb10]; · iexact Hb10
  isplitl [Hz01]; · iexact Hz01
  isplitl [Hl01]; · iexact Hl01
  isplitl [Hp01]; · iexact Hp01
  isplitl [Hz11]; · iexact Hz11
  isplitl [Hl11]; · iexact Hl11
  isplitl [Hp11]; · iexact Hp11
  isplitl [Hb01]; · iexact Hb01
  isplitl [Hb11]; · iexact Hb11
  isplitl [Hz02]; · iexact Hz02
  isplitl [Hl02]; · iexact Hl02
  isplitl [Hh02]; · iexact Hh02
  iexact HO

set_option maxHeartbeats 1000000 in
/-- Part 23 of the kernel: the slots of the last step. -/
theorem part23 {Q : BitVec 32 → sProp (MT nD τ sig Unit (Elt F) ℕ UU ℕ)} (v2 v19 v29 v30 : BitVec 32) (v326 v327 : BitVec 1) (c2 : BitVec 32) :
    iprop(recs m K ∗ blk c w8M fullShare (W8 m c) ∗ zL m c 0 2 ∗ zH m c 0 2 ∗ zR c 0 2 ∗ wI c 1 2 ∗ zR c 1 2 ∗ cA c 0 2 ∗ cA c 1 2 ∗ owesL c (midL c 2 0))
      ⊢ iprop((∀ r, (blk c w8M fullShare (W8 m c) ∗ zL m c 0 2 ∗ zP m c 0 2 ∗ zZ c 1 2 ∗ zL m c 1 2 ∗ zP m c 1 2 ∗ cB m c 0 2 ∗ cB m c 1 2 ∗ owesL c []) -∗ Q r)
        -∗ WP c (k0_part23 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 v19 v29 v30 (sc m c) v326 v327 c2) Q) := by
  rw [k0_part23_eq_skeleton]
  unfold k0_part23_skel
  simp (config := {zeta := false}) only [Prog.lift, Prog.bind_op, Prog.bind_ret, Prog.pure_eq_ret, k0_part9_eq_skeleton, k0_part9_skel, k0_part10_eq_skeleton, k0_part10_skel, k0_part11_eq_skeleton, k0_part11_skel, k0_part12_eq_skeleton, k0_part12_skel]
  iintro ⟨#HR, HW, Hl02, Hh02, Hr02, Hi12, Hr12, Ha02, Ha12, HO⟩ Hk
  iapply (zs m K 0 2 ((cond24_iff c).trans (and_congr has_up.symm Iff.rfl)) (fun h => Fin.ext (dev28_form c ((cond24_iff c).mp h))) (fun h => sem_eq cc0_scratch6 (off87_form c ((cond24_iff c).mp h)) _ _ _ _) (fun h => sem_eq cc0_scratch7 (off88_form c ((cond24_iff c).mp h)) _ _ _ _) (fun h => slice_eq xgM (off89_form c ((cond24_iff c).mp h)) _ _) (fun h => slice_eq xgM (off89_form c ((cond24_iff c).mp h)) _ _)) $$ [Hh02 Hr02 HO]
  · isplitr; · iexact HR
    isplitl [Hh02]; · iexact Hh02
    isplitl [Hr02]; · iexact Hr02
    iexact HO
  iintro ⟨Hp02, HO⟩
  iapply (xw m K 1 2 ((cond25_iff c).trans has_dn.symm) (fun h => sem_eq cc0_scratch7 (off90_form c ((cond25_iff c).mp h)) _ _ _ _) (fun h => slice_eq xgM (off91_form c ((cond25_iff c).mp h)) _ _)) $$ [Hi12 HO]
  · isplitr; · iexact HR
    isplitl [Hi12]; · iexact Hi12
    iexact HO
  iintro ⟨Hz12, Hl12, Hh12, HO⟩
  iapply (zs m K 1 2 ((cond26_iff c).trans (and_congr has_dn.symm Iff.rfl)) (fun h => Fin.ext (dev29_form c ((cond26_iff c).mp h))) (fun h => sem_eq cc0_scratch6 (off92_form c ((cond26_iff c).mp h)) _ _ _ _) (fun h => sem_eq cc0_scratch7 (off93_form c ((cond26_iff c).mp h)) _ _ _ _) (fun h => slice_eq xgM (off94_form c ((cond26_iff c).mp h)) _ _) (fun h => slice_eq xgM (off94_form c ((cond26_iff c).mp h)) _ _)) $$ [Hh12 Hr12 HO]
  · isplitr; · iexact HR
    isplitl [Hh12]; · iexact Hh12
    isplitl [Hr12]; · iexact Hr12
    iexact HO
  iintro ⟨Hp12, HO⟩
  iapply (cm m K 0 2 ((cond27_iff c).trans has_up.symm) (fun h => off95_form c ((cond27_iff c).mp h)) (fun h => off96_form c ((cond27_iff c).mp h)) rfl rfl (fun h => Fin.ext (dev30_form c ((cond27_iff c).mp h))) (fun h => sem_eq cc0_scratch8 (off97_form c 1 ((cond27_iff c).mp h)) _ _ _ _) (fun h => sem_eq cc0_scratch9 (off98_form c ((cond27_iff c).mp h)) _ _ _ _) (fun h => slice_eq ybM (off100_form c 1 ((cond27_iff c).mp h)) _ _) (fun h => slice_eq yrM (off99_form c ((cond27_iff c).mp h)) _ _) (fun h => Fin.ext (dev31_form c ((cond27_iff c).mp h))) (fun h => sem_eq cc0_scratch8 (off97_form c 0 ((cond27_iff c).mp h)) _ _ _ _) (fun h => sem_eq cc0_scratch9 (off98_form c ((cond27_iff c).mp h)) _ _ _ _) (fun h => slice_eq ybM (off100_form c 0 ((cond27_iff c).mp h)) _ _) (fun h => slice_eq yrM (off99_form c ((cond27_iff c).mp h)) _ _) (fun h => Fin.ext (dev32_form c ((cond27_iff c).mp h))) (fun h => sem_eq cc0_scratch8 (off97_form c 2 ((cond27_iff c).mp h)) _ _ _ _) (fun h => sem_eq cc0_scratch9 (off98_form c ((cond27_iff c).mp h)) _ _ _ _) (fun h => slice_eq ybM (off100_form c 2 ((cond27_iff c).mp h)) _ _) (fun h => slice_eq yrM (off99_form c ((cond27_iff c).mp h)) _ _) (fun h => off101_form c ((cond27_iff c).mp h)) (fun h => off102_form c ((cond27_iff c).mp h))) $$ [HW Hl02 Ha02 HO]
  · isplitr; · iexact HR
    isplitl [HW]; · iexact HW
    isplitl [Hl02]; · iexact Hl02
    isplitl [Ha02]; · iexact Ha02
    iexact HO
  iintro ⟨HW, Hl02, Hb02, HO⟩
  iapply (cm m K 1 2 ((cond28_iff c).trans has_dn.symm) (fun h => off103_form c ((cond28_iff c).mp h)) (fun h => off104_form c ((cond28_iff c).mp h)) rfl rfl (fun h => Fin.ext (dev33_form c ((cond28_iff c).mp h))) (fun h => sem_eq cc0_scratch8 (off105_form c 1 ((cond28_iff c).mp h)) _ _ _ _) (fun h => sem_eq cc0_scratch9 (off106_form c ((cond28_iff c).mp h)) _ _ _ _) (fun h => slice_eq ybM (off108_form c 1 ((cond28_iff c).mp h)) _ _) (fun h => slice_eq yrM (off107_form c ((cond28_iff c).mp h)) _ _) (fun h => Fin.ext (dev34_form c ((cond28_iff c).mp h))) (fun h => sem_eq cc0_scratch8 (off105_form c 0 ((cond28_iff c).mp h)) _ _ _ _) (fun h => sem_eq cc0_scratch9 (off106_form c ((cond28_iff c).mp h)) _ _ _ _) (fun h => slice_eq ybM (off108_form c 0 ((cond28_iff c).mp h)) _ _) (fun h => slice_eq yrM (off107_form c ((cond28_iff c).mp h)) _ _) (fun h => Fin.ext (dev35_form c ((cond28_iff c).mp h))) (fun h => sem_eq cc0_scratch8 (off105_form c 2 ((cond28_iff c).mp h)) _ _ _ _) (fun h => sem_eq cc0_scratch9 (off106_form c ((cond28_iff c).mp h)) _ _ _ _) (fun h => slice_eq ybM (off108_form c 2 ((cond28_iff c).mp h)) _ _) (fun h => slice_eq yrM (off107_form c ((cond28_iff c).mp h)) _ _) (fun h => off109_form c ((cond28_iff c).mp h)) (fun h => off110_form c ((cond28_iff c).mp h))) $$ [HW Hl12 Ha12 HO]
  · isplitr; · iexact HR
    isplitl [HW]; · iexact HW
    isplitl [Hl12]; · iexact Hl12
    isplitl [Ha12]; · iexact Ha12
    iexact HO
  iintro ⟨HW, Hl12, Hb12, HO⟩
  ihave HO := (Entails.of_eq (show owesL c (midL c 2 ((1 : Fin 2).val + 3)) = owesL c ([]) from rfl)) $$ HO
  iapply ret_intro
  iapply Hk
  isplitl [HW]; · iexact HW
  isplitl [Hl02]; · iexact Hl02
  isplitl [Hp02]; · iexact Hp02
  isplitl [Hz12]; · iexact Hz12
  isplitl [Hl12]; · iexact Hl12
  isplitl [Hp12]; · iexact Hp12
  isplitl [Hb02]; · iexact Hb02
  isplitl [Hb12]; · iexact Hb12
  iexact HO

end Parts

end Cert.Exchange

end
-- ==== Proof.Glue.lean ====
/-
How the state of a device is put together for the run and taken apart from it: whole buffers and their blocks, the cells of a device.
-/
module

public import proofs.«01_k».proof.Proof.Mid

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

variable (m : (ℓ : Loc nD τ sig) → Buf (Elt F) ℓ)

/-- Two families side by side are one family of pairs. -/
theorem bs2 {I : Type} (s : Finset I) (A B : I → sProp 𝕄) : iprop(bigSep s A ∗ bigSep s B) ⊢ bigSep s fun i => iprop(A i ∗ B i) :=
  Entails.of_eq (bigSep_sep' s A B).symm
/-- A family of pairs is two families side by side. -/
theorem sb2 {I : Type} (s : Finset I) (A B : I → sProp 𝕄) : (bigSep s fun i => iprop(A i ∗ B i)) ⊢ iprop(bigSep s A ∗ bigSep s B) :=
  Entails.of_eq (bigSep_sep' s A B)

/-- Something held under a condition may be weakened under the condition. -/
theorem gi_mono {P : Prop} [Decidable P] {A B : sProp 𝕄} (h : P → (A ⊢ B)) : gi P A ⊢ gi P B := by
  by_cases hp : P
  · rw [gi_pos hp, gi_pos hp]; exact h hp
  · rw [gi_neg hp, gi_neg hp]
/-- One of four. -/
theorem gi_one (z : Fin 4) (Φ : Fin 4 → sProp 𝕄) : (bigSep Finset.univ fun s : Fin 4 => gi (z = s) (Φ s)) = Φ z := by
  rw [four]
  revert z
  have h : ∀ z s : Fin 4, z ≠ s → gi (z = s) (Φ s) = iprop(emp) := fun z s h => gi_neg h _
  intro z
  fin_cases z
  · show iprop(gi ((0 : Fin 4) = 0) (Φ 0) ∗ gi ((0 : Fin 4) = 1) (Φ 1) ∗ gi ((0 : Fin 4) = 2) (Φ 2) ∗ gi ((0 : Fin 4) = 3) (Φ 3)) = Φ 0
    rw [gi_pos rfl, h 0 1 (by decide), h 0 2 (by decide), h 0 3 (by decide), sE, sE, sE]
  · show iprop(gi ((1 : Fin 4) = 0) (Φ 0) ∗ gi ((1 : Fin 4) = 1) (Φ 1) ∗ gi ((1 : Fin 4) = 2) (Φ 2) ∗ gi ((1 : Fin 4) = 3) (Φ 3)) = Φ 1
    rw [h 1 0 (by decide), gi_pos rfl, h 1 2 (by decide), h 1 3 (by decide), sE, sE, eS]
  · show iprop(gi ((2 : Fin 4) = 0) (Φ 0) ∗ gi ((2 : Fin 4) = 1) (Φ 1) ∗ gi ((2 : Fin 4) = 2) (Φ 2) ∗ gi ((2 : Fin 4) = 3) (Φ 3)) = Φ 2
    rw [h 2 0 (by decide), h 2 1 (by decide), gi_pos rfl, h 2 3 (by decide), sE, eS, eS]
  · show iprop(gi ((3 : Fin 4) = 0) (Φ 0) ∗ gi ((3 : Fin 4) = 1) (Φ 1) ∗ gi ((3 : Fin 4) = 2) (Φ 2) ∗ gi ((3 : Fin 4) = 3) (Φ 3)) = Φ 3
    rw [h 3 0 (by decide), h 3 1 (by decide), h 3 2 (by decide), gi_pos rfl, eS, eS, eS]

/-! ## Whole buffers and blocks -/

/-- A buffer into its blocks. -/
theorem blkE_split (c : Dev nD) {T : Type} [Fintype T] [DecidableEq T] {sp : Space} {s : Shape} {e : EltTy} (M : Memref sig .tc sp s e) (r : T → Rect s) (hr : ∀ t a, (r t).stride a = 1)
    (hd : ∀ t t', t ≠ t' → Disjoint (r t).set (r t').set) (hcov : (Finset.univ : Finset T).biUnion (fun t => (r t).set) = Finset.univ) :
    blkE (F := F) c M ⊢ bigSep Finset.univ fun t => blkE c (M.slice (r t) (hr t)) := by
  iintro ⟨%X, H⟩
  have h : blk c M fullShare X ⊢ bigSep Finset.univ fun t => blkE c (M.slice (r t) (hr t)) :=
    (owns_rects (c : Thread nD τ) M fullShare r hr hd hcov X).trans (bigSep_mono fun t _ => by
      show (blk c (M.slice (r t) (hr t)) fullShare (fun j => X ((r t).emb j)) : sProp 𝕄) ⊢ blkE c (M.slice (r t) (hr t))
      iintro H
      iexists _
      iexact H)
  iapply h
  iexact H

/-- Blocks into their buffer. -/
theorem blkE_join (c : Dev nD) {T : Type} [Fintype T] [DecidableEq T] {sp : Space} {s : Shape} {e : EltTy} (M : Memref sig .tc sp s e) (r : T → Rect s) (hr : ∀ t a, (r t).stride a = 1)
    (hd : ∀ t t', t ≠ t' → Disjoint (r t).set (r t').set) (hcov : (Finset.univ : Finset T).biUnion (fun t => (r t).set) = Finset.univ) :
    (bigSep Finset.univ fun t => blkE (F := F) c (M.slice (r t) (hr t))) ⊢ blkE c M := by
  refine (BI.bigSep_exists_pi Finset.univ (fun t (X : Vec F (r t).shape e) => blk c (M.slice (r t) (hr t)) fullShare X)).trans ?_
  iintro ⟨%Y, H⟩
  iexists (Rect.glue r hcov Y)
  have h : (bigSep Finset.univ fun t => (blk c (M.slice (r t) (hr t)) fullShare (Y t) : sProp 𝕄)) ⊢ blk c M fullShare (Rect.glue r hcov Y) := by
    refine (Entails.of_eq (bigSep_congr fun t _ => ?_)).trans (owns_of_rects (c : Thread nD τ) M fullShare r hr hd hcov (Rect.glue r hcov Y))
    exact congrArg (blk c (M.slice (r t) (hr t)) fullShare) (funext fun j => (Rect.glue_emb r hcov hd Y t j).symm)
  iapply h
  iexact H

/-- Sixteen blocks by column, from a device's place on. -/
theorem grid (c : Dev nD) (Φ : Fin 4 → Fin 4 → sProp 𝕄) : (bigSep Finset.univ fun a : Fin 4 × Fin 4 => Φ a.1 a.2)
    = iprop((bigSep Finset.univ fun s => Φ s (pc c)) ∗ (bigSep Finset.univ fun s => Φ s (pc c + 1)) ∗ (bigSep Finset.univ fun s => Φ s (pc c + 2)) ∗ (bigSep Finset.univ fun s => Φ s (pc c + 3))) := by
  rw [bigSep_univ_prod, bigSep_congr fun s _ => reip c (Φ s), bigSep_sep' Finset.univ (fun s => Φ s (pc c)), bigSep_sep' Finset.univ (fun s => Φ s (pc c + 1)), bigSep_sep' Finset.univ (fun s => Φ s (pc c + 2))]
/-- The same, the column first. -/
theorem gridT (c : Dev nD) (Φ : Fin 4 → Fin 4 → sProp 𝕄) : (bigSep Finset.univ fun a : Fin 4 × Fin 4 => Φ a.1 a.2)
    = iprop((bigSep Finset.univ fun s => Φ (pc c) s) ∗ (bigSep Finset.univ fun s => Φ (pc c + 1) s) ∗ (bigSep Finset.univ fun s => Φ (pc c + 2) s) ∗ (bigSep Finset.univ fun s => Φ (pc c + 3) s)) := by
  rw [bigSep_univ_prod, reip c]

/-- The device's own slot, then the slots that arrive. -/
abbrev RX (c : Dev nD) (Φ : Fin 4 → sProp 𝕄) : sProp 𝕄 := iprop(Φ (zc c) ∗ gi (Has c 0 0) (Φ (slot c 0 0)) ∗ gi (Has c 1 0) (Φ (slot c 1 0))
    ∗ gi (Has c 0 1) (Φ (slot c 0 1)) ∗ gi (Has c 1 1) (Φ (slot c 1 1)) ∗ gi (Has c 0 2) (Φ (slot c 0 2)) ∗ gi (Has c 1 2) (Φ (slot c 1 2)))

/-- The parts of the state between two pieces of the program, reordered. -/
theorem reorder (A B C D E X Y W : sProp 𝕄) : iprop((A ∗ ((B ∗ C) ∗ (D ∗ E))) ∗ (X ∗ (Y ∗ W))) = iprop(A ∗ D ∗ E ∗ B ∗ C ∗ X ∗ Y ∗ W) := by
  rw [sC iprop(B ∗ C) iprop(D ∗ E)]
  simp only [sA]

/-- The cells of a device, one by one as its program meets them. -/
theorem ck (c : Dev nD) (Φ : CK → sProp 𝕄) : bigSep Finset.univ Φ = iprop(Φ .bar ∗ Φ (.ws 0) ∗ Φ (.ws 1) ∗ RX c (fun s => Φ (.zs 0 s)) ∗ RX c (fun s => Φ (.zs 1 s)) ∗ RX c (fun s => Φ (.zr s))
    ∗ ((bigSep Finset.univ fun s => Φ (.ys (pc c) s)) ∗ (bigSep Finset.univ fun s => Φ (.ys (pc c + 1) s)) ∗ (bigSep Finset.univ fun s => Φ (.ys (pc c + 2) s)) ∗ (bigSep Finset.univ fun s => Φ (.ys (pc c + 3) s)))
    ∗ ((bigSep Finset.univ fun s => Φ (.yr (pc c) s)) ∗ (bigSep Finset.univ fun s => Φ (.yr (pc c + 1) s)) ∗ (bigSep Finset.univ fun s => Φ (.yr (pc c + 2) s)) ∗ (bigSep Finset.univ fun s => Φ (.yr (pc c + 3) s)))) := by
  rw [bigSep_univ_equiv CK.equiv Φ, bigSep_univ_sum, bigSep_univ_sum, bigSep_univ_sum, bigSep_univ_sum, bigSep_univ_sum]
  have h1 : (bigSep Finset.univ fun a : Unit => Φ (CK.equiv (.inl (.inl a)))) = Φ .bar := by
    rw [Finset.univ_unique, bigSep_singleton]; rfl
  have h2 : (bigSep Finset.univ fun a : Fin 2 × Fin 4 => Φ (CK.equiv (.inl (.inr (.inl a))))) = iprop(RX c (fun s => Φ (.zs 0 s)) ∗ RX c (fun s => Φ (.zs 1 s))) := by
    rw [bigSep_univ_prod, bigSep_univ_eq_bigSepL [(0 : Fin 2), 1] (by decide) (by decide), bigSepL_cons_cons, bigSepL_singleton]
    exact congrArg₂ _ (reix c (fun s => Φ (.zs 0 s))) (reix c (fun s => Φ (.zs 1 s)))
  have h3 : (bigSep Finset.univ fun a : Fin 2 => Φ (CK.equiv (.inl (.inr (.inr a))))) = iprop(Φ (.ws 0) ∗ Φ (.ws 1)) := by
    rw [bigSep_univ_eq_bigSepL [(0 : Fin 2), 1] (by decide) (by decide), bigSepL_cons_cons, bigSepL_singleton]; rfl
  have h4 : (bigSep Finset.univ fun a : Fin 4 => Φ (CK.equiv (.inr (.inl a)))) = RX c (fun s => Φ (.zr s)) := reix c (fun s => Φ (.zr s))
  have h5 := gridT c (fun q s => Φ (.ys q s))
  have h6 := gridT c (fun q s => Φ (.yr q s))
  rw [h1, h2, h3, h4]
  refine Eq.trans (congrArg₂ _ rfl (congrArg₂ _ rfl (congrArg₂ _ h5 h6))) ?_
  exact reorder _ _ _ _ _ _ _ _

/-! ## The start -/

/-- The gathered `x`'s slots: the own one, and those lent to the neighbours. -/
theorem xg_start (c : Dev nD) : blkE c xgM ⊢ iprop(blkE c (xgV (zc c)) ∗ barPay (F := F) (above c) 4 ∗ barPay (F := F) (below c) 3) := by
  have hn0 : nb 1 (above c) = c := by revert c; decide +kernel
  have hn1 : nb 0 (below c) = c := by revert c; decide +kernel
  have hs : ∀ s : Fin 4, (zc c = s ∧ ¬ ZV (above c) 1 s ∧ ¬ ZV (below c) 0 s) ∨ (zc c ≠ s ∧ ZV (above c) 1 s ∧ ¬ ZV (below c) 0 s) ∨ (zc c ≠ s ∧ ¬ ZV (above c) 1 s ∧ ZV (below c) 0 s) := by
    revert c; decide +kernel
  have h : ∀ s : Fin 4, blkE (F := F) c (xgV s) ⊢ iprop(gi (zc c = s) (blkE c (xgV s)) ∗ (if ZV (above c) 1 s then blkE (nb 1 (above c)) (xgV s) else iprop(emp)) ∗ (if ZV (below c) 0 s then blkE (nb 0 (below c)) (xgV s) else iprop(emp))) := by
    intro s
    rw [hn0, hn1]
    rcases hs s with ⟨h1, h2, h3⟩ | ⟨h1, h2, h3⟩ | ⟨h1, h2, h3⟩
    · rw [gi_pos h1, if_neg h2, if_neg h3, sE, sE]
    · rw [gi_neg h1, if_pos h2, if_neg h3, sE, eS]
    · rw [gi_neg h1, if_neg h2, if_pos h3, eS, eS]
  have hg := gi_one (zc c) (fun s => blkE (F := F) c (xgV s))
  show blkE c xgM ⊢ iprop(blkE c (xgV (zc c)) ∗ (bigSep Finset.univ fun s => if ZV (above c) 1 s then blkE (nb 1 (above c)) (xgV s) else iprop(emp)) ∗ (bigSep Finset.univ fun s => if ZV (below c) 0 s then blkE (nb 0 (below c)) (xgV s) else iprop(emp)))
  have hh : (bigSep Finset.univ fun s => blkE (F := F) c (xgV s)) ⊢ bigSep Finset.univ fun s => iprop(gi (zc c = s) (blkE c (xgV s)) ∗ (if ZV (above c) 1 s then blkE (nb 1 (above c)) (xgV s) else iprop(emp)) ∗ (if ZV (below c) 0 s then blkE (nb 0 (below c)) (xgV s) else iprop(emp))) :=
    bigSep_mono fun s _ => h s
  have h0 : blkE (F := F) c xgM ⊢ bigSep Finset.univ fun s => blkE c (xgV s) := blkE_split c xgM xgR (fun _ _ => rfl) xg_disj xg_cov
  iintro H
  ihave H := h0 $$ H
  ihave H := hh $$ H
  ihave H := (sb2 Finset.univ (fun s => gi (zc c = s) (blkE c (xgV s))) (fun s => iprop((if ZV (above c) 1 s then blkE (nb 1 (above c)) (xgV s) else iprop(emp)) ∗ (if ZV (below c) 0 s then blkE (nb 0 (below c)) (xgV s) else iprop(emp))))) $$ H
  icases H with ⟨Hg, H⟩
  ihave H := (sb2 Finset.univ (fun s => if ZV (above c) 1 s then blkE (nb 1 (above c)) (xgV s) else iprop(emp)) (fun s => if ZV (below c) 0 s then blkE (nb 0 (below c)) (xgV s) else iprop(emp))) $$ H
  icases H with ⟨Ha, Hb⟩
  ihave Hg := (Entails.of_eq hg) $$ Hg
  isplitl [Hg]; · iexact Hg
  isplitl [Ha]; · iexact Ha
  iexact Hb

/-- The landing blocks: the own column, and those lent to the mates. -/
theorem yr_start (c : Dev nD) : blkE c yrM ⊢ iprop((bigSep Finset.univ fun s => blkE c (yrV s (pc c))) ∗ barPay (F := F) (mate c 1) 2 ∗ barPay (F := F) (mate c 2) 1 ∗ barPay (F := F) (mate c 3) 0) := by
  have hm1 : mate (mate c 1) 3 = c := by revert c; decide +kernel
  have hm2 : mate (mate c 2) 2 = c := by revert c; decide +kernel
  have hm3 : mate (mate c 3) 1 = c := by revert c; decide +kernel
  have e1 : barPay (F := F) (mate c 1) 2 = bigSep Finset.univ fun s => blkE c (yrV s (pc c + 1)) := by
    show (bigSep Finset.univ fun s : Fin 4 => blkE (mate (mate c 1) 3) (yrV s (pc (mate c 1)))) = _
    rw [hm1, pc_mate]
  have e2 : barPay (F := F) (mate c 2) 1 = bigSep Finset.univ fun s => blkE c (yrV s (pc c + 2)) := by
    show (bigSep Finset.univ fun s : Fin 4 => blkE (mate (mate c 2) 2) (yrV s (pc (mate c 2)))) = _
    rw [hm2, pc_mate]
  have e3 : barPay (F := F) (mate c 3) 0 = bigSep Finset.univ fun s => blkE c (yrV s (pc c + 3)) := by
    show (bigSep Finset.univ fun s : Fin 4 => blkE (mate (mate c 3) 1) (yrV s (pc (mate c 3)))) = _
    rw [hm3, pc_mate]
  rw [e1, e2, e3, ← grid c (fun s q => blkE c (yrV s q))]
  exact blkE_split c yrM (fun a : Fin 4 × Fin 4 => yrR a.1 a.2) (fun _ _ => rfl) yr_disj yr_cov

/-- The result's blocks. -/
theorem o_start (c : Dev nD) : blkE (F := F) c oM ⊢ iprop((bigSep Finset.univ fun s => blkE c (oV s (pc c))) ∗ (bigSep Finset.univ fun s => blkE c (oV s (pc c + 1)))
    ∗ (bigSep Finset.univ fun s => blkE c (oV s (pc c + 2))) ∗ (bigSep Finset.univ fun s => blkE c (oV s (pc c + 3)))) := by
  rw [← grid c (fun s q => blkE c (oV s q))]
  exact blkE_split c oM (fun a : Fin 4 × Fin 4 => yrR a.1 a.2) (fun _ _ => rfl) yr_disj yr_cov

/-- The rows of the results before they are sent: the own row in its blocks, then the rows of the slots. -/
theorem yb_start (c : Dev nD) : blkE (F := F) c ybM ⊢ iprop((blkE c (ybV (zc c) 0) ∗ blkE c (ybV (zc c) 1) ∗ blkE c (ybV (zc c) 2) ∗ blkE c (ybV (zc c) 3))
    ∗ gi (Has c 0 0) (blkE c (ybW (slot c 0 0))) ∗ gi (Has c 1 0) (blkE c (ybW (slot c 1 0)))
    ∗ gi (Has c 0 1) (blkE c (ybW (slot c 0 1))) ∗ gi (Has c 1 1) (blkE c (ybW (slot c 1 1))) ∗ gi (Has c 0 2) (blkE c (ybW (slot c 0 2))) ∗ gi (Has c 1 2) (blkE c (ybW (slot c 1 2)))) := by
  have h1 : ∀ X : Vec F S256x2048 .bf16, blk c (ybW (zc c)) fullShare X ⊢ bigSep Finset.univ fun q => blkE c (ybV (zc c) q) := fun X =>
    (row_split (zc c) X).trans (bigSep_mono fun q _ => by
      show (blk c (ybV (zc c) q) fullShare (cols q X) : sProp 𝕄) ⊢ blkE c (ybV (zc c) q)
      iintro H; iexists _; iexact H)
  have h2 : blkE (F := F) c ybM ⊢ bigSep Finset.univ fun s => blkE c (ybW s) := blkE_split c ybM ybRow (fun _ _ => rfl) ybRow_disj ybRow_cov
  iintro H
  ihave H := h2 $$ H
  ihave H := (Entails.of_eq (reix c (fun s => blkE c (ybW s)))) $$ H
  icases H with ⟨⟨%X, Ho⟩, H⟩
  ihave Ho := (h1 X) $$ Ho
  ihave Ho := (Entails.of_eq (four fun q => blkE c (ybV (zc c) q))) $$ Ho
  isplitl [Ho]; · iexact Ho
  iexact H

/-- The chunks of the weights, for the four copies. -/
theorem w_start (c : Dev nD) (sh₀ : PosShare TreeShare) : blk c wM sh₀ (wA m c) ⊢ iprop(blk c (wV (zc c) 0) sh₀.left (wC m c 0) ∗ blk c (wV (zc c) 1) sh₀.right.left (wC m c 1)
    ∗ blk c (wV (zc c) 2) sh₀.right.right.left (wC m c 2) ∗ blk c (wV (zc c) 3) sh₀.right.right.right (wC m c 3)) := by
  have h : ∀ (q : Fin 4) (sh : PosShare TreeShare), blk c wM sh (wA m c) ⊢ blk c (wV (zc c) q) sh (wC m c q) := by
    intro q sh
    iintro H
    ihave H := (owns_slice_split (c : Thread nD τ) wM sh (wR (zc c) q) (fun _ => rfl) (wA m c)) $$ H
    icases H with ⟨H, -⟩
    iexact H
  iintro H
  ihave H := (blk_halve wM (PosShare.mem_left_op_right sh₀) (wA m c)) $$ H
  icases H with ⟨H0, H⟩
  ihave H := (blk_halve wM (PosShare.mem_left_op_right sh₀.right) (wA m c)) $$ H
  icases H with ⟨H1, H⟩
  ihave H := (blk_halve wM (PosShare.mem_left_op_right sh₀.right.right) (wA m c)) $$ H
  icases H with ⟨H2, H3⟩
  isplitl [H0]
  · iapply (h 0); iexact H0
  isplitl [H1]
  · iapply (h 1); iexact H1
  isplitl [H2]
  · iapply (h 2); iexact H2
  · iapply (h 3); iexact H3

/-- The narrowed weights' chunks. -/
theorem w8_start (c : Dev nD) : blkE (F := F) c w8M ⊢ iprop(blkE c (w8V 0) ∗ blkE c (w8V 1) ∗ blkE c (w8V 2) ∗ blkE c (w8V 3)) := by
  rw [← four fun q => blkE c (w8V q)]
  exact blkE_split c w8M w8R (fun _ _ => rfl) w8_disj w8_cov
/-- They are the narrowed weights of the plane. -/
theorem w8_full (c : Dev nD) : iprop(blk c (w8V 0) fullShare (wB m c 0) ∗ blk c (w8V 1) fullShare (wB m c 1) ∗ blk c (w8V 2) fullShare (wB m c 2) ∗ blk c (w8V 3) fullShare (wB m c 3))
    ⊢ blk c w8M fullShare (W8 m c) := by
  rw [← four fun q => blk c (w8V q) fullShare (wB m c q)]
  refine (Entails.of_eq (bigSep_congr fun q _ => ?_)).trans (owns_of_rects (c : Thread nD τ) w8M fullShare w8R (fun _ _ => rfl) w8_disj w8_cov (W8 m c))
  exact congrArg (blk c (w8V q) fullShare) (funext fun j => (W8_emb m c q j).symm)

/-- The staging slots. -/
theorem st_start (c : Dev nD) : blkE (F := F) c stM ⊢ iprop(blkE c (stSq 0) ∗ blkE c (stSq 1)) := by
  have h : ∀ i : Fin 2, blkE (F := F) c (stV i) ⊢ blkE c (stSq i) := by
    intro i
    iintro ⟨%X, H⟩
    iapply (sq_write (stV i) squeezes_S1x4096x512_S4096x512 X)
    iexact H
  have hh : blkE (F := F) c stM ⊢ bigSep Finset.univ fun i => blkE c (stSq i) := (blkE_split c stM stR (fun _ _ => rfl) st_disj st_cov).trans (bigSep_mono fun i _ => h i)
  iintro H
  ihave H := hh $$ H
  ihave H := (Entails.of_eq (show (bigSep Finset.univ fun i : Fin 2 => blkE (F := F) c (stSq i)) = iprop(blkE c (stSq 0) ∗ blkE c (stSq 1)) by
    rw [bigSep_univ_eq_bigSepL [(0 : Fin 2), 1] (by decide) (by decide), bigSepL_cons_cons, bigSepL_singleton]; rfl)) $$ H
  iexact H
/-- The staging buffer again. -/
theorem st_end (c : Dev nD) : iprop(blkE (F := F) c (stSq 0) ∗ blkE c (stSq 1)) ⊢ blkE c stM := by
  have h : ∀ i : Fin 2, blkE (F := F) c (stSq i) ⊢ blkE c (stV i) := by
    intro i
    iintro ⟨%X, H⟩
    iexists _
    iapply (sq_read (stV i) squeezes_S1x4096x512_S4096x512 fullShare X)
    iexact H
  have e : iprop(blkE (F := F) c (stSq 0) ∗ blkE c (stSq 1)) = bigSep Finset.univ fun i : Fin 2 => blkE (F := F) c (stSq i) := by
    rw [bigSep_univ_eq_bigSepL [(0 : Fin 2), 1] (by decide) (by decide), bigSepL_cons_cons, bigSepL_singleton]; rfl
  rw [e]
  exact (bigSep_mono fun i _ => h i).trans (blkE_join c stM stR (fun _ _ => rfl) st_disj st_cov)

/-- The own result blocks, each where its chunk is computed. -/
theorem o_own (c : Dev nD) : blkE (F := F) c (oV (zc c) (pc c)) ⊢ iprop(gi (pc c = 0) (blkE c (oV (zc c) 0)) ∗ gi (pc c = 1) (blkE c (oV (zc c) 1)) ∗ gi (pc c = 2) (blkE c (oV (zc c) 2)) ∗ gi (pc c = 3) (blkE c (oV (zc c) 3))) := by
  refine Entails.of_eq ?_
  rw [← four fun q => gi (pc c = q) (blkE (F := F) c (oV (zc c) q)), gi_one (pc c) (fun q => blkE (F := F) c (oV (zc c) q))]

/-- A place and the place `k` further on differ, for `k` not zero. -/
theorem ne_add (k : Fin 4) (h : k ≠ 0) (p : Fin 4) : p ≠ p + k := (add_ne h p).symm
/-- The rights to send the chunks of the own rows. -/
theorem h_own (c : Dev nD) : iprop(yTok (F := F) c (zc c) 1 ∗ yTok c (zc c) 2 ∗ yTok c (zc c) 3) ⊢ iprop(hTok c 0 ∗ hTok c 1 ∗ hTok c 2 ∗ hTok c 3) := by
  have h0 : hTok (F := F) c (pc c) = iprop(emp) := gi_neg (fun h => h rfl) _
  have hk : ∀ k : Fin 4, k ≠ 0 → hTok (F := F) c (pc c + k) = yTok c (zc c) k := fun k hk => gi_pos (ne_add k hk (pc c)) _
  rw [← four (hTok (F := F) c), reip c, h0, eS, hk 1 (by decide), hk 2 (by decide), hk 3 (by decide)]

/-- The rights to send and to compute a slot. -/
theorem slot_tok (c : Dev nD) (d : Fin 2) (r : Fin 3) : iprop(gi (Has c d r) (tokS (F := F) c (slot c d r)) ∗ gi (Has c d r) (blkE c (oV (slot c d r) (pc c))) ∗ gi (Has c d r) (blkE c (ybW (slot c d r))))
    ⊢ iprop(zR c d r ∗ cA c d r) := by
  unfold zR cA
  rw [← gi_sep, ← gi_sep, ← gi_sep]
  refine gi_mono fun _ => ?_
  unfold tokS compA
  fin_cases d
  · iintro ⟨⟨A, B, C, X, -⟩, O, W⟩
    isplitl [X]; · iexact X
    isplitl [A]; · iexact A
    isplitl [B]; · iexact B
    isplitl [C]; · iexact C
    isplitl [O]; · iexact O
    iexact W
  · iintro ⟨⟨A, B, C, -, X⟩, O, W⟩
    isplitl [X]; · iexact X
    isplitl [A]; · iexact A
    isplitl [B]; · iexact B
    isplitl [C]; · iexact C
    isplitl [O]; · iexact O
    iexact W

/-- A slot is sent on one way only. -/
theorem zs_cross (c : Dev nD) (d d' : Fin 2) (r : Fin 3) (h : d ≠ d') : gi (Has c d r) (AV c (.zs d' (slot c d r))) = gi (F := F) (Has c d r) (Z c (.zs d' (slot c d r))) := by
  have hv : Has c d r → ¬ ZV c d' (slot c d r) := by revert c d d' r; decide +kernel
  by_cases hp : Has c d r
  · rw [gi_pos hp, gi_pos hp, AV_neg (k := .zs d' (slot c d r)) (hv hp)]
  · rw [gi_neg hp, gi_neg hp]

/-- The receipts from the mate `k` further. -/
theorem r_pre (c : Dev nD) (k : Fin 4) : iprop((bigSep Finset.univ fun s => AV (F := F) c (.yr (pc c + k) s)) ∗ (bigSep Finset.univ fun s => crd c (.yr (pc c + k) s)) ∗ (bigSep Finset.univ fun s => blkE c (oV s (pc c + k))))
    ⊢ iprop(rPre c 0 k ∗ rPre c 1 k ∗ rPre c 2 k ∗ rPre c 3 k) := by
  rw [← four fun s => rPre (F := F) c s k]
  unfold rPre
  rw [bigSep_sep' Finset.univ (fun s => AV (F := F) c (.yr (pc c + k) s)), bigSep_sep' Finset.univ (fun s => crd (F := F) c (.yr (pc c + k) s))]
/-- What the receives from one mate leave, gathered over the row slots. -/
theorem r_post (c : Dev nD) (k : Fin 4) : iprop(rPost m c 0 k ∗ rPost m c 1 k ∗ rPost m c 2 k ∗ rPost m c 3 k)
    ⊢ iprop((bigSep Finset.univ fun s => Z (F := F) c (.yr (pc c + k) s)) ∗ (bigSep Finset.univ fun s => blkE c (yrV s (pc c + k))) ∗ (bigSep Finset.univ fun s => blk c (oV s (pc c + k)) fullShare (OB m c s (pc c + k)))) := by
  rw [← four fun s => rPost m c s k]
  unfold rPost
  rw [bigSep_sep' Finset.univ (fun s => Z (F := F) c (.yr (pc c + k) s)), bigSep_sep' Finset.univ (fun s => blkE (F := F) c (yrV s (pc c + k)))]
/-- The sends to the mate `k` further. -/
theorem y_pre (c : Dev nD) (k : Fin 4) : iprop((bigSep Finset.univ fun s => AV (F := F) c (.ys (pc c + k) s)) ∗ (bigSep Finset.univ fun s => crd c (.ys (pc c + k) s)))
    ⊢ iprop(ydPre c 0 k ∗ ydPre c 1 k ∗ ydPre c 2 k ∗ ydPre c 3 k) := by
  rw [← four fun s => ydPre (F := F) c s k]
  unfold ydPre
  rw [bigSep_sep' Finset.univ (fun s => AV (F := F) c (.ys (pc c + k) s))]
/-- What the waits for the blocks sent to one mate leave, gathered over the row slots. -/
theorem y_post (c : Dev nD) (k : Fin 4) : iprop(ydPost (F := F) c 0 k ∗ ydPost c 1 k ∗ ydPost c 2 k ∗ ydPost c 3 k)
    ⊢ iprop((bigSep Finset.univ fun s => Z (F := F) c (.ys (pc c + k) s)) ∗ (bigSep Finset.univ fun s => blkE c (ybV s (pc c + k)))) := by
  rw [← four fun s => ydPost (F := F) c s k]
  unfold ydPost
  rw [bigSep_sep' Finset.univ (fun s => Z (F := F) c (.ys (pc c + k) s))]
/-- The cells of a device's own place are never used. -/
theorem ys_own (c : Dev nD) : (bigSep Finset.univ fun s => AV (F := F) c (.ys (pc c) s)) = bigSep Finset.univ fun s => Z c (.ys (pc c) s) :=
  bigSep_congr fun s _ => AV_neg (k := .ys (pc c) s) fun h => h rfl
/-- A device has no use for the receive counters of its own place: they are at zero. -/
theorem yr_own (c : Dev nD) : (bigSep Finset.univ fun s => AV (F := F) c (.yr (pc c) s)) = bigSep Finset.univ fun s => Z c (.yr (pc c) s) :=
  bigSep_congr fun s _ => AV_neg (k := .yr (pc c) s) fun h => h rfl

/-! ## The end -/

/-- The own rows, sent and stored. -/
theorem own_done (c : Dev nD) : iprop((hPost m c 0 ∗ hPost m c 1 ∗ hPost m c 2 ∗ hPost m c 3) ∗ gi (pc c = 0) (blk c (oV (zc c) 0) fullShare (OB m c (zc c) 0)) ∗ gi (pc c = 1) (blk c (oV (zc c) 1) fullShare (OB m c (zc c) 1))
    ∗ gi (pc c = 2) (blk c (oV (zc c) 2) fullShare (OB m c (zc c) 2)) ∗ gi (pc c = 3) (blk c (oV (zc c) 3) fullShare (OB m c (zc c) 3))) ⊢ compB m c (zc c) := by
  have h0 : hPost m c (pc c) = blk c (ybV (zc c) (pc c)) fullShare (YB m c (zc c) (pc c)) := if_neg fun h => h rfl
  have hk : ∀ k : Fin 4, k ≠ 0 → hPost m c (pc c + k) = crd c (.ys (pc c + k) (zc c)) := fun k hk => if_pos (ne_add k hk (pc c))
  rw [← four (hPost m c), reip c (hPost m c), h0, hk 1 (by decide), hk 2 (by decide), hk 3 (by decide),
    ← four fun q => gi (pc c = q) (blk c (oV (zc c) q) fullShare (OB m c (zc c) q)), gi_one (pc c) (fun q => blk c (oV (zc c) q) fullShare (OB m c (zc c) q))]
  unfold compB
  iintro ⟨⟨B, C1, C2, C3⟩, O⟩
  isplitl [C2]; · iexact C2
  isplitl [C1]; · iexact C1
  isplitl [C3]; · iexact C3
  isplitl [B]; · iexists _; iexact B
  iexact O

/-- All rows, sent and stored. -/
theorem all_done (c : Dev nD) : iprop(compB m c (zc c) ∗ cB m c 0 0 ∗ cB m c 1 0 ∗ cB m c 0 1 ∗ cB m c 1 1 ∗ cB m c 0 2 ∗ cB m c 1 2)
    ⊢ iprop((bigSep Finset.univ fun s => crd (F := F) c (.ys (pc c + 2) s)) ∗ (bigSep Finset.univ fun s => crd c (.ys (pc c + 1) s)) ∗ (bigSep Finset.univ fun s => crd c (.ys (pc c + 3) s))
      ∗ (bigSep Finset.univ fun s => blkE c (ybV s (pc c))) ∗ (bigSep Finset.univ fun s => blk c (oV s (pc c)) fullShare (OB m c s (pc c)))) := by
  refine (Entails.of_eq (reix c (compB m c)).symm).trans ?_
  unfold compB
  rw [bigSep_sep' Finset.univ (fun s => crd (F := F) c (.ys (pc c + 2) s)), bigSep_sep' Finset.univ (fun s => crd (F := F) c (.ys (pc c + 1) s)), bigSep_sep' Finset.univ (fun s => crd (F := F) c (.ys (pc c + 3) s)),
    bigSep_sep' Finset.univ (fun s => blkE (F := F) c (ybV s (pc c)))]

/-- A slot's two halves. -/
theorem slot_end (c : Dev nD) (d : Fin 2) (r : Fin 3) : iprop(zL m c d r ∗ gi (Has c d r) (blk c (xgV (slot c d r)) (zsh c (slot c d r) d) (XB m (dev (slot c d r) (pc c))))) ⊢ gi (Has c d r) (blkE c (xgV (slot c d r))) := by
  unfold zL
  rw [← gi_sep]
  refine gi_mono fun h => ?_
  rw [show zsh c (slot c d r) d = fullShare.right from if_neg (slot_ne h)]
  iintro H
  ihave H := (blk_join (xgV (slot c d r)) (PosShare.mem_left_op_right fullShare) _ _) $$ H
  iexists _
  iexact H
/-- The own slot's three shares. -/
theorem own_end (c : Dev nD) : iprop(blk c (xgV (zc c)) fullShare.left (XB m c) ∗ gi True (blk c (xgV (zc c)) (zsh c (zc c) 0) (XB m (dev (zc c) (pc c)))) ∗ gi True (blk c (xgV (zc c)) (zsh c (zc c) 1) (XB m (dev (zc c) (pc c)))))
    ⊢ blkE c (xgV (zc c)) := by
  rw [gi_true, gi_true]
  have h0 : zsh c (zc c) 0 = fullShare.right.left := by unfold zsh; rw [if_pos rfl, if_pos rfl]
  have h1 : zsh c (zc c) 1 = fullShare.right.right := by unfold zsh; rw [if_pos rfl, if_neg (by decide)]
  rw [h0, h1]
  iintro ⟨L, H⟩
  ihave H := (blk_join (xgV (zc c)) (PosShare.mem_left_op_right fullShare.right) _ _) $$ H
  iexists _
  iapply (blk_join (xgV (zc c)) (PosShare.mem_left_op_right fullShare) (XB m c) _)
  isplitl [L]; · iexact L
  iexact H
/-- The gathered `x` again. -/
theorem xg_end (c : Dev nD) : RX c (fun s => blkE (F := F) c (xgV s)) ⊢ blkE c xgM := by
  refine (Entails.of_eq (reix c (fun s => blkE (F := F) c (xgV s))).symm).trans ?_
  exact blkE_join c xgM xgR (fun _ _ => rfl) xg_disj xg_cov
/-- The results before they are sent again. -/
theorem yb_end (c : Dev nD) : iprop((bigSep Finset.univ fun s => blkE (F := F) c (ybV s (pc c))) ∗ (bigSep Finset.univ fun s => blkE c (ybV s (pc c + 1))) ∗ (bigSep Finset.univ fun s => blkE c (ybV s (pc c + 2))) ∗ (bigSep Finset.univ fun s => blkE c (ybV s (pc c + 3))))
    ⊢ blkE c ybM := by
  rw [← grid c (fun s q => blkE c (ybV s q))]
  exact blkE_join c ybM (fun a : Fin 4 × Fin 4 => ybR a.1 a.2) (fun _ _ => rfl) yb_disj yb_cov
/-- The landing buffer again. -/
theorem yr_end (c : Dev nD) : iprop((bigSep Finset.univ fun s => blkE (F := F) c (yrV s (pc c))) ∗ (bigSep Finset.univ fun s => blkE c (yrV s (pc c + 1))) ∗ (bigSep Finset.univ fun s => blkE c (yrV s (pc c + 2))) ∗ (bigSep Finset.univ fun s => blkE c (yrV s (pc c + 3))))
    ⊢ blkE c yrM := by
  rw [← grid c (fun s q => blkE c (yrV s q))]
  exact blkE_join c yrM (fun a : Fin 4 × Fin 4 => yrR a.1 a.2) (fun _ _ => rfl) yr_disj yr_cov
/-- The result, whole. -/
theorem o_end (c : Dev nD) : iprop((bigSep Finset.univ fun s => blk c (oV s (pc c)) fullShare (OB m c s (pc c))) ∗ (bigSep Finset.univ fun s => blk c (oV s (pc c + 1)) fullShare (OB m c s (pc c + 1)))
    ∗ (bigSep Finset.univ fun s => blk c (oV s (pc c + 2)) fullShare (OB m c s (pc c + 2))) ∗ (bigSep Finset.univ fun s => blk c (oV s (pc c + 3)) fullShare (OB m c s (pc c + 3)))) ⊢ blk c oM fullShare (OUT m c) := by
  rw [← grid c (fun s q => blk c (oV s q) fullShare (OB m c s q))]
  refine (Entails.of_eq (bigSep_congr fun a _ => ?_)).trans (owns_of_rects (c : Thread nD τ) oM fullShare (fun a : Fin 4 × Fin 4 => yrR a.1 a.2) (fun _ _ => rfl) yr_disj yr_cov (OUT m c))
  exact congrArg (blk c (oV a.1 a.2) fullShare) (funext fun j => (OUT_emb m c a.1 a.2 j).symm)

end Cert.Exchange

end
-- ==== Proof.Body.lean ====
/-
The whole program of a device: its forty parts one after the other.
-/
module

public import proofs.«01_k».proof.Proof.Glue

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

variable (m : (ℓ : Loc nD τ sig) → Buf (Elt F) ℓ)

/-- A program in two steps. -/
theorem bind_intro {c : Dev nD} {α β : Type} (p : Prog (TpuEff nD τ sig (Elt F) Λ₀ .tc) α) (k : α → Prog (TpuEff nD τ sig (Elt F) Λ₀ .tc) β) (Q : β → sProp 𝕄) :
    WP c p (fun a => WP c (k a) Q) ⊢ WP c (p >>= k) Q :=
  Entails.of_eq (by unfold WP; rw [wp_bind])

/-- The cells of a device at the start: those it will use, and those it never does. -/
theorem sem_start (c : Dev nD) : (bigSep Finset.univ fun k : CK => AV (F := F) c k) ⊢ iprop(atp c .bar 0 ∗ atp c (.ws 0) 0 ∗ atp c (.ws 1) 0 ∗ (gi True (AV (F := F) c (.zs 0 (zc c))) ∗ gi (Has c 0 0) (AV c (.zs 0 (slot c 0 0))) ∗ gi (Has c 1 0) (Z c (.zs 0 (slot c 1 0))) ∗ gi (Has c 0 1) (AV c (.zs 0 (slot c 0 1))) ∗ gi (Has c 1 1) (Z c (.zs 0 (slot c 1 1))) ∗ gi (Has c 0 2) (AV c (.zs 0 (slot c 0 2))) ∗ gi (Has c 1 2) (Z c (.zs 0 (slot c 1 2)))) ∗ (gi True (AV (F := F) c (.zs 1 (zc c))) ∗ gi (Has c 0 0) (Z c (.zs 1 (slot c 0 0))) ∗ gi (Has c 1 0) (AV c (.zs 1 (slot c 1 0))) ∗ gi (Has c 0 1) (Z c (.zs 1 (slot c 0 1))) ∗ gi (Has c 1 1) (AV c (.zs 1 (slot c 1 1))) ∗ gi (Has c 0 2) (Z c (.zs 1 (slot c 0 2))) ∗ gi (Has c 1 2) (AV c (.zs 1 (slot c 1 2))))
    ∗ (Z c (.zr (zc c)) ∗ gi (Has c 0 0) (AV c (.zr (slot c 0 0))) ∗ gi (Has c 1 0) (AV c (.zr (slot c 1 0))) ∗ gi (Has c 0 1) (AV c (.zr (slot c 0 1))) ∗ gi (Has c 1 1) (AV c (.zr (slot c 1 1))) ∗ gi (Has c 0 2) (AV c (.zr (slot c 0 2))) ∗ gi (Has c 1 2) (AV c (.zr (slot c 1 2))))
    ∗ ((bigSep Finset.univ fun s => Z c (.ys (pc c) s)) ∗ (bigSep Finset.univ fun s => AV c (.ys (pc c + 1) s)) ∗ (bigSep Finset.univ fun s => AV c (.ys (pc c + 2) s)) ∗ (bigSep Finset.univ fun s => AV c (.ys (pc c + 3) s)))
    ∗ ((bigSep Finset.univ fun s => Z c (.yr (pc c) s)) ∗ (bigSep Finset.univ fun s => AV c (.yr (pc c + 1) s)) ∗ (bigSep Finset.univ fun s => AV c (.yr (pc c + 2) s)) ∗ (bigSep Finset.univ fun s => AV c (.yr (pc c + 3) s)))) := by
  refine Entails.of_eq ?_
  rw [ck c (AV (F := F) c), AV_pos (k := .bar) trivial, AV_pos (k := .ws 0) trivial, AV_pos (k := .ws 1) trivial, gi_true, gi_true, ys_own, yr_own]
  have hz : AV (F := F) c (.zr (zc c)) = Z c (.zr (zc c)) := AV_neg (k := .zr (zc c)) fun h => h rfl
  dsimp only [RX]
  rw [hz, zs_cross c 0 1 0 (by decide), zs_cross c 1 0 0 (by decide), zs_cross c 0 1 1 (by decide), zs_cross c 1 0 1 (by decide), zs_cross c 0 1 2 (by decide), zs_cross c 1 0 2 (by decide)]

/-- The rights a device starts with. -/
def bodyT (c : Dev nD) : sProp 𝕄 := iprop(tok (mate c 1) .bar 0 2 ∗ tok (mate c 2) .bar 0 1 ∗ tok (mate c 3) .bar 0 0 ∗ tok (above c) .bar 0 4 ∗ tok (below c) .bar 0 3
  ∗ TOKS c ∗ tok c (.ws 0) 0 0 ∗ tok c (.ws 0) 1 0 ∗ tok c (.ws 1) 0 0 ∗ tok c (.ws 1) 1 0)
/-- The credits it starts with. -/
def bodyC (c : Dev nD) : sProp 𝕄 := iprop(cred (tallyAt (cell c .bar) () 5) ∗ (gi (Has c 0 0) (crd c (.zr (slot c 0 0))) ∗ gi (Has c 1 0) (crd c (.zr (slot c 1 0))) ∗ gi (Has c 0 1) (crd c (.zr (slot c 0 1))) ∗ gi (Has c 1 1) (crd c (.zr (slot c 1 1))) ∗ gi (Has c 0 2) (crd c (.zr (slot c 0 2))) ∗ gi (Has c 1 2) (crd c (.zr (slot c 1 2))))
  ∗ (bigSep Finset.univ fun s => crd c (.yr (pc c + 1) s)) ∗ (bigSep Finset.univ fun s => crd c (.yr (pc c + 2) s)) ∗ (bigSep Finset.univ fun s => crd c (.yr (pc c + 3) s)))
/-- The memory it starts with, of the weights a half share. -/
def bodyM (c : Dev nD) : sProp 𝕄 := iprop(blk c xM fullShare (xA m c) ∗ blk c sxM fullShare (scA m c) ∗ blk c swM fullShare (scB m c) ∗ blk c wM fullShare.left (wA m c) ∗ blkE c oM
  ∗ blkE c xgM ∗ blkE c stM ∗ blkE c w8M ∗ blkE c ybM ∗ blkE c yrM)
/-- The memory it ends with. -/
def bodyR (c : Dev nD) : sProp 𝕄 := iprop(blk c xM fullShare (xA m c) ∗ blk c sxM fullShare (scA m c) ∗ blk c swM fullShare (scB m c) ∗ blk c oM fullShare (OUT m c)
  ∗ blkE c xgM ∗ blkE c stM ∗ blkE c w8M ∗ blkE c ybM ∗ blkE c yrM)

section Whole

variable (K : Dev nD × CK → ℕ) {c : Dev nD}

/-- The output blocks of a device's own place, one for each row slot, are what its receiving part starts from. -/
theorem o_rx (c : Dev nD) : (bigSep Finset.univ fun s => blkE (F := F) c (oV s (pc c))) ⊢ RX c (fun s => blkE c (oV s (pc c))) :=
  Entails.of_eq (reix c (fun s => blkE (F := F) c (oV s (pc c))))
/-- A receive counter's place and its credit, where a block arrives, are what a wait for the block takes. -/
theorem wI_intro (c : Dev nD) (d : Fin 2) (r : Fin 3) : iprop(gi (Has c d r) (AV (F := F) c (.zr (slot c d r))) ∗ gi (Has c d r) (crd c (.zr (slot c d r)))) ⊢ wI c d r := Entails.refl _
/-- The counter's place and what its sender put in, together, are what waiting for a sent block of `x` takes. -/
theorem zd_pre (G : Prop) [Decidable G] (c : Dev nD) (d : Fin 2) (s : Fin 4) : iprop(gi G (AV (F := F) c (.zs d s)) ∗ gi G (zPost m c d s)) ⊢ zdPre m G c d s := Entails.refl _
/-- Having waited for a sent block of `x`, its counter is back at zero and the block is held again. -/
theorem zd_post (G : Prop) [Decidable G] (c : Dev nD) (d : Fin 2) (s : Fin 4) : zdPost m G c d s ⊢ iprop(gi G (Z (F := F) c (.zs d s)) ∗ gi G (blk c (xgV s) (zsh c s d) (XB m (dev s (pc c))))) := Entails.refl _
/-- What a round's send leaves behind, kept under the condition that the round has one. -/
theorem zP_out (c : Dev nD) (d : Fin 2) (r : Fin 3) : zP m c d r ⊢ gi (Has c d r) (zPost m c d (slot c d r)) := Entails.refl _
/-- After a round the receive counter is at zero, under the condition that the round has one. -/
theorem zZ_out (c : Dev nD) (d : Fin 2) (r : Fin 3) : zZ (F := F) c d r ⊢ gi (Has c d r) (Z c (.zr (slot c d r))) := Entails.refl _
/-- The token and the blocks for one handshake duty are what its signal takes. -/
theorem b_pre (b : Dev nD) (d : Fin 5) : iprop(tok b .bar 0 d ∗ barPay (F := F) b d) ⊢ bPre b d := Entails.refl _
/-- What waiting for a sent result block to the third mate takes. -/
theorem y_one (c : Dev nD) (s : Fin 4) : ydPre (F := F) c s 3 ⊢ iprop(AV c (.ys (pc c + 3) s) ∗ crd c (.ys (pc c + 3) s)) := Entails.refl _
/-- What waiting for a sent result block to the third mate gives. -/
theorem y_oneP (c : Dev nD) (s : Fin 4) : iprop(Z c (.ys (pc c + 3) s) ∗ blk c (ybV s (pc c + 3)) fullShare (YB m c s (pc c + 3))) ⊢ ydPost (F := F) c s 3 := by
  unfold ydPost
  iintro ⟨A, B⟩
  isplitl [A]; · iexact A
  iexists _; iexact B

set_option maxHeartbeats 2000000 in
/-- The program of a device: from the rights, the credits and the memory it starts with to the result and the memory it gives back. -/
theorem body {Q : PUnit → sProp (MT nD τ sig Unit (Elt F) ℕ UU ℕ)} :
    iprop(recs m K ∗ (bigSep Finset.univ fun k : CK => AV c k) ∗ bodyT c ∗ bodyC c ∗ bodyM m c ∗ owesL c (owed0 c))
      ⊢ iprop((((bigSep Finset.univ fun k : CK => Z c k) ∗ bodyR m c ∗ owesL c []) -∗ Q ⟨⟩)
        -∗ WP c (cc0_body (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  rw [cc0_body_eq_skeleton]
  unfold cc0_body_skel
  rw [k0_part39_eq_skeleton]
  unfold k0_part39_skel bodyR
  iintro ⟨#HR, HS, HT, HC, HM, HO⟩ Hk
  ihave HS := (sem_start c) $$ HS
  icases HS with ⟨Ab, Aw0, Aw1, ⟨D0o, D00, E00, D01, E01, D02, E02⟩, ⟨D1o, E10, D10, E11, D11, E12, D12⟩, ⟨Zr, i00, i10, i01, i11, i02, i12⟩, ⟨Yo1, Ys1, Ys2, Ys3⟩, Yo2, Yr1, Yr2, Yr3⟩
  unfold bodyT bodyC bodyM
  icases HT with ⟨T1, T2, T3, T4, T5, TK, t00, t01, t10, t11⟩
  icases HC with ⟨Cb, ⟨j00, j10, j01, j11, j02, j12⟩, Cr1, Cr2, Cr3⟩
  icases HM with ⟨Hx, Hsx, Hsw, Hw, Hom, Hxg, Hst, Hw8, Hyb, Hyr⟩
  ihave Hw := (w_start m c fullShare.left) $$ Hw
  icases Hw with ⟨W0, W1, W2, W3⟩
  ihave Hom := (o_start c) $$ Hom
  icases Hom with ⟨Hoo, Or1, Or2, Or3⟩
  ihave Hoo := (o_rx c) $$ Hoo
  icases Hoo with ⟨Ho, O00, O10, O01, O11, O02, O12⟩
  ihave Hxg := (xg_start c) $$ Hxg
  icases Hxg with ⟨Hg, B4, B5⟩
  ihave Hst := (st_start c) $$ Hst
  icases Hst with ⟨S0, S1⟩
  ihave Hw8 := (w8_start c) $$ Hw8
  icases Hw8 with ⟨N0, N1, N2, N3⟩
  ihave Hyb := (yb_start c) $$ Hyb
  icases Hyb with ⟨⟨Yb0, Yb1, Yb2, Yb3⟩, V00, V10, V01, V11, V02, V12⟩
  ihave Hyr := (yr_start c) $$ Hyr
  icases Hyr with ⟨Yc, B1, B2, B3⟩
  ihave HH := (r_pre c 1) $$ [Yr1 Cr1 Or1]
  · isplitl [Yr1]; · iexact Yr1
    isplitl [Cr1]; · iexact Cr1
    iexact Or1
  icases HH with ⟨r01, r11, r21, r31⟩
  ihave HH := (r_pre c 2) $$ [Yr2 Cr2 Or2]
  · isplitl [Yr2]; · iexact Yr2
    isplitl [Cr2]; · iexact Cr2
    iexact Or2
  icases HH with ⟨r02, r12, r22, r32⟩
  ihave HH := (r_pre c 3) $$ [Yr3 Cr3 Or3]
  · isplitl [Yr3]; · iexact Yr3
    isplitl [Cr3]; · iexact Cr3
    iexact Or3
  icases HH with ⟨r03, r13, r23, r33⟩
  ihave I00 := (wI_intro c 0 0) $$ [i00 j00]
  · isplitl [i00]; · iexact i00
    iexact j00
  ihave I10 := (wI_intro c 1 0) $$ [i10 j10]
  · isplitl [i10]; · iexact i10
    iexact j10
  ihave I01 := (wI_intro c 0 1) $$ [i01 j01]
  · isplitl [i01]; · iexact i01
    iexact j01
  ihave I11 := (wI_intro c 1 1) $$ [i11 j11]
  · isplitl [i11]; · iexact i11
    iexact j11
  ihave I02 := (wI_intro c 0 2) $$ [i02 j02]
  · isplitl [i02]; · iexact i02
    iexact j02
  ihave I12 := (wI_intro c 1 2) $$ [i12 j12]
  · isplitl [i12]; · iexact i12
    iexact j12
  iapply bind_intro
  iapply bind_intro
  iapply (part13 m) $$ [Hsx Hsw]
  · isplitl [Hsx]; · iexact Hsx
    iexact Hsw
  iintro %r %hr ⟨Hsx, Hsw⟩
  obtain ⟨d0, v2, v19, v29, v30, v33, v34, v35, c4, v36, c1⟩ := r
  obtain ⟨h1, h2, h3⟩ := hr
  have h1 : c = d0 := h1.symm
  have h2 : sc m c = v33 := h2.symm
  have h3 : SemArray.scalar (sig.barrier 0 rfl) = v34 := h3.symm
  subst h1 h2 h3
  iapply bind_intro
  iapply part14
  iintro %r
  obtain ⟨v46, v58, v70, v73, v74, c0⟩ := r
  ihave T1 := (b_pre (mate c 1) 2) $$ [T1 B1]
  · isplitl [T1]; · iexact T1
    iexact B1
  ihave T2 := (b_pre (mate c 2) 1) $$ [T2 B2]
  · isplitl [T2]; · iexact T2
    iexact B2
  ihave T3 := (b_pre (mate c 3) 0) $$ [T3 B3]
  · isplitl [T3]; · iexact T3
    iexact B3
  ihave T4 := (b_pre (above c) 4) $$ [T4 B4]
  · isplitl [T4]; · iexact T4
    iexact B4
  ihave T5 := (b_pre (below c) 3) $$ [T5 B5]
  · isplitl [T5]; · iexact T5
    iexact B5
  iapply bind_intro
  iapply (part15 m K _ _ _ _ _ _ _) $$ [T1 T2 T3 T4 T5 HO]
  · isplitr; · iexact HR
    isplitl [T1]; · iexact T1
    isplitl [T2]; · iexact T2
    isplitl [T3]; · iexact T3
    isplitl [T4]; · iexact T4
    isplitl [T5]; · iexact T5
    iexact HO
  iintro %r HO
  iapply bind_intro
  iapply (part16 m K _ _) $$ [Ab Cb TK Hx Hg W0 S0 t00 HO]
  · isplitr; · iexact HR
    isplitl [Ab]; · iexact Ab
    isplitl [Cb]; · iexact Cb
    isplitl [TK]; · iexact TK
    isplitl [Hx]; · iexact Hx
    isplitl [Hg]; · iexact Hg
    isplitl [W0]; · iexact W0
    isplitl [S0]; · iexact S0
    isplitl [t00]; · iexact t00
    iexact HO
  iintro %r ⟨Zb, Hx, Hl, ZP0, ZP1, Y1, Y2, Y3, TR, cw0, HO⟩
  ihave Hh := (h_own c) $$ [Y1 Y2 Y3]
  · isplitl [Y1]; · iexact Y1
    isplitl [Y2]; · iexact Y2
    iexact Y3
  icases Hh with ⟨Hh0, Hh1, Hh2, Hh3⟩
  ihave Ho := (o_own c) $$ Ho
  icases Ho with ⟨Ho0, Ho1, Ho2, Ho3⟩
  unfold tokR
  icases TR with ⟨K00, K10, K01, K11, K02, K12⟩
  ihave HH := (slot_tok c 0 0) $$ [K00 O00 V00]
  · isplitl [K00]; · iexact K00
    isplitl [O00]; · iexact O00
    iexact V00
  icases HH with ⟨R00, A00⟩
  ihave HH := (slot_tok c 1 0) $$ [K10 O10 V10]
  · isplitl [K10]; · iexact K10
    isplitl [O10]; · iexact O10
    iexact V10
  icases HH with ⟨R10, A10⟩
  ihave HH := (slot_tok c 0 1) $$ [K01 O01 V01]
  · isplitl [K01]; · iexact K01
    isplitl [O01]; · iexact O01
    iexact V01
  icases HH with ⟨R01, A01⟩
  ihave HH := (slot_tok c 1 1) $$ [K11 O11 V11]
  · isplitl [K11]; · iexact K11
    isplitl [O11]; · iexact O11
    iexact V11
  icases HH with ⟨R11, A11⟩
  ihave HH := (slot_tok c 0 2) $$ [K02 O02 V02]
  · isplitl [K02]; · iexact K02
    isplitl [O02]; · iexact O02
    iexact V02
  icases HH with ⟨R02, A02⟩
  ihave HH := (slot_tok c 1 2) $$ [K12 O12 V12]
  · isplitl [K12]; · iexact K12
    isplitl [O12]; · iexact O12
    iexact V12
  icases HH with ⟨R12, A12⟩
  iapply bind_intro
  iapply (part17 m K _) $$ [W1 S1 t10 Aw0 cw0 N0 W2 t01 Hl HO]
  · isplitr; · iexact HR
    isplitl [W1]; · iexact W1
    isplitl [S1]; · iexact S1
    isplitl [t10]; · iexact t10
    isplitl [Aw0]; · iexact Aw0
    isplitl [cw0]; · iexact cw0
    isplitl [N0]; · iexact N0
    isplitl [W2]; · iexact W2
    isplitl [t01]; · iexact t01
    isplitl [Hl]; · iexact Hl
    iexact HO
  iintro %r %hr ⟨cw1, Aw0, cw0, N0, Hl, HO⟩
  obtain ⟨v164, v165⟩ := r
  obtain ⟨ha, hb⟩ := hr
  iapply bind_intro
  iapply (part18 m K _ _ _ ha hb) $$ [Yb0 Ho0 Hh0 Aw1 cw1 N1 W3 t11 Hl HO]
  · isplitr; · iexact HR
    isplitl [Yb0]; · iexact Yb0
    isplitl [Ho0]; · iexact Ho0
    isplitl [Hh0]; · iexact Hh0
    isplitl [Aw1]; · iexact Aw1
    isplitl [cw1]; · iexact cw1
    isplitl [N1]; · iexact N1
    isplitl [W3]; · iexact W3
    isplitl [t11]; · iexact t11
    isplitl [Hl]; · iexact Hl
    iexact HO
  iintro %r %hr ⟨Ho0, Hh0, Aw1, cw1, N1, Hl, HO⟩
  iapply bind_intro
  iapply (part19 m K _ _ _ hr) $$ [N1 Yb1 Ho1 Hh1 Aw0 cw0 N2 HO]
  · isplitr; · iexact HR
    isplitl [N1]; · iexact N1
    isplitl [Yb1]; · iexact Yb1
    isplitl [Ho1]; · iexact Ho1
    isplitl [Hh1]; · iexact Hh1
    isplitl [Aw0]; · iexact Aw0
    isplitl [cw0]; · iexact cw0
    isplitl [N2]; · iexact N2
    iexact HO
  iintro %v229 ⟨N1, Ho1, Hh1, Zw0, S0, N2, HO⟩
  iapply bind_intro
  iapply (part20 m K _ _ _ _) $$ [Hl N2 Yb2 Ho2 Hh2 Aw1 cw1 N3 HO]
  · isplitr; · iexact HR
    isplitl [Hl]; · iexact Hl
    isplitl [N2]; · iexact N2
    isplitl [Yb2]; · iexact Yb2
    isplitl [Ho2]; · iexact Ho2
    isplitl [Hh2]; · iexact Hh2
    isplitl [Aw1]; · iexact Aw1
    isplitl [cw1]; · iexact cw1
    isplitl [N3]; · iexact N3
    iexact HO
  iintro %v261 %hr ⟨Hl, N2, Ho2, Hh2, Zw1, S1, N3, HO⟩
  iapply bind_intro
  iapply (part21 m K _ _ _ _ hr) $$ [Hl N3 Yb3 Ho3 Hh3 I00 R00 HO]
  · isplitr; · iexact HR
    isplitl [Hl]; · iexact Hl
    isplitl [N3]; · iexact N3
    isplitl [Yb3]; · iexact Yb3
    isplitl [Ho3]; · iexact Ho3
    isplitl [Hh3]; · iexact Hh3
    isplitl [I00]; · iexact I00
    isplitl [R00]; · iexact R00
    iexact HO
  iintro %r ⟨Hl, N3, Ho3, Hh3, Z00, L00, P00, HO⟩
  obtain ⟨v290, v291, v298, c0⟩ := r
  ihave HN := (w8_full m c) $$ [N0 N1 N2 N3]
  · isplitl [N0]; · iexact N0
    isplitl [N1]; · iexact N1
    isplitl [N2]; · iexact N2
    iexact N3
  iapply bind_intro
  iapply (part22 m K _ _ _ _ _ _ _ _) $$ [HN L00 I10 R10 A00 A10 I01 R01 I11 R11 A01 A11 I02 HO]
  · isplitr; · iexact HR
    isplitl [HN]; · iexact HN
    isplitl [L00]; · iexact L00
    isplitl [I10]; · iexact I10
    isplitl [R10]; · iexact R10
    isplitl [A00]; · iexact A00
    isplitl [A10]; · iexact A10
    isplitl [I01]; · iexact I01
    isplitl [R01]; · iexact R01
    isplitl [I11]; · iexact I11
    isplitl [R11]; · iexact R11
    isplitl [A01]; · iexact A01
    isplitl [A11]; · iexact A11
    isplitl [I02]; · iexact I02
    iexact HO
  iintro %r ⟨HN, L00, Z10, L10, P10, B00, B10, Z01, L01, P01, Z11, L11, P11, B01, B11, Z02, L02, H02, HO⟩
  obtain ⟨v326, v327, c2⟩ := r
  iapply bind_intro
  iapply (part23 m K _ _ _ _ _ _ _) $$ [HN L02 H02 R02 I12 R12 A02 A12 HO]
  · isplitr; · iexact HR
    isplitl [HN]; · iexact HN
    isplitl [L02]; · iexact L02
    isplitl [H02]; · iexact H02
    isplitl [R02]; · iexact R02
    isplitl [I12]; · iexact I12
    isplitl [R12]; · iexact R12
    isplitl [A02]; · iexact A02
    isplitl [A12]; · iexact A12
    iexact HO
  iintro %v354 ⟨HN, L02, P02, Z12, L12, P12, B02, B12, HO⟩
  ihave Hd := (own_done m c) $$ [Hh0 Hh1 Hh2 Hh3 Ho0 Ho1 Ho2 Ho3]
  · isplitl [Hh0 Hh1 Hh2 Hh3]
    · isplitl [Hh0]; · iexact Hh0
      isplitl [Hh1]; · iexact Hh1
      isplitl [Hh2]; · iexact Hh2
      iexact Hh3
    isplitl [Ho0]; · iexact Ho0
    isplitl [Ho1]; · iexact Ho1
    isplitl [Ho2]; · iexact Ho2
    iexact Ho3
  ihave Hd := (all_done m c) $$ [Hd B00 B10 B01 B11 B02 B12]
  · isplitl [Hd]; · iexact Hd
    isplitl [B00]; · iexact B00
    isplitl [B10]; · iexact B10
    isplitl [B01]; · iexact B01
    isplitl [B11]; · iexact B11
    isplitl [B02]; · iexact B02
    iexact B12
  icases Hd with ⟨Q2, Q1, Q3, Yo, Oo⟩
  ihave HH := (y_pre c 1) $$ [Ys1 Q1]
  · isplitl [Ys1]; · iexact Ys1
    iexact Q1
  icases HH with ⟨X01, X11, X21, X31⟩
  ihave HH := (y_pre c 2) $$ [Ys2 Q2]
  · isplitl [Ys2]; · iexact Ys2
    iexact Q2
  icases HH with ⟨X02, X12, X22, X32⟩
  ihave HH := (y_pre c 3) $$ [Ys3 Q3]
  · isplitl [Ys3]; · iexact Ys3
    iexact Q3
  icases HH with ⟨X03, X13, X23, X33⟩
  iapply bind_intro
  iapply (part24 m K _ _) $$ [r01 r11 HO]
  · isplitr; · iexact HR
    isplitl [r01]; · iexact r01
    isplitl [r11]; · iexact r11
    iexact HO
  iintro %r ⟨r01, r11, HO⟩
  obtain ⟨v394, c256⟩ := r
  iapply bind_intro
  iapply (part25 m K _ _ _ _) $$ [r21 r31 HO]
  · isplitr; · iexact HR
    isplitl [r21]; · iexact r21
    isplitl [r31]; · iexact r31
    iexact HO
  iintro %r %hr ⟨r21, r31, HO⟩
  obtain ⟨v426, c12⟩ := r
  iapply bind_intro
  iapply (part26 m K _ _ _ _ _ hr) $$ [r31 r02 HO]
  · isplitr; · iexact HR
    isplitl [r31]; · iexact r31
    isplitl [r02]; · iexact r02
    iexact HO
  iintro %r %hr ⟨r31, r02, HO⟩
  obtain ⟨v441, v456⟩ := r
  iapply bind_intro
  iapply (part27 m K _ _ _ hr) $$ [r02 r12 r22 HO]
  · isplitr; · iexact HR
    isplitl [r02]; · iexact r02
    isplitl [r12]; · iexact r12
    isplitl [r22]; · iexact r22
    iexact HO
  iintro %r ⟨r02, r12, r22, HO⟩
  obtain ⟨v490, c256⟩ := r
  iapply bind_intro
  iapply (part28 m K _ _ _ _ _) $$ [r22 r32 HO]
  · isplitr; · iexact HR
    isplitl [r22]; · iexact r22
    isplitl [r32]; · iexact r32
    iexact HO
  iintro %r ⟨r22, r32, HO⟩
  obtain ⟨v520, v521, v522, c0⟩ := r
  iapply bind_intro
  iapply (part29 m K _ _ _ _ _) $$ [r03 HO]
  · isplitr; · iexact HR
    isplitl [r03]; · iexact r03
    iexact HO
  iintro %v528 ⟨r03, HO⟩
  iapply bind_intro
  iapply (part30 m K _ _) $$ [r13 r23 HO]
  · isplitr; · iexact HR
    isplitl [r13]; · iexact r13
    isplitl [r23]; · iexact r23
    iexact HO
  iintro %r ⟨r13, r23, HO⟩
  obtain ⟨v587, c256⟩ := r
  ihave P00 := (zP_out m c 0 0) $$ P00
  ihave Z00 := (zZ_out c 0 0) $$ Z00
  ihave P10 := (zP_out m c 1 0) $$ P10
  ihave Z10 := (zZ_out c 1 0) $$ Z10
  ihave P01 := (zP_out m c 0 1) $$ P01
  ihave Z01 := (zZ_out c 0 1) $$ Z01
  ihave P11 := (zP_out m c 1 1) $$ P11
  ihave Z11 := (zZ_out c 1 1) $$ Z11
  ihave P02 := (zP_out m c 0 2) $$ P02
  ihave Z02 := (zZ_out c 0 2) $$ Z02
  ihave P12 := (zP_out m c 1 2) $$ P12
  ihave Z12 := (zZ_out c 1 2) $$ Z12
  ihave D0o := (zd_pre m True c 0 (zc c)) $$ [D0o ZP0]
  · isplitl [D0o]; · iexact D0o
    iexact ZP0
  ihave D1o := (zd_pre m True c 1 (zc c)) $$ [D1o ZP1]
  · isplitl [D1o]; · iexact D1o
    iexact ZP1
  ihave D00 := (zd_pre m (Has c 0 0) c 0 (slot c 0 0)) $$ [D00 P00]
  · isplitl [D00]; · iexact D00
    iexact P00
  ihave D10 := (zd_pre m (Has c 1 0) c 1 (slot c 1 0)) $$ [D10 P10]
  · isplitl [D10]; · iexact D10
    iexact P10
  ihave D01 := (zd_pre m (Has c 0 1) c 0 (slot c 0 1)) $$ [D01 P01]
  · isplitl [D01]; · iexact D01
    iexact P01
  ihave D11 := (zd_pre m (Has c 1 1) c 1 (slot c 1 1)) $$ [D11 P11]
  · isplitl [D11]; · iexact D11
    iexact P11
  ihave D02 := (zd_pre m (Has c 0 2) c 0 (slot c 0 2)) $$ [D02 P02]
  · isplitl [D02]; · iexact D02
    iexact P02
  ihave D12 := (zd_pre m (Has c 1 2) c 1 (slot c 1 2)) $$ [D12 P12]
  · isplitl [D12]; · iexact D12
    iexact P12
  iapply bind_intro
  iapply (part31 m K _ _ _ _ _ _) $$ [r33 D0o D1o D00 HO]
  · isplitr; · iexact HR
    isplitl [r33]; · iexact r33
    isplitl [D0o]; · iexact D0o
    isplitl [D1o]; · iexact D1o
    isplitl [D00]; · iexact D00
    iexact HO
  iintro %r ⟨r33, D0o, D1o, D00, HO⟩
  iapply bind_intro
  iapply (part32 m K _ _ _) $$ [D10 D01 D11 D02 D12 HO]
  · isplitr; · iexact HR
    isplitl [D10]; · iexact D10
    isplitl [D01]; · iexact D01
    isplitl [D11]; · iexact D11
    isplitl [D02]; · iexact D02
    isplitl [D12]; · iexact D12
    iexact HO
  iintro %r ⟨D10, D01, D11, D02, D12, HO⟩
  obtain ⟨v651, v653, c256⟩ := r
  ihave HH := (zd_post m True c 0 (zc c)) $$ D0o
  icases HH with ⟨D0o, F0o⟩
  ihave HH := (zd_post m True c 1 (zc c)) $$ D1o
  icases HH with ⟨D1o, F1o⟩
  ihave HH := (zd_post m (Has c 0 0) c 0 (slot c 0 0)) $$ D00
  icases HH with ⟨D00, F00⟩
  ihave HH := (zd_post m (Has c 1 0) c 1 (slot c 1 0)) $$ D10
  icases HH with ⟨D10, F10⟩
  ihave HH := (zd_post m (Has c 0 1) c 0 (slot c 0 1)) $$ D01
  icases HH with ⟨D01, F01⟩
  ihave HH := (zd_post m (Has c 1 1) c 1 (slot c 1 1)) $$ D11
  icases HH with ⟨D11, F11⟩
  ihave HH := (zd_post m (Has c 0 2) c 0 (slot c 0 2)) $$ D02
  icases HH with ⟨D02, F02⟩
  ihave HH := (zd_post m (Has c 1 2) c 1 (slot c 1 2)) $$ D12
  icases HH with ⟨D12, F12⟩
  iapply bind_intro
  iapply (part33 m K _ _ _ _ _) $$ [X01 X11 HO]
  · isplitr; · iexact HR
    isplitl [X01]; · iexact X01
    isplitl [X11]; · iexact X11
    iexact HO
  iintro %r ⟨X01, X11, HO⟩
  obtain ⟨v681, v682, v683, v684, c0⟩ := r
  iapply bind_intro
  iapply (part34 m K _ _ _ _ _ _ _) $$ [X21 X31 HO]
  · isplitr; · iexact HR
    isplitl [X21]; · iexact X21
    isplitl [X31]; · iexact X31
    iexact HO
  iintro %r ⟨X21, X31, HO⟩
  obtain ⟨v717, c4⟩ := r
  iapply bind_intro
  iapply (part35 m K _ _ _ _) $$ [X02 HO]
  · isplitr; · iexact HR
    isplitl [X02]; · iexact X02
    iexact HO
  iintro %r ⟨X02, HO⟩
  iapply bind_intro
  iapply (part36 m K _ _) $$ [X12 X22 HO]
  · isplitr; · iexact HR
    isplitl [X12]; · iexact X12
    isplitl [X22]; · iexact X22
    iexact HO
  iintro %v784 ⟨X12, X22, HO⟩
  iapply bind_intro
  iapply (part37 m K _ _ _) $$ [X32 X03 HO]
  · isplitr; · iexact HR
    isplitl [X32]; · iexact X32
    isplitl [X03]; · iexact X03
    iexact HO
  iintro %r ⟨X32, X03, HO⟩
  obtain ⟨v814, v815⟩ := r
  iapply bind_intro
  iapply (part38 m K _ _ _ _) $$ [X13 HO]
  · isplitr; · iexact HR
    isplitl [X13]; · iexact X13
    iexact HO
  iintro %r ⟨X13, HO⟩
  ihave HH := (y_one c 2) $$ X23
  icases HH with ⟨xa2, xc2⟩
  iapply (op_waitD m K (.ys (pc c + 3) 2) (R := []) (blk c (ybV 2 (pc c + 3)) fullShare (YB m c 2 (pc c + 3))) (ybV 2 (pc c + 3)) (congrArg SemLoc.dma (sem_eq cc0_scratch8 (off117_form c 2) _ _ _ _)) (slice_eq ybM (off118_form c 2) _ _) (add_ne (by decide) (pc c)) (by simp) rfl rfl rfl nolev) $$ [xa2 xc2 HO]
  · isplitr; · iexact HR
    isplitl [xa2]; · iexact xa2
    isplitl [xc2]; · iexact xc2
    iexact HO
  iintro ⟨xz2, xy2, HO⟩
  ihave X23 := (y_oneP m c 2) $$ [xz2 xy2]
  · isplitl [xz2]; · iexact xz2
    iexact xy2
  iapply ret_intro
  ihave HH := (y_one c 3) $$ X33
  icases HH with ⟨xa3, xc3⟩
  iapply (op_waitD m K (.ys (pc c + 3) 3) (R := []) (blk c (ybV 3 (pc c + 3)) fullShare (YB m c 3 (pc c + 3))) (ybV 3 (pc c + 3)) (congrArg SemLoc.dma (sem_eq cc0_scratch8 (off119_form c 2) _ _ _ _)) (slice_eq ybM (off120_form c 2) _ _) (add_ne (by decide) (pc c)) (by simp) rfl rfl rfl nolev) $$ [xa3 xc3 HO]
  · isplitr; · iexact HR
    isplitl [xa3]; · iexact xa3
    isplitl [xc3]; · iexact xc3
    iexact HO
  iintro ⟨xz3, xy3, HO⟩
  ihave X33 := (y_oneP m c 3) $$ [xz3 xy3]
  · isplitl [xz3]; · iexact xz3
    iexact xy3
  ihave HH := (r_post m c 1) $$ [r01 r11 r21 r31]
  · isplitl [r01]; · iexact r01
    isplitl [r11]; · iexact r11
    isplitl [r21]; · iexact r21
    iexact r31
  icases HH with ⟨Yr1, Yc1, Or1⟩
  ihave HH := (y_post c 1) $$ [X01 X11 X21 X31]
  · isplitl [X01]; · iexact X01
    isplitl [X11]; · iexact X11
    isplitl [X21]; · iexact X21
    iexact X31
  icases HH with ⟨Ys1, Yp1⟩
  ihave HH := (r_post m c 2) $$ [r02 r12 r22 r32]
  · isplitl [r02]; · iexact r02
    isplitl [r12]; · iexact r12
    isplitl [r22]; · iexact r22
    iexact r32
  icases HH with ⟨Yr2, Yc2, Or2⟩
  ihave HH := (y_post c 2) $$ [X02 X12 X22 X32]
  · isplitl [X02]; · iexact X02
    isplitl [X12]; · iexact X12
    isplitl [X22]; · iexact X22
    iexact X32
  icases HH with ⟨Ys2, Yp2⟩
  ihave HH := (r_post m c 3) $$ [r03 r13 r23 r33]
  · isplitl [r03]; · iexact r03
    isplitl [r13]; · iexact r13
    isplitl [r23]; · iexact r23
    iexact r33
  icases HH with ⟨Yr3, Yc3, Or3⟩
  ihave HH := (y_post c 3) $$ [X03 X13 X23 X33]
  · isplitl [X03]; · iexact X03
    isplitl [X13]; · iexact X13
    isplitl [X23]; · iexact X23
    iexact X33
  icases HH with ⟨Ys3, Yp3⟩
  ihave G := (own_end m c) $$ [Hl F0o F1o]
  · isplitl [Hl]; · iexact Hl
    isplitl [F0o]; · iexact F0o
    iexact F1o
  ihave G00 := (slot_end m c 0 0) $$ [L00 F00]
  · isplitl [L00]; · iexact L00
    iexact F00
  ihave G10 := (slot_end m c 1 0) $$ [L10 F10]
  · isplitl [L10]; · iexact L10
    iexact F10
  ihave G01 := (slot_end m c 0 1) $$ [L01 F01]
  · isplitl [L01]; · iexact L01
    iexact F01
  ihave G11 := (slot_end m c 1 1) $$ [L11 F11]
  · isplitl [L11]; · iexact L11
    iexact F11
  ihave G02 := (slot_end m c 0 2) $$ [L02 F02]
  · isplitl [L02]; · iexact L02
    iexact F02
  ihave G12 := (slot_end m c 1 2) $$ [L12 F12]
  · isplitl [L12]; · iexact L12
    iexact F12
  iapply ret_intro
  iapply Hk
  isplitl [Zb Zw0 Zw1 D0o D00 E00 D01 E01 D02 E02 D1o E10 D10 E11 D11 E12 D12 Zr Z00 Z10 Z01 Z11 Z02 Z12 Yo1 Ys1 Ys2 Ys3 Yo2 Yr1 Yr2 Yr3]
  · iapply (Entails.of_eq (ck c (Z (F := F) c)).symm)
    isplitl [Zb]; · iexact Zb
    isplitl [Zw0]; · iexact Zw0
    isplitl [Zw1]; · iexact Zw1
    isplitl [D0o D00 E00 D01 E01 D02 E02]
    · isplitl [D0o]; · iapply (Entails.of_eq (gi_true (Z (F := F) c (.zs 0 (zc c))))); iexact D0o
      isplitl [D00]; · iexact D00
      isplitl [E00]; · iexact E00
      isplitl [D01]; · iexact D01
      isplitl [E01]; · iexact E01
      isplitl [D02]; · iexact D02
      iexact E02
    isplitl [D1o E10 D10 E11 D11 E12 D12]
    · isplitl [D1o]; · iapply (Entails.of_eq (gi_true (Z (F := F) c (.zs 1 (zc c))))); iexact D1o
      isplitl [E10]; · iexact E10
      isplitl [D10]; · iexact D10
      isplitl [E11]; · iexact E11
      isplitl [D11]; · iexact D11
      isplitl [E12]; · iexact E12
      iexact D12
    isplitl [Zr Z00 Z10 Z01 Z11 Z02 Z12]
    · isplitl [Zr]; · iexact Zr
      isplitl [Z00]; · iexact Z00
      isplitl [Z10]; · iexact Z10
      isplitl [Z01]; · iexact Z01
      isplitl [Z11]; · iexact Z11
      isplitl [Z02]; · iexact Z02
      iexact Z12
    isplitl [Yo1 Ys1 Ys2 Ys3]
    · isplitl [Yo1]; · iexact Yo1
      isplitl [Ys1]; · iexact Ys1
      isplitl [Ys2]; · iexact Ys2
      iexact Ys3
    isplitl [Yo2]; · iexact Yo2
    isplitl [Yr1]; · iexact Yr1
    isplitl [Yr2]; · iexact Yr2
    iexact Yr3
  isplitr [HO]
  · isplitl [Hx]; · iexact Hx
    isplitl [Hsx]; · iexact Hsx
    isplitl [Hsw]; · iexact Hsw
    isplitl [Oo Or1 Or2 Or3]
    · iapply (o_end m c)
      isplitl [Oo]; · iexact Oo
      isplitl [Or1]; · iexact Or1
      isplitl [Or2]; · iexact Or2
      iexact Or3
    isplitl [G G00 G10 G01 G11 G02 G12]
    · iapply (xg_end c)
      isplitl [G]; · iexact G
      isplitl [G00]; · iexact G00
      isplitl [G10]; · iexact G10
      isplitl [G01]; · iexact G01
      isplitl [G11]; · iexact G11
      isplitl [G02]; · iexact G02
      iexact G12
    isplitl [S0 S1]
    · iapply (st_end c)
      isplitl [S0]; · iexact S0
      iexact S1
    isplitl [HN]
    · iexists _; iexact HN
    isplitl [Yo Yp1 Yp2 Yp3]
    · iapply (yb_end c)
      isplitl [Yo]; · iexact Yo
      isplitl [Yp1]; · iexact Yp1
      isplitl [Yp2]; · iexact Yp2
      iexact Yp3
    iapply (yr_end c)
    isplitl [Yc]; · iexact Yc
    isplitl [Yc1]; · iexact Yc1
    isplitl [Yc2]; · iexact Yc2
    iexact Yc3
  iexact HO

end Whole

end Cert.Exchange

end
-- ==== Proof.Deal.lean ====
/-
What the devices are given at the start and who uses it: the rights to send, dealt to the senders, and the credits, summed over the senders.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

variable (m : (ℓ : Loc nD τ sig) → Buf (Elt F) ℓ)

/-- The mates, `k` places on. -/
def mateE (k : Fin 4) : Dev nD ≃ Dev nD := ⟨fun c => mate c k, fun c => mate c (-k), by revert k; decide +kernel, by revert k; decide +kernel⟩
/-- The neighbours above. -/
def upE : Dev nD ≃ Dev nD := ⟨above, below, by decide +kernel, by decide +kernel⟩

/-- Going `k` places on and then `j` with `k + j = 0` comes back to the same place. -/
theorem pc_back (c : Dev nD) (k j : Fin 4) (h : k + j = 0) : pc (mate c k) + j = pc c := by revert c k j; decide +kernel
/-- The upper neighbour of the lower neighbour is the device itself. -/
theorem nb_below (c : Dev nD) : nb 0 (below c) = c := by revert c; decide +kernel
/-- The lower neighbour of the upper neighbour is the device itself. -/
theorem nb_above (c : Dev nD) : nb 1 (above c) = c := by revert c; decide +kernel
/-- A slot comes from the plane below, or from the plane above, or is the device's own. -/
theorem zr_from (c : Dev nD) (s : Fin 4) : (s = zc c ∧ ¬ ZV (below c) 0 s ∧ ¬ ZV (above c) 1 s) ∨ (s ≠ zc c ∧ ZV (below c) 0 s ∧ ¬ ZV (above c) 1 s) ∨ (s ≠ zc c ∧ ¬ ZV (below c) 0 s ∧ ZV (above c) 1 s) := by
  revert c s; decide +kernel

/-! ## The rights to send -/

/-- The rights at a device's own cells, one by one. -/
def tkA (c : Dev nD) : sProp 𝕄 := iprop(tok c .bar 0 2 ∗ tok c .bar 0 1 ∗ tok c .bar 0 0 ∗ tok c .bar 0 4 ∗ tok c .bar 0 3 ∗ tok c (.ws 0) 0 0 ∗ tok c (.ws 0) 1 0 ∗ tok c (.ws 1) 0 0 ∗ tok c (.ws 1) 1 0 ∗ (bigSep Finset.univ fun s : Fin 4 => tok c (.ys (pc c + 1) s) 0 0) ∗ (bigSep Finset.univ fun s : Fin 4 => tok c (.ys (pc c + 2) s) 0 0) ∗ (bigSep Finset.univ fun s : Fin 4 => tok c (.ys (pc c + 3) s) 0 0) ∗ (bigSep Finset.univ fun s : Fin 4 => tok c (.zs 0 s) 0 0) ∗ (bigSep Finset.univ fun s : Fin 4 => tok c (.zs 1 s) 0 0) ∗ (bigSep Finset.univ fun s : Fin 4 => tok c (.yr (pc c + 3) s) 0 0) ∗ (bigSep Finset.univ fun s : Fin 4 => tok c (.yr (pc c + 2) s) 0 0) ∗ (bigSep Finset.univ fun s : Fin 4 => tok c (.yr (pc c + 1) s) 0 0) ∗ (bigSep Finset.univ fun s : Fin 4 => gi (ZV (below c) 0 s) (tok c (.zr s) 0 0)) ∗ (bigSep Finset.univ fun s : Fin 4 => gi (ZV (above c) 1 s) (tok c (.zr s) 0 0)))
/-- The rights a device uses, one by one. -/
def tkB (c : Dev nD) : sProp 𝕄 := iprop(tok (mate c 1) .bar 0 2 ∗ tok (mate c 2) .bar 0 1 ∗ tok (mate c 3) .bar 0 0 ∗ tok (above c) .bar 0 4 ∗ tok (below c) .bar 0 3 ∗ tok c (.ws 0) 0 0 ∗ tok c (.ws 0) 1 0 ∗ tok c (.ws 1) 0 0 ∗ tok c (.ws 1) 1 0 ∗ (bigSep Finset.univ fun s : Fin 4 => tok c (.ys (pc c + 1) s) 0 0) ∗ (bigSep Finset.univ fun s : Fin 4 => tok c (.ys (pc c + 2) s) 0 0) ∗ (bigSep Finset.univ fun s : Fin 4 => tok c (.ys (pc c + 3) s) 0 0) ∗ (bigSep Finset.univ fun s : Fin 4 => tok c (.zs 0 s) 0 0) ∗ (bigSep Finset.univ fun s : Fin 4 => tok c (.zs 1 s) 0 0) ∗ (bigSep Finset.univ fun s : Fin 4 => tok (mate c 1) (.yr (pc c) s) 0 0) ∗ (bigSep Finset.univ fun s : Fin 4 => tok (mate c 2) (.yr (pc c) s) 0 0) ∗ (bigSep Finset.univ fun s : Fin 4 => tok (mate c 3) (.yr (pc c) s) 0 0) ∗ (bigSep Finset.univ fun s : Fin 4 => gi (ZV c 0 s) (tok (nb 0 c) (.zr s) 0 0)) ∗ (bigSep Finset.univ fun s : Fin 4 => gi (ZV c 1 s) (tok (nb 1 c) (.zr s) 0 0)))

/-- The rights at a device's own cells. -/
def toks (c : Dev nD) : sProp 𝕄 := bigSep Finset.univ fun k : CK => bigSep Finset.univ fun x : Fin 2 × Fin 5 => tok c k x.1.val x.2

/-- Of a counter's tokens keep the one of its first round. -/
theorem toks_one (c : Dev nD) (k : CK) : (bigSep Finset.univ fun x : Fin 2 × Fin 5 => tok (F := F) c k x.1.val x.2) ⊢ tok c k 0 0 := bigSep_elim (Finset.mem_univ ((0 : Fin 2), (0 : Fin 5)))
/-- Of a staging counter's tokens keep those of its two rounds. -/
theorem toks_two (c : Dev nD) (k : CK) : (bigSep Finset.univ fun x : Fin 2 × Fin 5 => tok (F := F) c k x.1.val x.2) ⊢ iprop(tok c k 0 0 ∗ tok c k 1 0) := by
  rw [bigSep_univ_prod, bigSep_univ_eq_bigSepL [(0 : Fin 2), 1] (by decide) (by decide), bigSepL_cons_cons, bigSepL_singleton]
  have h : ∀ r : Fin 2, (bigSep Finset.univ fun d : Fin 5 => tok (F := F) c k r.val d) ⊢ tok c k r.val 0 := fun r => bigSep_elim (Finset.mem_univ (0 : Fin 5))
  exact BI.sep_mono (h 0) (h 1)
/-- Of the handshake counter's tokens keep the five duties of its one round. -/
theorem toks_bar (c : Dev nD) (k : CK) : (bigSep Finset.univ fun x : Fin 2 × Fin 5 => tok (F := F) c k x.1.val x.2) ⊢ iprop(tok c k 0 2 ∗ tok c k 0 1 ∗ tok c k 0 0 ∗ tok c k 0 4 ∗ tok c k 0 3) := by
  rw [bigSep_univ_prod]
  refine (bigSep_elim (Φ := fun r : Fin 2 => bigSep Finset.univ fun d : Fin 5 => tok (F := F) c k r.val d) (Finset.mem_univ (0 : Fin 2))).trans ?_
  rw [bigSep_univ_eq_bigSepL [(2 : Fin 5), 1, 0, 4, 3] (by decide) (by decide), bigSepL_cons_cons, bigSepL_cons_cons, bigSepL_cons_cons, bigSepL_cons_cons, bigSepL_singleton]
  exact BI.Entails.refl _

/-- The tokens of the receive counters of `x`, split by the neighbour that pays them. -/
theorem zr_split (c : Dev nD) : (bigSep Finset.univ fun s : Fin 4 => tok (F := F) c (.zr s) 0 0) ⊢ iprop((bigSep Finset.univ fun s : Fin 4 => gi (ZV (below c) 0 s) (tok c (.zr s) 0 0)) ∗ (bigSep Finset.univ fun s : Fin 4 => gi (ZV (above c) 1 s) (tok c (.zr s) 0 0))) := by
  rw [← bigSep_sep' Finset.univ (fun s : Fin 4 => gi (ZV (below c) 0 s) (tok (F := F) c (.zr s) 0 0))]
  refine bigSep_mono fun s _ => ?_
  rcases zr_from c s with ⟨-, h1, h2⟩ | ⟨-, h1, h2⟩ | ⟨-, h1, h2⟩
  · rw [gi_neg h1, gi_neg h2]
    show (tok (F := F) c (.zr s) 0 0 : sProp 𝕄) ⊢ iprop(emp ∗ emp)
    iintro -
    isplitl [] <;> iempintro
  · rw [gi_pos h1, gi_neg h2, sE]
    exact BI.Entails.refl _
  · rw [gi_neg h1, gi_pos h2, eS]
    exact BI.Entails.refl _

/-- All tokens of a device's counters, sorted by who pays. -/
theorem toks_tkA (c : Dev nD) : toks (F := F) c ⊢ tkA c := by
  unfold toks tkA
  rw [ck c]
  have hs : ∀ f : Fin 4 → CK, (bigSep Finset.univ fun s : Fin 4 => bigSep Finset.univ fun x : Fin 2 × Fin 5 => tok (F := F) c (f s) x.1.val x.2) ⊢ (bigSep Finset.univ fun s : Fin 4 => tok c (f s) 0 0) :=
    fun f => bigSep_mono fun s _ => toks_one c (f s)
  have hr : ∀ f : Fin 4 → CK, (RX c fun s => bigSep Finset.univ fun x : Fin 2 × Fin 5 => tok (F := F) c (f s) x.1.val x.2) ⊢ (bigSep Finset.univ fun s : Fin 4 => tok c (f s) 0 0) :=
    fun f => (Entails.of_eq (reix c fun s => bigSep Finset.univ fun x : Fin 2 × Fin 5 => tok (F := F) c (f s) x.1.val x.2).symm).trans (hs f)
  iintro ⟨B, W0, W1, Z0, Z1, ZR, ⟨-, S1, S2, S3⟩, -, R1, R2, R3⟩
  ihave B := (toks_bar c .bar) $$ B
  icases B with ⟨B0, B1, B2, B3, B4⟩
  ihave W0 := (toks_two c (.ws 0)) $$ W0
  icases W0 with ⟨W00, W01⟩
  ihave W1 := (toks_two c (.ws 1)) $$ W1
  icases W1 with ⟨W10, W11⟩
  ihave Z0 := (hr (fun s => .zs 0 s)) $$ Z0
  ihave Z1 := (hr (fun s => .zs 1 s)) $$ Z1
  ihave ZR := (hr (fun s => .zr s)) $$ ZR
  ihave ZR := (zr_split c) $$ ZR
  icases ZR with ⟨ZR0, ZR1⟩
  ihave S1 := (hs (fun s => .ys (pc c + 1) s)) $$ S1
  ihave S2 := (hs (fun s => .ys (pc c + 2) s)) $$ S2
  ihave S3 := (hs (fun s => .ys (pc c + 3) s)) $$ S3
  ihave R1 := (hs (fun s => .yr (pc c + 1) s)) $$ R1
  ihave R2 := (hs (fun s => .yr (pc c + 2) s)) $$ R2
  ihave R3 := (hs (fun s => .yr (pc c + 3) s)) $$ R3
  isplitl [B0]; · iexact B0
  isplitl [B1]; · iexact B1
  isplitl [B2]; · iexact B2
  isplitl [B3]; · iexact B3
  isplitl [B4]; · iexact B4
  isplitl [W00]; · iexact W00
  isplitl [W01]; · iexact W01
  isplitl [W10]; · iexact W10
  isplitl [W11]; · iexact W11
  isplitl [S1]; · iexact S1
  isplitl [S2]; · iexact S2
  isplitl [S3]; · iexact S3
  isplitl [Z0]; · iexact Z0
  isplitl [Z1]; · iexact Z1
  isplitl [R3]; · iexact R3
  isplitl [R2]; · iexact R2
  isplitl [R1]; · iexact R1
  isplitl [ZR0]; · iexact ZR0
  iexact ZR1

/-- The tokens that a device pays itself, in the order in which its program uses them. -/
theorem tkB_bodyT (c : Dev nD) : tkB (F := F) c ⊢ bodyT c := by
  unfold tkB bodyT TOKS
  have hz : ∀ (d : Fin 2) (s : Fin 4), iprop(tok (F := F) c (.zs d s) 0 0 ∗ gi (ZV c d s) (tok (nb d c) (.zr s) 0 0)) ⊢ zT c d s := by
    intro d s
    unfold zT
    by_cases h : ZV c d s
    · rw [gi_pos h, gi_pos h]
    · rw [gi_neg h, gi_neg h]
      iintro -
      iempintro
  have h : ∀ s : Fin 4, iprop(tok (F := F) c (.ys (pc c + 1) s) 0 0 ∗ tok c (.ys (pc c + 2) s) 0 0 ∗ tok c (.ys (pc c + 3) s) 0 0 ∗ tok c (.zs 0 s) 0 0 ∗ tok c (.zs 1 s) 0 0
      ∗ tok (mate c 1) (.yr (pc c) s) 0 0 ∗ tok (mate c 2) (.yr (pc c) s) 0 0 ∗ tok (mate c 3) (.yr (pc c) s) 0 0 ∗ gi (ZV c 0 s) (tok (nb 0 c) (.zr s) 0 0) ∗ gi (ZV c 1 s) (tok (nb 1 c) (.zr s) 0 0))
      ⊢ iprop(yT c s 2 ∗ yT c s 1 ∗ yT c s 3 ∗ zT c 0 s ∗ zT c 1 s) := by
    intro s
    unfold yT
    iintro ⟨S1, S2, S3, Z0, Z1, R1, R2, R3, X0, X1⟩
    isplitl [S2 R2]
    · isplitl [S2]; · iexact S2
      iexact R2
    isplitl [S1 R1]
    · isplitl [S1]; · iexact S1
      iexact R1
    isplitl [S3 R3]
    · isplitl [S3]; · iexact S3
      iexact R3
    isplitl [Z0 X0]
    · iapply (hz 0 s)
      isplitl [Z0]; · iexact Z0
      iexact X0
    iapply (hz 1 s)
    isplitl [Z1]; · iexact Z1
    iexact X1
  have hh : iprop((bigSep Finset.univ fun s : Fin 4 => tok (F := F) c (.ys (pc c + 1) s) 0 0) ∗ (bigSep Finset.univ fun s : Fin 4 => tok (F := F) c (.ys (pc c + 2) s) 0 0) ∗ (bigSep Finset.univ fun s : Fin 4 => tok (F := F) c (.ys (pc c + 3) s) 0 0) ∗ (bigSep Finset.univ fun s : Fin 4 => tok c (.zs 0 s) 0 0) ∗ (bigSep Finset.univ fun s : Fin 4 => tok c (.zs 1 s) 0 0) ∗ (bigSep Finset.univ fun s : Fin 4 => tok (mate c 1) (.yr (pc c) s) 0 0) ∗ (bigSep Finset.univ fun s : Fin 4 => tok (mate c 2) (.yr (pc c) s) 0 0) ∗ (bigSep Finset.univ fun s : Fin 4 => tok (mate c 3) (.yr (pc c) s) 0 0) ∗ (bigSep Finset.univ fun s : Fin 4 => gi (ZV c 0 s) (tok (nb 0 c) (.zr s) 0 0)) ∗ (bigSep Finset.univ fun s : Fin 4 => gi (ZV c 1 s) (tok (nb 1 c) (.zr s) 0 0))) ⊢ (bigSep Finset.univ fun s : Fin 4 => iprop(yT c s 2 ∗ yT c s 1 ∗ yT c s 3 ∗ zT c 0 s ∗ zT c 1 s)) := by
    rw [← bigSep_sep', ← bigSep_sep', ← bigSep_sep', ← bigSep_sep', ← bigSep_sep', ← bigSep_sep', ← bigSep_sep', ← bigSep_sep', ← bigSep_sep']
    exact bigSep_mono fun s _ => h s
  iintro ⟨H0, H1, H2, H3, H4, H5, H6, H7, H8, H9, H10, H11, H12, H13, H14, H15, H16, H17, H18⟩
  isplitl [H0]; · iexact H0
  isplitl [H1]; · iexact H1
  isplitl [H2]; · iexact H2
  isplitl [H3]; · iexact H3
  isplitl [H4]; · iexact H4
  isplitl [H9 H10 H11 H12 H13 H14 H15 H16 H17 H18]
  · iapply hh
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  isplitl [H5]; · iexact H5
  isplitl [H6]; · iexact H6
  isplitl [H7]; · iexact H7
  iexact H8

/-- Every right goes to the device that uses it. -/
theorem deal : (bigSep Finset.univ fun c : Dev nD => toks (F := F) c) ⊢ bigSep Finset.univ fun c : Dev nD => bodyT c := by
  refine (bigSep_mono fun c _ => toks_tkA c).trans (BI.Entails.trans ?_ (bigSep_mono fun c _ => tkB_bodyT c))
  have hb : ∀ (k : Fin 4) (d : Fin 5), (bigSep Finset.univ fun c : Dev nD => tok (F := F) c .bar 0 d) = bigSep Finset.univ fun c : Dev nD => tok (mate c k) .bar 0 d :=
    fun k d => bigSep_univ_equiv (mateE k) (fun c => tok (F := F) c .bar 0 d)
  have hu : (bigSep Finset.univ fun c : Dev nD => tok (F := F) c .bar 0 4) = bigSep Finset.univ fun c : Dev nD => tok (above c) .bar 0 4 :=
    bigSep_univ_equiv upE (fun c => tok (F := F) c .bar 0 4)
  have hl : (bigSep Finset.univ fun c : Dev nD => tok (F := F) c .bar 0 3) = bigSep Finset.univ fun c : Dev nD => tok (below c) .bar 0 3 :=
    bigSep_univ_equiv upE.symm (fun c => tok (F := F) c .bar 0 3)
  have hy : ∀ k j : Fin 4, k + j = 0 → (bigSep Finset.univ fun c : Dev nD => (bigSep Finset.univ fun s : Fin 4 => tok (F := F) c (.yr (pc c + j) s) 0 0)) = bigSep Finset.univ fun c : Dev nD => (bigSep Finset.univ fun s : Fin 4 => tok (mate c k) (.yr (pc c) s) 0 0) := by
    intro k j hkj
    refine (bigSep_univ_equiv (mateE k) (fun c => (bigSep Finset.univ fun s : Fin 4 => tok (F := F) c (.yr (pc c + j) s) 0 0))).trans (bigSep_congr fun c _ => bigSep_congr fun s _ => ?_)
    show tok (F := F) (mate c k) (.yr (pc (mate c k) + j) s) 0 0 = _
    rw [pc_back c k j hkj]
  have hz0 : (bigSep Finset.univ fun c : Dev nD => (bigSep Finset.univ fun s : Fin 4 => gi (ZV (below c) 0 s) (tok (F := F) c (.zr s) 0 0))) = bigSep Finset.univ fun c : Dev nD => (bigSep Finset.univ fun s : Fin 4 => gi (ZV c 0 s) (tok (nb 0 c) (.zr s) 0 0)) := by
    refine ((bigSep_univ_equiv upE.symm (fun c => (bigSep Finset.univ fun s : Fin 4 => gi (ZV c 0 s) (tok (F := F) (nb 0 c) (.zr s) 0 0)))).trans (bigSep_congr fun c _ => bigSep_congr fun s _ => ?_)).symm
    show gi (ZV (below c) 0 s) (tok (F := F) (nb 0 (below c)) (.zr s) 0 0) = _
    rw [nb_below]
  have hz1 : (bigSep Finset.univ fun c : Dev nD => (bigSep Finset.univ fun s : Fin 4 => gi (ZV (above c) 1 s) (tok (F := F) c (.zr s) 0 0))) = bigSep Finset.univ fun c : Dev nD => (bigSep Finset.univ fun s : Fin 4 => gi (ZV c 1 s) (tok (nb 1 c) (.zr s) 0 0)) := by
    refine ((bigSep_univ_equiv upE (fun c => (bigSep Finset.univ fun s : Fin 4 => gi (ZV c 1 s) (tok (F := F) (nb 1 c) (.zr s) 0 0)))).trans (bigSep_congr fun c _ => bigSep_congr fun s _ => ?_)).symm
    show gi (ZV (above c) 1 s) (tok (F := F) (nb 1 (above c)) (.zr s) 0 0) = _
    rw [nb_above]
  unfold tkA tkB
  simp only [bigSep_sep']
  rw [hb 1 2, hb 2 1, hb 3 0, hu, hl, hy 1 3 (by decide), hy 2 2 (by decide), hy 3 1 (by decide), hz0, hz1]
  exact BI.Entails.refl _

/-! ## The credits -/

/-- One payment. -/
abbrev tl (x : Dev nD × CK) : CellTallies nD τ sig Unit := tallyAt (cell x.1 x.2) () (amt x.2)
/-- The tally of one duty. -/
theorem tal_one (x : Dev nD × CK) : tal [x] = tl x := zero_add _
/-- The tally of a duty and a list. -/
theorem tal_cons (x : Dev nD × CK) (l : List (Dev nD × CK)) : tal (x :: l) = tl x + tal l := add_comm _ _
/-- The tally of no duties. -/
theorem tal_nil : tal [] = 0 := rfl
/-- The tally of a list under a condition. -/
theorem tal_if (P : Prop) [Decidable P] (l : List (Dev nD × CK)) : tal (if P then l else []) = if P then tal l else 0 := by split <;> rfl

section Sums
variable {M : Type} [AddCommMonoid M]

/-- A sum over four places, written out. -/
theorem sum_four (f : Fin 4 → M) : ∑ s, f s = f 0 + (f 1 + (f 2 + f 3)) := by
  rw [Fin.sum_univ_four, add_assoc, add_assoc]
/-- A sum over four places, written out from the device's own place on. -/
theorem sum_reip (c : Dev nD) (f : Fin 4 → M) : ∑ s, f s = f (pc c) + (f (pc c + 1) + (f (pc c + 2) + f (pc c + 3))) := by
  rw [← Equiv.sum_comp (rot (pc c)) f, sum_four]
  show f (pc c + 0) + _ = _
  rw [Fin.add_zero]
  rfl
/-- Four summands, the device's own first, then one for each slot that arrives. -/
theorem sum_reix (c : Dev nD) (f : Fin 4 → M) : ∑ s, f s = f (zc c) + ((if Has c 0 0 then f (slot c 0 0) else 0) + ((if Has c 1 0 then f (slot c 1 0) else 0)
    + ((if Has c 0 1 then f (slot c 0 1) else 0) + ((if Has c 1 1 then f (slot c 1 1) else 0) + ((if Has c 0 2 then f (slot c 0 2) else 0) + (if Has c 1 2 then f (slot c 1 2) else 0)))))) := by
  rw [sum_four]
  have hz : zc c = 0 ∨ zc c = 1 ∨ zc c = 2 ∨ zc c = 3 := by generalize zc c = z; revert z; decide
  rcases hz with h | h | h | h
  · obtain ⟨⟨h1, h2, h3, h4, h5, h6⟩, e1, e2, e3⟩ := slots0 c h
    rw [if_neg h1, if_neg h2, if_neg h3, if_pos h4, if_pos h5, if_pos h6, e1, e2, e3, h]
    simp only [zero_add]
  · obtain ⟨⟨h1, h2, h3, h4, h5, h6⟩, e1, e2, e3⟩ := slots1 c h
    rw [if_pos h1, if_neg h2, if_neg h3, if_pos h4, if_pos h5, if_neg h6, e1, e2, e3, h]
    simp only [zero_add, add_zero]
    ac_rfl
  · obtain ⟨⟨h1, h2, h3, h4, h5, h6⟩, e1, e2, e3⟩ := slots2 c h
    rw [if_pos h1, if_pos h2, if_neg h3, if_pos h4, if_neg h5, if_neg h6, e1, e2, e3, h]
    simp only [zero_add, add_zero]
    ac_rfl
  · obtain ⟨⟨h1, h2, h3, h4, h5, h6⟩, e1, e2, e3⟩ := slots3 c h
    rw [if_pos h1, if_pos h2, if_pos h3, if_neg h4, if_neg h5, if_neg h6, e1, e2, e3, h]
    simp only [zero_add, add_zero]
    ac_rfl
end Sums

/-- The result blocks of the own rows. -/
theorem segH_sum (c : Dev nD) : tal (segH c 0) + (tal (segH c 1) + (tal (segH c 2) + tal (segH c 3))) = tal (segM c (zc c)) := by
  rw [← sum_four fun q => tal (segH c q), sum_reip c]
  have h0 : segH c (pc c) = [] := if_neg fun h => h rfl
  have hk : ∀ k : Fin 4, k ≠ 0 → segH c (pc c + k) = [(mate c k, .yr (pc c) (zc c))] := fun k hk => if_pos (ne_add k hk (pc c))
  rw [h0, hk 1 (by decide), hk 2 (by decide), hk 3 (by decide)]
  unfold segM
  simp only [tal_cons, tal_nil, add_zero, zero_add]
  exact add_left_comm _ _ _

/-- A block that arrives from one side is not forwarded to the same side. -/
theorem segZ_cross (c : Dev nD) (d d' : Fin 2) (r : Fin 3) (h : d ≠ d') (hp : Has c d r) : tal (segZ c d' (slot c d r)) = 0 := by
  have hv : Has c d r → ¬ ZV c d' (slot c d r) := by clear hp; revert c d d' r; decide +kernel
  unfold segZ
  rw [if_neg (hv hp)]
  rfl

/-- All that a device owes, slot by slot. -/
theorem owed_sum (c : Dev nD) : tal (owed0 c) = tal (segB c) + ∑ s, (tal (segZ c 0 s) + tal (segZ c 1 s) + tal (segM c s)) := by
  rw [sum_reix c]
  unfold owed0 owed1 owed3 segS
  simp only [tal_append, tal_if, tal_nil, add_zero]
  have e : ∀ (d d' : Fin 2) (r : Fin 3), d ≠ d' → (if Has c d r then tal (segZ c 0 (slot c d r)) + tal (segZ c 1 (slot c d r)) + tal (segM c (slot c d r)) else 0)
      = (if Has c d r then tal (segZ c d (slot c d r)) else 0) + (if Has c d r then tal (segM c (slot c d r)) else 0) := by
    intro d d' r hd
    by_cases hp : Has c d r
    · rw [if_pos hp, if_pos hp, if_pos hp]
      have h := segZ_cross c d d' r hd hp
      have hdd : (d = 0 ∧ d' = 1) ∨ (d = 1 ∧ d' = 0) := by clear h hp; revert d d'; decide
      rcases hdd with ⟨rfl, rfl⟩ | ⟨rfl, rfl⟩
      · rw [h, add_zero]
      · rw [h, zero_add]
    · rw [if_neg hp, if_neg hp, if_neg hp, add_zero]
  rw [e 0 1 0 (by decide), e 1 0 0 (by decide), e 0 1 1 (by decide), e 1 0 1 (by decide), e 0 1 2 (by decide), e 1 0 2 (by decide), ← segH_sum c]
  ac_rfl

/-- Summed over the devices, the handshake units to the mates `k` places on are those of all devices. -/
theorem mate_sum (k : Fin 4) : ∑ c : Dev nD, tl (mate c k, .bar) = ∑ c : Dev nD, tl (c, .bar) := Equiv.sum_comp (mateE k) fun c => tl (c, .bar)

/-- All that the devices owe is all that they are paid. -/
theorem owed_paid : ∑ c : Dev nD, tal (owed0 c) = ∑ c : Dev nD, tal (paid c) := by
  have hz0 : ∀ s : Fin 4, ∑ c : Dev nD, tal (segZ c 0 s) = ∑ c : Dev nD, (if ZV (below c) 0 s then tl (c, .zr s) else 0) := by
    intro s
    rw [← Equiv.sum_comp upE.symm fun c => tal (segZ c 0 s)]
    refine Finset.sum_congr rfl fun c _ => ?_
    show tal (segZ (below c) 0 s) = _
    unfold segZ
    rw [tal_if, tal_one, nb_below]
  have hz1 : ∀ s : Fin 4, ∑ c : Dev nD, tal (segZ c 1 s) = ∑ c : Dev nD, (if ZV (above c) 1 s then tl (c, .zr s) else 0) := by
    intro s
    rw [← Equiv.sum_comp upE fun c => tal (segZ c 1 s)]
    refine Finset.sum_congr rfl fun c _ => ?_
    show tal (segZ (above c) 1 s) = _
    unfold segZ
    rw [tal_if, tal_one, nb_above]
  have hm : ∀ (s k j : Fin 4), k + j = 0 → ∑ c : Dev nD, tl (mate c k, .yr (pc c) s) = ∑ c : Dev nD, tl (c, .yr (pc c + j) s) := by
    intro s k j hkj
    rw [← Equiv.sum_comp (mateE k) fun c => tl (c, .yr (pc c + j) s)]
    refine Finset.sum_congr rfl fun c _ => ?_
    show _ = tl (mate c k, .yr (pc (mate c k) + j) s)
    rw [pc_back c k j hkj]
  have hzz : ∀ (c : Dev nD) (s : Fin 4), (if ZV (below c) 0 s then tl (c, .zr s) else 0) + (if ZV (above c) 1 s then tl (c, .zr s) else 0) = if s ≠ zc c then tl (c, .zr s) else 0 := by
    intro c s
    rcases zr_from c s with ⟨h0, h1, h2⟩ | ⟨h0, h1, h2⟩ | ⟨h0, h1, h2⟩
    · rw [if_neg h1, if_neg h2, if_neg (fun h => h h0), add_zero]
    · rw [if_pos h1, if_neg h2, if_pos h0, add_zero]
    · rw [if_neg h1, if_pos h2, if_pos h0, zero_add]
  have hslots : ∑ c : Dev nD, ∑ s : Fin 4, (tal (segZ c 0 s) + tal (segZ c 1 s) + tal (segM c s))
      = ∑ c : Dev nD, ∑ s : Fin 4, ((if s ≠ zc c then tl (c, .zr s) else 0) + (tl (c, .yr (pc c + 1) s) + (tl (c, .yr (pc c + 2) s) + tl (c, .yr (pc c + 3) s)))) := by
    rw [Finset.sum_comm, Finset.sum_comm (γ := Dev nD)]
    refine Finset.sum_congr rfl fun s _ => ?_
    unfold segM
    simp only [tal_cons, tal_nil, add_zero, Finset.sum_add_distrib]
    rw [hz0, hz1, hm s 2 2 (by decide), hm s 1 3 (by decide), hm s 3 1 (by decide), ← Finset.sum_add_distrib, Finset.sum_congr rfl fun c _ => hzz c s]
    ac_rfl
  have hp : ∀ c : Dev nD, tal (paid c) = (tl (c, .bar) + (tl (c, .bar) + (tl (c, .bar) + (tl (c, .bar) + tl (c, .bar)))))
      + ∑ s : Fin 4, ((if s ≠ zc c then tl (c, .zr s) else 0) + (tl (c, .yr (pc c + 1) s) + (tl (c, .yr (pc c + 2) s) + tl (c, .yr (pc c + 3) s)))) := by
    intro c
    unfold paid
    simp only [List.flatMap_cons, List.flatMap_nil, List.append_nil, tal_append, tal_if, tal_cons, tal_nil, add_zero, sum_four]
    ac_rfl
  have hB : ∑ c : Dev nD, tal (segB c) = ∑ c : Dev nD, (tl (c, .bar) + (tl (c, .bar) + (tl (c, .bar) + (tl (c, .bar) + tl (c, .bar))))) := by
    unfold segB
    simp only [tal_cons, tal_nil, add_zero, Finset.sum_add_distrib]
    rw [mate_sum, mate_sum, mate_sum, show ∑ c : Dev nD, tl (above c, .bar) = ∑ c : Dev nD, tl (c, .bar) from Equiv.sum_comp upE fun c => tl (c, .bar),
      show ∑ c : Dev nD, tl (below c, .bar) = ∑ c : Dev nD, tl (c, .bar) from Equiv.sum_comp upE.symm fun c => tl (c, .bar)]
  rw [Finset.sum_congr rfl fun c _ => owed_sum c, Finset.sum_congr rfl fun c _ => hp c, Finset.sum_add_distrib, Finset.sum_add_distrib, hB, hslots]

/-- The credit of two lists together splits into the credits of the lists. -/
theorem cred_app (l l' : List (Dev nD × CK)) : (cred (tal (l ++ l')) : sProp 𝕄) ⊢ iprop(cred (tal l) ∗ cred (tal l')) := by
  rw [tal_append]; exact (cred_add _ _).1
/-- The credits of four lists. -/
theorem cred_flat (f : Fin 4 → List (Dev nD × CK)) : (cred (tal ([0, 1, 2, 3].flatMap f)) : sProp 𝕄) ⊢ (bigSep Finset.univ fun s : Fin 4 => cred (tal (f s))) := by
  rw [four]
  simp only [List.flatMap_cons, List.flatMap_nil, List.append_nil]
  iintro H
  ihave H := (cred_app _ _) $$ H
  icases H with ⟨H0, H⟩
  ihave H := (cred_app _ _) $$ H
  icases H with ⟨H1, H⟩
  ihave H := (cred_app _ _) $$ H
  icases H with ⟨H2, H3⟩
  isplitl [H0]; · iexact H0
  isplitl [H1]; · iexact H1
  isplitl [H2]; · iexact H2
  iexact H3

/-- Every duty in a device's list of credits is on the device's own counters. -/
theorem paid_cell (c : Dev nD) : ∀ x ∈ paid c, x.1 = c := by
  intro x hx
  unfold paid at hx
  simp only [List.mem_append, List.mem_flatMap, List.mem_cons, List.not_mem_nil, or_false] at hx
  rcases hx with ((rfl | rfl | rfl | rfl | rfl) | ⟨s, -, h⟩) | ⟨s, -, k, -, rfl⟩
  · rfl
  · rfl
  · rfl
  · rfl
  · rfl
  · rw [List.mem_singleton.mp (mem_if h).2]
  · rfl

/-- What a device is credited at the start. -/
theorem creds (c : Dev nD) : (Pipeline.launchCred (fun d => tal (owed0 d)) c : sProp 𝕄) ⊢ bodyC c := by
  rw [Pipeline.launchCred_of_sum (fun d => tal (owed0 d)) (fun d => tal (paid d)) owed_paid (fun d g hg => by
    obtain ⟨u, hu⟩ := Finsupp.ne_iff.mp hg
    obtain ⟨x, hx, rfl⟩ := tal_pos (u := u) hu
    rw [paid_cell d x hx]) c]
  unfold paid bodyC
  have hbar : tal [(c, .bar), (c, .bar), (c, .bar), (c, .bar), (c, .bar)] = tallyAt (cell c .bar) () 5 := by
    show ((((0 + tallyAt (cell c .bar) () 1) + tallyAt (cell c .bar) () 1) + tallyAt (cell c .bar) () 1) + tallyAt (cell c .bar) () 1) + tallyAt (cell c .bar) () 1 = _
    rw [zero_add, tallyAt_add, tallyAt_add, tallyAt_add, tallyAt_add]
  have hzr : (bigSep Finset.univ fun s : Fin 4 => cred (tal (if s ≠ zc c then [(c, CK.zr s)] else []))) ⊢ iprop(gi (Has c 0 0) (crd (F := F) c (.zr (slot c 0 0))) ∗ gi (Has c 1 0) (crd (F := F) c (.zr (slot c 1 0))) ∗ gi (Has c 0 1) (crd (F := F) c (.zr (slot c 0 1))) ∗ gi (Has c 1 1) (crd (F := F) c (.zr (slot c 1 1))) ∗ gi (Has c 0 2) (crd (F := F) c (.zr (slot c 0 2))) ∗ gi (Has c 1 2) (crd (F := F) c (.zr (slot c 1 2)))) := by
    rw [reix c]
    have h : ∀ (d : Fin 2) (r : Fin 3), gi (Has c d r) (cred (tal (if slot c d r ≠ zc c then [(c, CK.zr (slot c d r))] else []))) ⊢ gi (Has c d r) (crd (F := F) c (.zr (slot c d r))) := by
      intro d r
      refine gi_mono fun hp => ?_
      rw [if_pos (slot_ne hp), tal_one]
      exact BI.Entails.refl _
    iintro ⟨-, H00, H10, H01, H11, H02, H12⟩
    isplitl [H00]
    · iapply (h 0 0); iexact H00
    isplitl [H10]
    · iapply (h 1 0); iexact H10
    isplitl [H01]
    · iapply (h 0 1); iexact H01
    isplitl [H11]
    · iapply (h 1 1); iexact H11
    isplitl [H02]
    · iapply (h 0 2); iexact H02
    iapply (h 1 2); iexact H12
  have hyr : (bigSep Finset.univ fun s : Fin 4 => cred (tal ([1, 2, 3].flatMap fun k : Fin 4 => [(c, CK.yr (pc c + k) s)]))) ⊢ iprop((bigSep Finset.univ fun s : Fin 4 => crd (F := F) c (.yr (pc c + 1) s)) ∗ (bigSep Finset.univ fun s : Fin 4 => crd (F := F) c (.yr (pc c + 2) s)) ∗ (bigSep Finset.univ fun s : Fin 4 => crd (F := F) c (.yr (pc c + 3) s))) := by
    rw [← bigSep_sep', ← bigSep_sep']
    refine bigSep_mono fun s _ => ?_
    show (cred (tal ([(c, CK.yr (pc c + 1) s)] ++ ([(c, CK.yr (pc c + 2) s)] ++ [(c, CK.yr (pc c + 3) s)]))) : sProp 𝕄) ⊢ iprop(crd c (.yr (pc c + 1) s) ∗ crd c (.yr (pc c + 2) s) ∗ crd c (.yr (pc c + 3) s))
    have h1 : ∀ x : Dev nD × CK, (cred (tal [x]) : sProp 𝕄) ⊢ crd x.1 x.2 := fun x => by rw [tal_one]; exact BI.Entails.refl _
    exact (cred_app _ _).trans (BI.sep_mono (h1 _) ((cred_app _ _).trans (BI.sep_mono (h1 _) (h1 _))))
  iintro H
  ihave H := (cred_app _ _) $$ H
  icases H with ⟨H, HY⟩
  ihave H := (cred_app _ _) $$ H
  icases H with ⟨HB, HZ⟩
  isplitl [HB]
  · iapply (Entails.of_eq (congrArg (fun t => (cred t : sProp 𝕄)) hbar)); iexact HB
  isplitl [HZ]
  · iapply hzr
    iapply (cred_flat fun s => if s ≠ zc c then [(c, CK.zr s)] else [])
    iexact HZ
  iapply hyr
  iapply (cred_flat fun s => [1, 2, 3].flatMap fun k : Fin 4 => [(c, CK.yr (pc c + k) s)])
  iexact HY

end Cert.Exchange

end
-- ==== Proof.Launch.lean ====
/-
The launch: what each device is given, the obligation of the kernel at its one grid point, and the run of the whole mesh.
-/
module

public import proofs.«01_k».proof.Proof.Deal
public import Idealize.ShloMosaic.Lib.Pipeline.FrameBody
public import Idealize.ShloMosaic.Lib.Pipeline.CollectiveSegs
public import Idealize.ShloMosaic.Lib.Pipeline.Quiescent

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option backward.proofsInPublic true

variable {F : FTy → Type} [FloatOps F]

local notation "𝕄" => MT nD τ sig Unit (Elt F) ℕ UU ℕ

variable (m : (ℓ : Loc nD τ sig) → Buf (Elt F) ℓ) (ρ : Dev nD → PrngReg)

/-- The memory at the launch, every counter at zero. -/
abbrev mem0 : MemSt nD τ sig (Elt F) := ⟨m, fun _ => 0, ρ⟩

/-! ## The kernel's own semaphores -/

/-- Every cell but the handshake's. -/
abbrev OwnK : Type := ((Fin 2 × Fin 4) ⊕ Fin 2) ⊕ (Fin 4 ⊕ ((Fin 4 × Fin 4) ⊕ (Fin 4 × Fin 4)))
/-- Each semaphore of the kernel's scratch is a counter of the schedule. -/
def ownK : OwnK → CK
  | .inl x => CK.equiv (.inl (.inr x))
  | .inr x => CK.equiv (.inr x)
/-- The kernel's own semaphores. -/
def osem (x : OwnK) : SemLoc sig := csem (ownK x)

/-- The kernel's scratch semaphores are those that the call allots. -/
theorem ownSemFacts : Pipeline.OwnSemFacts cfg0.spec osem := by decide +kernel

/-- The one semaphore outside the call is the handshake counter. -/
theorem unscopedSems0_one (c : Dev nD) : (unscopedSems0 c : sProp 𝕄) = Z c .bar := by
  unfold unscopedSems0; rw [bigSep_eq_bigSepL_of_eq [SemLoc.reg barS] (by decide) (by decide)]; rfl

/-- The scratch semaphores at zero are the counters of the schedule at zero. -/
theorem own_two (c : Dev nD) : (Pipeline.ownSems0 (Ix := Unit) (Name := ℕ) (U := UU) (Lvl := ℕ) (Val := Elt F) (τ := τ) osem c : sProp 𝕄)
    = iprop((bigSep Finset.univ fun x => Z c (CK.equiv (.inl (.inr x)))) ∗ (bigSep Finset.univ fun x => Z c (CK.equiv (.inr x)))) := by
  unfold Pipeline.ownSems0
  rw [bigSep_univ_sum]
  rfl

/-- All counters at zero: the handshake counter and the scratch semaphores. -/
theorem z_three (c : Dev nD) : (bigSep Finset.univ fun k : CK => Z (F := F) c k)
    = iprop((Z c .bar ∗ (bigSep Finset.univ fun x => Z c (CK.equiv (.inl (.inr x))))) ∗ (bigSep Finset.univ fun x => Z c (CK.equiv (.inr x)))) := by
  rw [bigSep_univ_equiv CK.equiv, bigSep_univ_sum, bigSep_univ_sum]
  have h1 : (bigSep Finset.univ fun a : Unit => Z (F := F) c (CK.equiv (.inl (.inl a)))) = Z c .bar := by
    rw [Finset.univ_unique, bigSep_singleton]; rfl
  rw [h1]
  rfl

/-- The counters of the kernel's own semaphores and of the handshake's are those of the cells. -/
theorem sems_in (c : Dev nD) : iprop(Pipeline.ownSems0 (Ix := Unit) (Name := ℕ) (U := UU) (Lvl := ℕ) (Val := Elt F) (τ := τ) osem c ∗ unscopedSems0 c)
    ⊢ (bigSep Finset.univ fun k : CK => Z c k : sProp 𝕄) := by
  rw [own_two, unscopedSems0_one, z_three]
  iintro ⟨⟨A, B⟩, C⟩
  isplitl [C A]
  · isplitl [C]; · iexact C
    iexact A
  iexact B
/-- All counters at zero are given back as the call took them. -/
theorem sems_out (c : Dev nD) : (bigSep Finset.univ fun k : CK => Z c k : sProp 𝕄)
    ⊢ iprop(unscopedSems0 c ∗ Pipeline.ownSems0 (Ix := Unit) (Name := ℕ) (U := UU) (Lvl := ℕ) (Val := Elt F) (τ := τ) osem c) := by
  rw [own_two, unscopedSems0_one, z_three]
  iintro ⟨⟨C, A⟩, B⟩
  isplitl [C]; · iexact C
  isplitl [A]; · iexact A
  iexact B

/-! ## The cells and the rights -/

/-- Different counters of different devices are different semaphores. -/
theorem cell_inj : Function.Injective (fun x : Dev nD × CK => cell x.1 x.2) := by
  rintro ⟨c, k⟩ ⟨c', k'⟩ h
  have h1 : c = c' := congrArg (fun g : GSem nD τ sig => g.1.1) h
  have h2 : k = k' := csem_inj (congrArg Prod.snd h)
  rw [h1, h2]
/-- All counters of the mesh. -/
def cellSet : Finset (GSem nD τ sig) := Finset.univ.map ⟨_, cell_inj⟩

/-- The token of a counter's round and duty. -/
abbrev tokOf (x : Dev nD × CK × Fin 2 × Fin 5) : GSem nD τ sig × ℕ × Fin 5 := (cell x.1 x.2.1, x.2.2.1.val, x.2.2.2)
/-- Different duties have different tokens. -/
theorem tokOf_inj : Function.Injective tokOf := by
  rintro ⟨c, k, r, d⟩ ⟨c', k', r', d'⟩ h
  have h1 := cell_inj (a₁ := (c, k)) (a₂ := (c', k')) (congrArg Prod.fst h)
  have h2 : r = r' := Fin.ext (congrArg (fun x : GSem nD τ sig × ℕ × Fin 5 => x.2.1) h)
  have h3 : d = d' := congrArg (fun x : GSem nD τ sig × ℕ × Fin 5 => x.2.2) h
  obtain ⟨rfl, rfl⟩ := Prod.mk.inj h1
  rw [h2, h3]
/-- The tokens of all duties. -/
def tokSet : Finset (GSem nD τ sig × ℕ × Fin 5) := Finset.univ.map ⟨tokOf, tokOf_inj⟩

/-- The ghost state at the launch: the call's own and the schedule's. -/
def u₀ : UU := (initOf (Pipeline.cells cfgs cellOf_inj) (Pipeline.launchToks cfgs cellOf_inj), initOf cellSet tokSet)

/-- What the launch deals a device. -/
def G (c : Dev nD) : sProp 𝕄 := iprop((bigSep Finset.univ fun k : CK => roundState ER (rd m) (cell c k) 0)
  ∗ (bigSep Finset.univ fun k : CK => atp c k 0) ∗ (bigSep Finset.univ fun k : CK => reached ER (cell c k) 0) ∗ toks c)
/-- What the global step makes of it. -/
def G' (c : Dev nD) : sProp 𝕄 := iprop(∃ K, (recsI m K ∗ recsR) ∗ (bigSep Finset.univ fun k : CK => atp c k 0) ∗ bodyT c)

/-- The schedule's ghost state at the launch gives every counter its share. -/
theorem fund_cells : BI.own (ER (initOf cellSet tokSet)) ⊢ (|==> bigSep Finset.univ (G m) : sProp 𝕄) := by
  have hX (Φ : GSem nD τ sig → sProp 𝕄) : bigSep cellSet Φ = bigSep Finset.univ fun c : Dev nD => bigSep Finset.univ fun k : CK => Φ (cell c k) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]
    exact bigSep_congr fun c _ => by unfold toks; rw [bigSep_univ_prod]; rfl
  have hG : (bigSep Finset.univ (G m) : sProp 𝕄) = iprop((bigSep Finset.univ fun c : Dev nD => bigSep Finset.univ fun k : CK => roundState ER (rd m) (cell c k) 0)
      ∗ (bigSep Finset.univ fun c : Dev nD => bigSep Finset.univ fun k : CK => atPos ER (cell c k) 0 ∅ 0)
      ∗ (bigSep Finset.univ fun c : Dev nD => bigSep Finset.univ fun k : CK => reached ER (cell c k) 0) ∗ bigSep Finset.univ fun c : Dev nD => toks c) := by
    rw [← bigSep_sep', ← bigSep_sep', ← bigSep_sep']; rfl
  rw [hG]
  iintro HX
  imod (Rounds.fund ER (rd m) cellSet tokSet) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  isplitl [Hst']; · iexact Hst'
  isplitl [Hat']; · iexact Hat'
  isplitl [Hr']; · iexact Hr'
  iexact Htok'

/-- One device's cells, made invariants. -/
theorem dev_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (rd m) κ (cell c k)))
          ∗ (bigSep Finset.univ fun k : CK => atp c k 0) ∗ (bigSep Finset.univ fun k : CK => reached ER (cell c k) 0) ∗ toks c) := by
  unfold G
  iintro ⟨Hos, Hus, Hst, Hat, Hr, Htok⟩
  ihave Hv := (sems_in (F := F) c) $$ [Hos Hus]
  · isplitl [Hos] <;> iassumption
  imod (show iprop((bigSep Finset.univ fun k : CK => Z c k) ∗ bigSep Finset.univ fun k : CK => roundState ER (rd m) (cell c k) 0)
      ⊢ (|={Set.univ}=> bigSep Finset.univ fun k : CK => iprop(∃ κ : ℕ, cellInv ER (rd m) κ (cell c k)) : sProp 𝕄) from by
        rw [← bigSep_sep']
        exact (bigSep_mono fun k _ => (Rounds.body_intro ER (rd m) (cell c k)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- What persists goes to every summand. -/
theorem with_records {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-- The shares of the counters are handed to the devices that use them. -/
theorem share_out :
    (bigSep Finset.univ fun c : Dev nD => iprop((bigSep Finset.univ fun k : CK => iprop(∃ κ : ℕ, cellInv ER (rd m) κ (cell c k)))
          ∗ (bigSep Finset.univ fun k : CK => atp c k 0) ∗ (bigSep Finset.univ fun k : CK => reached ER (cell c k) 0) ∗ toks c) : sProp 𝕄)
      ⊢ bigSep Finset.univ (G' m) := by
  rw [bigSep_sep', bigSep_sep', bigSep_sep', ← bigSep_univ_prod (fun x : Dev nD × CK => iprop(∃ κ : ℕ, cellInv ER (rd m) κ (cell x.1 x.2))),
    ← bigSep_univ_prod (fun x : Dev nD × CK => (reached ER (cell x.1 x.2) 0 : sProp 𝕄))]
  iintro ⟨HI, Hat, #HR, Htok⟩
  ihave HK := (BI.bigSep_exists_pi Finset.univ (fun (x : Dev nD × CK) (κ : ℕ) => (cellInv ER (rd m) κ (cell x.1 x.2) : sProp 𝕄))) $$ HI
  icases HK with ⟨%K, #HI⟩
  ihave Htk := (deal (F := F)) $$ Htok
  iapply (with_records (R := iprop(recsI m K ∗ recsR)) (Φ := fun c => iprop((bigSep Finset.univ fun k : CK => atp c k 0) ∗ bodyT c)) fun c _ =>
    show iprop((recsI m K ∗ recsR) ∗ ((bigSep Finset.univ fun k : CK => atp c k 0) ∗ bodyT c)) ⊢ G' m c from by
      unfold G'
      iintro H
      iexists K
      iexact H) $$ [Hat Htk]
  isplitr
  · unfold recsI recsR
    isplitl; · iexact HI
    iexact HR
  · iapply (bs2 Finset.univ (fun c : Dev nD => bigSep Finset.univ fun k : CK => atp (F := F) c k 0) bodyT)
    isplitl [Hat]; · iexact Hat
    iexact Htk

/-- The global step. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => dev_alloc m c).trans (bigSep_fupd _ _)).trans (BI.fupd_mono (share_out m))

/-- A cell that is not used is closed before the kernel starts. -/
theorem close_unused (K : Dev nD × CK → ℕ) (c : Dev nD) : iprop(recs m K ∗ bigSep Finset.univ fun k : CK => atp c k 0) ⊢ iprop(|={Set.univ}=> bigSep Finset.univ fun k : CK => AV c k) := by
  refine (with_records (Ψ := fun k : CK => iprop(|={Set.univ}=> AV c k)) fun k _ => ?_).trans (bigSep_fupd _ _)
  by_cases hv : valid c k
  · rw [AV_pos hv]
    iintro ⟨-, H⟩
    imodintro
    iexact H
  · rw [AV_neg hv]
    exact fin_cell m K k fun r' _ => dut_invalid c k hv r'

/-! ## The proof data -/

/-- What a device holds at the start, its scratch buffers apart. -/
def start (c : Dev nD) : sProp 𝕄 := iprop(∃ K, recs m K ∗ (bigSep Finset.univ fun k : CK => AV c k) ∗ bodyT c ∗ bodyC c ∗ blk c wM fullShare.left (wA m c))
/-- The scratch buffers, at any contents. -/
def scr (c : Dev nD) : sProp 𝕄 := iprop(blkE c xgM ∗ blkE c stM ∗ blkE c w8M ∗ blkE c ybM ∗ blkE c yrM)
/-- What a device holds before the body, beside its windows. -/
def Φ₀ (c : Dev nD) : sProp 𝕄 := iprop(start m c ∗ scr c)
/-- What a device holds after the body, beside its windows. -/
def Φ₁ (c : Dev nD) : sProp 𝕄 := iprop((bigSep Finset.univ fun k : CK => Z c k) ∗ scr c)

/-- The windows of the one call: what they hold before and after the body. -/
def dats (_ : Fin 1) (c : Dev nD) : Dat τ (Elt F) Unit ℕ UU ℕ cfg0 c where
  A w := (mem0 m ρ).mem ((cfg0.win w).arr.view.loc (c : Thread nD τ))
  after w _ := match w with
    | ⟨0, _⟩ => xA m c
    | ⟨1, _⟩ => scA m c
    | ⟨2, _⟩ => scB m c
    | ⟨3, _⟩ => OUT m c
  Φ t := match t with
    | ⟨0, _⟩ => Φ₀ m c
    | ⟨_ + 1, _⟩ => Φ₁ c
  q _ := fullShare
  owed t := match t with
    | ⟨0, _⟩ => tal (owed0 c)
    | ⟨_ + 1, _⟩ => 0

/-- Every window is owned whole. -/
theorem share_eq (c : Dev nD) (w : Fin cfg0.W) : (dats m ρ 0 c).share w = fullShare := by unfold Dat.share; split <;> rfl

/-- A whole buffer with unknown contents. -/
theorem blkE_whole (c : Dev nD) (b : Ref sig .tc) : blkE (F := F) c (Memref.whole b) = iprop(∃ f : Buf (Elt F) ((c : Thread nD τ).loc b), ((c : Thread nD τ).loc b) ↦{fullShare} f) := by
  unfold blkE blk
  simp only [owns_whole]
/-- The call's scratch buffers are the schedule's. -/
theorem scr_eq (c : Dev nD) : (Pipeline.scopedRest (Ix := Unit) (Name := ℕ) (U := UU) (Lvl := ℕ) (Val := Elt F) cfg0.spec c : sProp 𝕄) = scr c := by
  refine (scopedRest0_eq c).trans ?_
  unfold scr
  rw [blkE_whole c cc0_scratch0, blkE_whole c cc0_scratch1, blkE_whole c cc0_scratch2, blkE_whole c cc0_scratch3, blkE_whole c cc0_scratch4]

/-- What the body starts from, with its windows. -/
def bodyPre (c : Dev nD) : sProp 𝕄 := iprop(Φ₀ m c ∗ (dats m ρ 0 c).owesAt () t0_0.castSucc
  ∗ (∃ d, blk c xM fullShare ((dats m ρ 0 c).before (0 : Fin 4) t0_0 d))
  ∗ (∃ d, blk c sxM fullShare ((dats m ρ 0 c).before (1 : Fin 4) t0_0 d))
  ∗ (∃ d, blk c swM fullShare ((dats m ρ 0 c).before (2 : Fin 4) t0_0 d))
  ∗ (∃ d, blk c oM fullShare ((dats m ρ 0 c).before (3 : Fin 4) t0_0 d)))
/-- What the body ends with, with its windows. -/
def bodyPost (c : Dev nD) : sProp 𝕄 := iprop(Φ₁ c ∗ (dats m ρ 0 c).owesAt () t0_0.succ
  ∗ blk c xM fullShare (xA m c) ∗ blk c sxM fullShare (scA m c) ∗ blk c swM fullShare (scB m c) ∗ blk c oM fullShare (OUT m c))

/-- The first window holds the device's rows of `x`. -/
theorem before0 (c : Dev nD) (d) : (dats m ρ 0 c).before (0 : Fin 4) t0_0 d = xA m c := by
  unfold Dat.before; rw [if_pos (fetch0_0 t0_0)]; rfl
/-- The second window holds the scale of `x`. -/
theorem before1 (c : Dev nD) (d) : (dats m ρ 0 c).before (1 : Fin 4) t0_0 d = scA m c := by
  unfold Dat.before; rw [if_pos (fetch0_1 t0_0)]; rfl
/-- The third window holds the scale of the weights. -/
theorem before2 (c : Dev nD) (d) : (dats m ρ 0 c).before (2 : Fin 4) t0_0 d = scB m c := by
  unfold Dat.before; rw [if_pos (fetch0_2 t0_0)]; rfl

/-- The body, from what the call gives it to what the call takes back. -/
theorem run_body (c : Dev nD) : bodyPre m ρ c ⊢ WP c (cc0_body (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) (fun _ => bodyPost m ρ c) := by
  unfold bodyPre Φ₀ start scr Dat.owesAt Pipeline.owesWithin
  rw [show (dats m ρ 0 c).owed t0_0.castSucc = tal (owed0 c) from rfl]
  iintro ⟨⟨⟨%K, #HR, HAV, HT, HC, Hw⟩, Hxg, Hst, Hw8, Hyb, Hyr⟩, ⟨%W, %hW, HO⟩, ⟨%d0, Hx⟩, ⟨%d1, Hsx⟩, ⟨%d2, Hsw⟩, ⟨%d3, Ho⟩⟩
  rw [before0, before1, before2]
  iapply (body m K (c := c) (Q := fun _ => bodyPost m ρ c)) $$ [HAV HT HC Hw Hxg Hst Hw8 Hyb Hyr HO Hx Hsx Hsw Ho]
  · isplitr; · iexact HR
    isplitl [HAV]; · iexact HAV
    isplitl [HT]; · iexact HT
    isplitl [HC]; · iexact HC
    isplitr [HO]
    · unfold bodyM
      isplitl [Hx]; · iexact Hx
      isplitl [Hsx]; · iexact Hsx
      isplitl [Hsw]; · iexact Hsw
      isplitl [Hw]; · iexact Hw
      isplitl [Ho]
      · unfold blkE
        iexists _
        iexact Ho
      isplitl [Hxg]; · iexact Hxg
      isplitl [Hst]; · iexact Hst
      isplitl [Hw8]; · iexact Hw8
      isplitl [Hyb]; · iexact Hyb
      iexact Hyr
    · unfold owesL
      iexists W
      iexact HO
  iintro ⟨HZ, HM, HO⟩
  unfold bodyPost Φ₁ scr bodyR owesL Dat.owesAt Pipeline.owesWithin
  icases HM with ⟨Hx, Hsx, Hsw, Ho, Hxg, Hst, Hw8, Hyb, Hyr⟩
  icases HO with ⟨%W', HO⟩
  isplitl [HZ Hxg Hst Hw8 Hyb Hyr]
  · isplitl [HZ]; · iexact HZ
    isplitl [Hxg]; · iexact Hxg
    isplitl [Hst]; · iexact Hst
    isplitl [Hw8]; · iexact Hw8
    isplitl [Hyb]; · iexact Hyb
    iexact Hyr
  isplitl [HO]
  · iexists W'
    isplitr; · ipureintro; exact fun _ _ => Or.inl trivial
    rw [show (dats m ρ 0 c).owed t0_0.succ = tal [] from rfl]
    iexact HO
  isplitl [Hx]; · iexact Hx
  isplitl [Hsx]; · iexact Hsx
  isplitl [Hsw]; · iexact Hsw
  iexact Ho

set_option maxRecDepth 4000 in
/-- The body as the call's pipeline asks for it. -/
theorem body_obligation (c : Dev nD) : BodyObligation (dats (F := F) m ρ 0 c) (defs₀ (F := F)) 𝒱₀ () Set.univ := fun t => by
  rw [fin_N0 t]
  rw [bigSep_W0, bigSep_W0]
  show bodyPre m ρ c ⊢ WP c (cc0_body (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) (fun _ => bodyPost m ρ c)
  exact run_body m ρ c

/-! ## The launch -/

/-- The weights' contents as a share of the whole array. -/
def wHalf (c : Dev nD) (q : PosShare TreeShare) : sProp 𝕄 := iprop(((c : Thread nD τ).loc main_arg1) ↦{q} (m ((c : Thread nD τ).loc main_arg1)))

/-- From the launch: the ghost state, the half share of the weights and the credits make the start. -/
theorem start_intro (c : Dev nD) :
    iprop(Pipeline.unscopedRestP Pipeline.Prefetch.none cfg0.spec c (fun b => m ((c : Thread nD τ).loc b)) ∗ levAts L lv
        ∗ Pipeline.launchCred (fun d => tal (owed0 d)) c ∗ prngReg c (ρ c) ∗ G' m c)
      ⊢ |={Set.univ}=> iprop(start m c ∗ wHalf m c fullShare.right) := by
  rw [Pipeline.unscopedRestP_none, show (Pipeline.unscopedRest (Ix := Unit) (Name := ℕ) (U := UU) (Lvl := ℕ) cfg0.spec c (fun b => m ((c : Thread nD τ).loc b)) : sProp 𝕄) = wHalf m c fullShare from unscopedRest0_eq c _]
  have hw : wHalf m c fullShare ⊢ iprop(blk c wM fullShare.left (wA m c) ∗ wHalf m c fullShare.right) := by
    have h := blk_halve (c := c) wM (PosShare.mem_left_op_right fullShare) (wA m c)
    unfold blk at h ⊢
    rw [owns_whole, owns_whole, owns_whole] at h
    rw [owns_whole]
    exact h
  unfold G' start
  iintro ⟨Hw, #Hlev, Hcr, -, ⟨%K, ⟨#HI, #HR⟩, Hat, HT⟩⟩
  ihave Hw := hw $$ Hw
  icases Hw with ⟨Hw, Hw'⟩
  ihave Hc := (creds (F := F) c) $$ Hcr
  imod (close_unused m K c) $$ [Hat] with HA
  · isplitr
    · unfold recs
      isplitr; · iexact HI
      isplitr; · iexact HR
      iexact Hlev
    iexact Hat
  imodintro
  isplitr [Hw']
  · iexists K
    isplitr
    · unfold recs
      isplitr; · iexact HI
      isplitr; · iexact HR
      iexact Hlev
    isplitl [HA]; · iexact HA
    isplitl [HT]; · iexact HT
    isplitl [Hc]; · iexact Hc
    iexact Hw
  iexact Hw'

/-- The start and the scratch make what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs]; · iexact Hs
  iexact Hr

/-- After the body the counters and the scratch are given back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq]
  unfold Φ₁
  iintro ⟨HZ, Hr⟩
  ihave HZ := (sems_out (F := F) c) $$ HZ
  icases HZ with ⟨HA, HB⟩
  isplitl [HA]; · iexact HA
  isplitl [HB]; · iexact HB
  iexact Hr

/-- The call's own staging semaphores are at the lowest level. -/
theorem stage_lev (c : Dev nD) (w : Fin cfg0.W) (s : Fin (cfg0.win w).nbuf) : lv ((c : Thread nD τ), .dma ((cfg0.win w).sem s)) () = 0 := by
  have h : ∀ (w : Fin cfg0.W) (s : Fin (cfg0.win w).nbuf), ckOf (.dma ((cfg0.win w).sem s)) = none := by decide +kernel
  show (match ckOf (.dma ((cfg0.win w).sem s)) with | some k => lvk c k | none => 0) = 0
  rw [h w s]

/-- The call's own waits are allowed. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (stage_lev c w s) (owed0 c) (lev_owed0 c)
    · exact mayWait c _ 0 (stage_lev c w s) [] (fun _ h => absurd h List.not_mem_nil)

/-! ## The run -/

/-- Every final state: the windows' arrays as computed, the weights unchanged. -/
def QC : PUnit × MemSt nD τ sig (Elt F) → Prop := fun r => ∀ c : Dev nD,
  (∀ w : Fin cfg0.W, r.2.mem ((cfg0.win w).arr.view.loc (c : Thread nD τ)) = (dats m ρ 0 c).arrAt w cfg0.N)
  ∧ r.2.mem ((c : Thread nD τ).loc main_arg1) = m ((c : Thread nD τ).loc main_arg1)

/-- The weights are unchanged at the end, read from the half share kept aside. -/
theorem w_read (c : Dev nD) (s' : Phys nD τ sig (Elt F)) :
    iprop(wHalf m c fullShare.right ∗ SI s') ⊢ (iprop(⌜s'.mem.mem ((c : Thread nD τ).loc main_arg1) = m ((c : Thread nD τ).loc main_arg1)⌝ ∗ SI s') : sProp 𝕄) := by
  unfold wHalf
  iintro ⟨H, HS⟩
  icombine HS H gives %hh
  isplitr; · ipureintro; exact Buf.eq_of_forall_mem_univ hh
  iexact HS

set_option maxRecDepth 8000 in
/-- From any memory with zero counters every fair execution of the program ends, its arrays as `QC` says and every semaphore counter at zero. -/
theorem run_main : θ_run defs (onTc (τ := τ) (main (F := F))) (mem0 m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => tal (owed0 d)) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun c => wHalf m c fullShare.right)
    (hX := start_intro m ρ) (hin := phi0_intro m ρ) (hout := phi1_exit m ρ)
    (QY := fun c s => (∀ sm : SemLoc sig, sm.isScoped .tc = false → s.sem ((c.tc : Thread nD τ), sm) = 0) ∧ s.mem ((c : Thread nD τ).loc main_arg1) = m ((c : Thread nD τ).loc main_arg1))
    (hY := fun c s' => by
      iintro ⟨Hu, Hw, HSI⟩
      ihave H := (w_read m c s') $$ [Hw HSI]
      · isplitl [Hw] <;> iassumption
      icases H with ⟨%hw, HSI⟩
      imod (Pipeline.unscopedSems0_read (X := unscopedSems0 c) (c := c) fupd_intro s') $$ [Hu HSI] with H
      · isplitl [Hu] <;> iassumption
      icases H with ⟨%hu, HSI⟩
      imodintro
      isplitr; · ipureintro; exact ⟨hu, hw⟩
      iexact HSI)
    (hQ := fun _ h hs => ⟨fun c => ⟨fun w => (h c).1 w, (h c).2.2.2⟩, sem_eq_zero hs fun c => (h c).2.2.1⟩)

end Cert.Exchange

end
-- ==== Proof.Final.lean ====
/-
What the run leaves in the arrays: the result as computed, the arguments unchanged.
-/
module

public import proofs.«01_k».proof.Proof.Launch
public import Idealize.ShloMosaic.Lib.Pipeline.ValueKit

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

variable (m : (ℓ : Loc nD τ sig) → Buf (Elt F) ℓ) (ρ : Dev nD → PrngReg)

/-- The result array is written once, whole. -/
theorem arr_out (c : Dev nD) : (dats m ρ 0 c).arrAt (3 : Fin 4) cfg0.N = OUT m c :=
  (dats m ρ 0 c).arrAt_eq_of_after_last (3 : Fin 4) t0_0 (by decide +kernel) (OUT m c) (fun j => rfl) (arr_whole0 3)

/-- The run: the result of every device, its arguments, and the counters. -/
theorem run_out : θ_run defs (onTc (τ := τ) (main (F := F))) ⟨m, fun _ => 0, ρ⟩ (fun r => (∀ c : Dev nD,
      r.2.mem ((c : Thread nD τ).loc main_v1) = OUT m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun _ h => ⟨fun c => ⟨((h.1 c).1 (3 : Fin 4)).trans (arr_out m ρ c),
      ((h.1 c).1 (0 : Fin 4)).trans ((dats m ρ 0 c).arrAt_in (0 : Fin 4) rfl _), (h.1 c).2,
      ((h.1 c).1 (1 : Fin 4)).trans ((dats m ρ 0 c).arrAt_in (1 : Fin 4) rfl _),
      ((h.1 c).1 (2 : Fin 4)).trans ((dats m ρ 0 c).arrAt_in (2 : Fin 4) rfl _)⟩, h.2⟩) (run_main m ρ)

end Cert.Exchange

end
-- ==== Proof.Same.lean ====
/- The kernel's two printed programs, one for either reading of the floats, are the same program. -/
module

public import proofs.«01_k».proof.Proof.Gen.Kernel
public import proofs.«01_k».proof.Proof.Gen.KernelIdeal

@[expose] public section

namespace Cert.Same

open Idealize.ShloMosaic

variable {F : FTy → Type} [FloatOps F]

attribute [local instance] Cert.Kernel.Gen.facts Cert.KernelIdeal.Gen.facts

set_option maxHeartbeats 1000000 in
/-- The bodies of the one call agree. -/
theorem body_eq : @Cert.Kernel.defs₀ F _ _ = @Cert.KernelIdeal.defs₀ F _ _ := by
  unfold Cert.Kernel.defs₀ Cert.KernelIdeal.defs₀
  refine congrArg (Defs.onTc (nD := 16)) ?_
  funext l x
  match l, x with
  | 0, (t, s) => rfl

set_option maxHeartbeats 1000000 in
/-- The body tables, with the call's pipeline, agree. -/
theorem defs_eq : @Cert.Kernel.defs F _ _ = @Cert.KernelIdeal.defs F _ _ :=
  congrArg (Pipeline.defs (Cert.KernelIdeal.pcfgs (F := F))) body_eq

end Cert.Same
-- ==== Proof.Values.lean ====
/-
What the blocks hold over the extended reals: every element of every result block is the scaled and
clipped SiLU of the product of a row of `x` with a column of the weights.
-/
module

public import proofs.«01_k».proof.Proof.Vals
public import Idealize.ShloMosaic.Lib.MatmulPlain
public import Idealize.ShloMosaic.PureOps.Ideal.Laws

@[expose] public section

noncomputable section

namespace Cert.Exchange

open Cert.KernelIdeal Cert.KernelIdeal.Gen
open Idealize.ShloMosaic
open Idealize.ShloMosaic.TcCoe
open Idealize.ShloMosaic.ValueIdx
open scoped BigOperators

set_option backward.proofsInPublic true

/-! ## The function of one element -/

/-- The lower end of the clip. -/
abbrev lo : EReal := Ideal.ofBits .f32 0xC2700000#32
/-- The upper end of the clip. -/
abbrev hi : EReal := Ideal.ofBits .f32 0x42700000#32
/-- `y` times the logistic function of `y` clipped: what the kernel computes of a scaled sum. -/
def silu (y : EReal) : EReal := y * Ideal.logistic (min hi (max lo y))

/-- An exponential is not negative. -/
theorem exp_nonneg (x : EReal) : 0 ≤ Ideal.exp x := by
  induction x with
  | bot => exact le_of_eq Ideal.exp_bot.symm
  | top => exact le_top
  | coe r => exact EReal.coe_nonneg.mpr (Real.exp_pos r).le

/-- One plus an exponential is not zero. -/
theorem one_add_exp_ne (x : EReal) : 1 + Ideal.exp x ≠ 0 := by
  have h : (1 : EReal) ≤ 1 + Ideal.exp x := le_add_of_nonneg_right (exp_nonneg x)
  exact fun h0 => absurd (h0 ▸ h) (not_le.mpr zero_lt_one)

/-- The same function as the reference writes it: a quotient by one plus an exponential. -/
theorem silu_eq (y : EReal) : silu y = Ideal.div y (1 + Ideal.exp (-(min hi (max lo y)))) := by
  have h := one_add_exp_ne (-(min hi (max lo y)))
  unfold silu Ideal.logistic Ideal.div
  rw [if_neg h, if_neg h, one_mul]

/-! ## The payloads at an element -/

/-- A shape cast to the same shape changes nothing. -/
theorem cast_same {s : Shape} {α : Type} (x : s.Idx → α) (h : s.ShapeCasts s) : shapeCast s x h = x :=
  funext fun j => congrArg x (Shape.reshapeEquiv_self _ j)

/-- A block's product, scaled, at row `a` and column `b`. -/
theorem pay16_apply (s : Ideal .f32) (x : Vec Ideal S256x4096 .fp8e4m3) (w : Vec Ideal S4096x512 .fp8e4m3) (a : Fin 256) (b : Fin 512) :
    k0_pay16 s x w (ix2 a b) = silu ((∑ k : Fin 4096, (x (ix2 a k) : EReal) * (w (ix2 k b) : EReal)) * (s : EReal)) := by
  have hm : FloatOps.matmul (F := Ideal) dot_S256x4096_S4096x512_S256x512_1_0_0_1_n_n none x w (constant S256x512 .f32 0x00000000#32) (ix2 a b)
      = ∑ k : Fin 4096, (x (ix2 a k) : EReal) * (w (ix2 k b) : EReal) :=
    (Ideal.matmul_plain_apply (M := 256) (K := 4096) (N := 512) none x w _ a b).trans (by
      show Ideal.ofBits .f32 0x00000000#32 + _ = _
      rw [Ideal.ofBits_zero_f32, zero_add])
  rw [← hm]
  rfl

/-- A row slot's product, scaled, at row `a` and column `b`. -/
theorem pay1_apply (s : Ideal .f32) (x : Vec Ideal S256x4096 .fp8e4m3) (w : Vec Ideal S4096x2048 .fp8e4m3) (a : Fin 256) (b : Fin 2048) :
    k0_pay1 s x w (ix2 a b) = silu ((∑ k : Fin 4096, (x (ix2 a k) : EReal) * (w (ix2 k b) : EReal)) * (s : EReal)) := by
  have hm : FloatOps.matmul (F := Ideal) dot_S256x4096_S4096x2048_S256x2048_1_0_0_1_n_n none x w (constant S256x2048 .f32 0x00000000#32) (ix2 a b)
      = ∑ k : Fin 4096, (x (ix2 a k) : EReal) * (w (ix2 k b) : EReal) :=
    (Ideal.matmul_plain_apply (M := 256) (K := 4096) (N := 2048) none x w _ a b).trans (by
      show Ideal.ofBits .f32 0x00000000#32 + _ = _
      rw [Ideal.ofBits_zero_f32, zero_add])
  rw [← hm]
  unfold k0_pay1
  rw [cast_same]
  rfl

variable (m : (ℓ : Loc nD τ sig) → Buf (Elt Ideal) ℓ)

/-- Device `d`'s rows of `x` at the launch. -/
def xF (d : Dev nD) : S256x4096.Idx → EReal := m ((d : Thread nD τ).loc main_arg0)
/-- Device `d`'s weights at the launch. -/
def wF (d : Dev nD) : S4096x8192.Idx → EReal := m ((d : Thread nD τ).loc main_arg1)
/-- Device `d`'s scale of `x` at the launch. -/
def aF (d : Dev nD) : S1.Idx → EReal := m ((d : Thread nD τ).loc main_arg2)
/-- Device `d`'s scale of the weights at the launch. -/
def bF (d : Dev nD) : S1.Idx → EReal := m ((d : Thread nD τ).loc main_arg3)

/-- The staged block of `x` is the whole argument. -/
theorem xA_eq (d : Dev nD) (i : S256x4096.Idx) : (xA m d i : EReal) = xF m d i := by
  refine congrArg (xF m d) ?_
  funext a
  apply Fin.ext
  fin_cases a
  · show 0 + 1 * (i 0).val = (i 0).val
    omega
  · show 0 + 1 * (i 1).val = (i 1).val
    omega

/-- A scale has one index. -/
theorem scale_ix (i j : S1.Idx) : i = j := by
  funext a
  have h1 : (i a).val < 1 := by fin_cases a; exact (i 0).isLt
  have h2 : (j a).val < 1 := by fin_cases a; exact (j 0).isLt
  apply Fin.ext
  omega

/-- The product of the scales. -/
theorem sc_eq (c : Dev nD) (i : S1.Idx) :
    (sc m c : EReal) = aF m c i * bF m c i :=
  congrArg₂ (· * ·) (congrArg (aF m c) (scale_ix _ i)) (congrArg (bF m c) (scale_ix _ i))

/-- What travels of `x` is `x`. -/
theorem XB_eq (d : Dev nD) (i : S256x4096.Idx) : (XB m d i : EReal) = xF m d i := by
  rw [← xA_eq m d i]
  unfold XB k0_pay14
  rw [cast_same, cast_same]
  rfl

/-- The column of the weights at which column `b` of chunk `q` of device `c`'s plane lies. -/
abbrev wcol (z q : Fin 4) (b : Fin 512) : Fin 8192 := ⟨2048 * z.val + 512 * q.val + b.val, by omega⟩

/-- A chunk of the weights is where it was read from. -/
theorem wC_eq (c : Dev nD) (q : Fin 4) (k : Fin 4096) (b : Fin 512) :
    (wC m c q (ix2 k b) : EReal) = wF m c (ix2 k (wcol (zc c) q b)) := by
  refine congrArg (wF m c) ?_
  funext a
  apply Fin.ext
  fin_cases a
  · show 0 + 1 * k.val = k.val
    omega
  · show 2048 * (zc c).val + 512 * q.val + 1 * b.val = 2048 * (zc c).val + 512 * q.val + b.val
    omega

/-- The narrowed chunk is the chunk. -/
theorem wB_eq (c : Dev nD) (q : Fin 4) (j : S4096x512.Idx) : (wB m c q j : EReal) = (wC m c q j : EReal) := by
  unfold wB k0_pay15
  rw [cast_same]
  show wC m c q (Shape.reshapeEquiv _ (Shape.reshapeEquiv _ j)) = wC m c q j
  rw [Shape.reshapeEquiv_reshapeEquiv, Shape.reshapeEquiv_self]

/-- The sum for row `a` of device `e`'s `x` and column `n` of the weights on device `c`. -/
def dot (e c : Dev nD) (a : Fin 256) (n : Fin 8192) : EReal :=
  ∑ k : Fin 4096, xF m e (ix2 a k) * wF m c (ix2 k n)

/-- A block of a device's own rows. -/
theorem CH_apply (c : Dev nD) (q : Fin 4) (a : Fin 256) (b : Fin 512) :
    (CH m c q (ix2 a b) : EReal) = silu (dot m c c a (wcol (zc c) q b) * (sc m c : EReal)) := by
  unfold CH dot
  rw [pay16_apply]
  refine congrArg (fun s => silu (s * (sc m c : EReal))) (Finset.sum_congr rfl fun k _ => ?_)
  rw [XB_eq, wB_eq, wC_eq]

/-- The same block narrowed. -/
theorem CHb_apply (c : Dev nD) (q : Fin 4) (j : S256x512.Idx) : (CHb m c q j : EReal) = (CH m c q j : EReal) := by
  unfold CHb k0_pay18
  rw [cast_same]
  rfl

/-- Where column `b` of column block `q` of a row slot lies. -/
theorem colR_emb (q : Fin 4) (a : Fin 256) (b : Fin 512) :
    (colR q).emb (ix2 a b) = ix2 a (⟨512 * q.val + b.val, by omega⟩ : Fin 2048) := by
  funext x
  apply Fin.ext
  fin_cases x
  · show 0 + 1 * a.val = a.val
    omega
  · show 512 * q.val + 1 * b.val = 512 * q.val + b.val
    omega

/-- Where column `b` of chunk `q` of the narrowed weights lies. -/
theorem w8R_emb (q : Fin 4) (k : Fin 4096) (b : Fin 512) :
    (w8R q).emb (ix2 k b) = ix2 k (⟨512 * q.val + b.val, by omega⟩ : Fin 2048) := by
  funext x
  apply Fin.ext
  fin_cases x
  · show 0 + 1 * k.val = k.val
    omega
  · show 512 * q.val + 1 * b.val = 512 * q.val + b.val
    omega

/-- A column block of a row slot. -/
theorem ROW_apply (c : Dev nD) (s q : Fin 4) (a : Fin 256) (b : Fin 512) :
    (cols q (ROW m c s) (ix2 a b) : EReal) = silu (dot m (dev s (pc c)) c a (wcol (zc c) q b) * (sc m c : EReal)) := by
  unfold cols ROW dot
  rw [colR_emb, pay1_apply]
  refine congrArg (fun s => silu (s * (sc m c : EReal))) (Finset.sum_congr rfl fun k _ => ?_)
  rw [XB_eq, ← w8R_emb, W8_emb, wB_eq, wC_eq]

/-- A block of results, as it is sent. -/
theorem YB_apply (c : Dev nD) (s q : Fin 4) (a : Fin 256) (b : Fin 512) :
    (YB m c s q (ix2 a b) : EReal) = silu (dot m (dev s (pc c)) c a (wcol (zc c) q b) * (sc m c : EReal)) := by
  unfold YB
  split
  · next h => rw [CHb_apply, CH_apply, h, dev_zc_pc]
  · exact ROW_apply m c s q a b

/-- The device that computes the block of place `q` for device `c`. -/
def maker (c : Dev nD) (q : Fin 4) : Dev nD := dev (zc c) q

/-- A block of the result. -/
theorem OB_apply (c : Dev nD) (s q : Fin 4) (a : Fin 256) (b : Fin 512) :
    (OB m c s q (ix2 a b) : EReal)
      = silu (dot m (dev s q) (maker c q) a (wcol (zc c) (pc c) b) * (sc m (maker c q) : EReal)) := by
  unfold OB
  split
  · next h =>
    have hm : maker c q = c := by rw [h]; exact dev_zc_pc c
    rw [hm, h]
    split
    · next hs => rw [CH_apply, hs, dev_zc_pc]
    · exact YB_apply m c s (pc c) a b
  · have hz : zc (maker c q) = zc c := zc_dev _ _
    have hp : pc (maker c q) = q := pc_dev _ _
    show (YB m (maker c q) s (pc c) (ix2 a b) : EReal) = _
    rw [YB_apply, hz, hp]

end Cert.Exchange

end
-- ==== Proof.Refer.lean ====
/-
What the reference computes over the extended reals, element by element.
-/
module

public import proofs.«01_k».proof.Proof.Gen.ReferenceIdeal.Run
public import proofs.«01_k».proof.Proof.Values
public import Idealize.ShloMosaic.Lib.StackMember
public import Idealize.ShloMosaic.Lib.IdealHost

@[expose] public section

noncomputable section

namespace Cert.Refer

open Cert.ReferenceIdeal Cert.ReferenceIdeal.Gen
open Idealize.ShloMosaic
open Idealize.ShloMosaic.TcCoe
open Idealize.SL.Sem
open Idealize.ShloMosaic.ValueIdx (ix2)
open Cert.Exchange (silu silu_eq lo hi)
open scoped BigOperators

set_option backward.proofsInPublic true

/-- The product of `x` with the weights, scaled by the two scales. -/
def scaled (X : FVec Ideal S4096x4096 .f32) (W : FVec Ideal S4096x8192 .f32) (A B : FVec Ideal S1 .f32) : FVec Ideal S4096x8192 .f32 :=
  mulf (Host.dotGeneral dot_S4096x4096_S4096x8192_S4096x8192_1_0_0_1_n_n none X W)
    (broadcastInDim S4096x8192 ![0, 1] bcast_S1x1_S4096x8192_0_1 (broadcastInDim S1x1 ![1] bcast_S1_S1x1_1 (mulf A B)))

/-- `y` over one plus the exponential of `y` clipped and negated. -/
def quot (Y : FVec Ideal S4096x8192 .f32) : FVec Ideal S4096x8192 .f32 :=
  Host.divf Y (addf (broadcastInDim S4096x8192 ![] bcast_S_S4096x8192 (constant S_ .f32 0x3F800000#32))
    (Host.exp (Host.negf (minimumf (broadcastInDim S4096x8192 ![] bcast_S_S4096x8192 (id (constant S_ .f32 0x42700000#32)))
      (maximumf (broadcastInDim S4096x8192 ![] bcast_S_S4096x8192 (id (constant S_ .f32 0xC2700000#32))) Y)))))

/-- An element of the scaled product. -/
theorem scaled_apply (X : FVec Ideal S4096x4096 .f32) (W : FVec Ideal S4096x8192 .f32) (A B : FVec Ideal S1 .f32) (r : Fin 4096) (c : Fin 8192) (i : S1.Idx) :
    (scaled X W A B (ix2 r c) : EReal) = (∑ k : Fin 4096, (X (ix2 r k) : EReal) * (W (ix2 k c) : EReal)) * ((A i : EReal) * (B i : EReal)) := by
  have hd : (Host.dotGeneral (F := Ideal) dot_S4096x4096_S4096x8192_S4096x8192_1_0_0_1_n_n none X W (ix2 r c) : EReal)
      = ∑ k : Fin 4096, (X (ix2 r k) : EReal) * (W (ix2 k c) : EReal) :=
    StackMember.dotGeneral_plain_apply (m := 4096) (k := 4096) (n := 8192) none X W r c
  rw [← hd]
  refine congrArg₂ (fun a b : EReal => a * b) rfl ?_
  show ((A _ : EReal) * (B _ : EReal)) = _
  exact congrArg₂ (fun a b : EReal => a * b) (congrArg A (Cert.Exchange.scale_ix _ i)) (congrArg B (Cert.Exchange.scale_ix _ i))

/-- An element of the quotient: the function that the kernel computes. -/
theorem quot_apply (Y : FVec Ideal S4096x8192 .f32) (j : S4096x8192.Idx) : (quot Y j : EReal) = silu (Y j : EReal) := by
  rw [silu_eq, ← Ideal.ofBits_one_f32]
  rfl

/-- The reference's run: its result is the quotient of the scaled product, its arguments are unchanged. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v10)
          = quot (scaled (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run (F := Ideal) m ρ

end Cert.Refer

end
-- ==== Proof.Equal.lean ====
/-
The equation: over the extended reals every device's result is its block of columns of the reference's result.
-/
module

public import proofs.«01_k».proof.Proof.Refer

@[expose] public section

noncomputable section

namespace Cert.Exchange

open Cert.KernelIdeal Cert.KernelIdeal.Gen
open Idealize.ShloMosaic
open Idealize.ShloMosaic.TcCoe
open Idealize.ShloMosaic.ValueIdx
open scoped BigOperators

set_option backward.proofsInPublic true

variable (m : (ℓ : Loc nD τ sig) → Buf (Elt Ideal) ℓ)
variable (X : FVec Ideal ⟨2, ![4096, 4096]⟩ .f32) (W : FVec Ideal S4096x8192 .f32) (A B : FVec Ideal S1 .f32)

/-- Row `a` of the block of place `q` of plane `s`. -/
abbrev orow (s q : Fin 4) (a : Fin 256) : Fin 4096 := ⟨1024 * s.val + 256 * q.val + a.val, by omega⟩

/-- Every element of the result is in one of the blocks. -/
theorem out_ix (i : S4096x512.Idx) : ∃ (s q : Fin 4) (a : Fin 256) (b : Fin 512), i = (yrR s q).emb (ix2 a b) := by
  have h0 : (i 0).val < 4096 := (i 0).isLt
  refine ⟨⟨(i 0).val / 1024, by omega⟩, ⟨(i 0).val % 1024 / 256, by omega⟩, ⟨(i 0).val % 256, by omega⟩, i 1, ?_⟩
  funext x
  apply Fin.ext
  fin_cases x
  · show (i 0).val = 1024 * ((i 0).val / 1024) + 256 * ((i 0).val % 1024 / 256) + 1 * ((i 0).val % 256)
    omega
  · show (i 1).val = 0 + 1 * (i 1).val
    omega

/-- Where an element of a device's block of the result lies in the whole result. -/
theorem whole_ix (h : Layout.Tiles ⟨2, ![4096, 512]⟩ ⟨2, ![4096, 8192]⟩ 1 16) (c : Fin 16) (s q : Fin 4) (a : Fin 256) (b : Fin 512) :
    h.idx c ((yrR s q).emb (ix2 a b)) = ix2 (orow s q a) (wcol (zc c) (pc c) b) := by
  have h1 : (zc c).val = c.val / 4 := rfl
  have h2 : (pc c).val = c.val % 4 := rfl
  funext x
  apply Fin.ext
  fin_cases x
  · show 1024 * s.val + 256 * q.val + 1 * a.val = 1024 * s.val + 256 * q.val + a.val
    omega
  · show c.val * 512 + (0 + 1 * b.val) = 2048 * (zc c).val + 512 * (pc c).val + b.val
    omega

/-- Where a row of a device's block of `x` lies in `x`. -/
theorem row_ix (h : Layout.Tiles ⟨2, ![256, 4096]⟩ ⟨2, ![4096, 4096]⟩ 0 16) (s q : Fin 4) (a : Fin 256) (k : Fin 4096) :
    h.idx (dev s q) (ix2 a k) = ix2 (orow s q a) k := by
  have h1 : (dev s q).val = 4 * s.val + q.val := rfl
  funext x
  apply Fin.ext
  fin_cases x
  · show (dev s q).val * 256 + a.val = 1024 * s.val + 256 * q.val + a.val
    omega
  · rfl

/-- From blocks of `x` and copies of the other arguments, every device's result is its block of the reference's. -/
theorem out_block (hx : ∀ d : Dev nD, xF m d = Layout.block ⟨2, ![256, 4096]⟩ ⟨2, ![4096, 4096]⟩ 0 16 d X)
    (hw : ∀ d : Dev nD, wF m d = W) (ha : ∀ d : Dev nD, aF m d = A) (hb : ∀ d : Dev nD, bF m d = B) (c : Dev nD) :
    OUT m c = Layout.block ⟨2, ![4096, 512]⟩ ⟨2, ![4096, 8192]⟩ 1 16 c (Cert.Refer.quot (Cert.Refer.scaled X W A B)) := by
  funext i
  obtain ⟨s, q, a, b, rfl⟩ := out_ix i
  rw [OUT_emb, Layout.block_apply, whole_ix]
  refine (OB_apply m c s q a b).trans ?_
  refine Eq.trans ?_ (Cert.Refer.quot_apply _ _).symm
  refine congrArg silu ?_
  rw [Cert.Refer.scaled_apply X W A B _ _ sIx, sc_eq m _ sIx, ha, hb]
  refine congrArg (fun t : EReal => t * ((A sIx : EReal) * (B sIx : EReal))) ?_
  refine Finset.sum_congr rfl fun k _ => ?_
  rw [hx, hw, Layout.block_apply, row_ix]

end Cert.Exchange

end
-- ==== Proof.lean ====
/- The claims about the exchange kernel and its reference, put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Final
public import proofs.«01_k».proof.Proof.Same
public import proofs.«01_k».proof.Proof.Equal
public import Idealize.ShloMosaic.Adequacy
public import Idealize.ShloMosaic.Init

@[expose] public section

noncomputable section

namespace Cert.Proof

open Idealize.ShloMosaic Idealize.SL.Sem

/-- The kernel, its floats as words: it ends, its arguments unchanged and every counter at zero. -/
theorem frame_kernel : Cert.quiescent_Kernel (hKernel := Cert.Kernel.Gen.facts) := fun m ρ _ =>
  (congrArg (fun d => θ_run d _ _ _) (Cert.Same.defs_eq (F := Bits))).mpr
    ((θ_run Cert.KernelIdeal.defs _ _).mono (fun _ h => ⟨fun c => (h.1 c).2, h.2⟩) (Cert.Exchange.run_out (F := Bits) m ρ))

/-- The kernel over the extended reals. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.Exchange.run_out (F := Ideal) m ρ)

/-- The reference. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run (F := Ideal) m ρ)

/-- Over the extended reals every device ends with its block of columns of the reference's result, and the reference
    ends with that result; the arguments of both are unchanged. -/
theorem same_value : Cert.algebraic_KernelIdeal_ReferenceIdeal (hKernelIdeal := Cert.KernelIdeal.Gen.facts)
    (hReferenceIdeal := Cert.ReferenceIdeal.Gen.facts) := fun m ρ _ ρ' _ hin =>
  ⟨_, (θ_run Cert.KernelIdeal.defs _ _).mono
      (fun _ h c => ⟨(h.1 c).1.trans (Cert.Exchange.out_block m _ _ _ _ (fun d => (hin d).1) (fun d => (hin d).2.1)
        (fun d => (hin d).2.2.1) (fun d => (hin d).2.2.2) c), (h.1 c).2⟩)
      (Cert.Exchange.run_out (F := Ideal) m ρ),
    (θ_run Cert.ReferenceIdeal.defs _ _).mono (fun _ h => h 0) (Cert.Refer.run_ref _ ρ')⟩

/-- All the claims. -/
theorem claim : Cert.Claim := ⟨Cert.Kernel.Gen.facts, Cert.KernelIdeal.Gen.facts, Cert.ReferenceIdeal.Gen.facts, frame_kernel, frame_ideal, frame_reference, trivial, same_value⟩

end Cert.Proof

end
